-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8)) (m ((c.tc : Thread Cert.Kernel7Ideal.nD Cert.Kernel7Ideal.τ).loc Cert.Kernel7Ideal.main_arg9)) (m ((c.tc : Thread Cert.Kernel7Ideal.nD Cert.Kernel7Ideal.τ).loc Cert.Kernel7Ideal.main_arg10)) (m ((c.tc : Thread Cert.Kernel7Ideal.nD Cert.Kernel7Ideal.τ).loc Cert.Kernel7Ideal.main_arg11)) (m ((c.tc : Thread Cert.Kernel7Ideal.nD Cert.Kernel7Ideal.τ).loc Cert.Kernel7Ideal.main_arg12)) (m ((c.tc : Thread Cert.Kernel7Ideal.nD Cert.Kernel7Ideal.τ).loc Cert.Kernel7Ideal.main_arg13)) (m ((c.tc : Thread Cert.Kernel7Ideal.nD Cert.Kernel7Ideal.τ).loc Cert.Kernel7Ideal.main_arg14))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8)) (m ((c.tc : Thread Cert.Reference7Ideal.nD Cert.Reference7Ideal.τ).loc Cert.Reference7Ideal.main_arg9)) (m ((c.tc : Thread Cert.Reference7Ideal.nD Cert.Reference7Ideal.τ).loc Cert.Reference7Ideal.main_arg10)) (m ((c.tc : Thread Cert.Reference7Ideal.nD Cert.Reference7Ideal.τ).loc Cert.Reference7Ideal.main_arg11)) (m ((c.tc : Thread Cert.Reference7Ideal.nD Cert.Reference7Ideal.τ).loc Cert.Reference7Ideal.main_arg12)) (m ((c.tc : Thread Cert.Reference7Ideal.nD Cert.Reference7Ideal.τ).loc Cert.Reference7Ideal.main_arg13)) (m ((c.tc : Thread Cert.Reference7Ideal.nD Cert.Reference7Ideal.τ).loc Cert.Reference7Ideal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14))
      ∧ r.2.sem = fun _ => 0)

def preserves_Kernel_KernelIdeal : Prop :=
  True

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)) (v3 : (c : Dev Cert.Kernel2Ideal.nD) → Buf (Elt Ideal) ((c.tc : Thread Cert.Kernel2Ideal.nD Cert.Kernel2Ideal.τ).loc Cert.Kernel2Ideal.main_v8_3)) (v4 : (c : Dev Cert.Kernel2Ideal.nD) → Buf (Elt Ideal) ((c.tc : Thread Cert.Kernel2Ideal.nD Cert.Kernel2Ideal.τ).loc Cert.Kernel2Ideal.main_v8_4)) (v5 : (c : Dev Cert.Kernel2Ideal.nD) → Buf (Elt Ideal) ((c.tc : Thread Cert.Kernel2Ideal.nD Cert.Kernel2Ideal.τ).loc Cert.Kernel2Ideal.main_v8_5)) (v6 : (c : Dev Cert.Kernel2Ideal.nD) → Buf (Elt Ideal) ((c.tc : Thread Cert.Kernel2Ideal.nD Cert.Kernel2Ideal.τ).loc Cert.Kernel2Ideal.main_v8_6)) (v7 : (c : Dev Cert.Kernel2Ideal.nD) → Buf (Elt Ideal) ((c.tc : Thread Cert.Kernel2Ideal.nD Cert.Kernel2Ideal.τ).loc Cert.Kernel2Ideal.main_v8_7)) (v8 : (c : Dev Cert.Kernel2Ideal.nD) → Buf (Elt Ideal) ((c.tc : Thread Cert.Kernel2Ideal.nD Cert.Kernel2Ideal.τ).loc Cert.Kernel2Ideal.main_v6_2)) (v9 : (c : Dev Cert.Kernel2Ideal.nD) → Buf (Elt Ideal) ((c.tc : Thread Cert.Kernel2Ideal.nD Cert.Kernel2Ideal.τ).loc Cert.Kernel2Ideal.main_v6_4)) (v10 : (c : Dev Cert.Kernel2Ideal.nD) → Buf (Elt Ideal) ((c.tc : Thread Cert.Kernel2Ideal.nD Cert.Kernel2Ideal.τ).loc Cert.Kernel2Ideal.main_v7_0)) (v11 : (c : Dev Cert.Kernel2Ideal.nD) → Buf (Elt Ideal) ((c.tc : Thread Cert.Kernel2Ideal.nD Cert.Kernel2Ideal.τ).loc Cert.Kernel2Ideal.main_v7_2)) (v12 : (c : Dev Cert.Kernel2Ideal.nD) → Buf (Elt Ideal) ((c.tc : Thread Cert.Kernel2Ideal.nD Cert.Kernel2Ideal.τ).loc Cert.Kernel2Ideal.main_v7_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_v8_3) = v3 c
          ∧ r.2.mem ((c.tc : Thread Cert.Kernel2Ideal.nD Cert.Kernel2Ideal.τ).loc Cert.Kernel2Ideal.main_v8_4) = v4 c
          ∧ r.2.mem ((c.tc : Thread Cert.Kernel2Ideal.nD Cert.Kernel2Ideal.τ).loc Cert.Kernel2Ideal.main_v8_5) = v5 c
          ∧ r.2.mem ((c.tc : Thread Cert.Kernel2Ideal.nD Cert.Kernel2Ideal.τ).loc Cert.Kernel2Ideal.main_v8_6) = v6 c
          ∧ r.2.mem ((c.tc : Thread Cert.Kernel2Ideal.nD Cert.Kernel2Ideal.τ).loc Cert.Kernel2Ideal.main_v8_7) = v7 c
          ∧ r.2.mem ((c.tc : Thread Cert.Kernel2Ideal.nD Cert.Kernel2Ideal.τ).loc Cert.Kernel2Ideal.main_v6_2) = v8 c
          ∧ r.2.mem ((c.tc : Thread Cert.Kernel2Ideal.nD Cert.Kernel2Ideal.τ).loc Cert.Kernel2Ideal.main_v6_4) = v9 c
          ∧ r.2.mem ((c.tc : Thread Cert.Kernel2Ideal.nD Cert.Kernel2Ideal.τ).loc Cert.Kernel2Ideal.main_v7_0) = v10 c
          ∧ r.2.mem ((c.tc : Thread Cert.Kernel2Ideal.nD Cert.Kernel2Ideal.τ).loc Cert.Kernel2Ideal.main_v7_2) = v11 c
          ∧ r.2.mem ((c.tc : Thread Cert.Kernel2Ideal.nD Cert.Kernel2Ideal.τ).loc Cert.Kernel2Ideal.main_v7_3) = v12 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v81) = v0 c
          ∧ r.2.mem ((c.tc : Thread Cert.Reference2Ideal.nD Cert.Reference2Ideal.τ).loc Cert.Reference2Ideal.main_v82) = v1 c
          ∧ r.2.mem ((c.tc : Thread Cert.Reference2Ideal.nD Cert.Reference2Ideal.τ).loc Cert.Reference2Ideal.main_v74) = v2 c
          ∧ r.2.mem ((c.tc : Thread Cert.Reference2Ideal.nD Cert.Reference2Ideal.τ).loc Cert.Reference2Ideal.main_v83) = v3 c
          ∧ r.2.mem ((c.tc : Thread Cert.Reference2Ideal.nD Cert.Reference2Ideal.τ).loc Cert.Reference2Ideal.main_v84) = v4 c
          ∧ r.2.mem ((c.tc : Thread Cert.Reference2Ideal.nD Cert.Reference2Ideal.τ).loc Cert.Reference2Ideal.main_v86) = v5 c
          ∧ r.2.mem ((c.tc : Thread Cert.Reference2Ideal.nD Cert.Reference2Ideal.τ).loc Cert.Reference2Ideal.main_v88) = v6 c
          ∧ r.2.mem ((c.tc : Thread Cert.Reference2Ideal.nD Cert.Reference2Ideal.τ).loc Cert.Reference2Ideal.main_v90) = v7 c
          ∧ r.2.mem ((c.tc : Thread Cert.Reference2Ideal.nD Cert.Reference2Ideal.τ).loc Cert.Reference2Ideal.main_v117) = v8 c
          ∧ r.2.mem ((c.tc : Thread Cert.Reference2Ideal.nD Cert.Reference2Ideal.τ).loc Cert.Reference2Ideal.main_v118) = v9 c
          ∧ r.2.mem ((c.tc : Thread Cert.Reference2Ideal.nD Cert.Reference2Ideal.τ).loc Cert.Reference2Ideal.main_v97) = v10 c
          ∧ r.2.mem ((c.tc : Thread Cert.Reference2Ideal.nD Cert.Reference2Ideal.τ).loc Cert.Reference2Ideal.main_v119) = v11 c
          ∧ r.2.mem ((c.tc : Thread Cert.Reference2Ideal.nD Cert.Reference2Ideal.τ).loc Cert.Reference2Ideal.main_v120) = v12 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)) →
    ∃ (v0 : (c : Dev Cert.Kernel7Ideal.nD) → Buf (Elt Ideal) ((c.tc : Thread Cert.Kernel7Ideal.nD Cert.Kernel7Ideal.τ).loc Cert.Kernel7Ideal.main_v9_0)) (v1 : (c : Dev Cert.Kernel7Ideal.nD) → Buf (Elt Ideal) ((c.tc : Thread Cert.Kernel7Ideal.nD Cert.Kernel7Ideal.τ).loc Cert.Kernel7Ideal.main_v9_1)) (v2 : (c : Dev Cert.Kernel7Ideal.nD) → Buf (Elt Ideal) ((c.tc : Thread Cert.Kernel7Ideal.nD Cert.Kernel7Ideal.τ).loc Cert.Kernel7Ideal.main_v9_2)) (v3 : (c : Dev Cert.Kernel7Ideal.nD) → Buf (Elt Ideal) ((c.tc : Thread Cert.Kernel7Ideal.nD Cert.Kernel7Ideal.τ).loc Cert.Kernel7Ideal.main_v9_3)) (v4 : (c : Dev Cert.Kernel7Ideal.nD) → Buf (Elt Ideal) ((c.tc : Thread Cert.Kernel7Ideal.nD Cert.Kernel7Ideal.τ).loc Cert.Kernel7Ideal.main_v9_4)) (v5 : (c : Dev Cert.Kernel7Ideal.nD) → Buf (Elt Ideal) ((c.tc : Thread Cert.Kernel7Ideal.nD Cert.Kernel7Ideal.τ).loc Cert.Kernel7Ideal.main_v9_5)) (v6 : (c : Dev Cert.Kernel7Ideal.nD) → Buf (Elt Ideal) ((c.tc : Thread Cert.Kernel7Ideal.nD Cert.Kernel7Ideal.τ).loc Cert.Kernel7Ideal.main_v9_6)) (v7 : (c : Dev Cert.Kernel7Ideal.nD) → Buf (Elt Ideal) ((c.tc : Thread Cert.Kernel7Ideal.nD Cert.Kernel7Ideal.τ).loc Cert.Kernel7Ideal.main_v9_7)) (v8 : (c : Dev Cert.Kernel7Ideal.nD) → Buf (Elt Ideal) ((c.tc : Thread Cert.Kernel7Ideal.nD Cert.Kernel7Ideal.τ).loc Cert.Kernel7Ideal.main_v7_2)) (v9 : (c : Dev Cert.Kernel7Ideal.nD) → Buf (Elt Ideal) ((c.tc : Thread Cert.Kernel7Ideal.nD Cert.Kernel7Ideal.τ).loc Cert.Kernel7Ideal.main_v7_4)) (v10 : (c : Dev Cert.Kernel7Ideal.nD) → Buf (Elt Ideal) ((c.tc : Thread Cert.Kernel7Ideal.nD Cert.Kernel7Ideal.τ).loc Cert.Kernel7Ideal.main_v8_0)) (v11 : (c : Dev Cert.Kernel7Ideal.nD) → Buf (Elt Ideal) ((c.tc : Thread Cert.Kernel7Ideal.nD Cert.Kernel7Ideal.τ).loc Cert.Kernel7Ideal.main_v8_2)) (v12 : (c : Dev Cert.Kernel7Ideal.nD) → Buf (Elt Ideal) ((c.tc : Thread Cert.Kernel7Ideal.nD Cert.Kernel7Ideal.τ).loc Cert.Kernel7Ideal.main_v8_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v9_0) = v0 c
          ∧ r.2.mem ((c.tc : Thread Cert.Kernel7Ideal.nD Cert.Kernel7Ideal.τ).loc Cert.Kernel7Ideal.main_v9_1) = v1 c
          ∧ r.2.mem ((c.tc : Thread Cert.Kernel7Ideal.nD Cert.Kernel7Ideal.τ).loc Cert.Kernel7Ideal.main_v9_2) = v2 c
          ∧ r.2.mem ((c.tc : Thread Cert.Kernel7Ideal.nD Cert.Kernel7Ideal.τ).loc Cert.Kernel7Ideal.main_v9_3) = v3 c
          ∧ r.2.mem ((c.tc : Thread Cert.Kernel7Ideal.nD Cert.Kernel7Ideal.τ).loc Cert.Kernel7Ideal.main_v9_4) = v4 c
          ∧ r.2.mem ((c.tc : Thread Cert.Kernel7Ideal.nD Cert.Kernel7Ideal.τ).loc Cert.Kernel7Ideal.main_v9_5) = v5 c
          ∧ r.2.mem ((c.tc : Thread Cert.Kernel7Ideal.nD Cert.Kernel7Ideal.τ).loc Cert.Kernel7Ideal.main_v9_6) = v6 c
          ∧ r.2.mem ((c.tc : Thread Cert.Kernel7Ideal.nD Cert.Kernel7Ideal.τ).loc Cert.Kernel7Ideal.main_v9_7) = v7 c
          ∧ r.2.mem ((c.tc : Thread Cert.Kernel7Ideal.nD Cert.Kernel7Ideal.τ).loc Cert.Kernel7Ideal.main_v7_2) = v8 c
          ∧ r.2.mem ((c.tc : Thread Cert.Kernel7Ideal.nD Cert.Kernel7Ideal.τ).loc Cert.Kernel7Ideal.main_v7_4) = v9 c
          ∧ r.2.mem ((c.tc : Thread Cert.Kernel7Ideal.nD Cert.Kernel7Ideal.τ).loc Cert.Kernel7Ideal.main_v8_0) = v10 c
          ∧ r.2.mem ((c.tc : Thread Cert.Kernel7Ideal.nD Cert.Kernel7Ideal.τ).loc Cert.Kernel7Ideal.main_v8_2) = v11 c
          ∧ r.2.mem ((c.tc : Thread Cert.Kernel7Ideal.nD Cert.Kernel7Ideal.τ).loc Cert.Kernel7Ideal.main_v8_3) = v12 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v81) = v0 c
          ∧ r.2.mem ((c.tc : Thread Cert.Reference7Ideal.nD Cert.Reference7Ideal.τ).loc Cert.Reference7Ideal.main_v82) = v1 c
          ∧ r.2.mem ((c.tc : Thread Cert.Reference7Ideal.nD Cert.Reference7Ideal.τ).loc Cert.Reference7Ideal.main_v74) = v2 c
          ∧ r.2.mem ((c.tc : Thread Cert.Reference7Ideal.nD Cert.Reference7Ideal.τ).loc Cert.Reference7Ideal.main_v83) = v3 c
          ∧ r.2.mem ((c.tc : Thread Cert.Reference7Ideal.nD Cert.Reference7Ideal.τ).loc Cert.Reference7Ideal.main_v84) = v4 c
          ∧ r.2.mem ((c.tc : Thread Cert.Reference7Ideal.nD Cert.Reference7Ideal.τ).loc Cert.Reference7Ideal.main_v86) = v5 c
          ∧ r.2.mem ((c.tc : Thread Cert.Reference7Ideal.nD Cert.Reference7Ideal.τ).loc Cert.Reference7Ideal.main_v88) = v6 c
          ∧ r.2.mem ((c.tc : Thread Cert.Reference7Ideal.nD Cert.Reference7Ideal.τ).loc Cert.Reference7Ideal.main_v90) = v7 c
          ∧ r.2.mem ((c.tc : Thread Cert.Reference7Ideal.nD Cert.Reference7Ideal.τ).loc Cert.Reference7Ideal.main_v117) = v8 c
          ∧ r.2.mem ((c.tc : Thread Cert.Reference7Ideal.nD Cert.Reference7Ideal.τ).loc Cert.Reference7Ideal.main_v118) = v9 c
          ∧ r.2.mem ((c.tc : Thread Cert.Reference7Ideal.nD Cert.Reference7Ideal.τ).loc Cert.Reference7Ideal.main_v97) = v10 c
          ∧ r.2.mem ((c.tc : Thread Cert.Reference7Ideal.nD Cert.Reference7Ideal.τ).loc Cert.Reference7Ideal.main_v119) = v11 c
          ∧ r.2.mem ((c.tc : Thread Cert.Reference7Ideal.nD Cert.Reference7Ideal.τ).loc Cert.Reference7Ideal.main_v120) = v12 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite2 : Cert.Pre_finite2.Facts) (hPre_finite7 : Cert.Pre_finite7.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ preserves_Kernel_KernelIdeal
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
-- ==== Pre_finite2.lean ====
abbrev S16384x1024 : Shape := ⟨2, ![16384, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S1024x2304 : Shape := ⟨2, ![1024, 2304]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024x2304 : S_.BroadcastsInDim S1024x2304 (![] : Fin 0 → Fin S1024x2304.rank)
  reducesTo_S1024x2304_S_d0_1 : S1024x2304.ReducesTo [0, 1] S_

variable [Facts]

def fn_part4 {F : FTy → Type} [FloatOps F] (main_arg14 : FVec F S1024x2304 .f32) (main_v64 : IVec S_ 1) (main_v67 : IVec S1x1024 1) (main_c_25 : IVec S_ 1) : IVec S_ 1 :=
  let main_v68 : IVec S_ 1 := (fun x v => Host.reduce IntOp.andi x v reducesTo_S1x1024_S_d0_1 h_S_) main_v67 main_c_25
  let main_v69 : IVec S_ 1 := andi main_v64 main_v68
  let main_v70 : FVec F S1024x2304 .f32 := Host.absf main_arg14
  let main_cst_26 : FVec F S_ .f32 := constant S_ .f32 0x7F800000#32
  let main_v71 : FVec F S1024x2304 .f32 := broadcastInDim S1024x2304 ![] bcast_S_S1024x2304 main_cst_26
  let main_v72 : IVec S1024x2304 1 := cmpf .olt main_v70 main_v71
  let main_c_27 : IVec S_ 1 := constantI S_ 1 1#1
  let main_v73 : IVec S_ 1 := (fun x v => Host.reduce IntOp.andi x v reducesTo_S1024x2304_S_d0_1 h_S_) main_v72 main_c_27
  let main_v74 : IVec S_ 1 := andi main_v69 main_v73
  main_v74

def fn_part3 {F : FTy → Type} [FloatOps F] (main_arg11 : FVec F S1x1024 .f32) (main_arg12 : FVec F S1x1024 .f32) (main_arg13 : FVec F S1x1024 .f32) (main_arg14 : FVec F S1024x2304 .f32) (main_v49 : IVec S_ 1) (main_v50 : FVec F S1x1024 .f32) (main_cst_18 : FVec F S_ .f32) : IVec S_ 1 :=
  let main_v51 : FVec F S1x1024 .f32 := broadcastInDim S1x1024 ![] bcast_S_S1x1024 main_cst_18
  let main_v52 : IVec S1x1024 1 := cmpf .olt main_v50 main_v51
  let main_c_19 : IVec S_ 1 := constantI S_ 1 1#1
  let main_v53 : IVec S_ 1 := (fun x v => Host.reduce IntOp.andi x v reducesTo_S1x1024_S_d0_1 h_S_) main_v52 main_c_19
  let main_v54 : IVec S_ 1 := andi main_v49 main_v53
  let main_v55 : FVec F S1x1024 .f32 := Host.absf main_arg11
  let main_cst_20 : FVec F S_ .f32 := constant S_ .f32 0x7F800000#32
  let main_v56 : FVec F S1x1024 .f32 := broadcastInDim S1x1024 ![] bcast_S_S1x1024 main_cst_20
  let main_v57 : IVec S1x1024 1 := cmpf .olt main_v55 main_v56
  let main_c_21 : IVec S_ 1 := constantI S_ 1 1#1
  let main_v58 : IVec S_ 1 := (fun x v => Host.reduce IntOp.andi x v reducesTo_S1x1024_S_d0_1 h_S_) main_v57 main_c_21
  let main_v59 : IVec S_ 1 := andi main_v54 main_v58
  let main_v60 : FVec F S1x1024 .f32 := Host.absf main_arg12
  let main_cst_22 : FVec F S_ .f32 := constant S_ .f32 0x7F800000#32
  let main_v61 : FVec F S1x1024 .f32 := broadcastInDim S1x1024 ![] bcast_S_S1x1024 main_cst_22
  let main_v62 : IVec S1x1024 1 := cmpf .olt main_v60 main_v61
  let main_c_23 : IVec S_ 1 := constantI S_ 1 1#1
  let main_v63 : IVec S_ 1 := (fun x v => Host.reduce IntOp.andi x v reducesTo_S1x1024_S_d0_1 h_S_) main_v62 main_c_23
  let main_v64 : IVec S_ 1 := andi main_v59 main_v63
  let main_v65 : FVec F S1x1024 .f32 := Host.absf main_arg13
  let main_cst_24 : FVec F S_ .f32 := constant S_ .f32 0x7F800000#32
  let main_v66 : FVec F S1x1024 .f32 := broadcastInDim S1x1024 ![] bcast_S_S1x1024 main_cst_24
  let main_v67 : IVec S1x1024 1 := cmpf .olt main_v65 main_v66
  let main_c_25 : IVec S_ 1 := constantI S_ 1 1#1
  fn_part4 (F := F) main_arg14 main_v64 main_v67 main_c_25

def fn_part2 {F : FTy → Type} [FloatOps F] (main_arg7 : FVec F S1x1024 .f32) (main_arg8 : FVec F S1024x5632 .f32) (main_arg9 : FVec F S2816x1024 .f32) (main_arg10 : FVec F S1x1024 .f32) (main_arg11 : FVec F S1x1024 .f32) (main_arg12 : FVec F S1x1024 .f32) (main_arg13 : FVec F S1x1024 .f32) (main_arg14 : FVec F S1024x2304 .f32) (main_v29 : IVec S_ 1) (main_v33 : IVec S_ 1) : IVec S_ 1 :=
  let main_v34 : IVec S_ 1 := andi main_v29 main_v33
  let main_v35 : FVec F S1x1024 .f32 := Host.absf main_arg7
  let main_cst_12 : FVec F S_ .f32 := constant S_ .f32 0x7F800000#32
  let main_v36 : FVec F S1x1024 .f32 := broadcastInDim S1x1024 ![] bcast_S_S1x1024 main_cst_12
  let main_v37 : IVec S1x1024 1 := cmpf .olt main_v35 main_v36
  let main_c_13 : IVec S_ 1 := constantI S_ 1 1#1
  let main_v38 : IVec S_ 1 := (fun x v => Host.reduce IntOp.andi x v reducesTo_S1x1024_S_d0_1 h_S_) main_v37 main_c_13
  let main_v39 : IVec S_ 1 := andi main_v34 main_v38
  let main_v40 : FVec F S1024x5632 .f32 := Host.absf main_arg8
  let main_cst_14 : FVec F S_ .f32 := constant S_ .f32 0x7F800000#32
  let main_v41 : FVec F S1024x5632 .f32 := broadcastInDim S1024x5632 ![] bcast_S_S1024x5632 main_cst_14
  let main_v42 : IVec S1024x5632 1 := cmpf .olt main_v40 main_v41
  let main_c_15 : IVec S_ 1 := constantI S_ 1 1#1
  let main_v43 : IVec S_ 1 := (fun x v => Host.reduce IntOp.andi x v reducesTo_S1024x5632_S_d0_1 h_S_) main_v42 main_c_15
  let main_v44 : IVec S_ 1 := andi main_v39 main_v43
  let main_v45 : FVec F S2816x1024 .f32 := Host.absf main_arg9
  let main_cst_16 : FVec F S_ .f32 := constant S_ .f32 0x7F800000#32
  let main_v46 : FVec F S2816x1024 .f32 := broadcastInDim S2816x1024 ![] bcast_S_S2816x1024 main_cst_16
  let main_v47 : IVec S2816x1024 1 := cmpf .olt main_v45 main_v46
  let main_c_17 : IVec S_ 1 := constantI S_ 1 1#1
  let main_v48 : IVec S_ 1 := (fun x v => Host.reduce IntOp.andi x v reducesTo_S2816x1024_S_d0_1 h_S_) main_v47 main_c_17
  let main_v49 : IVec S_ 1 := andi main_v44 main_v48
  let main_v50 : FVec F S1x1024 .f32 := Host.absf main_arg10
  let main_cst_18 : FVec F S_ .f32 := constant S_ .f32 0x7F800000#32
  fn_part3 (F := F) main_arg11 main_arg12 main_arg13 main_arg14 main_v49 main_v50 main_cst_18

def fn_part1 {F : FTy → Type} [FloatOps F] (main_arg4 : FVec F S1x1024 .f32) (main_arg5 : FVec F S1x1024 .f32) (main_arg6 : FVec F S1x1024 .f32) (main_arg7 : FVec F S1x1024 .f32) (main_arg8 : FVec F S1024x5632 .f32) (main_arg9 : FVec F S2816x1024 .f32) (main_arg10 : FVec F S1x1024 .f32) (main_arg11 : FVec F S1x1024 .f32) (main_arg12 : FVec F S1x1024 .f32) (main_arg13 : FVec F S1x1024 .f32) (main_arg14 : FVec F S1024x2304 .f32) (main_v14 : IVec S_ 1) (main_v15 : FVec F S16384x1024 .f32) (main_v16 : FVec F S16384x1024 .f32) : IVec S_ 1 :=
  let main_v17 : IVec S16384x1024 1 := cmpf .olt main_v15 main_v16
  let main_c_5 : IVec S_ 1 := constantI S_ 1 1#1
  let main_v18 : IVec S_ 1 := (fun x v => Host.reduce IntOp.andi x v reducesTo_S16384x1024_S_d0_1 h_S_) main_v17 main_c_5
  let main_v19 : IVec S_ 1 := andi main_v14 main_v18
  let main_v20 : FVec F S1x1024 .f32 := Host.absf main_arg4
  let main_cst_6 : FVec F S_ .f32 := constant S_ .f32 0x7F800000#32
  let main_v21 : FVec F S1x1024 .f32 := broadcastInDim S1x1024 ![] bcast_S_S1x1024 main_cst_6
  let main_v22 : IVec S1x1024 1 := cmpf .olt main_v20 main_v21
  let main_c_7 : IVec S_ 1 := constantI S_ 1 1#1
  let main_v23 : IVec S_ 1 := (fun x v => Host.reduce IntOp.andi x v reducesTo_S1x1024_S_d0_1 h_S_) main_v22 main_c_7
  let main_v24 : IVec S_ 1 := andi main_v19 main_v23
  let main_v25 : FVec F S1x1024 .f32 := Host.absf main_arg5
  let main_cst_8 : FVec F S_ .f32 := constant S_ .f32 0x7F800000#32
  let main_v26 : FVec F S1x1024 .f32 := broadcastInDim S1x1024 ![] bcast_S_S1x1024 main_cst_8
  let main_v27 : IVec S1x1024 1 := cmpf .olt main_v25 main_v26
  let main_c_9 : IVec S_ 1 := constantI S_ 1 1#1
  let main_v28 : IVec S_ 1 := (fun x v => Host.reduce IntOp.andi x v reducesTo_S1x1024_S_d0_1 h_S_) main_v27 main_c_9
  let main_v29 : IVec S_ 1 := andi main_v24 main_v28
  let main_v30 : FVec F S1x1024 .f32 := Host.absf main_arg6
  let main_cst_10 : FVec F S_ .f32 := constant S_ .f32 0x7F800000#32
  let main_v31 : FVec F S1x1024 .f32 := broadcastInDim S1x1024 ![] bcast_S_S1x1024 main_cst_10
  let main_v32 : IVec S1x1024 1 := cmpf .olt main_v30 main_v31
  let main_c_11 : IVec S_ 1 := constantI S_ 1 1#1
  let main_v33 : IVec S_ 1 := (fun x v => Host.reduce IntOp.andi x v reducesTo_S1x1024_S_d0_1 h_S_) main_v32 main_c_11
  fn_part2 (F := F) main_arg7 main_arg8 main_arg9 main_arg10 main_arg11 main_arg12 main_arg13 main_arg14 main_v29 main_v33

def fn {F : FTy → Type} [FloatOps F] (main_arg0 : FVec F S16384x1024 .f32) (main_arg1 : FVec F S16384x1024 .bf16) (main_arg2 : FVec F S1024x1024 .f32) (main_arg3 : FVec F S16384x1024 .f32) (main_arg4 : FVec F S1x1024 .f32) (main_arg5 : FVec F S1x1024 .f32) (main_arg6 : FVec F S1x1024 .f32) (main_arg7 : FVec F S1x1024 .f32) (main_arg8 : FVec F S1024x5632 .f32) (main_arg9 : FVec F S2816x1024 .f32) (main_arg10 : FVec F S1x1024 .f32) (main_arg11 : FVec F S1x1024 .f32) (main_arg12 : FVec F S1x1024 .f32) (main_arg13 : FVec F S1x1024 .f32) (main_arg14 : FVec F S1024x2304 .f32) : IVec S_ 1 :=
  let main_v0 : FVec F S16384x1024 .f32 := (extf .f32 · bitsLt_bf16_f32) main_arg1
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S16384x1024 .f32 := Host.absf main_arg0
  let main_cst_0 : FVec F S_ .f32 := constant S_ .f32 0x7F800000#32
  let main_v6 : FVec F S16384x1024 .f32 := broadcastInDim S16384x1024 ![] bcast_S_S16384x1024 main_cst_0
  let main_v7 : IVec S16384x1024 1 := cmpf .olt main_v5 main_v6
  let main_c_1 : IVec S_ 1 := constantI S_ 1 1#1
  let main_v8 : IVec S_ 1 := (fun x v => Host.reduce IntOp.andi x v reducesTo_S16384x1024_S_d0_1 h_S_) main_v7 main_c_1
  let main_v9 : IVec S_ 1 := andi main_v4 main_v8
  let main_v10 : FVec F S1024x1024 .f32 := Host.absf main_arg2
  let main_cst_2 : FVec F S_ .f32 := constant S_ .f32 0x7F800000#32
  let main_v11 : FVec F S1024x1024 .f32 := broadcastInDim S1024x1024 ![] bcast_S_S1024x1024 main_cst_2
  let main_v12 : IVec S1024x1024 1 := cmpf .olt main_v10 main_v11
  let main_c_3 : IVec S_ 1 := constantI S_ 1 1#1
  let main_v13 : IVec S_ 1 := (fun x v => Host.reduce IntOp.andi x v reducesTo_S1024x1024_S_d0_1 h_S_) main_v12 main_c_3
  let main_v14 : IVec S_ 1 := andi main_v9 main_v13
  let main_v15 : FVec F S16384x1024 .f32 := Host.absf main_arg3
  let main_cst_4 : FVec F S_ .f32 := constant S_ .f32 0x7F800000#32
  let main_v16 : FVec F S16384x1024 .f32 := broadcastInDim S16384x1024 ![] bcast_S_S16384x1024 main_cst_4
  fn_part1 (F := F) main_arg4 main_arg5 main_arg6 main_arg7 main_arg8 main_arg9 main_arg10 main_arg11 main_arg12 main_arg13 main_arg14 main_v14 main_v15 main_v16
-- ==== Pre_finite7.lean ====
abbrev S16384x1024 : Shape := ⟨2, ![16384, 1024]⟩
abbrev S16384x512 : Shape := ⟨2, ![16384, 512]⟩
abbrev S512x1024 : Shape := ⟨2, ![512, 1024]⟩
abbrev S1x1024 : Shape := ⟨2, ![1, 1024]⟩
abbrev S1024x5632 : Shape := ⟨2, ![1024, 5632]⟩
abbrev S2816x1024 : Shape := ⟨2, ![2816, 1024]⟩
abbrev S1024x1536 : Shape := ⟨2, ![1024, 1536]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S512x1024 : S_.BroadcastsInDim S512x1024 (![] : Fin 0 → Fin S512x1024.rank)
  reducesTo_S512x1024_S_d0_1 : S512x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S1024x1536 : S_.BroadcastsInDim S1024x1536 (![] : Fin 0 → Fin S1024x1536.rank)
  reducesTo_S1024x1536_S_d0_1 : S1024x1536.ReducesTo [0, 1] S_

variable [Facts]

def fn_part4 {F : FTy → Type} [FloatOps F] (main_arg14 : FVec F S1024x1536 .f32) (main_v64 : IVec S_ 1) (main_v67 : IVec S1x1024 1) (main_c_25 : IVec S_ 1) : IVec S_ 1 :=
  let main_v68 : IVec S_ 1 := (fun x v => Host.reduce IntOp.andi x v reducesTo_S1x1024_S_d0_1 h_S_) main_v67 main_c_25
  let main_v69 : IVec S_ 1 := andi main_v64 main_v68
  let main_v70 : FVec F S1024x1536 .f32 := Host.absf main_arg14
  let main_cst_26 : FVec F S_ .f32 := constant S_ .f32 0x7F800000#32
  let main_v71 : FVec F S1024x1536 .f32 := broadcastInDim S1024x1536 ![] bcast_S_S1024x1536 main_cst_26
  let main_v72 : IVec S1024x1536 1 := cmpf .olt main_v70 main_v71
  let main_c_27 : IVec S_ 1 := constantI S_ 1 1#1
  let main_v73 : IVec S_ 1 := (fun x v => Host.reduce IntOp.andi x v reducesTo_S1024x1536_S_d0_1 h_S_) main_v72 main_c_27
  let main_v74 : IVec S_ 1 := andi main_v69 main_v73
  main_v74

def fn_part3 {F : FTy → Type} [FloatOps F] (main_arg11 : FVec F S1x1024 .f32) (main_arg12 : FVec F S1x1024 .f32) (main_arg13 : FVec F S1x1024 .f32) (main_arg14 : FVec F S1024x1536 .f32) (main_v49 : IVec S_ 1) (main_v50 : FVec F S1x1024 .f32) (main_cst_18 : FVec F S_ .f32) : IVec S_ 1 :=
  let main_v51 : FVec F S1x1024 .f32 := broadcastInDim S1x1024 ![] bcast_S_S1x1024 main_cst_18
  let main_v52 : IVec S1x1024 1 := cmpf .olt main_v50 main_v51
  let main_c_19 : IVec S_ 1 := constantI S_ 1 1#1
  let main_v53 : IVec S_ 1 := (fun x v => Host.reduce IntOp.andi x v reducesTo_S1x1024_S_d0_1 h_S_) main_v52 main_c_19
  let main_v54 : IVec S_ 1 := andi main_v49 main_v53
  let main_v55 : FVec F S1x1024 .f32 := Host.absf main_arg11
  let main_cst_20 : FVec F S_ .f32 := constant S_ .f32 0x7F800000#32
  let main_v56 : FVec F S1x1024 .f32 := broadcastInDim S1x1024 ![] bcast_S_S1x1024 main_cst_20
  let main_v57 : IVec S1x1024 1 := cmpf .olt main_v55 main_v56
  let main_c_21 : IVec S_ 1 := constantI S_ 1 1#1
  let main_v58 : IVec S_ 1 := (fun x v => Host.reduce IntOp.andi x v reducesTo_S1x1024_S_d0_1 h_S_) main_v57 main_c_21
  let main_v59 : IVec S_ 1 := andi main_v54 main_v58
  let main_v60 : FVec F S1x1024 .f32 := Host.absf main_arg12
  let main_cst_22 : FVec F S_ .f32 := constant S_ .f32 0x7F800000#32
  let main_v61 : FVec F S1x1024 .f32 := broadcastInDim S1x1024 ![] bcast_S_S1x1024 main_cst_22
  let main_v62 : IVec S1x1024 1 := cmpf .olt main_v60 main_v61
  let main_c_23 : IVec S_ 1 := constantI S_ 1 1#1
  let main_v63 : IVec S_ 1 := (fun x v => Host.reduce IntOp.andi x v reducesTo_S1x1024_S_d0_1 h_S_) main_v62 main_c_23
  let main_v64 : IVec S_ 1 := andi main_v59 main_v63
  let main_v65 : FVec F S1x1024 .f32 := Host.absf main_arg13
  let main_cst_24 : FVec F S_ .f32 := constant S_ .f32 0x7F800000#32
  let main_v66 : FVec F S1x1024 .f32 := broadcastInDim S1x1024 ![] bcast_S_S1x1024 main_cst_24
  let main_v67 : IVec S1x1024 1 := cmpf .olt main_v65 main_v66
  let main_c_25 : IVec S_ 1 := constantI S_ 1 1#1
  fn_part4 (F := F) main_arg14 main_v64 main_v67 main_c_25

def fn_part2 {F : FTy → Type} [FloatOps F] (main_arg7 : FVec F S1x1024 .f32) (main_arg8 : FVec F S1024x5632 .f32) (main_arg9 : FVec F S2816x1024 .f32) (main_arg10 : FVec F S1x1024 .f32) (main_arg11 : FVec F S1x1024 .f32) (main_arg12 : FVec F S1x1024 .f32) (main_arg13 : FVec F S1x1024 .f32) (main_arg14 : FVec F S1024x1536 .f32) (main_v29 : IVec S_ 1) (main_v33 : IVec S_ 1) : IVec S_ 1 :=
  let main_v34 : IVec S_ 1 := andi main_v29 main_v33
  let main_v35 : FVec F S1x1024 .f32 := Host.absf main_arg7
  let main_cst_12 : FVec F S_ .f32 := constant S_ .f32 0x7F800000#32
  let main_v36 : FVec F S1x1024 .f32 := broadcastInDim S1x1024 ![] bcast_S_S1x1024 main_cst_12
  let main_v37 : IVec S1x1024 1 := cmpf .olt main_v35 main_v36
  let main_c_13 : IVec S_ 1 := constantI S_ 1 1#1
  let main_v38 : IVec S_ 1 := (fun x v => Host.reduce IntOp.andi x v reducesTo_S1x1024_S_d0_1 h_S_) main_v37 main_c_13
  let main_v39 : IVec S_ 1 := andi main_v34 main_v38
  let main_v40 : FVec F S1024x5632 .f32 := Host.absf main_arg8
  let main_cst_14 : FVec F S_ .f32 := constant S_ .f32 0x7F800000#32
  let main_v41 : FVec F S1024x5632 .f32 := broadcastInDim S1024x5632 ![] bcast_S_S1024x5632 main_cst_14
  let main_v42 : IVec S1024x5632 1 := cmpf .olt main_v40 main_v41
  let main_c_15 : IVec S_ 1 := constantI S_ 1 1#1
  let main_v43 : IVec S_ 1 := (fun x v => Host.reduce IntOp.andi x v reducesTo_S1024x5632_S_d0_1 h_S_) main_v42 main_c_15
  let main_v44 : IVec S_ 1 := andi main_v39 main_v43
  let main_v45 : FVec F S2816x1024 .f32 := Host.absf main_arg9
  let main_cst_16 : FVec F S_ .f32 := constant S_ .f32 0x7F800000#32
  let main_v46 : FVec F S2816x1024 .f32 := broadcastInDim S2816x1024 ![] bcast_S_S2816x1024 main_cst_16
  let main_v47 : IVec S2816x1024 1 := cmpf .olt main_v45 main_v46
  let main_c_17 : IVec S_ 1 := constantI S_ 1 1#1
  let main_v48 : IVec S_ 1 := (fun x v => Host.reduce IntOp.andi x v reducesTo_S2816x1024_S_d0_1 h_S_) main_v47 main_c_17
  let main_v49 : IVec S_ 1 := andi main_v44 main_v48
  let main_v50 : FVec F S1x1024 .f32 := Host.absf main_arg10
  let main_cst_18 : FVec F S_ .f32 := constant S_ .f32 0x7F800000#32
  fn_part3 (F := F) main_arg11 main_arg12 main_arg13 main_arg14 main_v49 main_v50 main_cst_18

def fn_part1 {F : FTy → Type} [FloatOps F] (main_arg4 : FVec F S1x1024 .f32) (main_arg5 : FVec F S1x1024 .f32) (main_arg6 : FVec F S1x1024 .f32) (main_arg7 : FVec F S1x1024 .f32) (main_arg8 : FVec F S1024x5632 .f32) (main_arg9 : FVec F S2816x1024 .f32) (main_arg10 : FVec F S1x1024 .f32) (main_arg11 : FVec F S1x1024 .f32) (main_arg12 : FVec F S1x1024 .f32) (main_arg13 : FVec F S1x1024 .f32) (main_arg14 : FVec F S1024x1536 .f32) (main_v14 : IVec S_ 1) (main_v15 : FVec F S16384x1024 .f32) (main_v16 : FVec F S16384x1024 .f32) : IVec S_ 1 :=
  let main_v17 : IVec S16384x1024 1 := cmpf .olt main_v15 main_v16
  let main_c_5 : IVec S_ 1 := constantI S_ 1 1#1
  let main_v18 : IVec S_ 1 := (fun x v => Host.reduce IntOp.andi x v reducesTo_S16384x1024_S_d0_1 h_S_) main_v17 main_c_5
  let main_v19 : IVec S_ 1 := andi main_v14 main_v18
  let main_v20 : FVec F S1x1024 .f32 := Host.absf main_arg4
  let main_cst_6 : FVec F S_ .f32 := constant S_ .f32 0x7F800000#32
  let main_v21 : FVec F S1x1024 .f32 := broadcastInDim S1x1024 ![] bcast_S_S1x1024 main_cst_6
  let main_v22 : IVec S1x1024 1 := cmpf .olt main_v20 main_v21
  let main_c_7 : IVec S_ 1 := constantI S_ 1 1#1
  let main_v23 : IVec S_ 1 := (fun x v => Host.reduce IntOp.andi x v reducesTo_S1x1024_S_d0_1 h_S_) main_v22 main_c_7
  let main_v24 : IVec S_ 1 := andi main_v19 main_v23
  let main_v25 : FVec F S1x1024 .f32 := Host.absf main_arg5
  let main_cst_8 : FVec F S_ .f32 := constant S_ .f32 0x7F800000#32
  let main_v26 : FVec F S1x1024 .f32 := broadcastInDim S1x1024 ![] bcast_S_S1x1024 main_cst_8
  let main_v27 : IVec S1x1024 1 := cmpf .olt main_v25 main_v26
  let main_c_9 : IVec S_ 1 := constantI S_ 1 1#1
  let main_v28 : IVec S_ 1 := (fun x v => Host.reduce IntOp.andi x v reducesTo_S1x1024_S_d0_1 h_S_) main_v27 main_c_9
  let main_v29 : IVec S_ 1 := andi main_v24 main_v28
  let main_v30 : FVec F S1x1024 .f32 := Host.absf main_arg6
  let main_cst_10 : FVec F S_ .f32 := constant S_ .f32 0x7F800000#32
  let main_v31 : FVec F S1x1024 .f32 := broadcastInDim S1x1024 ![] bcast_S_S1x1024 main_cst_10
  let main_v32 : IVec S1x1024 1 := cmpf .olt main_v30 main_v31
  let main_c_11 : IVec S_ 1 := constantI S_ 1 1#1
  let main_v33 : IVec S_ 1 := (fun x v => Host.reduce IntOp.andi x v reducesTo_S1x1024_S_d0_1 h_S_) main_v32 main_c_11
  fn_part2 (F := F) main_arg7 main_arg8 main_arg9 main_arg10 main_arg11 main_arg12 main_arg13 main_arg14 main_v29 main_v33

def fn {F : FTy → Type} [FloatOps F] (main_arg0 : FVec F S16384x1024 .f32) (main_arg1 : FVec F S16384x512 .bf16) (main_arg2 : FVec F S512x1024 .f32) (main_arg3 : FVec F S16384x1024 .f32) (main_arg4 : FVec F S1x1024 .f32) (main_arg5 : FVec F S1x1024 .f32) (main_arg6 : FVec F S1x1024 .f32) (main_arg7 : FVec F S1x1024 .f32) (main_arg8 : FVec F S1024x5632 .f32) (main_arg9 : FVec F S2816x1024 .f32) (main_arg10 : FVec F S1x1024 .f32) (main_arg11 : FVec F S1x1024 .f32) (main_arg12 : FVec F S1x1024 .f32) (main_arg13 : FVec F S1x1024 .f32) (main_arg14 : FVec F S1024x1536 .f32) : IVec S_ 1 :=
  let main_v0 : FVec F S16384x512 .f32 := (extf .f32 · bitsLt_bf16_f32) main_arg1
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S16384x1024 .f32 := Host.absf main_arg0
  let main_cst_0 : FVec F S_ .f32 := constant S_ .f32 0x7F800000#32
  let main_v6 : FVec F S16384x1024 .f32 := broadcastInDim S16384x1024 ![] bcast_S_S16384x1024 main_cst_0
  let main_v7 : IVec S16384x1024 1 := cmpf .olt main_v5 main_v6
  let main_c_1 : IVec S_ 1 := constantI S_ 1 1#1
  let main_v8 : IVec S_ 1 := (fun x v => Host.reduce IntOp.andi x v reducesTo_S16384x1024_S_d0_1 h_S_) main_v7 main_c_1
  let main_v9 : IVec S_ 1 := andi main_v4 main_v8
  let main_v10 : FVec F S512x1024 .f32 := Host.absf main_arg2
  let main_cst_2 : FVec F S_ .f32 := constant S_ .f32 0x7F800000#32
  let main_v11 : FVec F S512x1024 .f32 := broadcastInDim S512x1024 ![] bcast_S_S512x1024 main_cst_2
  let main_v12 : IVec S512x1024 1 := cmpf .olt main_v10 main_v11
  let main_c_3 : IVec S_ 1 := constantI S_ 1 1#1
  let main_v13 : IVec S_ 1 := (fun x v => Host.reduce IntOp.andi x v reducesTo_S512x1024_S_d0_1 h_S_) main_v12 main_c_3
  let main_v14 : IVec S_ 1 := andi main_v9 main_v13
  let main_v15 : FVec F S16384x1024 .f32 := Host.absf main_arg3
  let main_cst_4 : FVec F S_ .f32 := constant S_ .f32 0x7F800000#32
  let main_v16 : FVec F S16384x1024 .f32 := broadcastInDim S16384x1024 ![] bcast_S_S16384x1024 main_cst_4
  fn_part1 (F := F) main_arg4 main_arg5 main_arg6 main_arg7 main_arg8 main_arg9 main_arg10 main_arg11 main_arg12 main_arg13 main_arg14 main_v14 main_v15 main_v16
-- ==== Kernel.lean ====
abbrev S16384x1536 : Shape := ⟨2, ![16384, 1536]⟩
abbrev S16 : Shape := ⟨1, ![16]⟩
abbrev S16384x1024 : Shape := ⟨2, ![16384, 1024]⟩
abbrev S1x16384x4x4x64 : Shape := ⟨5, ![1, 16384, 4, 4, 64]⟩
abbrev S16384x256 : Shape := ⟨2, ![16384, 256]⟩
abbrev S1x16384x4x64 : Shape := ⟨4, ![1, 16384, 4, 64]⟩
abbrev S4x4 : Shape := ⟨2, ![4, 4]⟩
abbrev S1x128x128x4x4x64 : Shape := ⟨6, ![1, 128, 128, 4, 4, 64]⟩
abbrev S_ : Shape := ⟨0, ![]⟩
abbrev S1x128x4x64 : Shape := ⟨4, ![1, 128, 4, 64]⟩
abbrev S1x16640x4x64 : Shape := ⟨4, ![1, 16640, 4, 64]⟩
abbrev S1x130x128x4x64 : Shape := ⟨5, ![1, 130, 128, 4, 64]⟩
abbrev S1x128x128x4x64 : Shape := ⟨5, ![1, 128, 128, 4, 64]⟩
abbrev S1x128x384x4x64 : Shape := ⟨5, ![1, 128, 384, 4, 64]⟩
abbrev S384 : Shape := ⟨1, ![384]⟩
abbrev S1x384 : Shape := ⟨2, ![1, 384]⟩
abbrev S128 : Shape := ⟨1, ![128]⟩
abbrev S128x1 : Shape := ⟨2, ![128, 1]⟩
abbrev S128x384 : Shape := ⟨2, ![128, 384]⟩
abbrev S1x128x384 : Shape := ⟨3, ![1, 128, 384]⟩
abbrev S128x1x384 : Shape := ⟨3, ![128, 1, 384]⟩
abbrev S128x128x384 : Shape := ⟨3, ![128, 128, 384]⟩
abbrev S4x4x1x1 : Shape := ⟨4, ![4, 4, 1, 1]⟩
abbrev S1x1x128x384 : Shape := ⟨4, ![1, 1, 128, 384]⟩
abbrev S4x4x128x384 : Shape := ⟨4, ![4, 4, 128, 384]⟩
abbrev S1x128x4x384x128x4 : Shape := ⟨6, ![1, 128, 4, 384, 128, 4]⟩
abbrev S1x128x4x4x128x384 : Shape := ⟨6, ![1, 128, 4, 4, 128, 384]⟩
abbrev S1x1x4x4x128x384 : Shape := ⟨6, ![1, 1, 4, 4, 128, 384]⟩
abbrev S1x128x1x1x128x384 : Shape := ⟨6, ![1, 128, 1, 1, 128, 384]⟩
abbrev S1x128x4x4x128 : Shape := ⟨5, ![1, 128, 4, 4, 128]⟩
abbrev S4x4x1 : Shape := ⟨3, ![4, 4, 1]⟩
abbrev S1x1x4x4x1 : Shape := ⟨5, ![1, 1, 4, 4, 1]⟩
abbrev S1x128x4x4x128x1 : Shape := ⟨6, ![1, 128, 4, 4, 128, 1]⟩
abbrev S1x128x4x64x4x128 : Shape := ⟨6, ![1, 128, 4, 64, 4, 128]⟩
abbrev S1x128x128x4x4 : Shape := ⟨5, ![1, 128, 128, 4, 4]⟩
abbrev S1x128x128x4x4x1 : Shape := ⟨6, ![1, 128, 128, 4, 4, 1]⟩
abbrev S1x16384x4x4 : Shape := ⟨4, ![1, 16384, 4, 4]⟩
abbrev S16384x16 : Shape := ⟨2, ![16384, 16]⟩
abbrev S16384x16x64 : Shape := ⟨3, ![16384, 16, 64]⟩
abbrev S16x128 : Shape := ⟨2, ![16, 128]⟩
abbrev S2048 : Shape := ⟨1, ![2048]⟩
abbrev S2x1x1024 : Shape := ⟨3, ![2, 1, 1024]⟩
abbrev S2x1x8x1024 : Shape := ⟨4, ![2, 1, 8, 1024]⟩
abbrev S2x8x1024 : Shape := ⟨3, ![2, 8, 1024]⟩
abbrev S16x1024 : Shape := ⟨2, ![16, 1024]⟩
abbrev S2x3x384x8x128 : Shape := ⟨5, ![2, 3, 384, 8, 128]⟩
abbrev S2x1x1x8x1 : Shape := ⟨5, ![2, 1, 1, 8, 1]⟩
abbrev S2304x1024 : Shape := ⟨2, ![2304, 1024]⟩
abbrev S2x16384x128 : Shape := ⟨3, ![2, 16384, 128]⟩
abbrev S1024x512 : Shape := ⟨2, ![1024, 512]⟩
abbrev S128x128 : Shape := ⟨2, ![128, 128]⟩
abbrev S1024x128 : Shape := ⟨2, ![1024, 128]⟩
abbrev S1152x1024 : Shape := ⟨2, ![1152, 1024]⟩
abbrev S8x1024 : Shape := ⟨2, ![8, 1024]⟩
abbrev S8x128 : Shape := ⟨2, ![8, 128]⟩
abbrev S4x8x128 : Shape := ⟨3, ![4, 8, 128]⟩
abbrev S1280x128 : Shape := ⟨2, ![1280, 128]⟩
abbrev S16640x128 : Shape := ⟨2, ![16640, 128]⟩
abbrev S2 : Shape := ⟨1, ![2]⟩
abbrev S1x1024 : Shape := ⟨2, ![1, 1024]⟩
abbrev S384x128 : Shape := ⟨2, ![384, 128]⟩
abbrev S64x128 : Shape := ⟨2, ![64, 128]⟩
abbrev S1x128 : Shape := ⟨2, ![1, 128]⟩
abbrev S384x1024 : Shape := ⟨2, ![384, 1024]⟩
abbrev S128x1024 : Shape := ⟨2, ![128, 1024]⟩
abbrev S1 : Shape := ⟨1, ![1]⟩
abbrev S1x1 : Shape := ⟨2, ![1, 1]⟩
abbrev S1x16384x128 : Shape := ⟨3, ![1, 16384, 128]⟩
abbrev S16384x128 : Shape := ⟨2, ![16384, 128]⟩

abbrev nBuf : Space → Nat
  | .hbm => 178
  | .vmem => 37
  | .smem => 0
  | _ => 0

abbrev hbmTy0_0 (i : Nat) : BufTy := match i % 128 with
  | 0 => ⟨S16384x1536, .bf16⟩
  | 1 => ⟨S16, .f32⟩
  | 2 => ⟨S16384x1024, .bf16⟩
  | 3 => ⟨S16, .f32⟩
  | 4 => ⟨S16, .f32⟩
  | 5 => ⟨S16384x1536, .f32⟩
  | 6 => ⟨S16384x1024, .f32⟩
  | 7 => ⟨S1x16384x4x4x64, .f32⟩
  | 8 => ⟨S16384x256, .f32⟩
  | 9 => ⟨S1x16384x4x64, .f32⟩
  | 10 => ⟨S16384x256, .f32⟩
  | 11 => ⟨S1x16384x4x64, .f32⟩
  | 12 => ⟨S4x4, .f32⟩
  | 13 => ⟨S4x4, .f32⟩
  | 14 => ⟨S1x128x128x4x4x64, .f32⟩
  | 15 => ⟨S_, .f32⟩
  | 16 => ⟨S1x128x4x64, .f32⟩
  | 17 => ⟨S1x16640x4x64, .f32⟩
  | 18 => ⟨S1x130x128x4x64, .f32⟩
  | 19 => ⟨S1x16640x4x64, .f32⟩
  | 20 => ⟨S1x130x128x4x64, .f32⟩
  | 21 => ⟨S1x128x128x4x64, .f32⟩
  | 22 => ⟨S1x128x128x4x64, .f32⟩
  | 23 => ⟨S1x128x128x4x64, .f32⟩
  | 24 => ⟨S1x128x384x4x64, .f32⟩
  | 25 => ⟨S1x128x128x4x64, .f32⟩
  | 26 => ⟨S1x128x128x4x64, .f32⟩
  | 27 => ⟨S1x128x128x4x64, .f32⟩
  | 28 => ⟨S1x128x384x4x64, .f32⟩
  | 29 => ⟨S384, .i32⟩
  | 30 => ⟨S1x384, .i32⟩
  | 31 => ⟨S_, .i32⟩
  | 32 => ⟨S1x384, .i32⟩
  | 33 => ⟨S1x384, .i32⟩
  | 34 => ⟨S128, .i32⟩
  | 35 => ⟨S128x1, .i32⟩
  | 36 => ⟨S128x384, .i32⟩
  | 37 => ⟨S128x384, .i32⟩
  | 38 => ⟨S128x384, .i32⟩
  | 39 => ⟨S128, .i32⟩
  | 40 => ⟨S128x1, .i32⟩
  | 41 => ⟨S_, .i32⟩
  | 42 => ⟨S128x1, .i32⟩
  | 43 => ⟨S128x1, .i32⟩
  | 44 => ⟨S_, .i32⟩
  | 45 => ⟨S128x1, .i32⟩
  | 46 => ⟨S128x1, .i32⟩
  | 47 => ⟨S384, .i32⟩
  | 48 => ⟨S1x384, .i32⟩
  | 49 => ⟨S128x384, .i32⟩
  | 50 => ⟨S128x384, .i32⟩
  | 51 => ⟨S128x384, .i32⟩
  | 52 => ⟨S128x384, .i32⟩
  | 53 => ⟨S_, .i32⟩
  | 54 => ⟨S128x384, .i32⟩
  | 55 => ⟨S128x384, .i1⟩
  | 56 => ⟨S1x128x384, .i1⟩
  | 57 => ⟨S_, .i32⟩
  | 58 => ⟨S128x384, .i32⟩
  | 59 => ⟨S128x384, .i1⟩
  | 60 => ⟨S_, .i32⟩
  | 61 => ⟨S128x384, .i32⟩
  | 62 => ⟨S128x384, .i1⟩
  | 63 => ⟨S128x384, .i1⟩
  | 64 => ⟨S128x1x384, .i1⟩
  | 65 => ⟨S128x128x384, .i1⟩
  | 66 => ⟨S128x128x384, .i1⟩
  | 67 => ⟨S128x128x384, .i1⟩
  | 68 => ⟨S128x384, .i32⟩
  | 69 => ⟨S_, .i32⟩
  | 70 => ⟨S128x384, .i32⟩
  | 71 => ⟨S128x384, .i32⟩
  | 72 => ⟨S128x384, .f32⟩
  | 73 => ⟨S4x4x1x1, .f32⟩
  | 74 => ⟨S4x4x1x1, .f32⟩
  | 75 => ⟨S1x1x128x384, .f32⟩
  | 76 => ⟨S4x4x128x384, .f32⟩
  | 77 => ⟨S4x4x128x384, .f32⟩
  | 78 => ⟨S4x4x128x384, .f32⟩
  | 79 => ⟨S1x128x4x384x128x4, .f32⟩
  | 80 => ⟨S1x128x4x4x128x384, .f32⟩
  | 81 => ⟨S_, .f32⟩
  | 82 => ⟨S1x128x4x4x128x384, .f32⟩
  | 83 => ⟨S1x128x4x4x128x384, .f32⟩
  | 84 => ⟨S1x1x4x4x128x384, .f32⟩
  | 85 => ⟨S1x128x4x4x128x384, .f32⟩
  | 86 => ⟨S1x128x4x4x128x384, .f32⟩
  | 87 => ⟨S1x128x1x1x128x384, .i1⟩
  | 88 => ⟨S_, .f32⟩
  | 89 => ⟨S_, .f32⟩
  | 90 => ⟨S1x128x4x4x128x384, .i1⟩
  | 91 => ⟨S1x128x4x4x128x384, .f32⟩
  | 92 => ⟨S1x128x4x4x128x384, .f32⟩
  | 93 => ⟨S_, .f32⟩
  | 94 => ⟨S1x128x4x4x128, .f32⟩
  | 95 => ⟨S4x4x1, .f32⟩
  | 96 => ⟨S1x1x4x4x1, .f32⟩
  | 97 => ⟨S1x128x4x4x128, .f32⟩
  | 98 => ⟨S1x128x4x4x128, .f32⟩
  | 99 => ⟨S1x128x4x4x128x1, .f32⟩
  | 100 => ⟨S1x128x4x4x128x384, .f32⟩
  | 101 => ⟨S1x128x4x4x128x384, .f32⟩
  | 102 => ⟨S1x128x4x4x128x384, .f32⟩
  | 103 => ⟨S_, .f32⟩
  | 104 => ⟨S1x128x4x4x128, .f32⟩
  | 105 => ⟨S1x1x4x4x1, .f32⟩
  | 106 => ⟨S1x128x4x4x128, .f32⟩
  | 107 => ⟨S1x128x4x4x128, .f32⟩
  | 108 => ⟨S1x128x4x4x128, .f32⟩
  | 109 => ⟨S1x128x4x4x128, .f32⟩
  | 110 => ⟨S1x128x4x64x4x128, .f32⟩
  | 111 => ⟨S1x128x128x4x4x64, .f32⟩
  | 112 => ⟨S1x128x128x4x4, .f32⟩
  | 113 => ⟨S1x128x128x4x4x1, .f32⟩
  | 114 => ⟨S1x128x128x4x4x64, .f32⟩
  | 115 => ⟨S1x128x128x4x4x64, .f32⟩
  | 116 => ⟨S1x128x4x4x128, .f32⟩
  | 117 => ⟨S1x128x4x4x128, .f32⟩
  | 118 => ⟨S1x128x128x4x4, .f32⟩
  | 119 => ⟨S1x16384x4x4x64, .f32⟩
  | 120 => ⟨S1x16384x4x4, .f32⟩
  | 121 => ⟨S16384x1024, .f32⟩
  | 122 => ⟨S16384x16, .f32⟩
  | 123 => ⟨S16384x1024, .bf16⟩
  | 124 => ⟨S16384x16x64, .f32⟩
  | 125 => ⟨S16384x1024, .f32⟩
  | 126 => ⟨S16x128, .f32⟩
  | 127 => ⟨S2048, .f32⟩
  | _ => ⟨S16384x1536, .bf16⟩

abbrev hbmTy0_1 (i : Nat) : BufTy := match i % 128 with
  | 0 => ⟨S2x1x1024, .f32⟩
  | 1 => ⟨S2x1x8x1024, .f32⟩
  | 2 => ⟨S2x8x1024, .f32⟩
  | 3 => ⟨S16x1024, .f32⟩
  | 4 => ⟨S2x3x384x8x128, .i32⟩
  | 5 => ⟨S2x3x384x8x128, .i32⟩
  | 6 => ⟨S2x3x384x8x128, .i32⟩
  | 7 => ⟨S_, .i32⟩
  | 8 => ⟨S2x3x384x8x128, .i32⟩
  | 9 => ⟨S2x3x384x8x128, .i32⟩
  | 10 => ⟨S2x3x384x8x128, .i32⟩
  | 11 => ⟨S2x3x384x8x128, .i32⟩
  | 12 => ⟨S_, .i32⟩
  | 13 => ⟨S2x3x384x8x128, .i32⟩
  | 14 => ⟨S2x3x384x8x128, .i1⟩
  | 15 => ⟨S_, .i32⟩
  | 16 => ⟨S2x3x384x8x128, .i32⟩
  | 17 => ⟨S2x3x384x8x128, .i1⟩
  | 18 => ⟨S_, .i32⟩
  | 19 => ⟨S2x3x384x8x128, .i32⟩
  | 20 => ⟨S2x3x384x8x128, .i1⟩
  | 21 => ⟨S2x3x384x8x128, .i1⟩
  | 22 => ⟨S2x3x384x8x128, .i1⟩
  | 23 => ⟨S2x3x384x8x128, .i1⟩
  | 24 => ⟨S_, .i32⟩
  | 25 => ⟨S2x3x384x8x128, .i32⟩
  | 26 => ⟨S2x3x384x8x128, .i1⟩
  | 27 => ⟨S_, .i32⟩
  | 28 => ⟨S2x3x384x8x128, .i32⟩
  | 29 => ⟨S2x3x384x8x128, .i1⟩
  | 30 => ⟨S2x3x384x8x128, .i1⟩
  | 31 => ⟨S2x3x384x8x128, .i1⟩
  | 32 => ⟨S2x3x384x8x128, .i1⟩
  | 33 => ⟨S2x1x1x8x1, .f32⟩
  | 34 => ⟨S2x1x1x8x1, .f32⟩
  | 35 => ⟨S_, .i32⟩
  | 36 => ⟨S2x3x384x8x128, .i32⟩
  | 37 => ⟨S2x3x384x8x128, .i32⟩
  | 38 => ⟨S2x3x384x8x128, .f32⟩
  | 39 => ⟨S2x3x384x8x128, .f32⟩
  | 40 => ⟨S2x3x384x8x128, .f32⟩
  | 41 => ⟨S_, .f32⟩
  | 42 => ⟨S_, .f32⟩
  | 43 => ⟨S2x3x384x8x128, .f32⟩
  | 44 => ⟨S2x3x384x8x128, .f32⟩
  | 45 => ⟨S2304x1024, .f32⟩
  | 46 => ⟨S16384x1024, .bf16⟩
  | 47 => ⟨S2x16384x128, .f32⟩
  | 48 => ⟨S2x16384x128, .f32⟩
  | 49 => ⟨S16x128, .f32⟩
  | _ => ⟨S16384x1536, .bf16⟩

abbrev hbmTy (i : Nat) : BufTy := match i / 128 with
  | 0 => hbmTy0_0 i
  | 1 => hbmTy0_1 i
  | _ => ⟨S16384x1536, .bf16⟩

abbrev bufTy : (tb : Table) → Fin (tcTables nBuf tb) → BufTy
  | .hbm, ⟨i, _⟩ => hbmTy i
  | .local _ .vmem, ⟨0, _⟩ => ⟨S1024x512, .bf16⟩
  | .local _ .vmem, ⟨1, _⟩ => ⟨S1024x512, .bf16⟩
  | .local _ .vmem, ⟨2, _⟩ => ⟨S128x128, .bf16⟩
  | .local _ .vmem, ⟨3, _⟩ => ⟨S128x128, .bf16⟩
  | .local _ .vmem, ⟨4, _⟩ => ⟨S1024x128, .bf16⟩
  | .local _ .vmem, ⟨5, _⟩ => ⟨S1024x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S1024x128, .bf16⟩
  | .local _ .vmem, ⟨11, _⟩ => ⟨S1024x128, .bf16⟩
  | .local _ .vmem, ⟨12, _⟩ => ⟨S128x128, .bf16⟩
  | .local _ .vmem, ⟨13, _⟩ => ⟨S128x128, .bf16⟩
  | .local _ .vmem, ⟨14, _⟩ => ⟨S1152x1024, .f32⟩
  | .local _ .vmem, ⟨15, _⟩ => ⟨S1152x1024, .f32⟩
  | .local _ .vmem, ⟨16, _⟩ => ⟨S8x1024, .f32⟩
  | .local _ .vmem, ⟨17, _⟩ => ⟨S8x1024, .f32⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .f32⟩
  | .local _ .vmem, ⟨23, _⟩ => ⟨S1024x512, .f32⟩
  | .local _ .vmem, ⟨24, _⟩ => ⟨S1024x512, .bf16⟩
  | .local _ .vmem, ⟨25, _⟩ => ⟨S1024x512, .bf16⟩
  | .local _ .vmem, ⟨26, _⟩ => ⟨S8x128, .f32⟩
  | .local _ .vmem, ⟨27, _⟩ => ⟨S8x128, .f32⟩
  | .local _ .vmem, ⟨28, _⟩ => ⟨S4x8x128, .f32⟩
  | .local _ .vmem, ⟨29, _⟩ => ⟨S1280x128, .f32⟩
  | .local _ .vmem, ⟨30, _⟩ => ⟨S1280x128, .f32⟩
  | .local _ .vmem, ⟨31, _⟩ => ⟨S4x8x128, .f32⟩
  | .local _ .vmem, ⟨32, _⟩ => ⟨S4x8x128, .f32⟩
  | .local _ .vmem, ⟨33, _⟩ => ⟨S4x8x128, .f32⟩
  | .local _ .vmem, ⟨34, _⟩ => ⟨S4x8x128, .f32⟩
  | .local _ .vmem, ⟨35, _⟩ => ⟨S16640x128, .f32⟩
  | .local _ .vmem, ⟨36, _⟩ => ⟨S16640x128, .f32⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c_2 : Ref sig .tc := ⟨.hbm, 41, rfl⟩
abbrev main_v34 : Ref sig .tc := ⟨.hbm, 42, rfl⟩
abbrev main_v35 : Ref sig .tc := ⟨.hbm, 43, rfl⟩
abbrev main_c_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_c_4 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_c_5 : Ref sig .tc := ⟨.hbm, 57, rfl⟩
abbrev main_v47 : Ref sig .tc := ⟨.hbm, 58, rfl⟩
abbrev main_v48 : Ref sig .tc := ⟨.hbm, 59, rfl⟩
abbrev main_c_6 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_c_7 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_cst_8 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_9 : Ref sig .tc := ⟨.hbm, 88, rfl⟩
abbrev main_call0_v0 : Ref sig .tc := ⟨.hbm, 89, rfl⟩
abbrev main_call0_v1 : Ref sig .tc := ⟨.hbm, 90, rfl⟩
abbrev main_call0_v2 : Ref sig .tc := ⟨.hbm, 91, rfl⟩
abbrev main_v74 : Ref sig .tc := ⟨.hbm, 92, rfl⟩
abbrev main_cst_10 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_11 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_c_12 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_c_13 : Ref sig .tc := ⟨.hbm, 140, rfl⟩
abbrev main_v119 : Ref sig .tc := ⟨.hbm, 141, rfl⟩
abbrev main_v120 : Ref sig .tc := ⟨.hbm, 142, rfl⟩
abbrev main_c_14 : Ref sig .tc := ⟨.hbm, 143, rfl⟩
abbrev main_v121 : Ref sig .tc := ⟨.hbm, 144, rfl⟩
abbrev main_v122 : Ref sig .tc := ⟨.hbm, 145, rfl⟩
abbrev main_c_15 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_c_16 : Ref sig .tc := ⟨.hbm, 152, rfl⟩
abbrev main_v128 : Ref sig .tc := ⟨.hbm, 153, rfl⟩
abbrev main_v129 : Ref sig .tc := ⟨.hbm, 154, rfl⟩
abbrev main_c_17 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_c_18 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_cst_19 : Ref sig .tc := ⟨.hbm, 169, rfl⟩
abbrev main_call1_v0 : Ref sig .tc := ⟨.hbm, 170, rfl⟩
abbrev main_call1_v1 : Ref sig .tc := ⟨.hbm, 171, rfl⟩
abbrev main_v142 : Ref sig .tc := ⟨.hbm, 172, rfl⟩
abbrev main_v143 : Ref sig .tc := ⟨.hbm, 173, rfl⟩
abbrev main_v144_0 : Ref sig .tc := ⟨.hbm, 174, rfl⟩
abbrev main_v144_1 : Ref sig .tc := ⟨.hbm, 175, rfl⟩
abbrev main_v144_2 : Ref sig .tc := ⟨.hbm, 176, rfl⟩
abbrev main_v144_3 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_scratch6 : Ref sig .tc := ⟨.vmem, 34, rfl⟩
abbrev cc0_scratch7 : Ref sig .tc := ⟨.vmem, 35, rfl⟩
abbrev cc0_scratch8 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c1024_i32 : BitVec 32 := 1024#32
  let v37 : BitVec 32 := Scalar.muli arg1 c1024_i32
  v37
@[reducible] def k0_t1_loop : Scf.Loop 32 :=
  let c0_i32_24 : BitVec 32 := 0#32
  let c8_i32 : BitVec 32 := 8#32
  let v41 : BitVec 32 := Scalar.addi c0_i32_24 c8_i32
  let c1_i32 : BitVec 32 := 1#32
  ⟨c0_i32_24, v41, c1_i32⟩
def k0_mult2 (k0_t1 : Fin k0_t1_loop.trips) : BitVec 32 :=
  let c0_i32_24 : BitVec 32 := 0#32
  let c1_i32 : BitVec 32 := 1#32
  let arg28 : BitVec 32 := Scf.iv c0_i32_24 c1_i32 k0_t1
  let c8_i32_34 : BitVec 32 := 8#32
  let c0_i32_35 : BitVec 32 := 0#32
  let v62 : BitVec 1 := Scalar.cmpi .eq c8_i32_34 c0_i32_35
  let c1_i32_36 : BitVec 32 := 1#32
  let v63 : BitVec 32 := Scalar.select v62 c1_i32_36 c8_i32_34
  let v64 : BitVec 32 := Scalar.remsi arg28 v63
  let c0_i32_38 : BitVec 32 := 0#32
  let v66 : BitVec 1 := Scalar.cmpi .slt v64 c0_i32_38
  let c0_i32_39 : BitVec 32 := 0#32
  let v67 : BitVec 1 := Scalar.cmpi .slt v63 c0_i32_39
  let v68 : BitVec 1 := Scalar.xori v66 v67
  let c0_i32_37 : BitVec 32 := 0#32
  let v65 : BitVec 1 := Scalar.cmpi .ne v64 c0_i32_37
  let v69 : BitVec 1 := Scalar.andi v68 v65
  let v70 : BitVec 32 := Scalar.addi v64 v63
  let v71 : BitVec 32 := Scalar.select v69 v70 v64
  let c128_i32 : BitVec 32 := 128#32
  let v72 : BitVec 32 := Scalar.muli v71 c128_i32
  let c0_i32_28 : BitVec 32 := 0#32
  let v46 : BitVec 1 := Scalar.cmpi .sgt arg28 c0_i32_28
  let v47 : BitVec 32 := Scalar.extui v46
  let c0_i32_29 : BitVec 32 := 0#32
  let v48 : BitVec 1 := Scalar.cmpi .slt arg28 c0_i32_29
  let v49 : BitVec 32 := Scalar.extui v48
  let v50 : BitVec 32 := Scalar.subi v47 v49
  let c8_i32_27 : BitVec 32 := 8#32
  let c0_i32_30 : BitVec 32 := 0#32
  let v51 : BitVec 1 := Scalar.cmpi .sgt c8_i32_27 c0_i32_30
  let v52 : BitVec 32 := Scalar.extui v51
  let c0_i32_31 : BitVec 32 := 0#32
  let v53 : BitVec 1 := Scalar.cmpi .slt c8_i32_27 c0_i32_31
  let v54 : BitVec 32 := Scalar.extui v53
  let v55 : BitVec 32 := Scalar.subi v52 v54
  let v56 : BitVec 1 := Scalar.cmpi .ne v50 v55
  let v57 : BitVec 32 := Scalar.remsi arg28 c8_i32_27
  let c0_i32_32 : BitVec 32 := 0#32
  let v58 : BitVec 1 := Scalar.cmpi .ne v57 c0_i32_32
  let v59 : BitVec 1 := Scalar.andi v56 v58
  let v45 : BitVec 32 := Scalar.divsi arg28 c8_i32_27
  let c1_i32_33 : BitVec 32 := 1#32
  let v60 : BitVec 32 := Scalar.subi v45 c1_i32_33
  let v61 : BitVec 32 := Scalar.select v59 v60 v45
  let v73 : BitVec 32 := Scalar.addi v72 v61
  v73
def k0_off1 (k0_t1 : Fin k0_t1_loop.trips) : Fin 2 → Nat :=
  let c0_i32_24 : BitVec 32 := 0#32
  let c1_i32 : BitVec 32 := 1#32
  let arg28 : BitVec 32 := Scf.iv c0_i32_24 c1_i32 k0_t1
  let c8_i32_34 : BitVec 32 := 8#32
  let c0_i32_35 : BitVec 32 := 0#32
  let v62 : BitVec 1 := Scalar.cmpi .eq c8_i32_34 c0_i32_35
  let c1_i32_36 : BitVec 32 := 1#32
  let v63 : BitVec 32 := Scalar.select v62 c1_i32_36 c8_i32_34
  let v64 : BitVec 32 := Scalar.remsi arg28 v63
  let c0_i32_38 : BitVec 32 := 0#32
  let v66 : BitVec 1 := Scalar.cmpi .slt v64 c0_i32_38
  let c0_i32_39 : BitVec 32 := 0#32
  let v67 : BitVec 1 := Scalar.cmpi .slt v63 c0_i32_39
  let v68 : BitVec 1 := Scalar.xori v66 v67
  let c0_i32_37 : BitVec 32 := 0#32
  let v65 : BitVec 1 := Scalar.cmpi .ne v64 c0_i32_37
  let v69 : BitVec 1 := Scalar.andi v68 v65
  let v70 : BitVec 32 := Scalar.addi v64 v63
  let v71 : BitVec 32 := Scalar.select v69 v70 v64
  let c128_i32 : BitVec 32 := 128#32
  let v72 : BitVec 32 := Scalar.muli v71 c128_i32
  let c0_i32_28 : BitVec 32 := 0#32
  let v46 : BitVec 1 := Scalar.cmpi .sgt arg28 c0_i32_28
  let v47 : BitVec 32 := Scalar.extui v46
  let c0_i32_29 : BitVec 32 := 0#32
  let v48 : BitVec 1 := Scalar.cmpi .slt arg28 c0_i32_29
  let v49 : BitVec 32 := Scalar.extui v48
  let v50 : BitVec 32 := Scalar.subi v47 v49
  let c8_i32_27 : BitVec 32 := 8#32
  let c0_i32_30 : BitVec 32 := 0#32
  let v51 : BitVec 1 := Scalar.cmpi .sgt c8_i32_27 c0_i32_30
  let v52 : BitVec 32 := Scalar.extui v51
  let c0_i32_31 : BitVec 32 := 0#32
  let v53 : BitVec 1 := Scalar.cmpi .slt c8_i32_27 c0_i32_31
  let v54 : BitVec 32 := Scalar.extui v53
  let v55 : BitVec 32 := Scalar.subi v52 v54
  let v56 : BitVec 1 := Scalar.cmpi .ne v50 v55
  let v57 : BitVec 32 := Scalar.remsi arg28 c8_i32_27
  let c0_i32_32 : BitVec 32 := 0#32
  let v58 : BitVec 1 := Scalar.cmpi .ne v57 c0_i32_32
  let v59 : BitVec 1 := Scalar.andi v56 v58
  let v45 : BitVec 32 := Scalar.divsi arg28 c8_i32_27
  let c1_i32_33 : BitVec 32 := 1#32
  let v60 : BitVec 32 := Scalar.subi v45 c1_i32_33
  let v61 : BitVec 32 := Scalar.select v59 v60 v45
  let v73 : BitVec 32 := Scalar.addi v72 v61
  let v74 : BitVec 32 := v73
  let v84 : Index := Scalar.indexCast v74
  let c0_46 : Index := 0#32
  ![v84.toNat, 0]
def k0_off2 (k0_t1 : Fin k0_t1_loop.trips) : Fin 2 → Nat :=
  let c0_i32_24 : BitVec 32 := 0#32
  let c1_i32 : BitVec 32 := 1#32
  let arg28 : BitVec 32 := Scf.iv c0_i32_24 c1_i32 k0_t1
  let c8_i32_34 : BitVec 32 := 8#32
  let c0_i32_35 : BitVec 32 := 0#32
  let v62 : BitVec 1 := Scalar.cmpi .eq c8_i32_34 c0_i32_35
  let c1_i32_36 : BitVec 32 := 1#32
  let v63 : BitVec 32 := Scalar.select v62 c1_i32_36 c8_i32_34
  let v64 : BitVec 32 := Scalar.remsi arg28 v63
  let c0_i32_38 : BitVec 32 := 0#32
  let v66 : BitVec 1 := Scalar.cmpi .slt v64 c0_i32_38
  let c0_i32_39 : BitVec 32 := 0#32
  let v67 : BitVec 1 := Scalar.cmpi .slt v63 c0_i32_39
  let v68 : BitVec 1 := Scalar.xori v66 v67
  let c0_i32_37 : BitVec 32 := 0#32
  let v65 : BitVec 1 := Scalar.cmpi .ne v64 c0_i32_37
  let v69 : BitVec 1 := Scalar.andi v68 v65
  let v70 : BitVec 32 := Scalar.addi v64 v63
  let v71 : BitVec 32 := Scalar.select v69 v70 v64
  let c128_i32 : BitVec 32 := 128#32
  let v72 : BitVec 32 := Scalar.muli v71 c128_i32
  let c0_i32_28 : BitVec 32 := 0#32
  let v46 : BitVec 1 := Scalar.cmpi .sgt arg28 c0_i32_28
  let v47 : BitVec 32 := Scalar.extui v46
  let c0_i32_29 : BitVec 32 := 0#32
  let v48 : BitVec 1 := Scalar.cmpi .slt arg28 c0_i32_29
  let v49 : BitVec 32 := Scalar.extui v48
  let v50 : BitVec 32 := Scalar.subi v47 v49
  let c8_i32_27 : BitVec 32 := 8#32
  let c0_i32_30 : BitVec 32 := 0#32
  let v51 : BitVec 1 := Scalar.cmpi .sgt c8_i32_27 c0_i32_30
  let v52 : BitVec 32 := Scalar.extui v51
  let c0_i32_31 : BitVec 32 := 0#32
  let v53 : BitVec 1 := Scalar.cmpi .slt c8_i32_27 c0_i32_31
  let v54 : BitVec 32 := Scalar.extui v53
  let v55 : BitVec 32 := Scalar.subi v52 v54
  let v56 : BitVec 1 := Scalar.cmpi .ne v50 v55
  let v57 : BitVec 32 := Scalar.remsi arg28 c8_i32_27
  let c0_i32_32 : BitVec 32 := 0#32
  let v58 : BitVec 1 := Scalar.cmpi .ne v57 c0_i32_32
  let v59 : BitVec 1 := Scalar.andi v56 v58
  let v45 : BitVec 32 := Scalar.divsi arg28 c8_i32_27
  let c1_i32_33 : BitVec 32 := 1#32
  let v60 : BitVec 32 := Scalar.subi v45 c1_i32_33
  let v61 : BitVec 32 := Scalar.select v59 v60 v45
  let v73 : BitVec 32 := Scalar.addi v72 v61
  let v74 : BitVec 32 := v73
  let v94 : Index := Scalar.indexCast v74
  let c0_49 : Index := 0#32
  ![v94.toNat, 0]
def k0_off3 (k0_t1 : Fin k0_t1_loop.trips) : Fin 2 → Nat :=
  let c0_i32_24 : BitVec 32 := 0#32
  let c1_i32 : BitVec 32 := 1#32
  let arg28 : BitVec 32 := Scf.iv c0_i32_24 c1_i32 k0_t1
  let c8_i32_34 : BitVec 32 := 8#32
  let c0_i32_35 : BitVec 32 := 0#32
  let v62 : BitVec 1 := Scalar.cmpi .eq c8_i32_34 c0_i32_35
  let c1_i32_36 : BitVec 32 := 1#32
  let v63 : BitVec 32 := Scalar.select v62 c1_i32_36 c8_i32_34
  let v64 : BitVec 32 := Scalar.remsi arg28 v63
  let c0_i32_38 : BitVec 32 := 0#32
  let v66 : BitVec 1 := Scalar.cmpi .slt v64 c0_i32_38
  let c0_i32_39 : BitVec 32 := 0#32
  let v67 : BitVec 1 := Scalar.cmpi .slt v63 c0_i32_39
  let v68 : BitVec 1 := Scalar.xori v66 v67
  let c0_i32_37 : BitVec 32 := 0#32
  let v65 : BitVec 1 := Scalar.cmpi .ne v64 c0_i32_37
  let v69 : BitVec 1 := Scalar.andi v68 v65
  let v70 : BitVec 32 := Scalar.addi v64 v63
  let v71 : BitVec 32 := Scalar.select v69 v70 v64
  let c128_i32 : BitVec 32 := 128#32
  let v72 : BitVec 32 := Scalar.muli v71 c128_i32
  let c0_i32_28 : BitVec 32 := 0#32
  let v46 : BitVec 1 := Scalar.cmpi .sgt arg28 c0_i32_28
  let v47 : BitVec 32 := Scalar.extui v46
  let c0_i32_29 : BitVec 32 := 0#32
  let v48 : BitVec 1 := Scalar.cmpi .slt arg28 c0_i32_29
  let v49 : BitVec 32 := Scalar.extui v48
  let v50 : BitVec 32 := Scalar.subi v47 v49
  let c8_i32_27 : BitVec 32 := 8#32
  let c0_i32_30 : BitVec 32 := 0#32
  let v51 : BitVec 1 := Scalar.cmpi .sgt c8_i32_27 c0_i32_30
  let v52 : BitVec 32 := Scalar.extui v51
  let c0_i32_31 : BitVec 32 := 0#32
  let v53 : BitVec 1 := Scalar.cmpi .slt c8_i32_27 c0_i32_31
  let v54 : BitVec 32 := Scalar.extui v53
  let v55 : BitVec 32 := Scalar.subi v52 v54
  let v56 : BitVec 1 := Scalar.cmpi .ne v50 v55
  let v57 : BitVec 32 := Scalar.remsi arg28 c8_i32_27
  let c0_i32_32 : BitVec 32 := 0#32
  let v58 : BitVec 1 := Scalar.cmpi .ne v57 c0_i32_32
  let v59 : BitVec 1 := Scalar.andi v56 v58
  let v45 : BitVec 32 := Scalar.divsi arg28 c8_i32_27
  let c1_i32_33 : BitVec 32 := 1#32
  let v60 : BitVec 32 := Scalar.subi v45 c1_i32_33
  let v61 : BitVec 32 := Scalar.select v59 v60 v45
  let v73 : BitVec 32 := Scalar.addi v72 v61
  let v74 : BitVec 32 := v73
  let v97 : Index := Scalar.indexCast v74
  let c128_50 : Index := 128#32
  ![v97.toNat, 128]
def k0_off4 (k0_t1 : Fin k0_t1_loop.trips) : Fin 2 → Nat :=
  let c0_i32_24 : BitVec 32 := 0#32
  let c1_i32 : BitVec 32 := 1#32
  let arg28 : BitVec 32 := Scf.iv c0_i32_24 c1_i32 k0_t1
  let c8_i32_34 : BitVec 32 := 8#32
  let c0_i32_35 : BitVec 32 := 0#32
  let v62 : BitVec 1 := Scalar.cmpi .eq c8_i32_34 c0_i32_35
  let c1_i32_36 : BitVec 32 := 1#32
  let v63 : BitVec 32 := Scalar.select v62 c1_i32_36 c8_i32_34
  let v64 : BitVec 32 := Scalar.remsi arg28 v63
  let c0_i32_38 : BitVec 32 := 0#32
  let v66 : BitVec 1 := Scalar.cmpi .slt v64 c0_i32_38
  let c0_i32_39 : BitVec 32 := 0#32
  let v67 : BitVec 1 := Scalar.cmpi .slt v63 c0_i32_39
  let v68 : BitVec 1 := Scalar.xori v66 v67
  let c0_i32_37 : BitVec 32 := 0#32
  let v65 : BitVec 1 := Scalar.cmpi .ne v64 c0_i32_37
  let v69 : BitVec 1 := Scalar.andi v68 v65
  let v70 : BitVec 32 := Scalar.addi v64 v63
  let v71 : BitVec 32 := Scalar.select v69 v70 v64
  let c128_i32 : BitVec 32 := 128#32
  let v72 : BitVec 32 := Scalar.muli v71 c128_i32
  let c0_i32_28 : BitVec 32 := 0#32
  let v46 : BitVec 1 := Scalar.cmpi .sgt arg28 c0_i32_28
  let v47 : BitVec 32 := Scalar.extui v46
  let c0_i32_29 : BitVec 32 := 0#32
  let v48 : BitVec 1 := Scalar.cmpi .slt arg28 c0_i32_29
  let v49 : BitVec 32 := Scalar.extui v48
  let v50 : BitVec 32 := Scalar.subi v47 v49
  let c8_i32_27 : BitVec 32 := 8#32
  let c0_i32_30 : BitVec 32 := 0#32
  let v51 : BitVec 1 := Scalar.cmpi .sgt c8_i32_27 c0_i32_30
  let v52 : BitVec 32 := Scalar.extui v51
  let c0_i32_31 : BitVec 32 := 0#32
  let v53 : BitVec 1 := Scalar.cmpi .slt c8_i32_27 c0_i32_31
  let v54 : BitVec 32 := Scalar.extui v53
  let v55 : BitVec 32 := Scalar.subi v52 v54
  let v56 : BitVec 1 := Scalar.cmpi .ne v50 v55
  let v57 : BitVec 32 := Scalar.remsi arg28 c8_i32_27
  let c0_i32_32 : BitVec 32 := 0#32
  let v58 : BitVec 1 := Scalar.cmpi .ne v57 c0_i32_32
  let v59 : BitVec 1 := Scalar.andi v56 v58
  let v45 : BitVec 32 := Scalar.divsi arg28 c8_i32_27
  let c1_i32_33 : BitVec 32 := 1#32
  let v60 : BitVec 32 := Scalar.subi v45 c1_i32_33
  let v61 : BitVec 32 := Scalar.select v59 v60 v45
  let v73 : BitVec 32 := Scalar.addi v72 v61
  let v74 : BitVec 32 := v73
  let v100 : Index := Scalar.indexCast v74
  let c256 : Index := 256#32
  ![v100.toNat, 256]
def k0_off5 (k0_t1 : Fin k0_t1_loop.trips) : Fin 2 → Nat :=
  let c0_i32_24 : BitVec 32 := 0#32
  let c1_i32 : BitVec 32 := 1#32
  let arg28 : BitVec 32 := Scf.iv c0_i32_24 c1_i32 k0_t1
  let c8_i32_34 : BitVec 32 := 8#32
  let c0_i32_35 : BitVec 32 := 0#32
  let v62 : BitVec 1 := Scalar.cmpi .eq c8_i32_34 c0_i32_35
  let c1_i32_36 : BitVec 32 := 1#32
  let v63 : BitVec 32 := Scalar.select v62 c1_i32_36 c8_i32_34
  let v64 : BitVec 32 := Scalar.remsi arg28 v63
  let c0_i32_38 : BitVec 32 := 0#32
  let v66 : BitVec 1 := Scalar.cmpi .slt v64 c0_i32_38
  let c0_i32_39 : BitVec 32 := 0#32
  let v67 : BitVec 1 := Scalar.cmpi .slt v63 c0_i32_39
  let v68 : BitVec 1 := Scalar.xori v66 v67
  let c0_i32_37 : BitVec 32 := 0#32
  let v65 : BitVec 1 := Scalar.cmpi .ne v64 c0_i32_37
  let v69 : BitVec 1 := Scalar.andi v68 v65
  let v70 : BitVec 32 := Scalar.addi v64 v63
  let v71 : BitVec 32 := Scalar.select v69 v70 v64
  let c128_i32 : BitVec 32 := 128#32
  let v72 : BitVec 32 := Scalar.muli v71 c128_i32
  let c0_i32_28 : BitVec 32 := 0#32
  let v46 : BitVec 1 := Scalar.cmpi .sgt arg28 c0_i32_28
  let v47 : BitVec 32 := Scalar.extui v46
  let c0_i32_29 : BitVec 32 := 0#32
  let v48 : BitVec 1 := Scalar.cmpi .slt arg28 c0_i32_29
  let v49 : BitVec 32 := Scalar.extui v48
  let v50 : BitVec 32 := Scalar.subi v47 v49
  let c8_i32_27 : BitVec 32 := 8#32
  let c0_i32_30 : BitVec 32 := 0#32
  let v51 : BitVec 1 := Scalar.cmpi .sgt c8_i32_27 c0_i32_30
  let v52 : BitVec 32 := Scalar.extui v51
  let c0_i32_31 : BitVec 32 := 0#32
  let v53 : BitVec 1 := Scalar.cmpi .slt c8_i32_27 c0_i32_31
  let v54 : BitVec 32 := Scalar.extui v53
  let v55 : BitVec 32 := Scalar.subi v52 v54
  let v56 : BitVec 1 := Scalar.cmpi .ne v50 v55
  let v57 : BitVec 32 := Scalar.remsi arg28 c8_i32_27
  let c0_i32_32 : BitVec 32 := 0#32
  let v58 : BitVec 1 := Scalar.cmpi .ne v57 c0_i32_32
  let v59 : BitVec 1 := Scalar.andi v56 v58
  let v45 : BitVec 32 := Scalar.divsi arg28 c8_i32_27
  let c1_i32_33 : BitVec 32 := 1#32
  let v60 : BitVec 32 := Scalar.subi v45 c1_i32_33
  let v61 : BitVec 32 := Scalar.select v59 v60 v45
  let v73 : BitVec 32 := Scalar.addi v72 v61
  let v74 : BitVec 32 := v73
  let v103 : Index := Scalar.indexCast v74
  let c384 : Index := 384#32
  ![v103.toNat, 384]
def k0_mult3 (i : grid0.Coords) (k0_t1 : Fin k0_t1_loop.trips) : BitVec 32 :=
  let arg1 : BitVec 32 := BitVec.ofNat 32 (i 1).val
  let c0_i32_40 : BitVec 32 := 0#32
  let v75 : BitVec 1 := Scalar.cmpi .eq arg1 c0_i32_40
  let c0_i32_24 : BitVec 32 := 0#32
  let c1_i32 : BitVec 32 := 1#32
  let arg28 : BitVec 32 := Scf.iv c0_i32_24 c1_i32 k0_t1
  let c8_i32_34 : BitVec 32 := 8#32
  let c0_i32_35 : BitVec 32 := 0#32
  let v62 : BitVec 1 := Scalar.cmpi .eq c8_i32_34 c0_i32_35
  let c1_i32_36 : BitVec 32 := 1#32
  let v63 : BitVec 32 := Scalar.select v62 c1_i32_36 c8_i32_34
  let v64 : BitVec 32 := Scalar.remsi arg28 v63
  let c0_i32_38 : BitVec 32 := 0#32
  let v66 : BitVec 1 := Scalar.cmpi .slt v64 c0_i32_38
  let c0_i32_39 : BitVec 32 := 0#32
  let v67 : BitVec 1 := Scalar.cmpi .slt v63 c0_i32_39
  let v68 : BitVec 1 := Scalar.xori v66 v67
  let c0_i32_37 : BitVec 32 := 0#32
  let v65 : BitVec 1 := Scalar.cmpi .ne v64 c0_i32_37
  let v69 : BitVec 1 := Scalar.andi v68 v65
  let v70 : BitVec 32 := Scalar.addi v64 v63
  let v71 : BitVec 32 := Scalar.select v69 v70 v64
  let c0_i32_41 : BitVec 32 := 0#32
  let v76 : BitVec 1 := Scalar.cmpi .eq v71 c0_i32_41
  let v77 : BitVec 1 := Scalar.andi v75 v76
  let c1_i32_42 : BitVec 32 := 1#32
  let c0_i32_43 : BitVec 32 := 0#32
  let v78 : BitVec 32 := Scalar.select v77 c1_i32_42 c0_i32_43
  let c15_i32_44 : BitVec 32 := 15#32
  let v79 : BitVec 1 := Scalar.cmpi .eq arg1 c15_i32_44
  let c7_i32 : BitVec 32 := 7#32
  let v80 : BitVec 1 := Scalar.cmpi .eq v71 c7_i32
  let v81 : BitVec 1 := Scalar.andi v79 v80
  let c2_i32 : BitVec 32 := 2#32
  let c0_i32_45 : BitVec 32 := 0#32
  let v82 : BitVec 32 := Scalar.select v81 c2_i32 c0_i32_45
  let v83 : BitVec 32 := Scalar.addi v78 v82
  let c384_i32 : BitVec 32 := 384#32
  let v259 : BitVec 32 := Scalar.muli v83 c384_i32
  v259
def k0_off6 (i : grid0.Coords) (k0_t1 : Fin k0_t1_loop.trips) : Fin 2 → Nat :=
  let arg1 : BitVec 32 := BitVec.ofNat 32 (i 1).val
  let c0_i32_40 : BitVec 32 := 0#32
  let v75 : BitVec 1 := Scalar.cmpi .eq arg1 c0_i32_40
  let c0_i32_24 : BitVec 32 := 0#32
  let c1_i32 : BitVec 32 := 1#32
  let arg28 : BitVec 32 := Scf.iv c0_i32_24 c1_i32 k0_t1
  let c8_i32_34 : BitVec 32 := 8#32
  let c0_i32_35 : BitVec 32 := 0#32
  let v62 : BitVec 1 := Scalar.cmpi .eq c8_i32_34 c0_i32_35
  let c1_i32_36 : BitVec 32 := 1#32
  let v63 : BitVec 32 := Scalar.select v62 c1_i32_36 c8_i32_34
  let v64 : BitVec 32 := Scalar.remsi arg28 v63
  let c0_i32_38 : BitVec 32 := 0#32
  let v66 : BitVec 1 := Scalar.cmpi .slt v64 c0_i32_38
  let c0_i32_39 : BitVec 32 := 0#32
  let v67 : BitVec 1 := Scalar.cmpi .slt v63 c0_i32_39
  let v68 : BitVec 1 := Scalar.xori v66 v67
  let c0_i32_37 : BitVec 32 := 0#32
  let v65 : BitVec 1 := Scalar.cmpi .ne v64 c0_i32_37
  let v69 : BitVec 1 := Scalar.andi v68 v65
  let v70 : BitVec 32 := Scalar.addi v64 v63
  let v71 : BitVec 32 := Scalar.select v69 v70 v64
  let c0_i32_41 : BitVec 32 := 0#32
  let v76 : BitVec 1 := Scalar.cmpi .eq v71 c0_i32_41
  let v77 : BitVec 1 := Scalar.andi v75 v76
  let c1_i32_42 : BitVec 32 := 1#32
  let c0_i32_43 : BitVec 32 := 0#32
  let v78 : BitVec 32 := Scalar.select v77 c1_i32_42 c0_i32_43
  let c15_i32_44 : BitVec 32 := 15#32
  let v79 : BitVec 1 := Scalar.cmpi .eq arg1 c15_i32_44
  let c7_i32 : BitVec 32 := 7#32
  let v80 : BitVec 1 := Scalar.cmpi .eq v71 c7_i32
  let v81 : BitVec 1 := Scalar.andi v79 v80
  let c2_i32 : BitVec 32 := 2#32
  let c0_i32_45 : BitVec 32 := 0#32
  let v82 : BitVec 32 := Scalar.select v81 c2_i32 c0_i32_45
  let v83 : BitVec 32 := Scalar.addi v78 v82
  let c384_i32 : BitVec 32 := 384#32
  let v259 : BitVec 32 := Scalar.muli v83 c384_i32
  let v260 : BitVec 32 := v259
  let v261 : Index := Scalar.indexCast v260
  let c0_100 : Index := 0#32
  ![v261.toNat, 0]
def k0_mult4 (i : grid0.Coords) (k0_t1 : Fin k0_t1_loop.trips) : BitVec 32 :=
  let arg1 : BitVec 32 := BitVec.ofNat 32 (i 1).val
  let c1024_i32 : BitVec 32 := 1024#32
  let v37 : BitVec 32 := Scalar.muli arg1 c1024_i32
  let v38 : BitVec 32 := v37
  let c0_i32_24 : BitVec 32 := 0#32
  let c1_i32 : BitVec 32 := 1#32
  let arg28 : BitVec 32 := Scf.iv c0_i32_24 c1_i32 k0_t1
  let c8_i32_34 : BitVec 32 := 8#32
  let c0_i32_35 : BitVec 32 := 0#32
  let v62 : BitVec 1 := Scalar.cmpi .eq c8_i32_34 c0_i32_35
  let c1_i32_36 : BitVec 32 := 1#32
  let v63 : BitVec 32 := Scalar.select v62 c1_i32_36 c8_i32_34
  let v64 : BitVec 32 := Scalar.remsi arg28 v63
  let c0_i32_38 : BitVec 32 := 0#32
  let v66 : BitVec 1 := Scalar.cmpi .slt v64 c0_i32_38
  let c0_i32_39 : BitVec 32 := 0#32
  let v67 : BitVec 1 := Scalar.cmpi .slt v63 c0_i32_39
  let v68 : BitVec 1 := Scalar.xori v66 v67
  let c0_i32_37 : BitVec 32 := 0#32
  let v65 : BitVec 1 := Scalar.cmpi .ne v64 c0_i32_37
  let v69 : BitVec 1 := Scalar.andi v68 v65
  let v70 : BitVec 32 := Scalar.addi v64 v63
  let v71 : BitVec 32 := Scalar.select v69 v70 v64
  let c128_i32 : BitVec 32 := 128#32
  let v72 : BitVec 32 := Scalar.muli v71 c128_i32
  let c0_i32_28 : BitVec 32 := 0#32
  let v46 : BitVec 1 := Scalar.cmpi .sgt arg28 c0_i32_28
  let v47 : BitVec 32 := Scalar.extui v46
  let c0_i32_29 : BitVec 32 := 0#32
  let v48 : BitVec 1 := Scalar.cmpi .slt arg28 c0_i32_29
  let v49 : BitVec 32 := Scalar.extui v48
  let v50 : BitVec 32 := Scalar.subi v47 v49
  let c8_i32_27 : BitVec 32 := 8#32
  let c0_i32_30 : BitVec 32 := 0#32
  let v51 : BitVec 1 := Scalar.cmpi .sgt c8_i32_27 c0_i32_30
  let v52 : BitVec 32 := Scalar.extui v51
  let c0_i32_31 : BitVec 32 := 0#32
  let v53 : BitVec 1 := Scalar.cmpi .slt c8_i32_27 c0_i32_31
  let v54 : BitVec 32 := Scalar.extui v53
  let v55 : BitVec 32 := Scalar.subi v52 v54
  let v56 : BitVec 1 := Scalar.cmpi .ne v50 v55
  let v57 : BitVec 32 := Scalar.remsi arg28 c8_i32_27
  let c0_i32_32 : BitVec 32 := 0#32
  let v58 : BitVec 1 := Scalar.cmpi .ne v57 c0_i32_32
  let v59 : BitVec 1 := Scalar.andi v56 v58
  let v45 : BitVec 32 := Scalar.divsi arg28 c8_i32_27
  let c1_i32_33 : BitVec 32 := 1#32
  let v60 : BitVec 32 := Scalar.subi v45 c1_i32_33
  let v61 : BitVec 32 := Scalar.select v59 v60 v45
  let v73 : BitVec 32 := Scalar.addi v72 v61
  let v74 : BitVec 32 := v73
  let v310 : BitVec 32 := Scalar.addi v38 v74
  v310
def k0_off7 (i : grid0.Coords) (k0_t1 : Fin k0_t1_loop.trips) : Fin 2 → Nat :=
  let arg1 : BitVec 32 := BitVec.ofNat 32 (i 1).val
  let c1024_i32 : BitVec 32 := 1024#32
  let v37 : BitVec 32 := Scalar.muli arg1 c1024_i32
  let v38 : BitVec 32 := v37
  let c0_i32_24 : BitVec 32 := 0#32
  let c1_i32 : BitVec 32 := 1#32
  let arg28 : BitVec 32 := Scf.iv c0_i32_24 c1_i32 k0_t1
  let c8_i32_34 : BitVec 32 := 8#32
  let c0_i32_35 : BitVec 32 := 0#32
  let v62 : BitVec 1 := Scalar.cmpi .eq c8_i32_34 c0_i32_35
  let c1_i32_36 : BitVec 32 := 1#32
  let v63 : BitVec 32 := Scalar.select v62 c1_i32_36 c8_i32_34
  let v64 : BitVec 32 := Scalar.remsi arg28 v63
  let c0_i32_38 : BitVec 32 := 0#32
  let v66 : BitVec 1 := Scalar.cmpi .slt v64 c0_i32_38
  let c0_i32_39 : BitVec 32 := 0#32
  let v67 : BitVec 1 := Scalar.cmpi .slt v63 c0_i32_39
  let v68 : BitVec 1 := Scalar.xori v66 v67
  let c0_i32_37 : BitVec 32 := 0#32
  let v65 : BitVec 1 := Scalar.cmpi .ne v64 c0_i32_37
  let v69 : BitVec 1 := Scalar.andi v68 v65
  let v70 : BitVec 32 := Scalar.addi v64 v63
  let v71 : BitVec 32 := Scalar.select v69 v70 v64
  let c128_i32 : BitVec 32 := 128#32
  let v72 : BitVec 32 := Scalar.muli v71 c128_i32
  let c0_i32_28 : BitVec 32 := 0#32
  let v46 : BitVec 1 := Scalar.cmpi .sgt arg28 c0_i32_28
  let v47 : BitVec 32 := Scalar.extui v46
  let c0_i32_29 : BitVec 32 := 0#32
  let v48 : BitVec 1 := Scalar.cmpi .slt arg28 c0_i32_29
  let v49 : BitVec 32 := Scalar.extui v48
  let v50 : BitVec 32 := Scalar.subi v47 v49
  let c8_i32_27 : BitVec 32 := 8#32
  let c0_i32_30 : BitVec 32 := 0#32
  let v51 : BitVec 1 := Scalar.cmpi .sgt c8_i32_27 c0_i32_30
  let v52 : BitVec 32 := Scalar.extui v51
  let c0_i32_31 : BitVec 32 := 0#32
  let v53 : BitVec 1 := Scalar.cmpi .slt c8_i32_27 c0_i32_31
  let v54 : BitVec 32 := Scalar.extui v53
  let v55 : BitVec 32 := Scalar.subi v52 v54
  let v56 : BitVec 1 := Scalar.cmpi .ne v50 v55
  let v57 : BitVec 32 := Scalar.remsi arg28 c8_i32_27
  let c0_i32_32 : BitVec 32 := 0#32
  let v58 : BitVec 1 := Scalar.cmpi .ne v57 c0_i32_32
  let v59 : BitVec 1 := Scalar.andi v56 v58
  let v45 : BitVec 32 := Scalar.divsi arg28 c8_i32_27
  let c1_i32_33 : BitVec 32 := 1#32
  let v60 : BitVec 32 := Scalar.subi v45 c1_i32_33
  let v61 : BitVec 32 := Scalar.select v59 v60 v45
  let v73 : BitVec 32 := Scalar.addi v72 v61
  let v74 : BitVec 32 := v73
  let v310 : BitVec 32 := Scalar.addi v38 v74
  let v311 : BitVec 32 := v310
  let v312 : Index := Scalar.indexCast v311
  let c0_111 : Index := 0#32
  ![v312.toNat, 0]
def k0_cond2 (i : grid0.Coords) : BitVec 1 :=
  let arg1 : BitVec 32 := BitVec.ofNat 32 (i 1).val
  let c15_i32 : BitVec 32 := 15#32
  let v42 : BitVec 1 := Scalar.cmpi .eq arg1 c15_i32
  let v43 : BitVec 32 := Scalar.extui v42
  let c0_i32_26 : BitVec 32 := 0#32
  let v44 : BitVec 1 := Scalar.cmpi .ne v43 c0_i32_26
  v44

def k0_off8 (i : grid0.Coords) : Fin 3 → Nat :=
  let arg0 : BitVec 32 := BitVec.ofNat 32 (i 0).val
  let c0_i32_28 : BitVec 32 := 0#32
  let c0_i32_29 : BitVec 32 := 0#32
  ![arg0.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c8_i32_0 : BitVec 32 := 8#32
  let v3 : BitVec 32 := Scalar.addi c8_i32_0 arg0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c8_i32_0 : BitVec 32 := 8#32
  let v3 : BitVec 32 := Scalar.addi c8_i32_0 arg0
  let c0_i32 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let v3 : BitVec 32 := Scalar.addi c10_i32 arg0
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c10_i32 : BitVec 32 := 10#32
  let v3 : BitVec 32 := Scalar.addi c10_i32 arg0
  let c0_i32 : BitVec 32 := 0#32
  ![v2.toNat, v3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1152x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Kernel2.lean ====
abbrev S16384x1024 : Shape := ⟨2, ![16384, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S1024x2304 : Shape := ⟨2, ![1024, 2304]⟩
abbrev S5632x1024 : Shape := ⟨2, ![5632, 1024]⟩
abbrev S2304x1024 : Shape := ⟨2, ![2304, 1024]⟩
abbrev S16384x5632 : Shape := ⟨2, ![16384, 5632]⟩
abbrev S16384x2816 : Shape := ⟨2, ![16384, 2816]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S16384x2304 : Shape := ⟨2, ![16384, 2304]⟩
abbrev S512x2816 : Shape := ⟨2, ![512, 2816]⟩
abbrev S512x1024 : Shape := ⟨2, ![512, 1024]⟩
abbrev S512x2304 : Shape := ⟨2, ![512, 2304]⟩
abbrev S512 : Shape := ⟨1, ![512]⟩
abbrev S512x1 : Shape := ⟨2, ![512, 1]⟩
abbrev S8x1024 : Shape := ⟨2, ![8, 1024]⟩
abbrev S1024 : Shape := ⟨1, ![1024]⟩

abbrev nBuf : Space → Nat
  | .hbm => 38
  | .vmem => 68
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1024x5632, .f32⟩
  | .hbm, ⟨9, _⟩ => ⟨S2816x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1024x2304, .f32⟩
  | .hbm, ⟨15, _⟩ => ⟨S1024x1024, .bf16⟩
  | .hbm, ⟨16, _⟩ => ⟨S5632x1024, .f32⟩
  | .hbm, ⟨17, _⟩ => ⟨S5632x1024, .bf16⟩
  | .hbm, ⟨18, _⟩ => ⟨S2816x1024, .bf16⟩
  | .hbm, ⟨19, _⟩ => ⟨S2304x1024, .f32⟩
  | .hbm, ⟨20, _⟩ => ⟨S2304x1024, .bf16⟩
  | .hbm, ⟨21, _⟩ => ⟨S16384x1024, .f32⟩
  | .hbm, ⟨22, _⟩ => ⟨S16384x1024, .bf16⟩
  | .hbm, ⟨23, _⟩ => ⟨S16384x1024, .bf16⟩
  | .hbm, ⟨24, _⟩ => ⟨S16384x5632, .bf16⟩
  | .hbm, ⟨25, _⟩ => ⟨S16384x2816, .bf16⟩
  | .hbm, ⟨26, _⟩ => ⟨S16384x1024, .f32⟩
  | .hbm, ⟨27, _⟩ => ⟨S16384x1024, .bf16⟩
  | .hbm, ⟨28, _⟩ => ⟨S16384x1024, .bf16⟩
  | .hbm, ⟨29, _⟩ => ⟨S16384x2304, .bf16⟩
  | .hbm, ⟨30, _⟩ => ⟨S16384x5632, .bf16⟩
  | .hbm, ⟨31, _⟩ => ⟨S16384x1024, .bf16⟩
  | .hbm, ⟨32, _⟩ => ⟨S16384x1024, .f32⟩
  | .hbm, ⟨33, _⟩ => ⟨S16384x1024, .bf16⟩
  | .hbm, ⟨34, _⟩ => ⟨S16384x1024, .bf16⟩
  | .hbm, ⟨35, _⟩ => ⟨S8x1024, .f32⟩
  | .hbm, ⟨36, _⟩ => ⟨S8x1024, .f32⟩
  | .hbm, ⟨37, _⟩ => ⟨S8x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S5632x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x5632, .bf16⟩
  | .local _ .vmem, ⟨17, _⟩ => ⟨S256x5632, .bf16⟩
  | .local _ .vmem, ⟨18, _⟩ => ⟨S256x2816, .bf16⟩
  | .local _ .vmem, ⟨19, _⟩ => ⟨S256x2816, .bf16⟩
  | .local _ .vmem, ⟨20, _⟩ => ⟨S512x2816, .bf16⟩
  | .local _ .vmem, ⟨21, _⟩ => ⟨S512x2816, .bf16⟩
  | .local _ .vmem, ⟨22, _⟩ => ⟨S2816x1024, .bf16⟩
  | .local _ .vmem, ⟨23, _⟩ => ⟨S512x1024, .f32⟩
  | .local _ .vmem, ⟨24, _⟩ => ⟨S512x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S2304x1024, .bf16⟩
  | .local _ .vmem, ⟨30, _⟩ => ⟨S512x1024, .f32⟩
  | .local _ .vmem, ⟨31, _⟩ => ⟨S512x1024, .f32⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S512x2304, .bf16⟩
  | .local _ .vmem, ⟨37, _⟩ => ⟨S512x2304, .bf16⟩
  | .local _ .vmem, ⟨38, _⟩ => ⟨S256x1024, .f32⟩
  | .local _ .vmem, ⟨39, _⟩ => ⟨S256x1024, .f32⟩
  | .local _ .vmem, ⟨40, _⟩ => ⟨S256x1024, .bf16⟩
  | .local _ .vmem, ⟨41, _⟩ => ⟨S256x1024, .bf16⟩
  | .local _ .vmem, ⟨42, _⟩ => ⟨S1x1024, .f32⟩
  | .local _ .vmem, ⟨43, _⟩ => ⟨S2816x1024, .bf16⟩
  | .local _ .vmem, ⟨44, _⟩ => ⟨S256x5632, .bf16⟩
  | .local _ .vmem, ⟨45, _⟩ => ⟨S256x5632, .bf16⟩
  | .local _ .vmem, ⟨46, _⟩ => ⟨S5632x1024, .bf16⟩
  | .local _ .vmem, ⟨47, _⟩ => ⟨S256x1024, .f32⟩
  | .local _ .vmem, ⟨48, _⟩ => ⟨S256x1024, .f32⟩
  | .local _ .vmem, ⟨49, _⟩ => ⟨S1x1024, .f32⟩
  | .local _ .vmem, ⟨50, _⟩ => ⟨S1x1024, .f32⟩
  | .local _ .vmem, ⟨51, _⟩ => ⟨S256x1024, .bf16⟩
  | .local _ .vmem, ⟨52, _⟩ => ⟨S256x1024, .bf16⟩
  | .local _ .vmem, ⟨53, _⟩ => ⟨S1x1024, .f32⟩
  | .local _ .vmem, ⟨54, _⟩ => ⟨S1024x1024, .bf16⟩
  | .local _ .vmem, ⟨55, _⟩ => ⟨S256x5632, .bf16⟩
  | .local _ .vmem, ⟨56, _⟩ => ⟨S256x5632, .bf16⟩
  | .local _ .vmem, ⟨57, _⟩ => ⟨S256x1024, .bf16⟩
  | .local _ .vmem, ⟨58, _⟩ => ⟨S256x1024, .bf16⟩
  | .local _ .vmem, ⟨59, _⟩ => ⟨S256x1024, .f32⟩
  | .local _ .vmem, ⟨60, _⟩ => ⟨S256x1024, .f32⟩
  | .local _ .vmem, ⟨61, _⟩ => ⟨S256x1024, .bf16⟩
  | .local _ .vmem, ⟨62, _⟩ => ⟨S256x1024, .bf16⟩
  | .local _ .vmem, ⟨63, _⟩ => ⟨S256x1024, .bf16⟩
  | .local _ .vmem, ⟨64, _⟩ => ⟨S256x1024, .bf16⟩
  | .local _ .vmem, ⟨65, _⟩ => ⟨S8x1024, .f32⟩
  | .local _ .vmem, ⟨66, _⟩ => ⟨S8x1024, .f32⟩
  | .local _ .vmem, ⟨67, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev main_v6_2 : Ref sig .tc := ⟨.hbm, 23, rfl⟩
abbrev main_v6_3 : Ref sig .tc := ⟨.hbm, 24, rfl⟩
abbrev main_v6_4 : Ref sig .tc := ⟨.hbm, 25, rfl⟩
abbrev main_v7_0 : Ref sig .tc := ⟨.hbm, 26, rfl⟩
abbrev main_v7_1 : Ref sig .tc := ⟨.hbm, 27, rfl⟩
abbrev main_v7_2 : Ref sig .tc := ⟨.hbm, 28, rfl⟩
abbrev main_v7_3 : Ref sig .tc := ⟨.hbm, 29, rfl⟩
abbrev main_v8_0 : Ref sig .tc := ⟨.hbm, 30, rfl⟩
abbrev main_v8_1 : Ref sig .tc := ⟨.hbm, 31, rfl⟩
abbrev main_v8_2 : Ref sig .tc := ⟨.hbm, 32, rfl⟩
abbrev main_v8_3 : Ref sig .tc := ⟨.hbm, 33, rfl⟩
abbrev main_v8_4 : Ref sig .tc := ⟨.hbm, 34, rfl⟩
abbrev main_v8_5 : Ref sig .tc := ⟨.hbm, 35, rfl⟩
abbrev main_v8_6 : Ref sig .tc := ⟨.hbm, 36, rfl⟩
abbrev main_v8_7 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg10_1 : Ref sig .tc := ⟨.vmem, 35, rfl⟩
abbrev cc1_stg11_0 : Ref sig .tc := ⟨.vmem, 36, rfl⟩
abbrev cc1_stg11_1 : Ref sig .tc := ⟨.vmem, 37, rfl⟩
abbrev cc2_stg0_0 : Ref sig .tc := ⟨.vmem, 38, rfl⟩
abbrev cc2_stg0_1 : Ref sig .tc := ⟨.vmem, 39, rfl⟩
abbrev cc2_stg1_0 : Ref sig .tc := ⟨.vmem, 40, rfl⟩
abbrev cc2_stg1_1 : Ref sig .tc := ⟨.vmem, 41, rfl⟩
abbrev cc2_stg2_0 : Ref sig .tc := ⟨.vmem, 42, rfl⟩
abbrev cc2_stg3_0 : Ref sig .tc := ⟨.vmem, 43, rfl⟩
abbrev cc2_stg4_0 : Ref sig .tc := ⟨.vmem, 44, rfl⟩
abbrev cc2_stg4_1 : Ref sig .tc := ⟨.vmem, 45, rfl⟩
abbrev cc2_stg5_0 : Ref sig .tc := ⟨.vmem, 46, rfl⟩
abbrev cc2_stg6_0 : Ref sig .tc := ⟨.vmem, 47, rfl⟩
abbrev cc2_stg6_1 : Ref sig .tc := ⟨.vmem, 48, rfl⟩
abbrev cc2_stg7_0 : Ref sig .tc := ⟨.vmem, 49, rfl⟩
abbrev cc2_stg8_0 : Ref sig .tc := ⟨.vmem, 50, rfl⟩
abbrev cc2_stg9_0 : Ref sig .tc := ⟨.vmem, 51, rfl⟩
abbrev cc2_stg9_1 : Ref sig .tc := ⟨.vmem, 52, rfl⟩
abbrev cc2_stg10_0 : Ref sig .tc := ⟨.vmem, 53, rfl⟩
abbrev cc2_stg11_0 : Ref sig .tc := ⟨.vmem, 54, rfl⟩
abbrev cc2_stg12_0 : Ref sig .tc := ⟨.vmem, 55, rfl⟩
abbrev cc2_stg12_1 : Ref sig .tc := ⟨.vmem, 56, rfl⟩
abbrev cc2_stg13_0 : Ref sig .tc := ⟨.vmem, 57, rfl⟩
abbrev cc2_stg13_1 : Ref sig .tc := ⟨.vmem, 58, rfl⟩
abbrev cc2_stg14_0 : Ref sig .tc := ⟨.vmem, 59, rfl⟩
abbrev cc2_stg14_1 : Ref sig .tc := ⟨.vmem, 60, rfl⟩
abbrev cc2_stg15_0 : Ref sig .tc := ⟨.vmem, 61, rfl⟩
abbrev cc2_stg15_1 : Ref sig .tc := ⟨.vmem, 62, rfl⟩
abbrev cc2_stg16_0 : Ref sig .tc := ⟨.vmem, 63, rfl⟩
abbrev cc2_stg16_1 : Ref sig .tc := ⟨.vmem, 64, rfl⟩
abbrev cc2_stg17_0 : Ref sig .tc := ⟨.vmem, 65, rfl⟩
abbrev cc2_stg18_0 : Ref sig .tc := ⟨.vmem, 66, rfl⟩
abbrev cc2_stg19_0 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc1_sem0_0 : DmaSem sig := 20
abbrev cc1_sem0_1 : DmaSem sig := 21
abbrev cc1_sem1_0 : DmaSem sig := 22
abbrev cc1_sem2_0 : DmaSem sig := 23
abbrev cc1_sem2_1 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35
abbrev cc1_sem11_0 : DmaSem sig := 36
abbrev cc1_sem11_1 : DmaSem sig := 37
abbrev cc2_sem0_0 : DmaSem sig := 38
abbrev cc2_sem0_1 : DmaSem sig := 39
abbrev cc2_sem1_0 : DmaSem sig := 40
abbrev cc2_sem1_1 : DmaSem sig := 41
abbrev cc2_sem2_0 : DmaSem sig := 42
abbrev cc2_sem3_0 : DmaSem sig := 43
abbrev cc2_sem4_0 : DmaSem sig := 44
abbrev cc2_sem4_1 : DmaSem sig := 45
abbrev cc2_sem5_0 : DmaSem sig := 46
abbrev cc2_sem6_0 : DmaSem sig := 47
abbrev cc2_sem6_1 : DmaSem sig := 48
abbrev cc2_sem7_0 : DmaSem sig := 49
abbrev cc2_sem8_0 : DmaSem sig := 50
abbrev cc2_sem9_0 : DmaSem sig := 51
abbrev cc2_sem9_1 : DmaSem sig := 52
abbrev cc2_sem10_0 : DmaSem sig := 53
abbrev cc2_sem11_0 : DmaSem sig := 54
abbrev cc2_sem12_0 : DmaSem sig := 55
abbrev cc2_sem12_1 : DmaSem sig := 56
abbrev cc2_sem13_0 : DmaSem sig := 57
abbrev cc2_sem13_1 : DmaSem sig := 58
abbrev cc2_sem14_0 : DmaSem sig := 59
abbrev cc2_sem14_1 : DmaSem sig := 60
abbrev cc2_sem15_0 : DmaSem sig := 61
abbrev cc2_sem15_1 : DmaSem sig := 62
abbrev cc2_sem16_0 : DmaSem sig := 63
abbrev cc2_sem16_1 : DmaSem sig := 64
abbrev cc2_sem17_0 : DmaSem sig := 65
abbrev cc2_sem18_0 : DmaSem sig := 66
abbrev cc2_sem19_0 : DmaSem sig := 67

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5632x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2304x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x2304 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_19 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2816x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x5632 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S5632x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S256x1024 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 1 → Memref sig .tc .vmem S1x1024 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1024x1024 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S256x5632 .bf16 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S256x1024 .bf16 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S256x1024 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S256x1024 .bf16 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S256x1024 .bf16 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev stage2_17 : Fin 1 → Memref sig .tc .vmem S8x1024 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 1 → Memref sig .tc .vmem S8x1024 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false]

abbrev stage2_19 : Fin 1 → Memref sig .tc .vmem S8x1024 .f32 := fun | 0 => Memref.whole cc2_stg19_0 | ⟨_ + 1, h⟩ => absurd h (Nat.not_lt.2 (Nat.le_add_left _ _))
abbrev sem2_19 : Fin 1 → DmaSem sig := fun | 0 => cc2_sem19_0 | ⟨_ + 1, h⟩ => absurd h (Nat.not_lt.2 (Nat.le_add_left _ _))
abbrev reads2_19 : Fin grid2.rank → Bool := ![false]
-- ==== Reference2Ideal.lean ====
abbrev S16384x1024 : Shape := ⟨2, ![16384, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S1024x2304 : Shape := ⟨2, ![1024, 2304]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩
abbrev S1024 : Shape := ⟨1, ![1024]⟩
abbrev S7x1024 : Shape := ⟨2, ![7, 1024]⟩
abbrev S8x1024 : Shape := ⟨2, ![8, 1024]⟩
abbrev S5x1024 : Shape := ⟨2, ![5, 1024]⟩
abbrev S16384x2304 : Shape := ⟨2, ![16384, 2304]⟩

abbrev nBuf : Space → Nat
  | .hbm => 179
  | .vmem => 0
  | .smem => 0
  | _ => 0

abbrev hbmTy0_0 (i : Nat) : BufTy := match i % 128 with
  | 0 => ⟨S16384x1024, .f32⟩
  | 1 => ⟨S16384x1024, .bf16⟩
  | 2 => ⟨S1024x1024, .f32⟩
  | 3 => ⟨S16384x1024, .f32⟩
  | 4 => ⟨S1x1024, .f32⟩
  | 5 => ⟨S1x1024, .f32⟩
  | 6 => ⟨S1x1024, .f32⟩
  | 7 => ⟨S1x1024, .f32⟩
  | 8 => ⟨S1024x5632, .f32⟩
  | 9 => ⟨S2816x1024, .f32⟩
  | 10 => ⟨S1x1024, .f32⟩
  | 11 => ⟨S1x1024, .f32⟩
  | 12 => ⟨S1x1024, .f32⟩
  | 13 => ⟨S1x1024, .f32⟩
  | 14 => ⟨S1024x2304, .f32⟩
  | 15 => ⟨S16384x1024, .f32⟩
  | 16 => ⟨S16384x1024, .f32⟩
  | 17 => ⟨S16384x1024, .f32⟩
  | 18 => ⟨S16384x1024, .f32⟩
  | 19 => ⟨S16384x1024, .f32⟩
  | 20 => ⟨S16384x1024, .f32⟩
  | 21 => ⟨S_, .f32⟩
  | 22 => ⟨S16384, .f32⟩
  | 23 => ⟨S16384x1, .f32⟩
  | 24 => ⟨S_, .f32⟩
  | 25 => ⟨S16384x1, .f32⟩
  | 26 => ⟨S16384x1, .f32⟩
  | 27 => ⟨S_, .f32⟩
  | 28 => ⟨S16384x1, .f32⟩
  | 29 => ⟨S16384x1, .f32⟩
  | 30 => ⟨S16384x1, .f32⟩
  | 31 => ⟨S16384x1, .f32⟩
  | 32 => ⟨S_, .f32⟩
  | 33 => ⟨S16384x1, .f32⟩
  | 34 => ⟨S16384x1, .f32⟩
  | 35 => ⟨S16384x1024, .f32⟩
  | 36 => ⟨S16384x1024, .f32⟩
  | 37 => ⟨S16384x1024, .f32⟩
  | 38 => ⟨S16384x1024, .f32⟩
  | 39 => ⟨S_, .f32⟩
  | 40 => ⟨S1x1024, .f32⟩
  | 41 => ⟨S1x1024, .f32⟩
  | 42 => ⟨S16384x1024, .f32⟩
  | 43 => ⟨S16384x1024, .f32⟩
  | 44 => ⟨S16384x1024, .f32⟩
  | 45 => ⟨S16384x1024, .f32⟩
  | 46 => ⟨S16384x5632, .f32⟩
  | 47 => ⟨S16384x2816, .f32⟩
  | 48 => ⟨S16384x2816, .f32⟩
  | 49 => ⟨S16384x2816, .f32⟩
  | 50 => ⟨S16384x2816, .f32⟩
  | 51 => ⟨S_, .f32⟩
  | 52 => ⟨S16384x2816, .f32⟩
  | 53 => ⟨S16384x2816, .f32⟩
  | 54 => ⟨S_, .f32⟩
  | 55 => ⟨S16384x2816, .f32⟩
  | 56 => ⟨S16384x2816, .f32⟩
  | 57 => ⟨S_, .f32⟩
  | 58 => ⟨S16384x2816, .f32⟩
  | 59 => ⟨S16384x2816, .f32⟩
  | 60 => ⟨S16384x2816, .f32⟩
  | 61 => ⟨S16384x2816, .f32⟩
  | 62 => ⟨S16384x2816, .f32⟩
  | 63 => ⟨S16384x1024, .f32⟩
  | 64 => ⟨S16384x1024, .f32⟩
  | 65 => ⟨S16384x1024, .f32⟩
  | 66 => ⟨S16384x1024, .f32⟩
  | 67 => ⟨S16384x1024, .f32⟩
  | 68 => ⟨S16384x1024, .f32⟩
  | 69 => ⟨S16384x1024, .f32⟩
  | 70 => ⟨S16384x1024, .f32⟩
  | 71 => ⟨S16384x1024, .f32⟩
  | 72 => ⟨S_, .f32⟩
  | 73 => ⟨S1024, .f32⟩
  | 74 => ⟨S1x1024, .f32⟩
  | 75 => ⟨S16384x2816, .f32⟩
  | 76 => ⟨S16384x2816, .f32⟩
  | 77 => ⟨S16384x2816, .f32⟩
  | 78 => ⟨S16384x2816, .f32⟩
  | 79 => ⟨S16384x2816, .f32⟩
  | 80 => ⟨S16384x2816, .f32⟩
  | 81 => ⟨S16384x2816, .f32⟩
  | 82 => ⟨S16384x5632, .f32⟩
  | 83 => ⟨S16384x1024, .f32⟩
  | 84 => ⟨S_, .f32⟩
  | 85 => ⟨S1024, .f32⟩
  | 86 => ⟨S1x1024, .f32⟩
  | 87 => ⟨S16384x1024, .f32⟩
  | 88 => ⟨S_, .f32⟩
  | 89 => ⟨S1024, .f32⟩
  | 90 => ⟨S1x1024, .f32⟩
  | 91 => ⟨S16384x1024, .f32⟩
  | 92 => ⟨S16384x1024, .f32⟩
  | 93 => ⟨S16384x1024, .f32⟩
  | 94 => ⟨S_, .f32⟩
  | 95 => ⟨S1024, .f32⟩
  | 96 => ⟨S1x1024, .f32⟩
  | 97 => ⟨S16384x1024, .f32⟩
  | 98 => ⟨S16384x1024, .f32⟩
  | 99 => ⟨S16384x1024, .f32⟩
  | 100 => ⟨S_, .f32⟩
  | 101 => ⟨S16384, .f32⟩
  | 102 => ⟨S16384x1, .f32⟩
  | 103 => ⟨S16384x1024, .f32⟩
  | 104 => ⟨S16384x1024, .f32⟩
  | 105 => ⟨S16384x1, .f32⟩
  | 106 => ⟨S_, .f32⟩
  | 107 => ⟨S16384x1, .f32⟩
  | 108 => ⟨S16384x1, .f32⟩
  | 109 => ⟨S_, .f32⟩
  | 110 => ⟨S16384, .f32⟩
  | 111 => ⟨S16384x1024, .f32⟩
  | 112 => ⟨S16384x1024, .f32⟩
  | 113 => ⟨S16384x1024, .f32⟩
  | 114 => ⟨S16384x1024, .f32⟩
  | 115 => ⟨S16384x1024, .f32⟩
  | 116 => ⟨S16384x1024, .f32⟩
  | 117 => ⟨S16384x1024, .f32⟩
  | 118 => ⟨S16384x1024, .f32⟩
  | 119 => ⟨S16384x1024, .f32⟩
  | 120 => ⟨S_, .f32⟩
  | 121 => ⟨S1024, .f32⟩
  | 122 => ⟨S1x1024, .f32⟩
  | 123 => ⟨S16384x1024, .f32⟩
  | 124 => ⟨S16384x5632, .bf16⟩
  | 125 => ⟨S16384x1024, .bf16⟩
  | 126 => ⟨S16384x1024, .bf16⟩
  | 127 => ⟨S16384x1024, .bf16⟩
  | _ => ⟨S16384x1024, .f32⟩

abbrev hbmTy0_1 (i : Nat) : BufTy := match i % 128 with
  | 0 => ⟨S_, .f32⟩
  | 1 => ⟨S7x1024, .f32⟩
  | 2 => ⟨S8x1024, .f32⟩
  | 3 => ⟨S_, .f32⟩
  | 4 => ⟨S5x1024, .f32⟩
  | 5 => ⟨S8x1024, .f32⟩
  | 6 => ⟨S_, .f32⟩
  | 7 => ⟨S7x1024, .f32⟩
  | 8 => ⟨S8x1024, .f32⟩
  | 9 => ⟨S16384x2816, .f32⟩
  | 10 => ⟨S16384x2816, .f32⟩
  | 11 => ⟨S16384x2816, .f32⟩
  | 12 => ⟨S16384x2816, .f32⟩
  | 13 => ⟨S_, .f32⟩
  | 14 => ⟨S16384x2816, .f32⟩
  | 15 => ⟨S16384x2816, .f32⟩
  | 16 => ⟨S_, .f32⟩
  | 17 => ⟨S16384x2816, .f32⟩
  | 18 => ⟨S16384x2816, .f32⟩
  | 19 => ⟨S16384x2816, .f32⟩
  | 20 => ⟨S16384x2816, .f32⟩
  | 21 => ⟨S16384x1024, .f32⟩
  | 22 => ⟨S16384x1024, .f32⟩
  | 23 => ⟨S16384x1024, .f32⟩
  | 24 => ⟨S16384x1024, .f32⟩
  | 25 => ⟨S_, .f32⟩
  | 26 => ⟨S16384, .f32⟩
  | 27 => ⟨S16384x1, .f32⟩
  | 28 => ⟨S_, .f32⟩
  | 29 => ⟨S16384x1, .f32⟩
  | 30 => ⟨S16384x1, .f32⟩
  | 31 => ⟨S_, .f32⟩
  | 32 => ⟨S16384x1, .f32⟩
  | 33 => ⟨S16384x1, .f32⟩
  | 34 => ⟨S16384x1, .f32⟩
  | 35 => ⟨S16384x1024, .f32⟩
  | 36 => ⟨S16384x1024, .f32⟩
  | 37 => ⟨S16384x1024, .f32⟩
  | 38 => ⟨S16384x1024, .f32⟩
  | 39 => ⟨S_, .f32⟩
  | 40 => ⟨S1x1024, .f32⟩
  | 41 => ⟨S1x1024, .f32⟩
  | 42 => ⟨S16384x1024, .f32⟩
  | 43 => ⟨S16384x1024, .f32⟩
  | 44 => ⟨S16384x1024, .f32⟩
  | 45 => ⟨S16384x1024, .f32⟩
  | 46 => ⟨S16384x2304, .f32⟩
  | 47 => ⟨S16384x1024, .bf16⟩
  | 48 => ⟨S16384x2816, .bf16⟩
  | 49 => ⟨S16384x1024, .bf16⟩
  | 50 => ⟨S16384x2304, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_v29_2 : Ref sig .tc := ⟨.hbm, 56, rfl⟩
abbrev main_call0_cst_1 : Ref sig .tc := ⟨.hbm, 57, rfl⟩
abbrev main_call0_v6 : Ref sig .tc := ⟨.hbm, 58, rfl⟩
abbrev main_call0_v7 : Ref sig .tc := ⟨.hbm, 59, rfl⟩
abbrev main_v29_1 : Ref sig .tc := ⟨.hbm, 60, rfl⟩
abbrev main_v29_0 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_4 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst_5 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_6 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_7 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_8 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_9 : Ref sig .tc := ⟨.hbm, 106, rfl⟩
abbrev main_v66 : Ref sig .tc := ⟨.hbm, 107, rfl⟩
abbrev main_v67 : Ref sig .tc := ⟨.hbm, 108, rfl⟩
abbrev main_cst_10 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_11 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_12 : Ref sig .tc := ⟨.hbm, 128, rfl⟩
abbrev main_v85 : Ref sig .tc := ⟨.hbm, 129, rfl⟩
abbrev main_v86 : Ref sig .tc := ⟨.hbm, 130, rfl⟩
abbrev main_cst_13 : Ref sig .tc := ⟨.hbm, 131, rfl⟩
abbrev main_v87 : Ref sig .tc := ⟨.hbm, 132, rfl⟩
abbrev main_v88 : Ref sig .tc := ⟨.hbm, 133, rfl⟩
abbrev main_cst_14 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_call2_v0 : Ref sig .tc := ⟨.hbm, 139, rfl⟩
abbrev main_call2_v1 : Ref sig .tc := ⟨.hbm, 140, rfl⟩
abbrev main_call2_cst : Ref sig .tc := ⟨.hbm, 141, rfl⟩
abbrev main_call2_v2 : Ref sig .tc := ⟨.hbm, 142, rfl⟩
abbrev main_call2_v3 : Ref sig .tc := ⟨.hbm, 143, rfl⟩
abbrev main_call2_cst_0 : Ref sig .tc := ⟨.hbm, 144, rfl⟩
abbrev main_call2_v4 : Ref sig .tc := ⟨.hbm, 145, rfl⟩
abbrev main_call2_v5 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_cst_15 : Ref sig .tc := ⟨.hbm, 153, rfl⟩
abbrev main_v99 : Ref sig .tc := ⟨.hbm, 154, rfl⟩
abbrev main_v100 : Ref sig .tc := ⟨.hbm, 155, rfl⟩
abbrev main_cst_16 : Ref sig .tc := ⟨.hbm, 156, rfl⟩
abbrev main_v101 : Ref sig .tc := ⟨.hbm, 157, rfl⟩
abbrev main_v102 : Ref sig .tc := ⟨.hbm, 158, rfl⟩
abbrev main_cst_17 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_cst_18 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩

abbrev nD : Nat := 1
abbrev τ : Topo := Topo.v7x

variable {F : FTy → Type} [FloatOps F]
-- ==== Kernel3.lean ====
abbrev S16384x1024 : Shape := ⟨2, ![16384, 1024]⟩
abbrev S16384x5632 : Shape := ⟨2, ![16384, 5632]⟩
abbrev S5632x1024 : Shape := ⟨2, ![5632, 1024]⟩
abbrev S512x1024 : Shape := ⟨2, ![512, 1024]⟩
abbrev S512x2816 : Shape := ⟨2, ![512, 2816]⟩
abbrev S2816x1024 : Shape := ⟨2, ![2816, 1024]⟩
abbrev S1024x2816 : Shape := ⟨2, ![1024, 2816]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S5632x1024, .bf16⟩
  | .local _ .vmem, ⟨0, _⟩ => ⟨S512x1024, .bf16⟩
  | .local _ .vmem, ⟨1, _⟩ => ⟨S512x1024, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S1024x2816, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v11 : BitVec 1 := Scalar.cmpi .eq arg1 c31_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S16384x1024 : Shape := ⟨2, ![16384, 1024]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x5632, .bf16⟩
  | .hbm, ⟨2, _⟩ => ⟨S_, .f32⟩
  | .hbm, ⟨3, _⟩ => ⟨S1024x5632, .f32⟩
  | .hbm, ⟨4, _⟩ => ⟨S16384x1024, .f32⟩
  | .hbm, ⟨5, _⟩ => ⟨S16384x5632, .f32⟩
  | .hbm, ⟨6, _⟩ => ⟨S16384x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S16384x1024 : Shape := ⟨2, ![16384, 1024]⟩
abbrev S16384x2816 : Shape := ⟨2, ![16384, 2816]⟩
abbrev S2816x1024 : Shape := ⟨2, ![2816, 1024]⟩
abbrev S512x1024 : Shape := ⟨2, ![512, 1024]⟩
abbrev S512x2816 : Shape := ⟨2, ![512, 2816]⟩
abbrev S1024x2816 : Shape := ⟨2, ![1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S2816x1024, .bf16⟩
  | .local _ .vmem, ⟨0, _⟩ => ⟨S512x1024, .bf16⟩
  | .local _ .vmem, ⟨1, _⟩ => ⟨S512x1024, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S1024x2816, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 32], ![false, false]⟩

def k0_cond2 (i : grid0.Coords) : BitVec 1 :=
  let arg1 : BitVec 32 := BitVec.ofNat 32 (i 1).val
  let c31_i32 : BitVec 32 := 31#32
  let v11 : BitVec 1 := Scalar.cmpi .eq arg1 c31_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference4Ideal.lean ====
abbrev S16384x1024 : Shape := ⟨2, ![16384, 1024]⟩
abbrev S16384x2816 : Shape := ⟨2, ![16384, 2816]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2816, .bf16⟩
  | .hbm, ⟨2, _⟩ => ⟨S_, .f32⟩
  | .hbm, ⟨3, _⟩ => ⟨S2816x1024, .f32⟩
  | .hbm, ⟨4, _⟩ => ⟨S16384x2816, .f32⟩
  | .hbm, ⟨5, _⟩ => ⟨S16384x1024, .f32⟩
  | .hbm, ⟨6, _⟩ => ⟨S16384x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S16384x1024 : Shape := ⟨2, ![16384, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 32], ![false, false]⟩

def k0_cond2 (i : grid0.Coords) : BitVec 1 :=
  let arg1 : BitVec 32 := BitVec.ofNat 32 (i 1).val
  let c31_i32 : BitVec 32 := 31#32
  let v11 : BitVec 1 := Scalar.cmpi .eq arg1 c31_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference5Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S16384x1024 : Shape := ⟨2, ![16384, 1024]⟩
abbrev S16384x512 : Shape := ⟨2, ![16384, 512]⟩
abbrev S1024x512 : Shape := ⟨2, ![1024, 512]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S1024x512, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x512, .bf16⟩
  | .local _ .vmem, ⟨5, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 32], ![false, false]⟩

def k0_cond2 (i : grid0.Coords) : BitVec 1 :=
  let arg1 : BitVec 32 := BitVec.ofNat 32 (i 1).val
  let c31_i32 : BitVec 32 := 31#32
  let v11 : BitVec 1 := Scalar.cmpi .eq arg1 c31_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference6Ideal.lean ====
abbrev S16384x1024 : Shape := ⟨2, ![16384, 1024]⟩
abbrev S16384x512 : Shape := ⟨2, ![16384, 512]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S_, .f32⟩
  | .hbm, ⟨3, _⟩ => ⟨S512x1024, .f32⟩
  | .hbm, ⟨4, _⟩ => ⟨S16384x512, .f32⟩
  | .hbm, ⟨5, _⟩ => ⟨S16384x1024, .f32⟩
  | .hbm, ⟨6, _⟩ => ⟨S16384x1024, .f32⟩
  | .hbm, ⟨7, _⟩ => ⟨S1024x512, .f32⟩
  | .hbm, ⟨8, _⟩ => ⟨S512x1024, .f32⟩
  | .hbm, ⟨9, _⟩ => ⟨S1024x512, .f32⟩
  | .hbm, ⟨10, _⟩ => ⟨S1024x512, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S16384x1024 : Shape := ⟨2, ![16384, 1024]⟩
abbrev S16384x512 : Shape := ⟨2, ![16384, 512]⟩
abbrev S512x1024 : Shape := ⟨2, ![512, 1024]⟩
abbrev S1x1024 : Shape := ⟨2, ![1, 1024]⟩
abbrev S1024x5632 : Shape := ⟨2, ![1024, 5632]⟩
abbrev S2816x1024 : Shape := ⟨2, ![2816, 1024]⟩
abbrev S1024x1536 : Shape := ⟨2, ![1024, 1536]⟩
abbrev S1024x512 : Shape := ⟨2, ![1024, 512]⟩
abbrev S5632x1024 : Shape := ⟨2, ![5632, 1024]⟩
abbrev S1536x1024 : Shape := ⟨2, ![1536, 1024]⟩
abbrev S16384x5632 : Shape := ⟨2, ![16384, 5632]⟩
abbrev S16384x2816 : Shape := ⟨2, ![16384, 2816]⟩
abbrev S256x512 : Shape := ⟨2, ![256, 512]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S16384x1536 : Shape := ⟨2, ![16384, 1536]⟩
abbrev S512x2816 : Shape := ⟨2, ![512, 2816]⟩
abbrev S512x1536 : Shape := ⟨2, ![512, 1536]⟩
abbrev S512 : Shape := ⟨1, ![512]⟩
abbrev S512x1 : Shape := ⟨2, ![512, 1]⟩
abbrev S8x1024 : Shape := ⟨2, ![8, 1024]⟩
abbrev S1024 : Shape := ⟨1, ![1024]⟩

abbrev nBuf : Space → Nat
  | .hbm => 39
  | .vmem => 68
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S512x1024, .f32⟩
  | .hbm, ⟨3, _⟩ => ⟨S16384x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1024x5632, .f32⟩
  | .hbm, ⟨9, _⟩ => ⟨S2816x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1024x1536, .f32⟩
  | .hbm, ⟨15, _⟩ => ⟨S1024x512, .f32⟩
  | .hbm, ⟨16, _⟩ => ⟨S1024x512, .bf16⟩
  | .hbm, ⟨17, _⟩ => ⟨S5632x1024, .f32⟩
  | .hbm, ⟨18, _⟩ => ⟨S5632x1024, .bf16⟩
  | .hbm, ⟨19, _⟩ => ⟨S2816x1024, .bf16⟩
  | .hbm, ⟨20, _⟩ => ⟨S1536x1024, .f32⟩
  | .hbm, ⟨21, _⟩ => ⟨S1536x1024, .bf16⟩
  | .hbm, ⟨22, _⟩ => ⟨S16384x1024, .f32⟩
  | .hbm, ⟨23, _⟩ => ⟨S16384x1024, .bf16⟩
  | .hbm, ⟨24, _⟩ => ⟨S16384x1024, .bf16⟩
  | .hbm, ⟨25, _⟩ => ⟨S16384x5632, .bf16⟩
  | .hbm, ⟨26, _⟩ => ⟨S16384x2816, .bf16⟩
  | .hbm, ⟨27, _⟩ => ⟨S16384x1024, .f32⟩
  | .hbm, ⟨28, _⟩ => ⟨S16384x1024, .bf16⟩
  | .hbm, ⟨29, _⟩ => ⟨S16384x1024, .bf16⟩
  | .hbm, ⟨30, _⟩ => ⟨S16384x1536, .bf16⟩
  | .hbm, ⟨31, _⟩ => ⟨S16384x5632, .bf16⟩
  | .hbm, ⟨32, _⟩ => ⟨S16384x1024, .bf16⟩
  | .hbm, ⟨33, _⟩ => ⟨S16384x1024, .f32⟩
  | .hbm, ⟨34, _⟩ => ⟨S16384x512, .bf16⟩
  | .hbm, ⟨35, _⟩ => ⟨S16384x1024, .bf16⟩
  | .hbm, ⟨36, _⟩ => ⟨S8x1024, .f32⟩
  | .hbm, ⟨37, _⟩ => ⟨S8x1024, .f32⟩
  | .hbm, ⟨38, _⟩ => ⟨S8x1024, .f32⟩
  | .local _ .vmem, ⟨0, _⟩ => ⟨S256x512, .bf16⟩
  | .local _ .vmem, ⟨1, _⟩ => ⟨S256x512, .bf16⟩
  | .local _ .vmem, ⟨2, _⟩ => ⟨S1024x512, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S5632x1024, .bf16⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x5632, .bf16⟩
  | .local _ .vmem, ⟨17, _⟩ => ⟨S256x5632, .bf16⟩
  | .local _ .vmem, ⟨18, _⟩ => ⟨S256x2816, .bf16⟩
  | .local _ .vmem, ⟨19, _⟩ => ⟨S256x2816, .bf16⟩
  | .local _ .vmem, ⟨20, _⟩ => ⟨S512x2816, .bf16⟩
  | .local _ .vmem, ⟨21, _⟩ => ⟨S512x2816, .bf16⟩
  | .local _ .vmem, ⟨22, _⟩ => ⟨S2816x1024, .bf16⟩
  | .local _ .vmem, ⟨23, _⟩ => ⟨S512x1024, .f32⟩
  | .local _ .vmem, ⟨24, _⟩ => ⟨S512x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1536x1024, .bf16⟩
  | .local _ .vmem, ⟨30, _⟩ => ⟨S512x1024, .f32⟩
  | .local _ .vmem, ⟨31, _⟩ => ⟨S512x1024, .f32⟩
  | .local _ .vmem, ⟨32, _⟩ => ⟨S512x1024, .bf16⟩
  | .local _ .vmem, ⟨33, _⟩ => ⟨S512x1024, .bf16⟩
  | .local _ .vmem, ⟨34, _⟩ => ⟨S512x1024, .bf16⟩
  | .local _ .vmem, ⟨35, _⟩ => ⟨S512x1024, .bf16⟩
  | .local _ .vmem, ⟨36, _⟩ => ⟨S512x1536, .bf16⟩
  | .local _ .vmem, ⟨37, _⟩ => ⟨S512x1536, .bf16⟩
  | .local _ .vmem, ⟨38, _⟩ => ⟨S256x1024, .f32⟩
  | .local _ .vmem, ⟨39, _⟩ => ⟨S256x1024, .f32⟩
  | .local _ .vmem, ⟨40, _⟩ => ⟨S256x1024, .bf16⟩
  | .local _ .vmem, ⟨41, _⟩ => ⟨S256x1024, .bf16⟩
  | .local _ .vmem, ⟨42, _⟩ => ⟨S1x1024, .f32⟩
  | .local _ .vmem, ⟨43, _⟩ => ⟨S2816x1024, .bf16⟩
  | .local _ .vmem, ⟨44, _⟩ => ⟨S256x5632, .bf16⟩
  | .local _ .vmem, ⟨45, _⟩ => ⟨S256x5632, .bf16⟩
  | .local _ .vmem, ⟨46, _⟩ => ⟨S5632x1024, .bf16⟩
  | .local _ .vmem, ⟨47, _⟩ => ⟨S256x1024, .f32⟩
  | .local _ .vmem, ⟨48, _⟩ => ⟨S256x1024, .f32⟩
  | .local _ .vmem, ⟨49, _⟩ => ⟨S1x1024, .f32⟩
  | .local _ .vmem, ⟨50, _⟩ => ⟨S1x1024, .f32⟩
  | .local _ .vmem, ⟨51, _⟩ => ⟨S256x1024, .bf16⟩
  | .local _ .vmem, ⟨52, _⟩ => ⟨S256x1024, .bf16⟩
  | .local _ .vmem, ⟨53, _⟩ => ⟨S1x1024, .f32⟩
  | .local _ .vmem, ⟨54, _⟩ => ⟨S1024x512, .bf16⟩
  | .local _ .vmem, ⟨55, _⟩ => ⟨S256x5632, .bf16⟩
  | .local _ .vmem, ⟨56, _⟩ => ⟨S256x5632, .bf16⟩
  | .local _ .vmem, ⟨57, _⟩ => ⟨S256x1024, .bf16⟩
  | .local _ .vmem, ⟨58, _⟩ => ⟨S256x1024, .bf16⟩
  | .local _ .vmem, ⟨59, _⟩ => ⟨S256x1024, .f32⟩
  | .local _ .vmem, ⟨60, _⟩ => ⟨S256x1024, .f32⟩
  | .local _ .vmem, ⟨61, _⟩ => ⟨S256x512, .bf16⟩
  | .local _ .vmem, ⟨62, _⟩ => ⟨S256x512, .bf16⟩
  | .local _ .vmem, ⟨63, _⟩ => ⟨S256x1024, .bf16⟩
  | .local _ .vmem, ⟨64, _⟩ => ⟨S256x1024, .bf16⟩
  | .local _ .vmem, ⟨65, _⟩ => ⟨S8x1024, .f32⟩
  | .local _ .vmem, ⟨66, _⟩ => ⟨S8x1024, .f32⟩
  | .local _ .vmem, ⟨67, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7_0 : Ref sig .tc := ⟨.hbm, 22, rfl⟩
abbrev main_v7_1 : Ref sig .tc := ⟨.hbm, 23, rfl⟩
abbrev main_v7_2 : Ref sig .tc := ⟨.hbm, 24, rfl⟩
abbrev main_v7_3 : Ref sig .tc := ⟨.hbm, 25, rfl⟩
abbrev main_v7_4 : Ref sig .tc := ⟨.hbm, 26, rfl⟩
abbrev main_v8_0 : Ref sig .tc := ⟨.hbm, 27, rfl⟩
abbrev main_v8_1 : Ref sig .tc := ⟨.hbm, 28, rfl⟩
abbrev main_v8_2 : Ref sig .tc := ⟨.hbm, 29, rfl⟩
abbrev main_v8_3 : Ref sig .tc := ⟨.hbm, 30, rfl⟩
abbrev main_v9_0 : Ref sig .tc := ⟨.hbm, 31, rfl⟩
abbrev main_v9_1 : Ref sig .tc := ⟨.hbm, 32, rfl⟩
abbrev main_v9_2 : Ref sig .tc := ⟨.hbm, 33, rfl⟩
abbrev main_v9_3 : Ref sig .tc := ⟨.hbm, 34, rfl⟩
abbrev main_v9_4 : Ref sig .tc := ⟨.hbm, 35, rfl⟩
abbrev main_v9_5 : Ref sig .tc := ⟨.hbm, 36, rfl⟩
abbrev main_v9_6 : Ref sig .tc := ⟨.hbm, 37, rfl⟩
abbrev main_v9_7 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg5_0 : Ref sig .tc := ⟨.vmem, 27, rfl⟩
abbrev cc1_stg6_0 : Ref sig .tc := ⟨.vmem, 28, rfl⟩
abbrev cc1_stg7_0 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg10_1 : Ref sig .tc := ⟨.vmem, 35, rfl⟩
abbrev cc1_stg11_0 : Ref sig .tc := ⟨.vmem, 36, rfl⟩
abbrev cc1_stg11_1 : Ref sig .tc := ⟨.vmem, 37, rfl⟩
abbrev cc2_stg0_0 : Ref sig .tc := ⟨.vmem, 38, rfl⟩
abbrev cc2_stg0_1 : Ref sig .tc := ⟨.vmem, 39, rfl⟩
abbrev cc2_stg1_0 : Ref sig .tc := ⟨.vmem, 40, rfl⟩
abbrev cc2_stg1_1 : Ref sig .tc := ⟨.vmem, 41, rfl⟩
abbrev cc2_stg2_0 : Ref sig .tc := ⟨.vmem, 42, rfl⟩
abbrev cc2_stg3_0 : Ref sig .tc := ⟨.vmem, 43, rfl⟩
abbrev cc2_stg4_0 : Ref sig .tc := ⟨.vmem, 44, rfl⟩
abbrev cc2_stg4_1 : Ref sig .tc := ⟨.vmem, 45, rfl⟩
abbrev cc2_stg5_0 : Ref sig .tc := ⟨.vmem, 46, rfl⟩
abbrev cc2_stg6_0 : Ref sig .tc := ⟨.vmem, 47, rfl⟩
abbrev cc2_stg6_1 : Ref sig .tc := ⟨.vmem, 48, rfl⟩
abbrev cc2_stg7_0 : Ref sig .tc := ⟨.vmem, 49, rfl⟩
abbrev cc2_stg8_0 : Ref sig .tc := ⟨.vmem, 50, rfl⟩
abbrev cc2_stg9_0 : Ref sig .tc := ⟨.vmem, 51, rfl⟩
abbrev cc2_stg9_1 : Ref sig .tc := ⟨.vmem, 52, rfl⟩
abbrev cc2_stg10_0 : Ref sig .tc := ⟨.vmem, 53, rfl⟩
abbrev cc2_stg11_0 : Ref sig .tc := ⟨.vmem, 54, rfl⟩
abbrev cc2_stg12_0 : Ref sig .tc := ⟨.vmem, 55, rfl⟩
abbrev cc2_stg12_1 : Ref sig .tc := ⟨.vmem, 56, rfl⟩
abbrev cc2_stg13_0 : Ref sig .tc := ⟨.vmem, 57, rfl⟩
abbrev cc2_stg13_1 : Ref sig .tc := ⟨.vmem, 58, rfl⟩
abbrev cc2_stg14_0 : Ref sig .tc := ⟨.vmem, 59, rfl⟩
abbrev cc2_stg14_1 : Ref sig .tc := ⟨.vmem, 60, rfl⟩
abbrev cc2_stg15_0 : Ref sig .tc := ⟨.vmem, 61, rfl⟩
abbrev cc2_stg15_1 : Ref sig .tc := ⟨.vmem, 62, rfl⟩
abbrev cc2_stg16_0 : Ref sig .tc := ⟨.vmem, 63, rfl⟩
abbrev cc2_stg16_1 : Ref sig .tc := ⟨.vmem, 64, rfl⟩
abbrev cc2_stg17_0 : Ref sig .tc := ⟨.vmem, 65, rfl⟩
abbrev cc2_stg18_0 : Ref sig .tc := ⟨.vmem, 66, rfl⟩
abbrev cc2_stg19_0 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc1_sem0_0 : DmaSem sig := 20
abbrev cc1_sem0_1 : DmaSem sig := 21
abbrev cc1_sem1_0 : DmaSem sig := 22
abbrev cc1_sem2_0 : DmaSem sig := 23
abbrev cc1_sem2_1 : DmaSem sig := 24
abbrev cc1_sem3_0 : DmaSem sig := 25
abbrev cc1_sem4_0 : DmaSem sig := 26
abbrev cc1_sem5_0 : DmaSem sig := 27
abbrev cc1_sem6_0 : DmaSem sig := 28
abbrev cc1_sem7_0 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35
abbrev cc1_sem11_0 : DmaSem sig := 36
abbrev cc1_sem11_1 : DmaSem sig := 37
abbrev cc2_sem0_0 : DmaSem sig := 38
abbrev cc2_sem0_1 : DmaSem sig := 39
abbrev cc2_sem1_0 : DmaSem sig := 40
abbrev cc2_sem1_1 : DmaSem sig := 41
abbrev cc2_sem2_0 : DmaSem sig := 42
abbrev cc2_sem3_0 : DmaSem sig := 43
abbrev cc2_sem4_0 : DmaSem sig := 44
abbrev cc2_sem4_1 : DmaSem sig := 45
abbrev cc2_sem5_0 : DmaSem sig := 46
abbrev cc2_sem6_0 : DmaSem sig := 47
abbrev cc2_sem6_1 : DmaSem sig := 48
abbrev cc2_sem7_0 : DmaSem sig := 49
abbrev cc2_sem8_0 : DmaSem sig := 50
abbrev cc2_sem9_0 : DmaSem sig := 51
abbrev cc2_sem9_1 : DmaSem sig := 52
abbrev cc2_sem10_0 : DmaSem sig := 53
abbrev cc2_sem11_0 : DmaSem sig := 54
abbrev cc2_sem12_0 : DmaSem sig := 55
abbrev cc2_sem12_1 : DmaSem sig := 56
abbrev cc2_sem13_0 : DmaSem sig := 57
abbrev cc2_sem13_1 : DmaSem sig := 58
abbrev cc2_sem14_0 : DmaSem sig := 59
abbrev cc2_sem14_1 : DmaSem sig := 60
abbrev cc2_sem15_0 : DmaSem sig := 61
abbrev cc2_sem15_1 : DmaSem sig := 62
abbrev cc2_sem16_0 : DmaSem sig := 63
abbrev cc2_sem16_1 : DmaSem sig := 64
abbrev cc2_sem17_0 : DmaSem sig := 65
abbrev cc2_sem18_0 : DmaSem sig := 66
abbrev cc2_sem19_0 : DmaSem sig := 67

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5632x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x5632 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1536x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1536 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_14 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_15 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_16 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_18 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_19 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2816x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x5632 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S5632x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S256x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S256x1024 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 1 → Memref sig .tc .vmem S1x1024 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1024x512 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 2 → Memref sig .tc .vmem S256x5632 .bf16 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev stage2_13 : Fin 2 → Memref sig .tc .vmem S256x1024 .bf16 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

abbrev stage2_14 : Fin 2 → Memref sig .tc .vmem S256x1024 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true]

abbrev stage2_15 : Fin 2 → Memref sig .tc .vmem S256x512 .bf16 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true]

abbrev stage2_16 : Fin 2 → Memref sig .tc .vmem S256x1024 .bf16 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true]

abbrev stage2_17 : Fin 1 → Memref sig .tc .vmem S8x1024 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev stage2_18 : Fin 1 → Memref sig .tc .vmem S8x1024 .f32 := fun | 0 => Memref.whole cc2_stg18_0 | ⟨_ + 1, h⟩ => absurd h (Nat.not_lt.2 (Nat.le_add_left _ _))
abbrev sem2_18 : Fin 1 → DmaSem sig := fun | 0 => cc2_sem18_0 | ⟨_ + 1, h⟩ => absurd h (Nat.not_lt.2 (Nat.le_add_left _ _))
abbrev reads2_18 : Fin grid2.rank → Bool := ![false]

abbrev stage2_19 : Fin 1 → Memref sig .tc .vmem S8x1024 .f32 := fun | 0 => Memref.whole cc2_stg19_0 | ⟨_ + 1, h⟩ => absurd h (Nat.not_lt.2 (Nat.le_add_left _ _))
abbrev sem2_19 : Fin 1 → DmaSem sig := fun | 0 => cc2_sem19_0 | ⟨_ + 1, h⟩ => absurd h (Nat.not_lt.2 (Nat.le_add_left _ _))
abbrev reads2_19 : Fin grid2.rank → Bool := ![false]
-- ==== Reference7Ideal.lean ====
abbrev S16384x1024 : Shape := ⟨2, ![16384, 1024]⟩
abbrev S16384x512 : Shape := ⟨2, ![16384, 512]⟩
abbrev S512x1024 : Shape := ⟨2, ![512, 1024]⟩
abbrev S1x1024 : Shape := ⟨2, ![1, 1024]⟩
abbrev S1024x5632 : Shape := ⟨2, ![1024, 5632]⟩
abbrev S2816x1024 : Shape := ⟨2, ![2816, 1024]⟩
abbrev S1024x1536 : Shape := ⟨2, ![1024, 1536]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩
abbrev S1024 : Shape := ⟨1, ![1024]⟩
abbrev S7x1024 : Shape := ⟨2, ![7, 1024]⟩
abbrev S8x1024 : Shape := ⟨2, ![8, 1024]⟩
abbrev S5x1024 : Shape := ⟨2, ![5, 1024]⟩
abbrev S16384x1536 : Shape := ⟨2, ![16384, 1536]⟩

abbrev nBuf : Space → Nat
  | .hbm => 179
  | .vmem => 0
  | .smem => 0
  | _ => 0

abbrev hbmTy0_0 (i : Nat) : BufTy := match i % 128 with
  | 0 => ⟨S16384x1024, .f32⟩
  | 1 => ⟨S16384x512, .bf16⟩
  | 2 => ⟨S512x1024, .f32⟩
  | 3 => ⟨S16384x1024, .f32⟩
  | 4 => ⟨S1x1024, .f32⟩
  | 5 => ⟨S1x1024, .f32⟩
  | 6 => ⟨S1x1024, .f32⟩
  | 7 => ⟨S1x1024, .f32⟩
  | 8 => ⟨S1024x5632, .f32⟩
  | 9 => ⟨S2816x1024, .f32⟩
  | 10 => ⟨S1x1024, .f32⟩
  | 11 => ⟨S1x1024, .f32⟩
  | 12 => ⟨S1x1024, .f32⟩
  | 13 => ⟨S1x1024, .f32⟩
  | 14 => ⟨S1024x1536, .f32⟩
  | 15 => ⟨S16384x512, .f32⟩
  | 16 => ⟨S16384x1024, .f32⟩
  | 17 => ⟨S16384x1024, .f32⟩
  | 18 => ⟨S16384x1024, .f32⟩
  | 19 => ⟨S16384x1024, .f32⟩
  | 20 => ⟨S16384x1024, .f32⟩
  | 21 => ⟨S_, .f32⟩
  | 22 => ⟨S16384, .f32⟩
  | 23 => ⟨S16384x1, .f32⟩
  | 24 => ⟨S_, .f32⟩
  | 25 => ⟨S16384x1, .f32⟩
  | 26 => ⟨S16384x1, .f32⟩
  | 27 => ⟨S_, .f32⟩
  | 28 => ⟨S16384x1, .f32⟩
  | 29 => ⟨S16384x1, .f32⟩
  | 30 => ⟨S16384x1, .f32⟩
  | 31 => ⟨S16384x1, .f32⟩
  | 32 => ⟨S_, .f32⟩
  | 33 => ⟨S16384x1, .f32⟩
  | 34 => ⟨S16384x1, .f32⟩
  | 35 => ⟨S16384x1024, .f32⟩
  | 36 => ⟨S16384x1024, .f32⟩
  | 37 => ⟨S16384x1024, .f32⟩
  | 38 => ⟨S16384x1024, .f32⟩
  | 39 => ⟨S_, .f32⟩
  | 40 => ⟨S1x1024, .f32⟩
  | 41 => ⟨S1x1024, .f32⟩
  | 42 => ⟨S16384x1024, .f32⟩
  | 43 => ⟨S16384x1024, .f32⟩
  | 44 => ⟨S16384x1024, .f32⟩
  | 45 => ⟨S16384x1024, .f32⟩
  | 46 => ⟨S16384x5632, .f32⟩
  | 47 => ⟨S16384x2816, .f32⟩
  | 48 => ⟨S16384x2816, .f32⟩
  | 49 => ⟨S16384x2816, .f32⟩
  | 50 => ⟨S16384x2816, .f32⟩
  | 51 => ⟨S_, .f32⟩
  | 52 => ⟨S16384x2816, .f32⟩
  | 53 => ⟨S16384x2816, .f32⟩
  | 54 => ⟨S_, .f32⟩
  | 55 => ⟨S16384x2816, .f32⟩
  | 56 => ⟨S16384x2816, .f32⟩
  | 57 => ⟨S_, .f32⟩
  | 58 => ⟨S16384x2816, .f32⟩
  | 59 => ⟨S16384x2816, .f32⟩
  | 60 => ⟨S16384x2816, .f32⟩
  | 61 => ⟨S16384x2816, .f32⟩
  | 62 => ⟨S16384x2816, .f32⟩
  | 63 => ⟨S16384x1024, .f32⟩
  | 64 => ⟨S16384x1024, .f32⟩
  | 65 => ⟨S16384x1024, .f32⟩
  | 66 => ⟨S16384x1024, .f32⟩
  | 67 => ⟨S16384x1024, .f32⟩
  | 68 => ⟨S16384x1024, .f32⟩
  | 69 => ⟨S16384x1024, .f32⟩
  | 70 => ⟨S16384x1024, .f32⟩
  | 71 => ⟨S16384x1024, .f32⟩
  | 72 => ⟨S_, .f32⟩
  | 73 => ⟨S1024, .f32⟩
  | 74 => ⟨S1x1024, .f32⟩
  | 75 => ⟨S16384x2816, .f32⟩
  | 76 => ⟨S16384x2816, .f32⟩
  | 77 => ⟨S16384x2816, .f32⟩
  | 78 => ⟨S16384x2816, .f32⟩
  | 79 => ⟨S16384x2816, .f32⟩
  | 80 => ⟨S16384x2816, .f32⟩
  | 81 => ⟨S16384x2816, .f32⟩
  | 82 => ⟨S16384x5632, .f32⟩
  | 83 => ⟨S16384x1024, .f32⟩
  | 84 => ⟨S_, .f32⟩
  | 85 => ⟨S1024, .f32⟩
  | 86 => ⟨S1x1024, .f32⟩
  | 87 => ⟨S16384x1024, .f32⟩
  | 88 => ⟨S_, .f32⟩
  | 89 => ⟨S1024, .f32⟩
  | 90 => ⟨S1x1024, .f32⟩
  | 91 => ⟨S16384x1024, .f32⟩
  | 92 => ⟨S16384x1024, .f32⟩
  | 93 => ⟨S16384x1024, .f32⟩
  | 94 => ⟨S_, .f32⟩
  | 95 => ⟨S1024, .f32⟩
  | 96 => ⟨S1x1024, .f32⟩
  | 97 => ⟨S16384x1024, .f32⟩
  | 98 => ⟨S16384x1024, .f32⟩
  | 99 => ⟨S16384x1024, .f32⟩
  | 100 => ⟨S_, .f32⟩
  | 101 => ⟨S16384, .f32⟩
  | 102 => ⟨S16384x1, .f32⟩
  | 103 => ⟨S16384x1024, .f32⟩
  | 104 => ⟨S16384x1024, .f32⟩
  | 105 => ⟨S16384x1, .f32⟩
  | 106 => ⟨S_, .f32⟩
  | 107 => ⟨S16384x1, .f32⟩
  | 108 => ⟨S16384x1, .f32⟩
  | 109 => ⟨S_, .f32⟩
  | 110 => ⟨S16384, .f32⟩
  | 111 => ⟨S16384x1024, .f32⟩
  | 112 => ⟨S16384x1024, .f32⟩
  | 113 => ⟨S16384x1024, .f32⟩
  | 114 => ⟨S16384x1024, .f32⟩
  | 115 => ⟨S16384x1024, .f32⟩
  | 116 => ⟨S16384x1024, .f32⟩
  | 117 => ⟨S16384x1024, .f32⟩
  | 118 => ⟨S16384x1024, .f32⟩
  | 119 => ⟨S16384x1024, .f32⟩
  | 120 => ⟨S_, .f32⟩
  | 121 => ⟨S1024, .f32⟩
  | 122 => ⟨S1x1024, .f32⟩
  | 123 => ⟨S16384x512, .f32⟩
  | 124 => ⟨S16384x5632, .bf16⟩
  | 125 => ⟨S16384x1024, .bf16⟩
  | 126 => ⟨S16384x512, .bf16⟩
  | 127 => ⟨S16384x1024, .bf16⟩
  | _ => ⟨S16384x1024, .f32⟩

abbrev hbmTy0_1 (i : Nat) : BufTy := match i % 128 with
  | 0 => ⟨S_, .f32⟩
  | 1 => ⟨S7x1024, .f32⟩
  | 2 => ⟨S8x1024, .f32⟩
  | 3 => ⟨S_, .f32⟩
  | 4 => ⟨S5x1024, .f32⟩
  | 5 => ⟨S8x1024, .f32⟩
  | 6 => ⟨S_, .f32⟩
  | 7 => ⟨S7x1024, .f32⟩
  | 8 => ⟨S8x1024, .f32⟩
  | 9 => ⟨S16384x2816, .f32⟩
  | 10 => ⟨S16384x2816, .f32⟩
  | 11 => ⟨S16384x2816, .f32⟩
  | 12 => ⟨S16384x2816, .f32⟩
  | 13 => ⟨S_, .f32⟩
  | 14 => ⟨S16384x2816, .f32⟩
  | 15 => ⟨S16384x2816, .f32⟩
  | 16 => ⟨S_, .f32⟩
  | 17 => ⟨S16384x2816, .f32⟩
  | 18 => ⟨S16384x2816, .f32⟩
  | 19 => ⟨S16384x2816, .f32⟩
  | 20 => ⟨S16384x2816, .f32⟩
  | 21 => ⟨S16384x1024, .f32⟩
  | 22 => ⟨S16384x1024, .f32⟩
  | 23 => ⟨S16384x1024, .f32⟩
  | 24 => ⟨S16384x1024, .f32⟩
  | 25 => ⟨S_, .f32⟩
  | 26 => ⟨S16384, .f32⟩
  | 27 => ⟨S16384x1, .f32⟩
  | 28 => ⟨S_, .f32⟩
  | 29 => ⟨S16384x1, .f32⟩
  | 30 => ⟨S16384x1, .f32⟩
  | 31 => ⟨S_, .f32⟩
  | 32 => ⟨S16384x1, .f32⟩
  | 33 => ⟨S16384x1, .f32⟩
  | 34 => ⟨S16384x1, .f32⟩
  | 35 => ⟨S16384x1024, .f32⟩
  | 36 => ⟨S16384x1024, .f32⟩
  | 37 => ⟨S16384x1024, .f32⟩
  | 38 => ⟨S16384x1024, .f32⟩
  | 39 => ⟨S_, .f32⟩
  | 40 => ⟨S1x1024, .f32⟩
  | 41 => ⟨S1x1024, .f32⟩
  | 42 => ⟨S16384x1024, .f32⟩
  | 43 => ⟨S16384x1024, .f32⟩
  | 44 => ⟨S16384x1024, .f32⟩
  | 45 => ⟨S16384x1024, .f32⟩
  | 46 => ⟨S16384x1536, .f32⟩
  | 47 => ⟨S16384x1024, .bf16⟩
  | 48 => ⟨S16384x2816, .bf16⟩
  | 49 => ⟨S16384x1024, .bf16⟩
  | 50 => ⟨S16384x1536, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_v29_2 : Ref sig .tc := ⟨.hbm, 56, rfl⟩
abbrev main_call0_cst_1 : Ref sig .tc := ⟨.hbm, 57, rfl⟩
abbrev main_call0_v6 : Ref sig .tc := ⟨.hbm, 58, rfl⟩
abbrev main_call0_v7 : Ref sig .tc := ⟨.hbm, 59, rfl⟩
abbrev main_v29_1 : Ref sig .tc := ⟨.hbm, 60, rfl⟩
abbrev main_v29_0 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_4 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_cst_5 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_cst_6 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_7 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_8 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_9 : Ref sig .tc := ⟨.hbm, 106, rfl⟩
abbrev main_v66 : Ref sig .tc := ⟨.hbm, 107, rfl⟩
abbrev main_v67 : Ref sig .tc := ⟨.hbm, 108, rfl⟩
abbrev main_cst_10 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_cst_11 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_12 : Ref sig .tc := ⟨.hbm, 128, rfl⟩
abbrev main_v85 : Ref sig .tc := ⟨.hbm, 129, rfl⟩
abbrev main_v86 : Ref sig .tc := ⟨.hbm, 130, rfl⟩
abbrev main_cst_13 : Ref sig .tc := ⟨.hbm, 131, rfl⟩
abbrev main_v87 : Ref sig .tc := ⟨.hbm, 132, rfl⟩
abbrev main_v88 : Ref sig .tc := ⟨.hbm, 133, rfl⟩
abbrev main_cst_14 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_call2_v0 : Ref sig .tc := ⟨.hbm, 139, rfl⟩
abbrev main_call2_v1 : Ref sig .tc := ⟨.hbm, 140, rfl⟩
abbrev main_call2_cst : Ref sig .tc := ⟨.hbm, 141, rfl⟩
abbrev main_call2_v2 : Ref sig .tc := ⟨.hbm, 142, rfl⟩
abbrev main_call2_v3 : Ref sig .tc := ⟨.hbm, 143, rfl⟩
abbrev main_call2_cst_0 : Ref sig .tc := ⟨.hbm, 144, rfl⟩
abbrev main_call2_v4 : Ref sig .tc := ⟨.hbm, 145, rfl⟩
abbrev main_call2_v5 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_cst_15 : Ref sig .tc := ⟨.hbm, 153, rfl⟩
abbrev main_v99 : Ref sig .tc := ⟨.hbm, 154, rfl⟩
abbrev main_v100 : Ref sig .tc := ⟨.hbm, 155, rfl⟩
abbrev main_cst_16 : Ref sig .tc := ⟨.hbm, 156, rfl⟩
abbrev main_v101 : Ref sig .tc := ⟨.hbm, 157, rfl⟩
abbrev main_v102 : Ref sig .tc := ⟨.hbm, 158, rfl⟩
abbrev main_cst_17 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_cst_18 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩

abbrev nD : Nat := 1
abbrev τ : Topo := Topo.v7x

variable {F : FTy → Type} [FloatOps F]
-- ==== Proof.Model.lean ====
/- The attention-gradient kernel's grid point as functions of arrays: what one tile of 128 query rows makes of the
   staged keys and values, and what it leaves in the query gradient's block, the key and value accumulators and the
   sink's block. Over any float type: nothing here says what an operation computes. -/
module

public import proofs.«01_k».proof.Proof.Gen.KernelIdeal.Skeleton
public import Idealize.ShloMosaic.Lib.VecWindow

@[expose] public section

noncomputable section

namespace Cert.KernelIdeal.Attn

open Idealize.ShloMosaic Cert.KernelIdeal.Gen

variable {F : FTy → Type} [FloatOps F]

/-- The arrays a tile reads: the queries, the staged keys and values, the bias table, the sink, the forward pass's
    output, its cotangent, and the logarithms of the softmax sums. -/
structure Ins (F : FTy → Type) where
  q : Vec F S1024x512 .bf16
  k : Vec F S1280x128 .f32
  v : Vec F S1280x128 .f32
  bias : Vec F S1152x1024 .f32
  sink : Vec F S1x1024 .f32
  o : Vec F S1024x512 .bf16
  go : Vec F S1024x512 .bf16
  lse : Vec F S1024x512 .f32

/-- The arrays a tile writes: the query gradient, the sink's gradient, and the two accumulators. -/
structure Outs (F : FTy → Type) where
  dq : Vec F S1024x512 .bf16
  ds : Vec F S8x128 .f32
  ak : Vec F S16640x128 .f32
  av : Vec F S16640x128 .f32

/-- The `128 × 128` window of a block at the offsets `off`. -/
abbrev tw {e : EltTy} (x : Vec F S1024x512 e) (off : Fin 2 → ℕ) (h : ∀ a, off a + S128x128.size a ≤ S1024x512.size a) : Vec F S128x128 e :=
  VecWindow.window (s := S1024x512) x off S128x128.size h

/-- The 384 staged rows tile `k` reads. -/
abbrev sw (x : Vec F S1280x128 .f32) (k : Fin k0_t1_loop.trips) : Vec F S384x128 .f32 :=
  VecWindow.window (s := S1280x128) x (k0_off1 k) S384x128.size (k0_off1_inb k)

/-- The tile's queries, eight heads above each other, each in its own lanes, over 8. -/
def q8 (X : Ins F) (k : Fin k0_t1_loop.trips) : FVec F S1024x128 .bf16 :=
  let v95 := tw X.q (k0_off2 k) (k0_off2_inb k)
  let v98 := tw X.q (k0_off3 k) (k0_off3_inb k)
  let v101 := tw X.q (k0_off4 k) (k0_off4_inb k)
  let v104 := tw X.q (k0_off5 k) (k0_off5_inb k)
  k0_pay19 k0_pay2 k0_pay3 (k0_pay11 v104) (k0_pay13 k0_pay2 v95) (k0_pay14 k0_pay3 v95) (k0_pay16 k0_pay2 v98) (k0_pay17 k0_pay3 v98) (k0_pay18 v101)

/-- The tile's output cotangents, laid out as the queries are. -/
def go8 (X : Ins F) (k : Fin k0_t1_loop.trips) : FVec F S1024x128 .bf16 :=
  let v144 := tw X.go (k0_off2 k) (k0_off2_inb k)
  let v147 := tw X.go (k0_off3 k) (k0_off3_inb k)
  let v150 := tw X.go (k0_off4 k) (k0_off4_inb k)
  let v153 := tw X.go (k0_off5 k) (k0_off5_inb k)
  k0_pay28 k0_pay2 k0_pay3 (k0_pay22 v150) (k0_pay23 v153) (k0_pay24 k0_pay2 v144) (k0_pay25 k0_pay3 v144) (k0_pay26 k0_pay2 v147) (k0_pay27 k0_pay3 v147)

/-- Each query's product of the output with its cotangent, in one row. -/
def delta8 (X : Ins F) (k : Fin k0_t1_loop.trips) : FVec F S1x1024 .f32 :=
  let v145 := k0_pay20 (tw X.go (k0_off2 k) (k0_off2_inb k))
  let v148 := k0_pay21 (tw X.go (k0_off3 k) (k0_off3_inb k))
  let v151 := k0_pay22 (tw X.go (k0_off4 k) (k0_off4_inb k))
  let v154 := k0_pay23 (tw X.go (k0_off5 k) (k0_off5_inb k))
  let v185 := tw X.o (k0_off2 k) (k0_off2_inb k)
  let v203 := tw X.o (k0_off3 k) (k0_off3_inb k)
  let v221 := tw X.o (k0_off4 k) (k0_off4_inb k)
  let v239 := tw X.o (k0_off5 k) (k0_off5_inb k)
  k0_pay39 v151 v154 (k0_pay31 v145 v185) (k0_pay33 v145 v185) (k0_pay35 v148 v203) (k0_pay37 v148 v203) v221 v239

/-- Each query's logarithm of the softmax sum, in one row. -/
def lse8 (X : Ins F) (k : Fin k0_t1_loop.trips) : FVec F S1x1024 .f32 :=
  let v191 := tw X.lse (k0_off2 k) (k0_off2_inb k)
  let v209 := tw X.lse (k0_off3 k) (k0_off3_inb k)
  let v227 := tw X.lse (k0_off4 k) (k0_off4_inb k)
  let v245 := tw X.lse (k0_off5 k) (k0_off5_inb k)
  k0_pay40 (k0_pay32 v191) (k0_pay34 v191) (k0_pay36 v209) (k0_pay38 v209) v227 v245

/-- The tile's keys against its queries. -/
def s0 (X : Ins F) (k : Fin k0_t1_loop.trips) : FVec F S384x1024 .f32 := k0_pay41 (k0_pay8 (sw X.k k)) (q8 X k)

/-- The tile's bias. -/
def b0 (X : Ins F) (i : grid0.Coords) (k : Fin k0_t1_loop.trips) : FVec F S384x1024 .f32 :=
  k0_pay42 (VecWindow.window (s := S1152x1024) X.bias (k0_off6 i k) S384x1024.size (k0_off6_inb i k))

/-- The tile's probabilities. -/
def pr (X : Ins F) (i : grid0.Coords) (k : Fin k0_t1_loop.trips) : FVec F S384x1024 .f32 :=
  k0_pay43 (lse8 X k) (s0 X k) (b0 X i k)

/-- The gradient of the tile's scores. -/
def dsb (X : Ins F) (i : grid0.Coords) (k : Fin k0_t1_loop.trips) : FVec F S384x1024 .bf16 :=
  k0_pay44 (k0_pay9 (sw X.v k)) (go8 X k) (delta8 X k) (lse8 X k) (s0 X k) (b0 X i k)

/-- The query gradient's block after tile `k`. -/
def dqStep (X : Ins F) (i : grid0.Coords) (k : Fin k0_t1_loop.trips) (y : Vec F S1024x512 .bf16) : Vec F S1024x512 .bf16 :=
  let v89 := k0_pay9 (sw X.v k)
  let v93 := k0_pay10 (sw X.k k)
  VecWindow.put (VecWindow.put (VecWindow.put (VecWindow.put y
    (k0_off2 k) S128x128.size (k0_pay46 v89 v93 (go8 X k) (delta8 X k) (lse8 X k) (s0 X k) (b0 X i k)))
    (k0_off3 k) S128x128.size (k0_pay47 v89 v93 (go8 X k) (delta8 X k) (lse8 X k) (s0 X k) (b0 X i k)))
    (k0_off4 k) S128x128.size (k0_pay48 v89 v93 (go8 X k) (delta8 X k) (lse8 X k) (s0 X k) (b0 X i k)))
    (k0_off5 k) S128x128.size (k0_pay49 v89 v93 (go8 X k) (delta8 X k) (lse8 X k) (s0 X k) (b0 X i k))

/-- The keys' accumulator after tile `k`. -/
def akStep (X : Ins F) (i : grid0.Coords) (k : Fin k0_t1_loop.trips) (y : Vec F S16640x128 .f32) : Vec F S16640x128 .f32 :=
  VecWindow.put y (k0_off7 i k) S384x128.size
    (k0_pay50 (q8 X k) (dsb X i k) (VecWindow.window (s := S16640x128) y (k0_off7 i k) S384x128.size (k0_off7_inb i k)))

/-- The values' accumulator after tile `k`. -/
def avStep (X : Ins F) (i : grid0.Coords) (k : Fin k0_t1_loop.trips) (y : Vec F S16640x128 .f32) : Vec F S16640x128 .f32 :=
  VecWindow.put y (k0_off7 i k) S384x128.size
    (k0_pay51 (go8 X k) (pr X i k) (VecWindow.window (s := S16640x128) y (k0_off7 i k) S384x128.size (k0_off7_inb i k)))

/-- The sink's products of one tile: every query's, in one row. -/
def sk8 (X : Ins F) (k : Fin k0_t1_loop.trips) : FVec F S1x1024 .f32 := k0_pay52 (k0_pay4 X.sink) (delta8 X k) (lse8 X k)

/-- Row `r` of the sink's block. -/
abbrev row (y : Vec F S8x128 .f32) (r : ℕ) (h : ∀ a, (![r, 0] : Fin 2 → ℕ) a + S1x128.size a ≤ S8x128.size a) : Vec F S1x128 .f32 :=
  VecWindow.window (s := S8x128) y ![r, 0] S1x128.size h

/-- The sink's block after tile `k`. -/
def dsStep (X : Ins F) (k : Fin k0_t1_loop.trips) (y : Vec F S8x128 .f32) : Vec F S8x128 .f32 :=
  let v40 := k0_pay4 X.sink
  let p (y : Vec F S8x128 .f32) (r : ℕ) (w : Vec F S1x128 .f32) : Vec F S8x128 .f32 := VecWindow.put (s := S8x128) y ![r, 0] S1x128.size w
  p (p (p (p (p (p (p (p y
    0 (k0_pay53 v40 (delta8 X k) (lse8 X k) (row y 0 (by decide))))
    1 (k0_pay54 v40 (delta8 X k) (lse8 X k) (row y 1 (by decide))))
    2 (k0_pay55 (sk8 X k) (row y 2 (by decide))))
    3 (k0_pay56 (sk8 X k) (row y 3 (by decide))))
    4 (k0_pay57 (sk8 X k) (row y 4 (by decide))))
    5 (k0_pay5 (k0_pay58 (sk8 X k)) (Scalar.ofBits .f32 0) (row y 5 (by decide))))
    6 (k0_pay6 (sk8 X k) (row y 6 (by decide))))
    7 (k0_pay7 (sk8 X k) (row y 7 (by decide)))

/-- One tile's work on everything it writes. -/
def step (X : Ins F) (i : grid0.Coords) (k : Fin k0_t1_loop.trips) (Y : Outs F) : Outs F where
  dq := dqStep X i k Y.dq
  ds := dsStep X k Y.ds
  ak := akStep X i k Y.ak
  av := avStep X i k Y.av

/-- The state after the first `n` tiles of a grid point. -/
def tiles (X : Ins F) (i : grid0.Coords) (Y : Outs F) : ℕ → Outs F
  | 0 => Y
  | n + 1 => if h : n < k0_t1_loop.trips then step X i ⟨n, h⟩ (tiles X i Y n) else tiles X i Y n

@[simp] theorem tiles_zero (X : Ins F) (i : grid0.Coords) (Y : Outs F) : tiles X i Y 0 = Y := rfl

theorem tiles_succ (X : Ins F) (i : grid0.Coords) (Y : Outs F) (k : Fin k0_t1_loop.trips) :
    tiles X i Y (k.val + 1) = step X i k (tiles X i Y k.val) := by
  show (if h : k.val < k0_t1_loop.trips then _ else _) = _
  rw [dif_pos k.isLt]

end Cert.KernelIdeal.Attn
-- ==== Proof.Trip.lean ====
/- One tile of the attention-gradient kernel's loop, run once at a symbolic tile: the buffers it writes are left at the
   arrays `Attn.step` makes of what they held. -/
module

public import proofs.«01_k».proof.Proof.Model
public import proofs.«01_k».proof.Proof.Gen.KernelIdeal.Loops
public import Idealize.ShloMosaic.Lib.Pipeline.FrameBody

@[expose] public section

set_option maxRecDepth 8192

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

/-- The buffers a tile works on, at the arrays `X` and `Y`. -/
abbrev Held (c : Dev nD) (arg2 : Memref sig .tc .vmem S1024x512 .bf16) (arg9 : Memref sig .tc .vmem S1152x1024 .f32) (arg11 : Memref sig .tc .vmem S1024x512 .bf16) (arg12 : Memref sig .tc .vmem S1024x512 .bf16) (arg13 : Memref sig .tc .vmem S1024x512 .f32) (arg19 : Memref sig .tc .vmem S1280x128 .f32) (arg20 : Memref sig .tc .vmem S1280x128 .f32) (arg14 : Memref sig .tc .vmem S1024x512 .bf16) (arg17 : Memref sig .tc .vmem S8x128 .f32) (arg25 : Memref sig .tc .vmem S16640x128 .f32) (arg26 : Memref sig .tc .vmem S16640x128 .f32) (X : Ins F) (Y : Outs F) : sProp 𝕄 :=
  iprop((arg2.view.loc (c : Thread nD τ) ↦[arg2.view.set]{fullShare} arg2.view.rep X.q) ∗ (arg9.view.loc (c : Thread nD τ) ↦[arg9.view.set]{fullShare} arg9.view.rep X.bias) ∗ (arg11.view.loc (c : Thread nD τ) ↦[arg11.view.set]{fullShare} arg11.view.rep X.o) ∗ (arg12.view.loc (c : Thread nD τ) ↦[arg12.view.set]{fullShare} arg12.view.rep X.go) ∗ (arg13.view.loc (c : Thread nD τ) ↦[arg13.view.set]{fullShare} arg13.view.rep X.lse) ∗ (arg19.view.loc (c : Thread nD τ) ↦[arg19.view.set]{fullShare} arg19.view.rep X.k) ∗ (arg20.view.loc (c : Thread nD τ) ↦[arg20.view.set]{fullShare} arg20.view.rep X.v) ∗ (arg14.view.loc (c : Thread nD τ) ↦[arg14.view.set]{fullShare} arg14.view.rep Y.dq) ∗ (arg17.view.loc (c : Thread nD τ) ↦[arg17.view.set]{fullShare} arg17.view.rep Y.ds) ∗ (arg25.view.loc (c : Thread nD τ) ↦[arg25.view.set]{fullShare} arg25.view.rep Y.ak) ∗ (arg26.view.loc (c : Thread nD τ) ↦[arg26.view.set]{fullShare} arg26.view.rep Y.av))

/-- A buffer whose contents read as `X`, held at `X`. -/
theorem held_of_read (c : Dev nD) {sp : Space} {s : Shape} {e : EltTy} (m : Memref sig .tc sp s e)
    (g : Buf (Elt F) (m.view.loc (c : Thread nD τ))) (X : s.Idx → Elt F e) :
    (iprop((m.view.loc (c : Thread nD τ) ↦[m.view.set]{fullShare} g) ∗ ⌜m.view.read (Elt F) g = X⌝) : sProp 𝕄)
      ⊢ m.view.loc (c : Thread nD τ) ↦[m.view.set]{fullShare} m.view.rep X := by
  iintro ⟨H, %h⟩
  iapply (pointsTo_rep_of_read (c : Thread nD τ) m g fullShare X h)
  iexact H

/-- A load of the array a buffer is held at reads the array's window. -/
theorem readAt_held {sp : Space} {s : Shape} {e : EltTy} (v : View sig .tc sp s e) (x : s.Idx → Elt F e)
    {off size : Fin s.rank → ℕ} (inb : ∀ a, off a + size a ≤ s.size a) :
    v.readAt (Elt F) (Rect.unit off size inb).toLoadRect (v.rep x) = VecWindow.window x off size inb :=
  View.readAt_rep_unit v x inb rfl inb

/-- A store leaves the array with the payload put over its window. -/
theorem read_writes_held {sp : Space} {s : Shape} {e : EltTy} (v : View sig .tc sp s e) (f : v.ty.Contents (Elt F))
    {off size : Fin s.rank → ℕ} (inb : ∀ a, off a + size a ≤ s.size a) (w : (Rect.unit off size inb).shape.Idx → Elt F e)
    (L : List (View.Piece (Elt F) s e)) :
    v.read (Elt F) (v.writes (Elt F) f (⟨Rect.unit off size inb, w⟩ :: L)) = VecWindow.put (v.read (Elt F) (v.writes (Elt F) f L)) off size w :=
  View.read_writes_cons_put v f inb w L rfl

set_option maxHeartbeats 4000000 in
set_option backward.isDefEq.respectTransparency.types false in
/-- One tile, at the contents it finds. -/
theorem trip (𝒱 : Variants) (c : Dev nD) (bd : Option 𝒱.V) (E : Set ℕ) (i : grid0.Coords)
  (arg2 : Memref sig .tc .vmem S1024x512 .bf16) (harg2 : arg2.IsWhole) (arg3 : Memref sig .tc .vmem S128x128 .bf16) (harg3 : arg3.IsWhole) (arg4 : Memref sig .tc .vmem S1024x128 .bf16) (harg4 : arg4.IsWhole)
  (arg5 : Memref sig .tc .vmem S128x128 .bf16) (harg5 : arg5.IsWhole) (arg6 : Memref sig .tc .vmem S128x128 .bf16) (harg6 : arg6.IsWhole) (arg7 : Memref sig .tc .vmem S1024x128 .bf16) (harg7 : arg7.IsWhole)
  (arg8 : Memref sig .tc .vmem S128x128 .bf16) (harg8 : arg8.IsWhole) (arg9 : Memref sig .tc .vmem S1152x1024 .f32) (harg9 : arg9.IsWhole) (arg10 : Memref sig .tc .vmem S8x1024 .f32) (harg10 : arg10.IsWhole)
  (arg11 : Memref sig .tc .vmem S1024x512 .bf16) (harg11 : arg11.IsWhole) (arg12 : Memref sig .tc .vmem S1024x512 .bf16) (harg12 : arg12.IsWhole) (arg13 : Memref sig .tc .vmem S1024x512 .f32) (harg13 : arg13.IsWhole)
  (arg14 : Memref sig .tc .vmem S1024x512 .bf16) (harg14 : arg14.IsWhole) (arg15 : Memref sig .tc .hbm S2x16384x128 .f32) (harg15 : arg15.IsWhole) (arg16 : Memref sig .tc .hbm S2x16384x128 .f32) (harg16 : arg16.IsWhole)
  (arg17 : Memref sig .tc .vmem S8x128 .f32) (harg17 : arg17.IsWhole) (arg18 : Memref sig .tc .vmem S4x8x128 .f32) (harg18 : arg18.IsWhole) (arg19 : Memref sig .tc .vmem S1280x128 .f32) (harg19 : arg19.IsWhole)
  (arg20 : Memref sig .tc .vmem S1280x128 .f32) (harg20 : arg20.IsWhole) (arg21 : Memref sig .tc .vmem S4x8x128 .f32) (harg21 : arg21.IsWhole) (arg22 : Memref sig .tc .vmem S4x8x128 .f32) (harg22 : arg22.IsWhole)
  (arg23 : Memref sig .tc .vmem S4x8x128 .f32) (harg23 : arg23.IsWhole) (arg24 : Memref sig .tc .vmem S4x8x128 .f32) (harg24 : arg24.IsWhole) (arg25 : Memref sig .tc .vmem S16640x128 .f32) (harg25 : arg25.IsWhole)
  (arg26 : Memref sig .tc .vmem S16640x128 .f32) (harg26 : arg26.IsWhole)
  (arg27 : DmaSems sig S2) (arg1 : BitVec 32) (v38 : BitVec 32) (X : Ins F) (k : Fin k0_t1_loop.trips) (Y : Outs F) :
    Held c arg2 arg9 arg11 arg12 arg13 arg19 arg20 arg14 arg17 arg25 arg26 X Y
      ⊢ wp Idealize.ShloMosaic.frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 arg1 v38 X.sink k ())
          (fun _ => Held c arg2 arg9 arg11 arg12 arg13 arg19 arg20 arg14 arg17 arg25 arg26 X (step X i k Y)) := by
  have hk : k.val < 8 := Nat.lt_of_lt_of_le k.isLt k0_t1_abs.2.1
  obtain ⟨dq, ds, ak, av⟩ := Y
  unfold k0_t1_body
  iintro ⟨H2, H9, H11, H12, H13, H19, H20, H14, H17, H25, H26⟩
  sl_exec
  sl_step
  isplitl [H2]; · iexact H2
  isplitl [H9]; · iexact H9
  isplitl [H11]; · iexact H11
  isplitl [H12]; · iexact H12
  isplitl [H13]; · iexact H13
  isplitl [H19]; · iexact H19
  isplitl [H20]; · iexact H20
  isplitl [H14]
  · iapply (held_of_read c arg14 _ (dqStep X i k dq))
    isplitl [H14]; · iexact H14
    ipureintro
    sl_unfold_words
    simp only [read_writes_held, View.writes_nil, View.read_rep, readAt_held]
    rfl
  isplitl [H17]
  · iapply (held_of_read c arg17 _ (dsStep X k ds))
    isplitl [H17]; · iexact H17
    ipureintro
    sl_unfold_words
    simp only [read_writes_held, View.writes_nil, View.read_rep, readAt_held]
    rfl
  isplitl [H25]
  · iapply (held_of_read c arg25 _ (akStep X i k ak))
    isplitl [H25]; · iexact H25
    ipureintro
    sl_unfold_words
    simp only [read_writes_held, View.writes_nil, View.read_rep, readAt_held]
    rfl
  · iapply (held_of_read c arg26 _ (avStep X i k av))
    isplitl [H26]; · iexact H26
    ipureintro
    sl_unfold_words
    simp only [read_writes_held, View.writes_nil, View.read_rep, readAt_held]
    rfl

/-- The loop over a grid point's tiles: after `n` of them the buffers are at `Attn.tiles`. -/
@[reducible] def loop (𝒱 : Variants) (c : Dev nD) (bd : Option 𝒱.V) (E : Set ℕ) (i : grid0.Coords)
  (arg2 : Memref sig .tc .vmem S1024x512 .bf16) (harg2 : arg2.IsWhole) (arg3 : Memref sig .tc .vmem S128x128 .bf16) (harg3 : arg3.IsWhole) (arg4 : Memref sig .tc .vmem S1024x128 .bf16) (harg4 : arg4.IsWhole)
  (arg5 : Memref sig .tc .vmem S128x128 .bf16) (harg5 : arg5.IsWhole) (arg6 : Memref sig .tc .vmem S128x128 .bf16) (harg6 : arg6.IsWhole) (arg7 : Memref sig .tc .vmem S1024x128 .bf16) (harg7 : arg7.IsWhole)
  (arg8 : Memref sig .tc .vmem S128x128 .bf16) (harg8 : arg8.IsWhole) (arg9 : Memref sig .tc .vmem S1152x1024 .f32) (harg9 : arg9.IsWhole) (arg10 : Memref sig .tc .vmem S8x1024 .f32) (harg10 : arg10.IsWhole)
  (arg11 : Memref sig .tc .vmem S1024x512 .bf16) (harg11 : arg11.IsWhole) (arg12 : Memref sig .tc .vmem S1024x512 .bf16) (harg12 : arg12.IsWhole) (arg13 : Memref sig .tc .vmem S1024x512 .f32) (harg13 : arg13.IsWhole)
  (arg14 : Memref sig .tc .vmem S1024x512 .bf16) (harg14 : arg14.IsWhole) (arg15 : Memref sig .tc .hbm S2x16384x128 .f32) (harg15 : arg15.IsWhole) (arg16 : Memref sig .tc .hbm S2x16384x128 .f32) (harg16 : arg16.IsWhole)
  (arg17 : Memref sig .tc .vmem S8x128 .f32) (harg17 : arg17.IsWhole) (arg18 : Memref sig .tc .vmem S4x8x128 .f32) (harg18 : arg18.IsWhole) (arg19 : Memref sig .tc .vmem S1280x128 .f32) (harg19 : arg19.IsWhole)
  (arg20 : Memref sig .tc .vmem S1280x128 .f32) (harg20 : arg20.IsWhole) (arg21 : Memref sig .tc .vmem S4x8x128 .f32) (harg21 : arg21.IsWhole) (arg22 : Memref sig .tc .vmem S4x8x128 .f32) (harg22 : arg22.IsWhole)
  (arg23 : Memref sig .tc .vmem S4x8x128 .f32) (harg23 : arg23.IsWhole) (arg24 : Memref sig .tc .vmem S4x8x128 .f32) (harg24 : arg24.IsWhole) (arg25 : Memref sig .tc .vmem S16640x128 .f32) (harg25 : arg25.IsWhole)
  (arg26 : Memref sig .tc .vmem S16640x128 .f32) (harg26 : arg26.IsWhole)
  (arg27 : DmaSems sig S2) (arg1 : BitVec 32) (v38 : BitVec 32) (v39 : Vec F S1x1024 .f32) (X : Ins F) (Y : Outs F) (h : v39 = X.sink) :
    LoopInvTy_k0_t1 (F := F) Unit ℕ (Pipeline.UD sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 arg1 v38 v39 where
  inv n _ := Held c arg2 arg9 arg11 arg12 arg13 arg19 arg20 arg14 arg17 arg25 arg26 X (tiles X i Y n)
  step k acc := by
    subst h
    rw [tiles_succ]
    exact trip 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 arg1 v38 X k (tiles X i Y k.val)

end Cert.KernelIdeal.Attn
-- ==== Proof.Point.lean ====
/- What the attention-gradient kernel's body leaves at one grid point: the buffers it is given end at the arrays
   `Attn.point` makes of the blocks the point reads and of what the accumulators held, and at a batch's last point the
   two accumulators' middle rows stand in the results left in HBM. -/
module

public import proofs.«01_k».proof.Proof.Trip
public import proofs.«01_k».proof.Proof.Gen.KernelIdeal.Launch
public import proofs.«01_k».proof.Proof.Gen.KernelIdeal.Points
public import Idealize.ShloMosaic.Lib.Pipeline.TableIdle
public import Idealize.ShloMosaic.Lib.Pipeline.FrameValue
public import Idealize.ShloMosaic.Lib.WordCmp

@[expose] public section

set_option maxRecDepth 8192

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

/-- The blocks a grid point reads, by the operand they arrive in. -/
structure Blk (F : FTy → Type) where
  x2 : Vec F S1024x512 .bf16
  x3 : Vec F S128x128 .bf16
  x4 : Vec F S1024x128 .bf16
  x5 : Vec F S128x128 .bf16
  x6 : Vec F S128x128 .bf16
  x7 : Vec F S1024x128 .bf16
  x8 : Vec F S128x128 .bf16
  x9 : Vec F S1152x1024 .f32
  x10 : Vec F S8x1024 .f32
  x11 : Vec F S1024x512 .bf16
  x12 : Vec F S1024x512 .bf16
  x13 : Vec F S1024x512 .f32

/-- The staged rows: a block of 128, one of 1024, and one of 128 again. -/
def staged (a : Vec F S128x128 .f32) (b : Vec F S1024x128 .f32) (d : Vec F S128x128 .f32) : Vec F S1280x128 .f32 :=
  VecWindow.put (VecWindow.put (VecWindow.put (fun _ => @Classical.arbitrary (Elt F .f32) (Elt.nonempty (F := F) EltTy.f32)) ![0, 0] S128x128.size a) ![128, 0] S1024x128.size b) ![1152, 0] S128x128.size d

theorem readAt_128 {κ : Kind} {sp : Space} {e : EltTy} (v : View sig κ sp S128x128 e) (x : Vec F S128x128 e) :
    v.readAt (Elt F) (Rect.unit ![0, 0] ![128, 128] inb_S128x128_S128x128_0_0).toLoadRect (v.rep x) = x :=
  View.readAt_rep_full v x _

theorem readAt_1024 {κ : Kind} {sp : Space} {e : EltTy} (v : View sig κ sp S1024x128 e) (x : Vec F S1024x128 e) :
    v.readAt (Elt F) (Rect.unit ![0, 0] ![1024, 128] inb_S1024x128_S1024x128_0_0).toLoadRect (v.rep x) = x :=
  View.readAt_rep_full v x _

theorem read_unset {κ : Kind} {sp : Space} {s : Shape} {e : EltTy} (v : View sig κ sp s e) :
    v.read (Elt F) v.junk = fun _ => Classical.arbitrary _ := funext fun y => View.read_junk_apply v y

theorem put_all {s : Shape} {α : Type} (x : s.Idx → α) (off : Fin s.rank → ℕ) (w : s.Idx → α) (h : ∀ a, off a = 0) :
    VecWindow.put x off s.size w = w := by
  funext y
  unfold VecWindow.put
  rw [dif_pos (fun a => by rw [h a]; exact ⟨Nat.zero_le _, by simpa using (y a).isLt⟩)]
  exact congrArg w (funext fun a => Fin.ext (by show (y a).val - off a = (y a).val; rw [h a]; rfl))

theorem held_of_eq (c : Dev nD) {sp : Space} {s : Shape} {e : EltTy} (m : Memref sig .tc sp s e)
    (f g : Buf (Elt F) (m.view.loc (c : Thread nD τ))) :
    (iprop((m.view.loc (c : Thread nD τ) ↦{fullShare} f) ∗ ⌜f = g⌝) : sProp 𝕄) ⊢ m.view.loc (c : Thread nD τ) ↦{fullShare} g := by
  iintro ⟨H, %h⟩
  subst h
  iexact H

/-- What a point's tiles read. -/
def ins (B : Blk F) : Ins F where
  q := B.x2
  k := staged (k0_pay62 B.x3) (k0_pay63 B.x4) (k0_pay64 B.x5)
  v := staged (k0_pay65 B.x6) (k0_pay66 B.x7) (k0_pay1 B.x8)
  bias := B.x9
  sink := VecWindow.window (s := S8x1024) B.x10 ![0, 0] S1x1024.size inb_S8x1024_S1x1024_0_0
  o := B.x11
  go := B.x12
  lse := B.x13

/-- The program's word for `this point is its batch's first`. -/
abbrev first (i : grid0.Coords) : BitVec 1 :=
  Scalar.cmpi .ne (Scalar.extui (Scalar.cmpi .eq (BitVec.ofNat 32 (i 1).val) 0#32) : BitVec 32) 0#32

/-- A batch's first point clears what it adds to. -/
def start (i : grid0.Coords) (Y : Outs F) : Outs F :=
  if first i = 1#1 then ⟨Y.dq, k0_pay61, k0_pay59, k0_pay60⟩ else Y

/-- What a grid point leaves. -/
def point (B : Blk F) (i : grid0.Coords) (Y : Outs F) : Outs F :=
  tiles (ins B) i (start i Y) k0_t1_loop.trips

/-- The two cells the body's transfers are counted on. -/
abbrev osem0 : Fin 2 → SemLoc sig := fun j => (![SemLoc.dma 28, SemLoc.dma 29] : Fin 2 → SemLoc sig) j
theorem ownSemFacts0 : Pipeline.OwnSemFacts spec0 osem0 := by decide

/-- A batch's part of a result in HBM set to `z`. -/
def setPart (c : Dev nD) (M : Memref sig .tc .hbm S2x16384x128 .f32) (i : grid0.Coords) (h : k0_cond2 i = 1#1)
    (f : Buf (Elt F) (M.view.loc (c : Thread nD τ))) (z : Vec F S16384x128 .f32) : Buf (Elt F) (M.view.loc (c : Thread nD τ)) :=
  View.write (Elt F) ((M.slice (Rect.unit (s := S2x16384x128) (k0_off8 i) S1x16384x128.size (k0_off8_inb i h)) (fun _ => rfl)).squeeze S16384x128 squeezes_S1x16384x128_S16384x128).view f z Finset.univ

/-- A result left in HBM after a batch's last point: the accumulator's middle rows over the batch's part of it. -/
def flushed (c : Dev nD) (M : Memref sig .tc .hbm S2x16384x128 .f32) (i : grid0.Coords) (h : k0_cond2 i = 1#1)
    (f : Buf (Elt F) (M.view.loc (c : Thread nD τ))) (y : Vec F S16640x128 .f32) : Buf (Elt F) (M.view.loc (c : Thread nD τ)) :=
  setPart c M i h f (VecWindow.window (s := S16640x128) y ![128, 0] S16384x128.size inb_S16640x128_S16384x128_128_0)

end Cert.KernelIdeal.Attn
-- ==== Proof.Body_first.lean ====
/- The attention-gradient kernel's body at one grid point, run once: the buffers it is given end at the arrays
   `Attn.point` makes of the blocks the point reads and of what the accumulators held, and at a batch's last point the
   two accumulators' middle rows stand in the results left in HBM. -/
module

public import proofs.«01_k».proof.Proof.Point
public import proofs.«01_k».proof.Proof.Gen.KernelIdeal.Launch
public import proofs.«01_k».proof.Proof.Gen.KernelIdeal.Points
public import Idealize.ShloMosaic.Lib.Pipeline.TableIdle
public import Idealize.ShloMosaic.Lib.Pipeline.FrameValue
public import Idealize.ShloMosaic.Lib.WordCmp

@[expose] public section

set_option maxRecDepth 8192

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

set_option maxHeartbeats 8000000 in
set_option backward.isDefEq.respectTransparency.types false in
theorem body_first (c : Dev nD) (i : grid0.Coords)
  (arg2 : Memref sig .tc .vmem S1024x512 .bf16) (harg2 : arg2.IsWhole) (arg3 : Memref sig .tc .vmem S128x128 .bf16) (harg3 : arg3.IsWhole) (arg4 : Memref sig .tc .vmem S1024x128 .bf16) (harg4 : arg4.IsWhole)
  (arg5 : Memref sig .tc .vmem S128x128 .bf16) (harg5 : arg5.IsWhole) (arg6 : Memref sig .tc .vmem S128x128 .bf16) (harg6 : arg6.IsWhole) (arg7 : Memref sig .tc .vmem S1024x128 .bf16) (harg7 : arg7.IsWhole)
  (arg8 : Memref sig .tc .vmem S128x128 .bf16) (harg8 : arg8.IsWhole) (arg9 : Memref sig .tc .vmem S1152x1024 .f32) (harg9 : arg9.IsWhole) (arg10 : Memref sig .tc .vmem S8x1024 .f32) (harg10 : arg10.IsWhole)
  (arg11 : Memref sig .tc .vmem S1024x512 .bf16) (harg11 : arg11.IsWhole) (arg12 : Memref sig .tc .vmem S1024x512 .bf16) (harg12 : arg12.IsWhole) (arg13 : Memref sig .tc .vmem S1024x512 .f32) (harg13 : arg13.IsWhole)
  (arg14 : Memref sig .tc .vmem S1024x512 .bf16) (harg14 : arg14.IsWhole) (arg15 : Memref sig .tc .hbm S2x16384x128 .f32) (harg15 : arg15.IsWhole) (arg16 : Memref sig .tc .hbm S2x16384x128 .f32) (harg16 : arg16.IsWhole)
  (arg17 : Memref sig .tc .vmem S8x128 .f32) (harg17 : arg17.IsWhole) (arg18 : Memref sig .tc .vmem S4x8x128 .f32) (harg18 : arg18.IsWhole) (arg19 : Memref sig .tc .vmem S1280x128 .f32) (harg19 : arg19.IsWhole)
  (arg20 : Memref sig .tc .vmem S1280x128 .f32) (harg20 : arg20.IsWhole) (arg21 : Memref sig .tc .vmem S4x8x128 .f32) (harg21 : arg21.IsWhole) (arg22 : Memref sig .tc .vmem S4x8x128 .f32) (harg22 : arg22.IsWhole)
  (arg23 : Memref sig .tc .vmem S4x8x128 .f32) (harg23 : arg23.IsWhole) (arg24 : Memref sig .tc .vmem S4x8x128 .f32) (harg24 : arg24.IsWhole) (arg25 : Memref sig .tc .vmem S16640x128 .f32) (harg25 : arg25.IsWhole)
  (arg26 : Memref sig .tc .vmem S16640x128 .f32) (harg26 : arg26.IsWhole)
    (B : Blk F) (Y : Outs F) (y19 y20 : Vec F S1280x128 .f32) (f15 : Buf (Elt F) (arg15.view.loc (c : Thread nD τ))) (f16 : Buf (Elt F) (arg16.view.loc (c : Thread nD τ)))
    (W : Waits sig Unit) (K : PUnit → sProp 𝕄) (h1 :  first i = 1#1) (h2 : ¬ k0_cond2 i = 1#1) :
    iprop((arg2.view.loc (c : Thread nD τ) ↦[arg2.view.set]{fullShare} arg2.view.rep B.x2) ∗ (arg3.view.loc (c : Thread nD τ) ↦[arg3.view.set]{fullShare} arg3.view.rep B.x3) ∗ (arg4.view.loc (c : Thread nD τ) ↦[arg4.view.set]{fullShare} arg4.view.rep B.x4) ∗ (arg5.view.loc (c : Thread nD τ) ↦[arg5.view.set]{fullShare} arg5.view.rep B.x5) ∗ (arg6.view.loc (c : Thread nD τ) ↦[arg6.view.set]{fullShare} arg6.view.rep B.x6) ∗ (arg7.view.loc (c : Thread nD τ) ↦[arg7.view.set]{fullShare} arg7.view.rep B.x7) ∗ (arg8.view.loc (c : Thread nD τ) ↦[arg8.view.set]{fullShare} arg8.view.rep B.x8) ∗ (arg9.view.loc (c : Thread nD τ) ↦[arg9.view.set]{fullShare} arg9.view.rep B.x9) ∗ (arg10.view.loc (c : Thread nD τ) ↦[arg10.view.set]{fullShare} arg10.view.rep B.x10) ∗ (arg11.view.loc (c : Thread nD τ) ↦[arg11.view.set]{fullShare} arg11.view.rep B.x11) ∗ (arg12.view.loc (c : Thread nD τ) ↦[arg12.view.set]{fullShare} arg12.view.rep B.x12) ∗ (arg13.view.loc (c : Thread nD τ) ↦[arg13.view.set]{fullShare} arg13.view.rep B.x13) ∗ (arg14.view.loc (c : Thread nD τ) ↦[arg14.view.set]{fullShare} arg14.view.rep Y.dq) ∗ (arg17.view.loc (c : Thread nD τ) ↦[arg17.view.set]{fullShare} arg17.view.rep Y.ds) ∗ (arg25.view.loc (c : Thread nD τ) ↦[arg25.view.set]{fullShare} arg25.view.rep Y.ak) ∗ (arg26.view.loc (c : Thread nD τ) ↦[arg26.view.set]{fullShare} arg26.view.rep Y.av) ∗ (arg19.view.loc (c : Thread nD τ) ↦[arg19.view.set]{fullShare} arg19.view.rep y19) ∗ (arg20.view.loc (c : Thread nD τ) ↦[arg20.view.set]{fullShare} arg20.view.rep y20) ∗ (arg15.view.loc (c : Thread nD τ) ↦{fullShare} f15) ∗ (arg16.view.loc (c : Thread nD τ) ↦{fullShare} f16)
        ∗ semVal ((c : Thread nD τ), SemLoc.dma 28) 0 ∗ semVal ((c : Thread nD τ), SemLoc.dma 29) 0 ∗ owes (c : Thread nD τ) 0 W
        ∗ (iprop((arg2.view.loc (c : Thread nD τ) ↦[arg2.view.set]{fullShare} arg2.view.rep B.x2) ∗ (arg3.view.loc (c : Thread nD τ) ↦[arg3.view.set]{fullShare} arg3.view.rep B.x3) ∗ (arg4.view.loc (c : Thread nD τ) ↦[arg4.view.set]{fullShare} arg4.view.rep B.x4) ∗ (arg5.view.loc (c : Thread nD τ) ↦[arg5.view.set]{fullShare} arg5.view.rep B.x5) ∗ (arg6.view.loc (c : Thread nD τ) ↦[arg6.view.set]{fullShare} arg6.view.rep B.x6) ∗ (arg7.view.loc (c : Thread nD τ) ↦[arg7.view.set]{fullShare} arg7.view.rep B.x7) ∗ (arg8.view.loc (c : Thread nD τ) ↦[arg8.view.set]{fullShare} arg8.view.rep B.x8) ∗ (arg9.view.loc (c : Thread nD τ) ↦[arg9.view.set]{fullShare} arg9.view.rep B.x9) ∗ (arg10.view.loc (c : Thread nD τ) ↦[arg10.view.set]{fullShare} arg10.view.rep B.x10) ∗ (arg11.view.loc (c : Thread nD τ) ↦[arg11.view.set]{fullShare} arg11.view.rep B.x11) ∗ (arg12.view.loc (c : Thread nD τ) ↦[arg12.view.set]{fullShare} arg12.view.rep B.x12) ∗ (arg13.view.loc (c : Thread nD τ) ↦[arg13.view.set]{fullShare} arg13.view.rep B.x13) ∗ (arg14.view.loc (c : Thread nD τ) ↦[arg14.view.set]{fullShare} arg14.view.rep (point B i Y).dq) ∗ (arg17.view.loc (c : Thread nD τ) ↦[arg17.view.set]{fullShare} arg17.view.rep (point B i Y).ds) ∗ (arg25.view.loc (c : Thread nD τ) ↦[arg25.view.set]{fullShare} arg25.view.rep (point B i Y).ak) ∗ (arg26.view.loc (c : Thread nD τ) ↦[arg26.view.set]{fullShare} arg26.view.rep (point B i Y).av) ∗ (arg19.view.loc (c : Thread nD τ) ↦[arg19.view.set]{fullShare} arg19.view.rep (ins B).k) ∗ (arg20.view.loc (c : Thread nD τ) ↦[arg20.view.set]{fullShare} arg20.view.rep (ins B).v)
            ∗ (arg15.view.loc (c : Thread nD τ) ↦{fullShare} f15) ∗ (arg16.view.loc (c : Thread nD τ) ↦{fullShare} f16)
            ∗ semVal ((c : Thread nD τ), SemLoc.dma 28) 0 ∗ semVal ((c : Thread nD τ), SemLoc.dma 29) 0 ∗ (∃ W', owes (c : Thread nD τ) 0 W')) -∗ K ⟨⟩))
      ⊢ wp Idealize.ShloMosaic.frame (wpE (defs₀ (F := F)) Variants.none (c : Thread nD τ) none) Set.univ
          (cc0_attn_a_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 cc0_scratch9) K := by
  have hp : point B i Y = tiles (ins B) i ⟨Y.dq, k0_pay61, k0_pay59, k0_pay60⟩ k0_t1_loop.trips := by
    unfold point start; rw [if_pos h1]
  rw [hp]
  simp only [cc0_attn_a_bwd_eq_skeleton]; unfold cc0_attn_a_bwd_skel
  iintro ⟨H2, H3, H4, H5, H6, H7, H8, H9, H10, H11, H12, H13, H14, H17, H25, H26, H19, H20, H15, H16, Hs0, Hs1, HW, Hk⟩
  sl_exec
  ihave H19 := (held_of_read c arg19 _ ((ins B).k)) $$ [H19]
  · isplitl [H19]; · iexact H19
    ipureintro
    sl_unfold_words
    simp only [read_writes_held, View.writes_nil, View.read_rep, readAt_128, readAt_1024, read_unset]
    rfl
  ihave H20 := (held_of_read c arg20 _ ((ins B).v)) $$ [H20]
  · isplitl [H20]; · iexact H20
    ipureintro
    sl_unfold_words
    simp only [read_writes_held, View.writes_nil, View.read_rep, readAt_128, readAt_1024, read_unset]
    rfl
  ihave H17 := (held_of_read c arg17 _ (k0_pay61)) $$ [H17]
  · isplitl [H17]; · iexact H17
    ipureintro
    sl_unfold_words
    simp only [read_writes_held, View.writes_nil, View.read_rep, readAt_128, readAt_1024, read_unset]
    exact put_all _ _ _ (by decide)
  ihave H25 := (held_of_read c arg25 _ (k0_pay59)) $$ [H25]
  · isplitl [H25]; · iexact H25
    ipureintro
    sl_unfold_words
    simp only [read_writes_held, View.writes_nil, View.read_rep, readAt_128, readAt_1024, read_unset]
    exact put_all _ _ _ (by decide)
  ihave H26 := (held_of_read c arg26 _ (k0_pay60)) $$ [H26]
  · isplitl [H26]; · iexact H26
    ipureintro
    sl_unfold_words
    simp only [read_writes_held, View.writes_nil, View.read_rep, readAt_128, readAt_1024, read_unset]
    exact put_all _ _ _ (by decide)
  iapply (Scf.wp_for_bind Idealize.ShloMosaic.frame (wpE defs₀ Variants.none (c : Thread nD τ) none) Set.univ _ _ _ _ _ _
    (fun n _ => Held c arg2 arg9 arg11 arg12 arg13 arg19 arg20 arg14 arg17 arg25 arg26 (ins B) (tiles (ins B) i (⟨Y.dq, k0_pay61, k0_pay59, k0_pay60⟩) n))
    (loop Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 cc0_scratch9 _ _ _ (ins B) (⟨Y.dq, k0_pay61, k0_pay59, k0_pay60⟩) (readAt_held _ _ _)).step) $$ [H2 H9 H11 H12 H13 H19 H20 H14 H17 H25 H26]
  · isplitl [H2]; · iexact H2
    isplitl [H9]; · iexact H9
    isplitl [H11]; · iexact H11
    isplitl [H12]; · iexact H12
    isplitl [H13]; · iexact H13
    isplitl [H19]; · iexact H19
    isplitl [H20]; · iexact H20
    isplitl [H14]; · iexact H14
    isplitl [H17]; · iexact H17
    isplitl [H25]; · iexact H25
    iexact H26
  iintro %_ ⟨H2, H9, H11, H12, H13, H19, H20, H14, H17, H25, H26⟩
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H17]; · iexact H17
  isplitl [H25]; · iexact H25
  isplitl [H26]; · iexact H26
  isplitl [H19]; · iexact H19
  isplitl [H20]; · iexact H20
  isplitl [H15]; · iexact H15
  isplitl [H16]; · iexact H16
  isplitl [Hs0]; · iexact Hs0
  isplitl [Hs1]; · iexact Hs1
  iexists _; iexact HW

end Cert.KernelIdeal.Attn
-- ==== Proof.Body_mid.lean ====
/- The attention-gradient kernel's body at one grid point, run once: the buffers it is given end at the arrays
   `Attn.point` makes of the blocks the point reads and of what the accumulators held, and at a batch's last point the
   two accumulators' middle rows stand in the results left in HBM. -/
module

public import proofs.«01_k».proof.Proof.Point
public import proofs.«01_k».proof.Proof.Gen.KernelIdeal.Launch
public import proofs.«01_k».proof.Proof.Gen.KernelIdeal.Points
public import Idealize.ShloMosaic.Lib.Pipeline.TableIdle
public import Idealize.ShloMosaic.Lib.Pipeline.FrameValue
public import Idealize.ShloMosaic.Lib.WordCmp

@[expose] public section

set_option maxRecDepth 8192

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

set_option maxHeartbeats 8000000 in
set_option backward.isDefEq.respectTransparency.types false in
theorem body_mid (c : Dev nD) (i : grid0.Coords)
  (arg2 : Memref sig .tc .vmem S1024x512 .bf16) (harg2 : arg2.IsWhole) (arg3 : Memref sig .tc .vmem S128x128 .bf16) (harg3 : arg3.IsWhole) (arg4 : Memref sig .tc .vmem S1024x128 .bf16) (harg4 : arg4.IsWhole)
  (arg5 : Memref sig .tc .vmem S128x128 .bf16) (harg5 : arg5.IsWhole) (arg6 : Memref sig .tc .vmem S128x128 .bf16) (harg6 : arg6.IsWhole) (arg7 : Memref sig .tc .vmem S1024x128 .bf16) (harg7 : arg7.IsWhole)
  (arg8 : Memref sig .tc .vmem S128x128 .bf16) (harg8 : arg8.IsWhole) (arg9 : Memref sig .tc .vmem S1152x1024 .f32) (harg9 : arg9.IsWhole) (arg10 : Memref sig .tc .vmem S8x1024 .f32) (harg10 : arg10.IsWhole)
  (arg11 : Memref sig .tc .vmem S1024x512 .bf16) (harg11 : arg11.IsWhole) (arg12 : Memref sig .tc .vmem S1024x512 .bf16) (harg12 : arg12.IsWhole) (arg13 : Memref sig .tc .vmem S1024x512 .f32) (harg13 : arg13.IsWhole)
  (arg14 : Memref sig .tc .vmem S1024x512 .bf16) (harg14 : arg14.IsWhole) (arg15 : Memref sig .tc .hbm S2x16384x128 .f32) (harg15 : arg15.IsWhole) (arg16 : Memref sig .tc .hbm S2x16384x128 .f32) (harg16 : arg16.IsWhole)
  (arg17 : Memref sig .tc .vmem S8x128 .f32) (harg17 : arg17.IsWhole) (arg18 : Memref sig .tc .vmem S4x8x128 .f32) (harg18 : arg18.IsWhole) (arg19 : Memref sig .tc .vmem S1280x128 .f32) (harg19 : arg19.IsWhole)
  (arg20 : Memref sig .tc .vmem S1280x128 .f32) (harg20 : arg20.IsWhole) (arg21 : Memref sig .tc .vmem S4x8x128 .f32) (harg21 : arg21.IsWhole) (arg22 : Memref sig .tc .vmem S4x8x128 .f32) (harg22 : arg22.IsWhole)
  (arg23 : Memref sig .tc .vmem S4x8x128 .f32) (harg23 : arg23.IsWhole) (arg24 : Memref sig .tc .vmem S4x8x128 .f32) (harg24 : arg24.IsWhole) (arg25 : Memref sig .tc .vmem S16640x128 .f32) (harg25 : arg25.IsWhole)
  (arg26 : Memref sig .tc .vmem S16640x128 .f32) (harg26 : arg26.IsWhole)
    (B : Blk F) (Y : Outs F) (y19 y20 : Vec F S1280x128 .f32) (f15 : Buf (Elt F) (arg15.view.loc (c : Thread nD τ))) (f16 : Buf (Elt F) (arg16.view.loc (c : Thread nD τ)))
    (W : Waits sig Unit) (K : PUnit → sProp 𝕄) (h1 : ¬ first i = 1#1) (h2 : ¬ k0_cond2 i = 1#1) :
    iprop((arg2.view.loc (c : Thread nD τ) ↦[arg2.view.set]{fullShare} arg2.view.rep B.x2) ∗ (arg3.view.loc (c : Thread nD τ) ↦[arg3.view.set]{fullShare} arg3.view.rep B.x3) ∗ (arg4.view.loc (c : Thread nD τ) ↦[arg4.view.set]{fullShare} arg4.view.rep B.x4) ∗ (arg5.view.loc (c : Thread nD τ) ↦[arg5.view.set]{fullShare} arg5.view.rep B.x5) ∗ (arg6.view.loc (c : Thread nD τ) ↦[arg6.view.set]{fullShare} arg6.view.rep B.x6) ∗ (arg7.view.loc (c : Thread nD τ) ↦[arg7.view.set]{fullShare} arg7.view.rep B.x7) ∗ (arg8.view.loc (c : Thread nD τ) ↦[arg8.view.set]{fullShare} arg8.view.rep B.x8) ∗ (arg9.view.loc (c : Thread nD τ) ↦[arg9.view.set]{fullShare} arg9.view.rep B.x9) ∗ (arg10.view.loc (c : Thread nD τ) ↦[arg10.view.set]{fullShare} arg10.view.rep B.x10) ∗ (arg11.view.loc (c : Thread nD τ) ↦[arg11.view.set]{fullShare} arg11.view.rep B.x11) ∗ (arg12.view.loc (c : Thread nD τ) ↦[arg12.view.set]{fullShare} arg12.view.rep B.x12) ∗ (arg13.view.loc (c : Thread nD τ) ↦[arg13.view.set]{fullShare} arg13.view.rep B.x13) ∗ (arg14.view.loc (c : Thread nD τ) ↦[arg14.view.set]{fullShare} arg14.view.rep Y.dq) ∗ (arg17.view.loc (c : Thread nD τ) ↦[arg17.view.set]{fullShare} arg17.view.rep Y.ds) ∗ (arg25.view.loc (c : Thread nD τ) ↦[arg25.view.set]{fullShare} arg25.view.rep Y.ak) ∗ (arg26.view.loc (c : Thread nD τ) ↦[arg26.view.set]{fullShare} arg26.view.rep Y.av) ∗ (arg19.view.loc (c : Thread nD τ) ↦[arg19.view.set]{fullShare} arg19.view.rep y19) ∗ (arg20.view.loc (c : Thread nD τ) ↦[arg20.view.set]{fullShare} arg20.view.rep y20) ∗ (arg15.view.loc (c : Thread nD τ) ↦{fullShare} f15) ∗ (arg16.view.loc (c : Thread nD τ) ↦{fullShare} f16)
        ∗ semVal ((c : Thread nD τ), SemLoc.dma 28) 0 ∗ semVal ((c : Thread nD τ), SemLoc.dma 29) 0 ∗ owes (c : Thread nD τ) 0 W
        ∗ (iprop((arg2.view.loc (c : Thread nD τ) ↦[arg2.view.set]{fullShare} arg2.view.rep B.x2) ∗ (arg3.view.loc (c : Thread nD τ) ↦[arg3.view.set]{fullShare} arg3.view.rep B.x3) ∗ (arg4.view.loc (c : Thread nD τ) ↦[arg4.view.set]{fullShare} arg4.view.rep B.x4) ∗ (arg5.view.loc (c : Thread nD τ) ↦[arg5.view.set]{fullShare} arg5.view.rep B.x5) ∗ (arg6.view.loc (c : Thread nD τ) ↦[arg6.view.set]{fullShare} arg6.view.rep B.x6) ∗ (arg7.view.loc (c : Thread nD τ) ↦[arg7.view.set]{fullShare} arg7.view.rep B.x7) ∗ (arg8.view.loc (c : Thread nD τ) ↦[arg8.view.set]{fullShare} arg8.view.rep B.x8) ∗ (arg9.view.loc (c : Thread nD τ) ↦[arg9.view.set]{fullShare} arg9.view.rep B.x9) ∗ (arg10.view.loc (c : Thread nD τ) ↦[arg10.view.set]{fullShare} arg10.view.rep B.x10) ∗ (arg11.view.loc (c : Thread nD τ) ↦[arg11.view.set]{fullShare} arg11.view.rep B.x11) ∗ (arg12.view.loc (c : Thread nD τ) ↦[arg12.view.set]{fullShare} arg12.view.rep B.x12) ∗ (arg13.view.loc (c : Thread nD τ) ↦[arg13.view.set]{fullShare} arg13.view.rep B.x13) ∗ (arg14.view.loc (c : Thread nD τ) ↦[arg14.view.set]{fullShare} arg14.view.rep (point B i Y).dq) ∗ (arg17.view.loc (c : Thread nD τ) ↦[arg17.view.set]{fullShare} arg17.view.rep (point B i Y).ds) ∗ (arg25.view.loc (c : Thread nD τ) ↦[arg25.view.set]{fullShare} arg25.view.rep (point B i Y).ak) ∗ (arg26.view.loc (c : Thread nD τ) ↦[arg26.view.set]{fullShare} arg26.view.rep (point B i Y).av) ∗ (arg19.view.loc (c : Thread nD τ) ↦[arg19.view.set]{fullShare} arg19.view.rep (ins B).k) ∗ (arg20.view.loc (c : Thread nD τ) ↦[arg20.view.set]{fullShare} arg20.view.rep (ins B).v)
            ∗ (arg15.view.loc (c : Thread nD τ) ↦{fullShare} f15) ∗ (arg16.view.loc (c : Thread nD τ) ↦{fullShare} f16)
            ∗ semVal ((c : Thread nD τ), SemLoc.dma 28) 0 ∗ semVal ((c : Thread nD τ), SemLoc.dma 29) 0 ∗ (∃ W', owes (c : Thread nD τ) 0 W')) -∗ K ⟨⟩))
      ⊢ wp Idealize.ShloMosaic.frame (wpE (defs₀ (F := F)) Variants.none (c : Thread nD τ) none) Set.univ
          (cc0_attn_a_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 cc0_scratch9) K := by
  have hp : point B i Y = tiles (ins B) i Y k0_t1_loop.trips := by
    unfold point start; rw [if_neg h1]
  rw [hp]
  simp only [cc0_attn_a_bwd_eq_skeleton]; unfold cc0_attn_a_bwd_skel
  iintro ⟨H2, H3, H4, H5, H6, H7, H8, H9, H10, H11, H12, H13, H14, H17, H25, H26, H19, H20, H15, H16, Hs0, Hs1, HW, Hk⟩
  sl_exec
  ihave H19 := (held_of_read c arg19 _ ((ins B).k)) $$ [H19]
  · isplitl [H19]; · iexact H19
    ipureintro
    sl_unfold_words
    simp only [read_writes_held, View.writes_nil, View.read_rep, readAt_128, readAt_1024, read_unset]
    rfl
  ihave H20 := (held_of_read c arg20 _ ((ins B).v)) $$ [H20]
  · isplitl [H20]; · iexact H20
    ipureintro
    sl_unfold_words
    simp only [read_writes_held, View.writes_nil, View.read_rep, readAt_128, readAt_1024, read_unset]
    rfl
  iapply (Scf.wp_for_bind Idealize.ShloMosaic.frame (wpE defs₀ Variants.none (c : Thread nD τ) none) Set.univ _ _ _ _ _ _
    (fun n _ => Held c arg2 arg9 arg11 arg12 arg13 arg19 arg20 arg14 arg17 arg25 arg26 (ins B) (tiles (ins B) i (Y) n))
    (loop Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 cc0_scratch9 _ _ _ (ins B) (Y) (readAt_held _ _ _)).step) $$ [H2 H9 H11 H12 H13 H19 H20 H14 H17 H25 H26]
  · isplitl [H2]; · iexact H2
    isplitl [H9]; · iexact H9
    isplitl [H11]; · iexact H11
    isplitl [H12]; · iexact H12
    isplitl [H13]; · iexact H13
    isplitl [H19]; · iexact H19
    isplitl [H20]; · iexact H20
    isplitl [H14]; · iexact H14
    isplitl [H17]; · iexact H17
    isplitl [H25]; · iexact H25
    iexact H26
  iintro %_ ⟨H2, H9, H11, H12, H13, H19, H20, H14, H17, H25, H26⟩
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H17]; · iexact H17
  isplitl [H25]; · iexact H25
  isplitl [H26]; · iexact H26
  isplitl [H19]; · iexact H19
  isplitl [H20]; · iexact H20
  isplitl [H15]; · iexact H15
  isplitl [H16]; · iexact H16
  isplitl [Hs0]; · iexact Hs0
  isplitl [Hs1]; · iexact Hs1
  iexists _; iexact HW

end Cert.KernelIdeal.Attn
-- ==== Proof.Body_last.lean ====
/- The attention-gradient kernel's body at one grid point, run once: the buffers it is given end at the arrays
   `Attn.point` makes of the blocks the point reads and of what the accumulators held, and at a batch's last point the
   two accumulators' middle rows stand in the results left in HBM. -/
module

public import proofs.«01_k».proof.Proof.Point
public import proofs.«01_k».proof.Proof.Gen.KernelIdeal.Launch
public import proofs.«01_k».proof.Proof.Gen.KernelIdeal.Points
public import Idealize.ShloMosaic.Lib.Pipeline.TableIdle
public import Idealize.ShloMosaic.Lib.Pipeline.FrameValue
public import Idealize.ShloMosaic.Lib.WordCmp

@[expose] public section

set_option maxRecDepth 8192

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

set_option maxHeartbeats 8000000 in
set_option backward.isDefEq.respectTransparency.types false in
theorem body_last (c : Dev nD) (i : grid0.Coords)
  (arg2 : Memref sig .tc .vmem S1024x512 .bf16) (harg2 : arg2.IsWhole) (arg3 : Memref sig .tc .vmem S128x128 .bf16) (harg3 : arg3.IsWhole) (arg4 : Memref sig .tc .vmem S1024x128 .bf16) (harg4 : arg4.IsWhole)
  (arg5 : Memref sig .tc .vmem S128x128 .bf16) (harg5 : arg5.IsWhole) (arg6 : Memref sig .tc .vmem S128x128 .bf16) (harg6 : arg6.IsWhole) (arg7 : Memref sig .tc .vmem S1024x128 .bf16) (harg7 : arg7.IsWhole)
  (arg8 : Memref sig .tc .vmem S128x128 .bf16) (harg8 : arg8.IsWhole) (arg9 : Memref sig .tc .vmem S1152x1024 .f32) (harg9 : arg9.IsWhole) (arg10 : Memref sig .tc .vmem S8x1024 .f32) (harg10 : arg10.IsWhole)
  (arg11 : Memref sig .tc .vmem S1024x512 .bf16) (harg11 : arg11.IsWhole) (arg12 : Memref sig .tc .vmem S1024x512 .bf16) (harg12 : arg12.IsWhole) (arg13 : Memref sig .tc .vmem S1024x512 .f32) (harg13 : arg13.IsWhole)
  (arg14 : Memref sig .tc .vmem S1024x512 .bf16) (harg14 : arg14.IsWhole) (arg15 : Memref sig .tc .hbm S2x16384x128 .f32) (harg15 : arg15.IsWhole) (arg16 : Memref sig .tc .hbm S2x16384x128 .f32) (harg16 : arg16.IsWhole)
  (arg17 : Memref sig .tc .vmem S8x128 .f32) (harg17 : arg17.IsWhole) (arg18 : Memref sig .tc .vmem S4x8x128 .f32) (harg18 : arg18.IsWhole) (arg19 : Memref sig .tc .vmem S1280x128 .f32) (harg19 : arg19.IsWhole)
  (arg20 : Memref sig .tc .vmem S1280x128 .f32) (harg20 : arg20.IsWhole) (arg21 : Memref sig .tc .vmem S4x8x128 .f32) (harg21 : arg21.IsWhole) (arg22 : Memref sig .tc .vmem S4x8x128 .f32) (harg22 : arg22.IsWhole)
  (arg23 : Memref sig .tc .vmem S4x8x128 .f32) (harg23 : arg23.IsWhole) (arg24 : Memref sig .tc .vmem S4x8x128 .f32) (harg24 : arg24.IsWhole) (arg25 : Memref sig .tc .vmem S16640x128 .f32) (harg25 : arg25.IsWhole)
  (arg26 : Memref sig .tc .vmem S16640x128 .f32) (harg26 : arg26.IsWhole)
    (B : Blk F) (Y : Outs F) (y19 y20 : Vec F S1280x128 .f32) (f15 : Buf (Elt F) (arg15.view.loc (c : Thread nD τ))) (f16 : Buf (Elt F) (arg16.view.loc (c : Thread nD τ)))
    (W : Waits sig Unit) (K : PUnit → sProp 𝕄) (h1 : ¬ first i = 1#1) (h2 :  k0_cond2 i = 1#1) :
    iprop((arg2.view.loc (c : Thread nD τ) ↦[arg2.view.set]{fullShare} arg2.view.rep B.x2) ∗ (arg3.view.loc (c : Thread nD τ) ↦[arg3.view.set]{fullShare} arg3.view.rep B.x3) ∗ (arg4.view.loc (c : Thread nD τ) ↦[arg4.view.set]{fullShare} arg4.view.rep B.x4) ∗ (arg5.view.loc (c : Thread nD τ) ↦[arg5.view.set]{fullShare} arg5.view.rep B.x5) ∗ (arg6.view.loc (c : Thread nD τ) ↦[arg6.view.set]{fullShare} arg6.view.rep B.x6) ∗ (arg7.view.loc (c : Thread nD τ) ↦[arg7.view.set]{fullShare} arg7.view.rep B.x7) ∗ (arg8.view.loc (c : Thread nD τ) ↦[arg8.view.set]{fullShare} arg8.view.rep B.x8) ∗ (arg9.view.loc (c : Thread nD τ) ↦[arg9.view.set]{fullShare} arg9.view.rep B.x9) ∗ (arg10.view.loc (c : Thread nD τ) ↦[arg10.view.set]{fullShare} arg10.view.rep B.x10) ∗ (arg11.view.loc (c : Thread nD τ) ↦[arg11.view.set]{fullShare} arg11.view.rep B.x11) ∗ (arg12.view.loc (c : Thread nD τ) ↦[arg12.view.set]{fullShare} arg12.view.rep B.x12) ∗ (arg13.view.loc (c : Thread nD τ) ↦[arg13.view.set]{fullShare} arg13.view.rep B.x13) ∗ (arg14.view.loc (c : Thread nD τ) ↦[arg14.view.set]{fullShare} arg14.view.rep Y.dq) ∗ (arg17.view.loc (c : Thread nD τ) ↦[arg17.view.set]{fullShare} arg17.view.rep Y.ds) ∗ (arg25.view.loc (c : Thread nD τ) ↦[arg25.view.set]{fullShare} arg25.view.rep Y.ak) ∗ (arg26.view.loc (c : Thread nD τ) ↦[arg26.view.set]{fullShare} arg26.view.rep Y.av) ∗ (arg19.view.loc (c : Thread nD τ) ↦[arg19.view.set]{fullShare} arg19.view.rep y19) ∗ (arg20.view.loc (c : Thread nD τ) ↦[arg20.view.set]{fullShare} arg20.view.rep y20) ∗ (arg15.view.loc (c : Thread nD τ) ↦{fullShare} f15) ∗ (arg16.view.loc (c : Thread nD τ) ↦{fullShare} f16)
        ∗ semVal ((c : Thread nD τ), SemLoc.dma 28) 0 ∗ semVal ((c : Thread nD τ), SemLoc.dma 29) 0 ∗ owes (c : Thread nD τ) 0 W
        ∗ (iprop((arg2.view.loc (c : Thread nD τ) ↦[arg2.view.set]{fullShare} arg2.view.rep B.x2) ∗ (arg3.view.loc (c : Thread nD τ) ↦[arg3.view.set]{fullShare} arg3.view.rep B.x3) ∗ (arg4.view.loc (c : Thread nD τ) ↦[arg4.view.set]{fullShare} arg4.view.rep B.x4) ∗ (arg5.view.loc (c : Thread nD τ) ↦[arg5.view.set]{fullShare} arg5.view.rep B.x5) ∗ (arg6.view.loc (c : Thread nD τ) ↦[arg6.view.set]{fullShare} arg6.view.rep B.x6) ∗ (arg7.view.loc (c : Thread nD τ) ↦[arg7.view.set]{fullShare} arg7.view.rep B.x7) ∗ (arg8.view.loc (c : Thread nD τ) ↦[arg8.view.set]{fullShare} arg8.view.rep B.x8) ∗ (arg9.view.loc (c : Thread nD τ) ↦[arg9.view.set]{fullShare} arg9.view.rep B.x9) ∗ (arg10.view.loc (c : Thread nD τ) ↦[arg10.view.set]{fullShare} arg10.view.rep B.x10) ∗ (arg11.view.loc (c : Thread nD τ) ↦[arg11.view.set]{fullShare} arg11.view.rep B.x11) ∗ (arg12.view.loc (c : Thread nD τ) ↦[arg12.view.set]{fullShare} arg12.view.rep B.x12) ∗ (arg13.view.loc (c : Thread nD τ) ↦[arg13.view.set]{fullShare} arg13.view.rep B.x13) ∗ (arg14.view.loc (c : Thread nD τ) ↦[arg14.view.set]{fullShare} arg14.view.rep (point B i Y).dq) ∗ (arg17.view.loc (c : Thread nD τ) ↦[arg17.view.set]{fullShare} arg17.view.rep (point B i Y).ds) ∗ (arg25.view.loc (c : Thread nD τ) ↦[arg25.view.set]{fullShare} arg25.view.rep (point B i Y).ak) ∗ (arg26.view.loc (c : Thread nD τ) ↦[arg26.view.set]{fullShare} arg26.view.rep (point B i Y).av) ∗ (arg19.view.loc (c : Thread nD τ) ↦[arg19.view.set]{fullShare} arg19.view.rep (ins B).k) ∗ (arg20.view.loc (c : Thread nD τ) ↦[arg20.view.set]{fullShare} arg20.view.rep (ins B).v)
            ∗ (arg15.view.loc (c : Thread nD τ) ↦{fullShare} (flushed c arg15 i h2 f15 (point B i Y).ak)) ∗ (arg16.view.loc (c : Thread nD τ) ↦{fullShare} (flushed c arg16 i h2 f16 (point B i Y).av))
            ∗ semVal ((c : Thread nD τ), SemLoc.dma 28) 0 ∗ semVal ((c : Thread nD τ), SemLoc.dma 29) 0 ∗ (∃ W', owes (c : Thread nD τ) 0 W')) -∗ K ⟨⟩))
      ⊢ wp Idealize.ShloMosaic.frame (wpE (defs₀ (F := F)) Variants.none (c : Thread nD τ) none) Set.univ
          (cc0_attn_a_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 cc0_scratch9) K := by
  have hp : point B i Y = tiles (ins B) i Y k0_t1_loop.trips := by
    unfold point start; rw [if_neg h1]
  rw [hp]
  simp only [cc0_attn_a_bwd_eq_skeleton]; unfold cc0_attn_a_bwd_skel
  iintro ⟨H2, H3, H4, H5, H6, H7, H8, H9, H10, H11, H12, H13, H14, H17, H25, H26, H19, H20, H15, H16, Hs0, Hs1, HW, Hk⟩
  sl_exec
  ihave H19 := (held_of_read c arg19 _ ((ins B).k)) $$ [H19]
  · isplitl [H19]; · iexact H19
    ipureintro
    sl_unfold_words
    simp only [read_writes_held, View.writes_nil, View.read_rep, readAt_128, readAt_1024, read_unset]
    rfl
  ihave H20 := (held_of_read c arg20 _ ((ins B).v)) $$ [H20]
  · isplitl [H20]; · iexact H20
    ipureintro
    sl_unfold_words
    simp only [read_writes_held, View.writes_nil, View.read_rep, readAt_128, readAt_1024, read_unset]
    rfl
  iapply (Scf.wp_for_bind Idealize.ShloMosaic.frame (wpE defs₀ Variants.none (c : Thread nD τ) none) Set.univ _ _ _ _ _ _
    (fun n _ => Held c arg2 arg9 arg11 arg12 arg13 arg19 arg20 arg14 arg17 arg25 arg26 (ins B) (tiles (ins B) i (Y) n))
    (loop Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 cc0_scratch9 _ _ _ (ins B) (Y) (readAt_held _ _ _)).step) $$ [H2 H9 H11 H12 H13 H19 H20 H14 H17 H25 H26]
  · isplitl [H2]; · iexact H2
    isplitl [H9]; · iexact H9
    isplitl [H11]; · iexact H11
    isplitl [H12]; · iexact H12
    isplitl [H13]; · iexact H13
    isplitl [H19]; · iexact H19
    isplitl [H20]; · iexact H20
    isplitl [H14]; · iexact H14
    isplitl [H17]; · iexact H17
    isplitl [H25]; · iexact H25
    iexact H26
  iintro %_ ⟨H2, H9, H11, H12, H13, H19, H20, H14, H17, H25, H26⟩
  sl_exec
  sl_step
  ihave H15 := (held_of_eq c arg15 _ (flushed c arg15 i h2 f15 (tiles (ins B) i Y k0_t1_loop.trips).ak)) $$ [H15]
  · isplitl [H15]; · iexact H15
    ipureintro
    sl_unfold_words
    simp only [Scf.Loop.trips]
    exact congrArg (setPart c arg15 i h2 f15) (readAt_held arg25.view _ inb_S16640x128_S16384x128_128_0)
  ihave H16 := (held_of_eq c arg16 _ (flushed c arg16 i h2 f16 (tiles (ins B) i Y k0_t1_loop.trips).av)) $$ [H16]
  · isplitl [H16]; · iexact H16
    ipureintro
    sl_unfold_words
    simp only [Scf.Loop.trips]
    exact congrArg (setPart c arg16 i h2 f16) (readAt_held arg26.view _ inb_S16640x128_S16384x128_128_0)
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H17]; · iexact H17
  isplitl [H25]; · iexact H25
  isplitl [H26]; · iexact H26
  isplitl [H19]; · iexact H19
  isplitl [H20]; · iexact H20
  isplitl [H15]; · iexact H15
  isplitl [H16]; · iexact H16
  isplitl [Hs0]; · iexact Hs0
  isplitl [Hs1]; · iexact Hs1
  iexists _; iexact HW

end Cert.KernelIdeal.Attn
-- ==== Proof.State.lean ====
/- What the attention-gradient kernel's buffers hold between grid points: the state after each point, by recursion over
   the points, and that a point's result depends only on what the kernel keeps from the point before. -/
module

public import proofs.«01_k».proof.Proof.Point
public import proofs.«01_k».proof.Proof.Gen.KernelIdeal.Frame

@[expose] public section

set_option maxRecDepth 8192

noncomputable section

namespace Cert.KernelIdeal.Attn

open Idealize.ShloMosaic Idealize.ShloMosaic.TcCoe Idealize.ShloMosaic.Tactic
open Cert.KernelIdeal.Gen

variable {F : FTy → Type} [FloatOps F]

/-! ## The offsets in closed form -/

theorem trips_eq : k0_t1_loop.trips = 8 := by decide +kernel
theorem off1_eq : ∀ k : Fin k0_t1_loop.trips, k0_off1 k = ![128 * k.val, 0] := by decide +kernel
theorem off2_eq : ∀ k : Fin k0_t1_loop.trips, k0_off2 k = ![128 * k.val, 0] := by decide +kernel
theorem off3_eq : ∀ k : Fin k0_t1_loop.trips, k0_off3 k = ![128 * k.val, 128] := by decide +kernel
theorem off4_eq : ∀ k : Fin k0_t1_loop.trips, k0_off4 k = ![128 * k.val, 256] := by decide +kernel
theorem off5_eq : ∀ k : Fin k0_t1_loop.trips, k0_off5 k = ![128 * k.val, 384] := by decide +kernel

/-- Which of the bias table's three variants a tile reads: at a batch's first tile, at its last, or between. -/
def variant (i : grid0.Coords) (k : Fin k0_t1_loop.trips) : ℕ :=
  if (i 1).val = 0 ∧ k.val = 0 then 1 else if (i 1).val = 15 ∧ k.val = 7 then 2 else 0

theorem off6_eq : ∀ (i : grid0.Coords) (k : Fin k0_t1_loop.trips), k0_off6 i k = ![384 * variant i k, 0] := by decide +kernel
theorem off7_eq : ∀ (i : grid0.Coords) (k : Fin k0_t1_loop.trips), k0_off7 i k = ![1024 * (i 1).val + 128 * k.val, 0] := by decide +kernel

theorem first_iff : ∀ i : grid0.Coords, first i = 1#1 ↔ (i 1).val = 0 := by decide +kernel
theorem last_iff : ∀ i : grid0.Coords, k0_cond2 i = 1#1 ↔ (i 1).val = 15 := by decide +kernel
theorem coords_zero : ∀ t : Fin grid0.N, (grid0.coords t 0).val = t.val / 16 := by decide +kernel
theorem coords_one : ∀ t : Fin grid0.N, (grid0.coords t 1).val = t.val % 16 := by decide +kernel

/-! ## The query gradient's block after a point does not depend on what it held -/

theorem fin2_all {p : Fin 2 → Prop} (h0 : p 0) (h1 : p 1) : ∀ a, p a := fun a => by
  match a with
  | 0 => exact h0
  | 1 => exact h1

theorem dqStep_in (X : Ins F) (i : grid0.Coords) (k : Fin k0_t1_loop.trips) (y y' : Vec F S1024x512 .bf16) (j : S1024x512.Idx)
    (h : (j 0).val / 128 = k.val) : dqStep X i k y j = dqStep X i k y' j := by
  unfold dqStep
  simp only [VecWindow.put]
  have hj : (j 1).val < 512 := (j 1).isLt
  split_ifs with h5 h4 h3 h2
  · rfl
  · rfl
  · rfl
  · rfl
  · exfalso
    have e : ∀ o : ℕ, (o ≤ (j 1).val ∧ (j 1).val < o + 128) → ∀ a : Fin 2, (![128 * k.val, o] : Fin 2 → ℕ) a ≤ (j a).val ∧ (j a).val < (![128 * k.val, o] : Fin 2 → ℕ) a + S128x128.size a :=
      fun o ho => fin2_all ⟨by show 128 * k.val ≤ _; omega, by show _ < 128 * k.val + 128; omega⟩ ho
    rw [off5_eq] at h5; rw [off4_eq] at h4; rw [off3_eq] at h3; rw [off2_eq] at h2
    rcases Nat.lt_or_ge (j 1).val 128 with g | g
    · exact h2 (e 0 ⟨Nat.zero_le _, by omega⟩)
    rcases Nat.lt_or_ge (j 1).val 256 with g' | g'
    · exact h3 (e 128 ⟨g, by omega⟩)
    rcases Nat.lt_or_ge (j 1).val 384 with g'' | g''
    · exact h4 (e 256 ⟨g', by omega⟩)
    · exact h5 (e 384 ⟨g'', by omega⟩)

theorem dqStep_out (X : Ins F) (i : grid0.Coords) (k : Fin k0_t1_loop.trips) (y : Vec F S1024x512 .bf16) (j : S1024x512.Idx)
    (h : (j 0).val / 128 ≠ k.val) : dqStep X i k y j = y j := by
  unfold dqStep
  simp only [VecWindow.put]
  have e : ∀ o : ℕ, ¬ ∀ a : Fin 2, (![128 * k.val, o] : Fin 2 → ℕ) a ≤ (j a).val ∧ (j a).val < (![128 * k.val, o] : Fin 2 → ℕ) a + S128x128.size a := fun o ho => by
    have h0 : 128 * k.val ≤ (j 0).val ∧ (j 0).val < 128 * k.val + 128 := ho 0
    omega
  rw [dif_neg (by rw [off5_eq]; exact e _), dif_neg (by rw [off4_eq]; exact e _), dif_neg (by rw [off3_eq]; exact e _), dif_neg (by rw [off2_eq]; exact e _)]

/-- A grid point's query gradient at an element: its tile's, over any earlier contents. -/
def dqAt (X : Ins F) (i : grid0.Coords) (j : S1024x512.Idx) : Elt F .bf16 :=
  dqStep X i ⟨(j 0).val / 128, by rw [trips_eq]; have : (j 0).val < 1024 := (j 0).isLt; omega⟩ (fun _ => @Classical.arbitrary _ (Elt.nonempty (F := F) _)) j

theorem tiles_dq (X : Ins F) (i : grid0.Coords) (Y : Outs F) (n : ℕ) (hn : n ≤ k0_t1_loop.trips) (j : S1024x512.Idx) :
    (tiles X i Y n).dq j = if (j 0).val / 128 < n then dqAt X i j else Y.dq j := by
  induction n with
  | zero => rfl
  | succ n ih =>
    rw [show n + 1 = (⟨n, hn⟩ : Fin k0_t1_loop.trips).val + 1 from rfl, tiles_succ]
    show dqStep X i ⟨n, hn⟩ (tiles X i Y n).dq j = _
    by_cases h : (j 0).val / 128 = n
    · rw [if_pos (by show _ < n + 1; omega), dqAt]
      have hk : (⟨(j 0).val / 128, by rw [trips_eq]; have : (j 0).val < 1024 := (j 0).isLt; omega⟩ : Fin k0_t1_loop.trips) = ⟨n, hn⟩ := Fin.ext h
      rw [hk]
      exact dqStep_in X i _ _ _ j h
    · rw [dqStep_out X i ⟨n, hn⟩ _ j h, ih (by omega)]
      by_cases h' : (j 0).val / 128 < n
      · rw [if_pos h', if_pos (by show _ < n + 1; omega)]
      · rw [if_neg h', if_neg (by show ¬ _ < n + 1; omega)]

theorem tiles_congr (X : Ins F) (i : grid0.Coords) (Y Y' : Outs F) (hs : Y.ds = Y'.ds) (hk : Y.ak = Y'.ak) (hv : Y.av = Y'.av) (n : ℕ) :
    (tiles X i Y n).ds = (tiles X i Y' n).ds ∧ (tiles X i Y n).ak = (tiles X i Y' n).ak ∧ (tiles X i Y n).av = (tiles X i Y' n).av := by
  induction n with
  | zero => exact ⟨hs, hk, hv⟩
  | succ n ih =>
    obtain ⟨a, b, d⟩ := ih
    by_cases h : n < k0_t1_loop.trips
    · rw [show n + 1 = (⟨n, h⟩ : Fin k0_t1_loop.trips).val + 1 from rfl, tiles_succ, tiles_succ]
      refine ⟨?_, ?_, ?_⟩
      · show dsStep X _ (tiles X i Y n).ds = dsStep X _ (tiles X i Y' n).ds
        rw [a]
      · show akStep X i _ (tiles X i Y n).ak = akStep X i _ (tiles X i Y' n).ak
        rw [b]
      · show avStep X i _ (tiles X i Y n).av = avStep X i _ (tiles X i Y' n).av
        rw [d]
    · have e : ∀ Z : Outs F, tiles X i Z (n + 1) = tiles X i Z n := fun Z => dif_neg h
      rw [e, e]
      exact ⟨a, b, d⟩

theorem outs_ext {Y Y' : Outs F} (h : Y.dq = Y'.dq) (hs : Y.ds = Y'.ds) (hk : Y.ak = Y'.ak) (hv : Y.av = Y'.av) : Y = Y' := by
  cases Y; cases Y'; simp_all

/-- A point's result depends only on what the accumulators held, and at a batch's first point not even on that. -/
theorem point_congr (B : Blk F) (i : grid0.Coords) (Y Y' : Outs F) (h : ¬ first i = 1#1 → Y.ds = Y'.ds ∧ Y.ak = Y'.ak ∧ Y.av = Y'.av) :
    point B i Y = point B i Y' := by
  have hs : (start i Y).ds = (start i Y').ds ∧ (start i Y).ak = (start i Y').ak ∧ (start i Y).av = (start i Y').av := by
    unfold start
    by_cases h1 : first i = 1#1
    · rw [if_pos h1, if_pos h1]; exact ⟨rfl, rfl, rfl⟩
    · rw [if_neg h1, if_neg h1]; exact h h1
  obtain ⟨a, b, d⟩ := tiles_congr (ins B) i _ _ hs.1 hs.2.1 hs.2.2 k0_t1_loop.trips
  refine outs_ext (funext fun j => ?_) a b d
  have hj : (j 0).val / 128 < k0_t1_loop.trips := by rw [trips_eq]; have : (j 0).val < 1024 := (j 0).isLt; omega
  unfold point
  rw [tiles_dq _ _ _ _ le_rfl, tiles_dq _ _ _ _ le_rfl, if_pos hj, if_pos hj]

theorem point_dq (B : Blk F) (i : grid0.Coords) (Y : Outs F) : (point B i Y).dq = dqAt (ins B) i := funext fun j => by
  have hj : (j 0).val / 128 < k0_t1_loop.trips := by rw [trips_eq]; have : (j 0).val < 1024 := (j 0).isLt; omega
  unfold point
  rw [tiles_dq _ _ _ _ le_rfl, if_pos hj]

/-! ## The state after each point -/

variable (m : (ℓ : Loc nD τ sig) → Buf (Elt F) ℓ)

/-- The blocks point `t` reads. -/
def blk (c : Dev nD) (t : Fin cfg0.N) : Blk F where
  x2 := iblk m c 0 t
  x3 := iblk m c 1 t
  x4 := iblk m c 2 t
  x5 := iblk m c 3 t
  x6 := iblk m c 4 t
  x7 := iblk m c 5 t
  x8 := iblk m c 6 t
  x9 := iblk m c 7 t
  x10 := iblk m c 8 t
  x11 := iblk m c 9 t
  x12 := iblk m c 10 t
  x13 := iblk m c 11 t

/-- The point numbered `n`. -/
def pt (n : ℕ) : Fin cfg0.N := ⟨n % 32, Nat.mod_lt _ (by decide)⟩

theorem pt_val (t : Fin cfg0.N) : pt t.val = t := Fin.ext (Nat.mod_eq_of_lt t.isLt)

/-- What the written buffers hold after the first `n` points. -/
def St (c : Dev nD) : ℕ → Outs F
  | 0 => ⟨fun _ => @Classical.arbitrary _ (Elt.nonempty (F := F) _), k0_pay61, k0_pay59, k0_pay60⟩
  | n + 1 => point (blk m c (pt n)) (grid0.coords (pt n)) (St c n)

theorem St_succ (c : Dev nD) (t : Fin cfg0.N) : St m c (t.val + 1) = point (blk m c t) (grid0.coords t) (St m c t.val) := by
  show point (blk m c (pt t.val)) (grid0.coords (pt t.val)) (St m c t.val) = _
  rw [pt_val]

/-- The keys' gradient in HBM after the first `n` points. -/
def dkAt (c : Dev nD) : ℕ → Buf (Elt F) ((c : Thread nD τ).loc main_v144_1)
  | 0 => V m c main_v144_1
  | n + 1 => if h : k0_cond2 (grid0.coords (pt n)) = 1#1 then
      flushed c (Memref.whole main_v144_1) (grid0.coords (pt n)) h (dkAt c n) (St m c (n + 1)).ak else dkAt c n

/-- The values' gradient in HBM after the first `n` points. -/
def dvAt (c : Dev nD) : ℕ → Buf (Elt F) ((c : Thread nD τ).loc main_v144_2)
  | 0 => V m c main_v144_2
  | n + 1 => if h : k0_cond2 (grid0.coords (pt n)) = 1#1 then
      flushed c (Memref.whole main_v144_2) (grid0.coords (pt n)) h (dvAt c n) (St m c (n + 1)).av else dvAt c n

theorem dkAt_pos (c : Dev nD) (t : Fin cfg0.N) (h : k0_cond2 (grid0.coords t) = 1#1) :
    dkAt m c (t.val + 1) = flushed c (Memref.whole main_v144_1) (grid0.coords t) h (dkAt m c t.val) (St m c (t.val + 1)).ak := by
  have e : ∀ u : Fin cfg0.N, u = t → ∀ h' : k0_cond2 (grid0.coords u) = 1#1,
      flushed c (Memref.whole main_v144_1) (grid0.coords u) h' (dkAt m c t.val) (St m c (t.val + 1)).ak
        = flushed c (Memref.whole main_v144_1) (grid0.coords t) h (dkAt m c t.val) (St m c (t.val + 1)).ak := by
    intro u hu; subst hu; intro _; rfl
  show (if h : _ then _ else _) = _
  rw [dif_pos (by rw [pt_val]; exact h)]
  exact e _ (pt_val t) _

theorem dkAt_neg (c : Dev nD) (t : Fin cfg0.N) (h : ¬ k0_cond2 (grid0.coords t) = 1#1) : dkAt m c (t.val + 1) = dkAt m c t.val := by
  show (if h : _ then _ else _) = _
  rw [dif_neg (by rw [pt_val]; exact h)]

theorem dvAt_pos (c : Dev nD) (t : Fin cfg0.N) (h : k0_cond2 (grid0.coords t) = 1#1) :
    dvAt m c (t.val + 1) = flushed c (Memref.whole main_v144_2) (grid0.coords t) h (dvAt m c t.val) (St m c (t.val + 1)).av := by
  have e : ∀ u : Fin cfg0.N, u = t → ∀ h' : k0_cond2 (grid0.coords u) = 1#1,
      flushed c (Memref.whole main_v144_2) (grid0.coords u) h' (dvAt m c t.val) (St m c (t.val + 1)).av
        = flushed c (Memref.whole main_v144_2) (grid0.coords t) h (dvAt m c t.val) (St m c (t.val + 1)).av := by
    intro u hu; subst hu; intro _; rfl
  show (if h : _ then _ else _) = _
  rw [dif_pos (by rw [pt_val]; exact h)]
  exact e _ (pt_val t) _

theorem dvAt_neg (c : Dev nD) (t : Fin cfg0.N) (h : ¬ k0_cond2 (grid0.coords t) = 1#1) : dvAt m c (t.val + 1) = dvAt m c t.val := by
  show (if h : _ then _ else _) = _
  rw [dif_neg (by rw [pt_val]; exact h)]

end Cert.KernelIdeal.Attn
-- ==== Proof.Body.lean ====
/- The attention-gradient kernel's body at one grid point, at any point: the buffers it is given end at the arrays
   `Attn.point` makes of the blocks the point reads and of what the accumulators held, and at a batch's last point the
   two accumulators' middle rows stand in the results left in HBM. -/
module

public import proofs.«01_k».proof.Proof.Body_first
public import proofs.«01_k».proof.Proof.Body_mid
public import proofs.«01_k».proof.Proof.Body_last
public import proofs.«01_k».proof.Proof.State
public import proofs.«01_k».proof.Proof.Gen.KernelIdeal.Launch
public import proofs.«01_k».proof.Proof.Gen.KernelIdeal.Points
public import Idealize.ShloMosaic.Lib.Pipeline.TableIdle
public import Idealize.ShloMosaic.Lib.Pipeline.FrameValue
public import Idealize.ShloMosaic.Lib.WordCmp

@[expose] public section

set_option maxRecDepth 8192

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

/-- A result in HBM after a point: a batch's part set at the batch's last point, else as it was. -/
def part (c : Dev nD) (M : Memref sig .tc .hbm S2x16384x128 .f32) (i : grid0.Coords)
    (f : Buf (Elt F) (M.view.loc (c : Thread nD τ))) (y : Vec F S16640x128 .f32) : Buf (Elt F) (M.view.loc (c : Thread nD τ)) :=
  if h : k0_cond2 i = 1#1 then flushed c M i h f y else f

theorem body_any (c : Dev nD) (i : grid0.Coords)
  (arg2 : Memref sig .tc .vmem S1024x512 .bf16) (harg2 : arg2.IsWhole) (arg3 : Memref sig .tc .vmem S128x128 .bf16) (harg3 : arg3.IsWhole) (arg4 : Memref sig .tc .vmem S1024x128 .bf16) (harg4 : arg4.IsWhole)
  (arg5 : Memref sig .tc .vmem S128x128 .bf16) (harg5 : arg5.IsWhole) (arg6 : Memref sig .tc .vmem S128x128 .bf16) (harg6 : arg6.IsWhole) (arg7 : Memref sig .tc .vmem S1024x128 .bf16) (harg7 : arg7.IsWhole)
  (arg8 : Memref sig .tc .vmem S128x128 .bf16) (harg8 : arg8.IsWhole) (arg9 : Memref sig .tc .vmem S1152x1024 .f32) (harg9 : arg9.IsWhole) (arg10 : Memref sig .tc .vmem S8x1024 .f32) (harg10 : arg10.IsWhole)
  (arg11 : Memref sig .tc .vmem S1024x512 .bf16) (harg11 : arg11.IsWhole) (arg12 : Memref sig .tc .vmem S1024x512 .bf16) (harg12 : arg12.IsWhole) (arg13 : Memref sig .tc .vmem S1024x512 .f32) (harg13 : arg13.IsWhole)
  (arg14 : Memref sig .tc .vmem S1024x512 .bf16) (harg14 : arg14.IsWhole) (arg15 : Memref sig .tc .hbm S2x16384x128 .f32) (harg15 : arg15.IsWhole) (arg16 : Memref sig .tc .hbm S2x16384x128 .f32) (harg16 : arg16.IsWhole)
  (arg17 : Memref sig .tc .vmem S8x128 .f32) (harg17 : arg17.IsWhole) (arg18 : Memref sig .tc .vmem S4x8x128 .f32) (harg18 : arg18.IsWhole) (arg19 : Memref sig .tc .vmem S1280x128 .f32) (harg19 : arg19.IsWhole)
  (arg20 : Memref sig .tc .vmem S1280x128 .f32) (harg20 : arg20.IsWhole) (arg21 : Memref sig .tc .vmem S4x8x128 .f32) (harg21 : arg21.IsWhole) (arg22 : Memref sig .tc .vmem S4x8x128 .f32) (harg22 : arg22.IsWhole)
  (arg23 : Memref sig .tc .vmem S4x8x128 .f32) (harg23 : arg23.IsWhole) (arg24 : Memref sig .tc .vmem S4x8x128 .f32) (harg24 : arg24.IsWhole) (arg25 : Memref sig .tc .vmem S16640x128 .f32) (harg25 : arg25.IsWhole)
  (arg26 : Memref sig .tc .vmem S16640x128 .f32) (harg26 : arg26.IsWhole)
    (B : Blk F) (Y : Outs F) (f15 : Buf (Elt F) (arg15.view.loc (c : Thread nD τ))) (f16 : Buf (Elt F) (arg16.view.loc (c : Thread nD τ)))
    (W : Waits sig Unit) (K : PUnit → sProp 𝕄) :
    iprop(owns (c : Thread nD τ) arg2 fullShare B.x2 ∗ owns (c : Thread nD τ) arg3 fullShare B.x3 ∗ owns (c : Thread nD τ) arg4 fullShare B.x4 ∗ owns (c : Thread nD τ) arg5 fullShare B.x5 ∗ owns (c : Thread nD τ) arg6 fullShare B.x6 ∗ owns (c : Thread nD τ) arg7 fullShare B.x7 ∗ owns (c : Thread nD τ) arg8 fullShare B.x8 ∗ owns (c : Thread nD τ) arg9 fullShare B.x9 ∗ owns (c : Thread nD τ) arg10 fullShare B.x10 ∗ owns (c : Thread nD τ) arg11 fullShare B.x11 ∗ owns (c : Thread nD τ) arg12 fullShare B.x12 ∗ owns (c : Thread nD τ) arg13 fullShare B.x13 ∗ owns (c : Thread nD τ) arg14 fullShare Y.dq ∗ owns (c : Thread nD τ) arg17 fullShare Y.ds ∗ owns (c : Thread nD τ) arg25 fullShare Y.ak ∗ owns (c : Thread nD τ) arg26 fullShare Y.av ∗ (∃ y, owns (c : Thread nD τ) arg19 fullShare y) ∗ (∃ y, owns (c : Thread nD τ) arg20 fullShare y) ∗ (arg15.view.loc (c : Thread nD τ) ↦{fullShare} f15) ∗ (arg16.view.loc (c : Thread nD τ) ↦{fullShare} f16)
        ∗ semVal ((c : Thread nD τ), SemLoc.dma 28) 0 ∗ semVal ((c : Thread nD τ), SemLoc.dma 29) 0 ∗ owes (c : Thread nD τ) 0 W
        ∗ (iprop(owns (c : Thread nD τ) arg2 fullShare B.x2 ∗ owns (c : Thread nD τ) arg3 fullShare B.x3 ∗ owns (c : Thread nD τ) arg4 fullShare B.x4 ∗ owns (c : Thread nD τ) arg5 fullShare B.x5 ∗ owns (c : Thread nD τ) arg6 fullShare B.x6 ∗ owns (c : Thread nD τ) arg7 fullShare B.x7 ∗ owns (c : Thread nD τ) arg8 fullShare B.x8 ∗ owns (c : Thread nD τ) arg9 fullShare B.x9 ∗ owns (c : Thread nD τ) arg10 fullShare B.x10 ∗ owns (c : Thread nD τ) arg11 fullShare B.x11 ∗ owns (c : Thread nD τ) arg12 fullShare B.x12 ∗ owns (c : Thread nD τ) arg13 fullShare B.x13 ∗ owns (c : Thread nD τ) arg14 fullShare (point B i Y).dq ∗ owns (c : Thread nD τ) arg17 fullShare (point B i Y).ds ∗ owns (c : Thread nD τ) arg25 fullShare (point B i Y).ak ∗ owns (c : Thread nD τ) arg26 fullShare (point B i Y).av ∗ (∃ y, owns (c : Thread nD τ) arg19 fullShare y) ∗ (∃ y, owns (c : Thread nD τ) arg20 fullShare y)
            ∗ (arg15.view.loc (c : Thread nD τ) ↦{fullShare} (part c arg15 i f15 (point B i Y).ak)) ∗ (arg16.view.loc (c : Thread nD τ) ↦{fullShare} (part c arg16 i f16 (point B i Y).av))
            ∗ semVal ((c : Thread nD τ), SemLoc.dma 28) 0 ∗ semVal ((c : Thread nD τ), SemLoc.dma 29) 0 ∗ (∃ W', owes (c : Thread nD τ) 0 W')) -∗ K ⟨⟩))
      ⊢ wp Idealize.ShloMosaic.frame (wpE (defs₀ (F := F)) Variants.none (c : Thread nD τ) none) Set.univ
          (cc0_attn_a_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 cc0_scratch9) K := by
  simp only [owns_eq_rep]
  iintro ⟨H2, H3, H4, H5, H6, H7, H8, H9, H10, H11, H12, H13, H14, H17, H25, H26, ⟨%y19, H19⟩, ⟨%y20, H20⟩, H15, H16, Hs0, Hs1, HW, Hk⟩
  by_cases h2 : k0_cond2 i = 1#1
  · have h1 : ¬ first i = 1#1 := fun h => by have := (first_iff i).mp h; have := (last_iff i).mp h2; omega
    rw [show part c arg15 i f15 (point B i Y).ak = _ from dif_pos h2, show part c arg16 i f16 (point B i Y).av = _ from dif_pos h2]
    iapply (body_last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B Y y19 y20 f15 f16 W K h1 h2)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H17]; · iexact H17
    isplitl [H25]; · iexact H25
    isplitl [H26]; · iexact H26
    isplitl [H19]; · iexact H19
    isplitl [H20]; · iexact H20
    isplitl [H15]; · iexact H15
    isplitl [H16]; · iexact H16
    isplitl [Hs0]; · iexact Hs0
    isplitl [Hs1]; · iexact Hs1
    isplitl [HW]; · iexact HW
    iintro ⟨H2, H3, H4, H5, H6, H7, H8, H9, H10, H11, H12, H13, H14, H17, H25, H26, H19, H20, H15, H16, Hs0, Hs1, HW⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H17]; · iexact H17
    isplitl [H25]; · iexact H25
    isplitl [H26]; · iexact H26
    isplitl [H19]; · iexists _; iexact H19
    isplitl [H20]; · iexists _; iexact H20
    isplitl [H15]; · iexact H15
    isplitl [H16]; · iexact H16
    isplitl [Hs0]; · iexact Hs0
    isplitl [Hs1]; · iexact Hs1
    iexact HW
  · rw [show part c arg15 i f15 (point B i Y).ak = _ from dif_neg h2, show part c arg16 i f16 (point B i Y).av = _ from dif_neg h2]
    by_cases h1 : first i = 1#1
    · skip
      iapply (body_first c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B Y y19 y20 f15 f16 W K h1 h2)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H17]; · iexact H17
      isplitl [H25]; · iexact H25
      isplitl [H26]; · iexact H26
      isplitl [H19]; · iexact H19
      isplitl [H20]; · iexact H20
      isplitl [H15]; · iexact H15
      isplitl [H16]; · iexact H16
      isplitl [Hs0]; · iexact Hs0
      isplitl [Hs1]; · iexact Hs1
      isplitl [HW]; · iexact HW
      iintro ⟨H2, H3, H4, H5, H6, H7, H8, H9, H10, H11, H12, H13, H14, H17, H25, H26, H19, H20, H15, H16, Hs0, Hs1, HW⟩
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H17]; · iexact H17
      isplitl [H25]; · iexact H25
      isplitl [H26]; · iexact H26
      isplitl [H19]; · iexists _; iexact H19
      isplitl [H20]; · iexists _; iexact H20
      isplitl [H15]; · iexact H15
      isplitl [H16]; · iexact H16
      isplitl [Hs0]; · iexact Hs0
      isplitl [Hs1]; · iexact Hs1
      iexact HW
    · skip
      iapply (body_mid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 B Y y19 y20 f15 f16 W K h1 h2)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H17]; · iexact H17
      isplitl [H25]; · iexact H25
      isplitl [H26]; · iexact H26
      isplitl [H19]; · iexact H19
      isplitl [H20]; · iexact H20
      isplitl [H15]; · iexact H15
      isplitl [H16]; · iexact H16
      isplitl [Hs0]; · iexact Hs0
      isplitl [Hs1]; · iexact Hs1
      isplitl [HW]; · iexact HW
      iintro ⟨H2, H3, H4, H5, H6, H7, H8, H9, H10, H11, H12, H13, H14, H17, H25, H26, H19, H20, H15, H16, Hs0, Hs1, HW⟩
      iapply Hk
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H17]; · iexact H17
      isplitl [H25]; · iexact H25
      isplitl [H26]; · iexact H26
      isplitl [H19]; · iexists _; iexact H19
      isplitl [H20]; · iexists _; iexact H20
      isplitl [H15]; · iexact H15
      isplitl [H16]; · iexact H16
      isplitl [Hs0]; · iexact Hs0
      isplitl [Hs1]; · iexact Hs1
      iexact HW

end Cert.KernelIdeal.Attn
-- ==== Proof.Run.lean ====
/- The attention-gradient program's run at any float instance: it terminates with its arguments as they were, the query
   gradient and the sink's gradient written back from the blocks the points leave, and the two results in HBM at what the
   batches' last points sent there. -/
module

public import proofs.«01_k».proof.Proof.Body
public import proofs.«01_k».proof.Proof.Gen.KernelIdeal.Launch
public import proofs.«01_k».proof.Proof.Gen.KernelIdeal.Points
public import Idealize.ShloMosaic.Lib.Pipeline.TableIdle
public import Idealize.ShloMosaic.Lib.Pipeline.FrameValue
public import Idealize.ShloMosaic.Lib.WordCmp

@[expose] public section

set_option maxRecDepth 8192

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The results the body's own transfers write. -/
abbrev R0 : Finset (Ref sig .tc) := {main_v144_1, main_v144_2}
theorem R0_sub : R0 ⊆ Pipeline.restRefs sig spec0 \ (∅ : Finset (Ref sig .tc)) := by decide

/-- What the kernel keeps from point to point: its scratch buffers, the accumulators at the state reached, its
    semaphores at zero, and the results in HBM. -/
def Keep (c : Dev nD) (n : ℕ) (_ : n ≤ cfg0.N) : sProp 𝕄 :=
  iprop((∃ f : Buf (Elt F) ((c : Thread nD τ).loc cc0_scratch0), ((c : Thread nD τ).loc cc0_scratch0) ↦{fullShare} f)
    ∗ (∃ y, owns (c : Thread nD τ) (Memref.whole cc0_scratch1) fullShare y) ∗ (∃ y, owns (c : Thread nD τ) (Memref.whole cc0_scratch2) fullShare y)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f)
    ∗ (∃ y : Vec F S16640x128 .f32, ⌜n % 16 ≠ 0 → y = (St m c n).ak⌝ ∗ owns (c : Thread nD τ) (Memref.whole cc0_scratch7) fullShare y)
    ∗ (∃ y : Vec F S16640x128 .f32, ⌜n % 16 ≠ 0 → y = (St m c n).av⌝ ∗ owns (c : Thread nD τ) (Memref.whole cc0_scratch8) fullShare y)
    ∗ (∃ r, prngReg c r) ∗ semVal ((c : Thread nD τ), SemLoc.dma 28) 0 ∗ semVal ((c : Thread nD τ), SemLoc.dma 29) 0
    ∗ (((c : Thread nD τ).loc main_v144_1) ↦{fullShare} dkAt m c n) ∗ (((c : Thread nD τ).loc main_v144_2) ↦{fullShare} dvAt m c n))

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => (iblk m c 0 t : _)
    | ⟨1, _⟩ => (iblk m c 1 t : _)
    | ⟨2, _⟩ => (iblk m c 2 t : _)
    | ⟨3, _⟩ => (iblk m c 3 t : _)
    | ⟨4, _⟩ => (iblk m c 4 t : _)
    | ⟨5, _⟩ => (iblk m c 5 t : _)
    | ⟨6, _⟩ => (iblk m c 6 t : _)
    | ⟨7, _⟩ => (iblk m c 7 t : _)
    | ⟨8, _⟩ => (iblk m c 8 t : _)
    | ⟨9, _⟩ => (iblk m c 9 t : _)
    | ⟨10, _⟩ => (iblk m c 10 t : _)
    | ⟨11, _⟩ => (iblk m c 11 t : _)
    | ⟨12, _⟩ => (St m c (t.val + 1)).dq
    | ⟨13, _⟩ => (St m c (t.val + 1)).ds
  Φ t := Keep m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem Φ_castSucc (c : Dev nD) (t : Fin cfg0.N) : (dats m 0 c).Φ t.castSucc = Keep m c t.val (Nat.le_of_lt t.isLt) := by
  dsimp only [dats]; exact Pipeline.Dat.Φ_castSucc (Keep m c) t
theorem Φ_succ (c : Dev nD) (t : Fin cfg0.N) : (dats m 0 c).Φ t.succ = Keep m c (t.val + 1) t.isLt := by
  dsimp only [dats]; rfl
theorem after_0 (c : Dev nD) (t : Fin cfg0.N) : (dats m 0 c).after 0 t = (iblk m c 0 t : _) := by dsimp only [dats]
theorem after_1 (c : Dev nD) (t : Fin cfg0.N) : (dats m 0 c).after 1 t = (iblk m c 1 t : _) := by dsimp only [dats]
theorem after_2 (c : Dev nD) (t : Fin cfg0.N) : (dats m 0 c).after 2 t = (iblk m c 2 t : _) := by dsimp only [dats]
theorem after_3 (c : Dev nD) (t : Fin cfg0.N) : (dats m 0 c).after 3 t = (iblk m c 3 t : _) := by dsimp only [dats]
theorem after_4 (c : Dev nD) (t : Fin cfg0.N) : (dats m 0 c).after 4 t = (iblk m c 4 t : _) := by dsimp only [dats]
theorem after_5 (c : Dev nD) (t : Fin cfg0.N) : (dats m 0 c).after 5 t = (iblk m c 5 t : _) := by dsimp only [dats]
theorem after_6 (c : Dev nD) (t : Fin cfg0.N) : (dats m 0 c).after 6 t = (iblk m c 6 t : _) := by dsimp only [dats]
theorem after_7 (c : Dev nD) (t : Fin cfg0.N) : (dats m 0 c).after 7 t = (iblk m c 7 t : _) := by dsimp only [dats]
theorem after_8 (c : Dev nD) (t : Fin cfg0.N) : (dats m 0 c).after 8 t = (iblk m c 8 t : _) := by dsimp only [dats]
theorem after_9 (c : Dev nD) (t : Fin cfg0.N) : (dats m 0 c).after 9 t = (iblk m c 9 t : _) := by dsimp only [dats]
theorem after_10 (c : Dev nD) (t : Fin cfg0.N) : (dats m 0 c).after 10 t = (iblk m c 10 t : _) := by dsimp only [dats]
theorem after_11 (c : Dev nD) (t : Fin cfg0.N) : (dats m 0 c).after 11 t = (iblk m c 11 t : _) := by dsimp only [dats]
theorem after_12 (c : Dev nD) (t : Fin cfg0.N) : (dats m 0 c).after 12 t = (St m c (t.val + 1)).dq := by dsimp only [dats]
theorem after_13 (c : Dev nD) (t : Fin cfg0.N) : (dats m 0 c).after 13 t = (St m c (t.val + 1)).ds := by dsimp only [dats]
theorem before_0 (c : Dev nD) (t : Fin cfg0.N) (d) : (dats m 0 c).before 0 t d = (iblk m c 0 t : _) :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = (iblk m c 1 t : _) :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = (iblk m c 2 t : _) :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = (iblk m c 3 t : _) :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = (iblk m c 4 t : _) :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = (iblk m c 5 t : _) :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = (iblk m c 6 t : _) :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = (iblk m c 7 t : _) :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = (iblk m c 8 t : _) :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = (iblk m c 9 t : _) :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = (iblk m c 10 t : _) :=
  ((dats m 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = (iblk m c 11 t : _) :=
  ((dats m 0 c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
theorem before_13 (c : Dev nD) (t : Fin cfg0.N) (h : t.val % 16 ≠ 0) (d) : (dats m 0 c).before 13 t d = (St m c t.val).ds := by
  have h0 : t.val ≠ 0 := fun e => h (by rw [e])
  rw [(dats m 0 c).before_out_kept 13 rfl t h0 (Bool.eq_false_iff.mpr fun hf => by
    have := (flush0_13 _).mp hf
    have e : (t.val - 1) % 16 = 15 := this
    omega) (fun _ => rfl) (fun _ _ => rfl) d, after_13]
  have e : t.val - 1 + 1 = t.val := by omega
  show (St m c (t.val - 1 + 1)).ds = _
  rw [e]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

theorem part_dk (c : Dev nD) (t : Fin cfg0.N) :
    part c (Memref.whole main_v144_1) (grid0.coords t) (dkAt m c t.val) (St m c (t.val + 1)).ak = dkAt m c (t.val + 1) := by
  by_cases h : k0_cond2 (grid0.coords t) = 1#1
  · rw [dkAt_pos m c t h]; exact dif_pos h
  · rw [dkAt_neg m c t h]; exact dif_neg h

theorem part_dv (c : Dev nD) (t : Fin cfg0.N) :
    part c (Memref.whole main_v144_2) (grid0.coords t) (dvAt m c t.val) (St m c (t.val + 1)).av = dvAt m c (t.val + 1) := by
  by_cases h : k0_cond2 (grid0.coords t) = 1#1
  · rw [dvAt_pos m c t h]; exact dif_pos h
  · rw [dvAt_neg m c t h]; exact dif_neg h

set_option maxHeartbeats 4000000 in
set_option backward.isDefEq.respectTransparency.types false in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Φ_castSucc, Φ_succ]
  simp only [before_0, before_1, before_2, before_3, before_4, before_5, before_6, before_7, before_8, before_9, before_10, before_11, after_0, after_1, after_2, after_3, after_4, after_5, after_6, after_7, after_8, after_9, after_10, after_11, after_12, after_13]
  unfold Keep Dat.owesAt Pipeline.owesWithin
  rw [show (dats m 0 c).owed t.castSucc = 0 from rfl, show (dats m 0 c).owed t.succ = 0 from rfl]
  iintro ⟨⟨HS0, H19, H20, HS3, HS4, HS5, HS6, ⟨%y25, %h25, H25⟩, ⟨%y26, %h26, H26⟩, Hg, Hs0, Hs1, H15, H16⟩, ⟨%W, -, HW⟩, ⟨%d0, H2⟩, ⟨%d1, H3⟩, ⟨%d2, H4⟩, ⟨%d3, H5⟩, ⟨%d4, H6⟩, ⟨%d5, H7⟩, ⟨%d6, H8⟩, ⟨%d7, H9⟩, ⟨%d8, H10⟩, ⟨%d9, H11⟩, ⟨%d10, H12⟩, ⟨%d11, H13⟩, ⟨%d12, H14⟩, ⟨%d13, H17⟩⟩
  have hp : point (blk m c t) (grid0.coords t) ⟨(dats m 0 c).before 12 t d12, (dats m 0 c).before 13 t d13, y25, y26⟩ = St m c (t.val + 1) := by
    rw [St_succ]
    refine point_congr _ _ _ _ fun hf => ?_
    have ht : t.val % 16 ≠ 0 := fun e => hf ((first_iff _).mpr ((coords_one t).trans e))
    exact ⟨before_13 m c t ht d13, h25 ht, h26 ht⟩
  iapply (body_any c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole main_v144_1) (Memref.isWhole_whole _) (Memref.whole main_v144_2) (Memref.isWhole_whole _) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (blk m c t) ⟨(dats m 0 c).before 12 t d12, (dats m 0 c).before 13 t d13, y25, y26⟩ (dkAt m c t.val) (dvAt m c t.val) W _)
  rw [hp, part_dk, part_dv]
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H17]; · iexact H17
  isplitl [H25]; · iexact H25
  isplitl [H26]; · iexact H26
  isplitl [H19]; · iexact H19
  isplitl [H20]; · iexact H20
  isplitl [H15]; · iexact H15
  isplitl [H16]; · iexact H16
  isplitl [Hs0]; · iexact Hs0
  isplitl [Hs1]; · iexact Hs1
  isplitl [HW]; · iexact HW
  iintro ⟨H2, H3, H4, H5, H6, H7, H8, H9, H10, H11, H12, H13, H14, H17, H25, H26, H19, H20, H15, H16, Hs0, Hs1, ⟨%W', HW'⟩⟩
  isplitl [HS0 H19 H20 HS3 HS4 HS5 HS6 H25 H26 Hg Hs0 Hs1 H15 H16]
  · isplitl [HS0]; · iexact HS0
    isplitl [H19]; · iexact H19
    isplitl [H20]; · iexact H20
    isplitl [HS3]; · iexact HS3
    isplitl [HS4]; · iexact HS4
    isplitl [HS5]; · iexact HS5
    isplitl [HS6]; · iexact HS6
    isplitl [H25]
    · iexists _; isplitr
      · ipureintro; exact fun _ => rfl
      iexact H25
    isplitl [H26]
    · iexists _; isplitr
      · ipureintro; exact fun _ => rfl
      iexact H26
    isplitl [Hg]; · iexact Hg
    isplitl [Hs0]; · iexact Hs0
    isplitl [Hs1]; · iexact Hs1
    isplitl [H15]; · iexact H15
    iexact H16
  isplitl [HW']
  · iexists W'; isplitr; · ipureintro; exact fun _ _ => Or.inl trivial
    iexact HW'
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H17

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

theorem sems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 28) 0 ∗ semVal ((c : Thread nD τ), SemLoc.dma 29) 0) := by
  rw [Pipeline.ownSems0_eq_of_list c osem0 [0, 1] (by decide) (by decide)]; rfl

theorem routed_eq (c : Dev nD) (G : (b : Ref sig .tc) → Buf (Elt F) ((c : Thread nD τ).loc b)) :
    (Pipeline.routed R0 c G : sProp 𝕄)
      = iprop((((c : Thread nD τ).loc main_v144_1) ↦{fullShare} G main_v144_1) ∗ (((c : Thread nD τ).loc main_v144_2) ↦{fullShare} G main_v144_2)) := by
  unfold Pipeline.routed; rw [BI.bigSep_eq_bigSepL_of_eq [main_v144_1, main_v144_2] (by decide) (by decide)]; rfl

/-- What the results in HBM end at. -/
def ends (c : Dev nD) : (b : Ref sig .tc) → Buf (Elt F) ((c : Thread nD τ).loc b) :=
  Function.update (Function.update (V m c) main_v144_1 (dkAt m c 32)) main_v144_2 (dvAt m c 32)

theorem ends_dk (c : Dev nD) : ends m c main_v144_1 = dkAt m c 32 := by
  unfold ends; rw [Function.update_of_ne (by decide), Function.update_self]
theorem ends_dv (c : Dev nD) : ends m c main_v144_2 = dvAt m c 32 := by
  unfold ends; rw [Function.update_self]

theorem enter (c : Dev nD) : Pipeline.ΦDRG osem0 spec0 ∅ R0 (V m) (V m) c ⊢ (dats (F := F) m 0 c).Φ 0 := by
  rw [Pipeline.ΦDRG_eq, scopedRest0_eq, sems_eq, routed_eq, show (dats (F := F) m 0 c).Φ 0 = Keep m c 0 (Nat.zero_le _) from rfl]
  unfold Keep
  simp only [owns_whole]
  iintro ⟨⟨H0, H1, H2, H3, H4, H5, H6, ⟨%f7, H7⟩, ⟨%f8, H8⟩⟩, Hg, ⟨Hs0, Hs1⟩, -, ⟨Hr0, Hr1⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists f7; isplitr
    · ipureintro; exact fun h => absurd rfl h
    iexact H7
  isplitl [H8]
  · iexists f8; isplitr
    · ipureintro; exact fun h => absurd rfl h
    iexact H8
  isplitl [Hg]; · iexact Hg
  isplitl [Hs0]; · iexact Hs0
  isplitl [Hs1]; · iexact Hs1
  isplitl [Hr0]; · iexact Hr0
  iexact Hr1

theorem leave (c : Dev nD) : (dats (F := F) m 0 c).Φ (Fin.last cfg0.N) ⊢ Pipeline.ΦDRG osem0 spec0 ∅ R0 (V m) (ends m) c := by
  rw [Pipeline.ΦDRG_eq, scopedRest0_eq, sems_eq, routed_eq, show (dats (F := F) m 0 c).Φ (Fin.last cfg0.N) = Keep m c 32 (Nat.le_refl _) from rfl, ends_dk, ends_dv]
  unfold Keep
  simp only [owns_whole]
  iintro ⟨H0, H1, H2, H3, H4, H5, H6, ⟨%f7, -, H7⟩, ⟨%f8, -, H8⟩, Hg, Hs0, Hs1, Hr0, Hr1⟩
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists f7; iexact H7
    iexists f8; iexact H8
  isplitl [Hg]; · iexact Hg
  isplitl [Hs0 Hs1]
  · isplitl [Hs0]; · iexact Hs0
    iexact Hs1
  isplitr
  · rw [BI.bigSep_empty]; iempintro
  isplitl [Hr0]; · iexact Hr0
  iexact Hr1

set_option maxHeartbeats 800000 in
theorem hmain : Pipeline.HMain (Ix := Unit) (Name := ℕ) (U := Pipeline.UD sig nD τ) (Lvl := ℕ) cfgs 0 defs₀ Variants.none m (main (F := F)) (V m) :=
  Pipeline.hmain_prefixes cfgs 0 defs₀ Variants.none m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

set_option backward.isDefEq.respectTransparency.types false in
theorem run : θ_run defs (onTc (τ := τ) (main (F := F))) (s₀ m ρ)
    (fun r => Pipeline.FramePostRG cfgs (dats m) 0 R0 (V m) (ends m) r ∧ r.2.sem = fun _ => 0) :=
  Pipeline.θ_run_frame_dmaRG_shared (Q' := _) cfgs (dats m) (0 : Fin 1) launch₀0 osem0 defs₀ Variants.none ownSemFacts0 ∅ R0 (Finset.empty_subset _) R0_sub m ρ main
    (hbody := fun c => (body_obligation m c).loose) (hq := fun _ _ _ => rfl)
    (howed := fun _ _ => rfl) (V := V m) (hmain := hmain m) (hA := A_eq m) (G := ends m)
    (hin := enter m) (hout := leave m)

end Cert.KernelIdeal.Attn
-- ==== Proof.Frames.lean ====
/- What the attention gradient's run leaves of the arguments: as they were. The program as printed
   has a run of its own, in the modules under Printed. -/
module

public import proofs.«01_k».proof.Proof.Run
public import proofs.«01_k».proof.Proof.Printed.Run
public import proofs.«01_k».proof.Defs
public import proofs.«01_k».proof.Proof.Gen.Kernel

@[expose] public section

set_option maxRecDepth 8192

noncomputable section

namespace Cert.KernelIdeal.Attn

open Idealize.ShloMosaic Idealize.ShloMosaic.TcCoe
open Idealize.SL Idealize.SL.Sem
open Idealize.ShloMosaic.Pipeline (Dat Cfg Window)
open Cert.KernelIdeal.Gen

variable {F : FTy → Type} [FloatOps F]
variable (m : (ℓ : Loc nD τ sig) → Buf (Elt F) ℓ) (ρ : Dev nD → PrngReg)

theorem arg0_kept {r : PUnit × MemSt nD τ sig (Elt F)} (h : Pipeline.FramePostR cfgs (dats m) 0 R0 (V m) r) (c : Dev nD) :
    r.2.mem ((c.tc : Thread nD τ).loc main_arg0) = m ((c.tc : Thread nD τ).loc main_arg0) :=
  ((h c).1 6).trans (((dats m 0 c).arrAt_in 6 rfl _).trans ((A_eq m c 6).trans (V_main_arg0 m c)))

theorem arg1_kept {r : PUnit × MemSt nD τ sig (Elt F)} (h : Pipeline.FramePostR cfgs (dats m) 0 R0 (V m) r) (c : Dev nD) :
    r.2.mem ((c.tc : Thread nD τ).loc main_arg1) = m ((c.tc : Thread nD τ).loc main_arg1) :=
  ((h c).2 main_arg1 (Finset.mem_sdiff.mpr ⟨Pipeline.mem_restRefs_of main_arg1 (by decide) (by decide), by decide⟩)).trans
    (V_main_arg1 m c)

theorem arg2_kept {r : PUnit × MemSt nD τ sig (Elt F)} (h : Pipeline.FramePostR cfgs (dats m) 0 R0 (V m) r) (c : Dev nD) :
    r.2.mem ((c.tc : Thread nD τ).loc main_arg2) = m ((c.tc : Thread nD τ).loc main_arg2) :=
  ((h c).1 10).trans (((dats m 0 c).arrAt_in 10 rfl _).trans ((A_eq m c 10).trans (V_main_arg2 m c)))

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨arg0_kept m h.1.toR c, arg1_kept m h.1.toR c, arg2_kept m h.1.toR c⟩, h.2⟩)
    (run m ρ)

end Cert.KernelIdeal.Attn

namespace Cert.Kernel.Attn

open Idealize.ShloMosaic Idealize.ShloMosaic.TcCoe
open Idealize.SL Idealize.SL.Sem
open Idealize.ShloMosaic.Pipeline (Dat Cfg Window)
open Cert.Kernel.Gen

variable {F : FTy → Type} [FloatOps F]
variable (m : (ℓ : Loc nD τ sig) → Buf (Elt F) ℓ) (ρ : Dev nD → PrngReg)

theorem arg0_kept {r : PUnit × MemSt nD τ sig (Elt F)} (h : Pipeline.FramePostR cfgs (dats m) 0 R0 (V m) r) (c : Dev nD) :
    r.2.mem ((c.tc : Thread nD τ).loc main_arg0) = m ((c.tc : Thread nD τ).loc main_arg0) :=
  ((h c).1 6).trans (((dats m 0 c).arrAt_in 6 rfl _).trans ((A_eq m c 6).trans (V_main_arg0 m c)))

theorem arg1_kept {r : PUnit × MemSt nD τ sig (Elt F)} (h : Pipeline.FramePostR cfgs (dats m) 0 R0 (V m) r) (c : Dev nD) :
    r.2.mem ((c.tc : Thread nD τ).loc main_arg1) = m ((c.tc : Thread nD τ).loc main_arg1) :=
  ((h c).2 main_arg1 (Finset.mem_sdiff.mpr ⟨Pipeline.mem_restRefs_of main_arg1 (by decide) (by decide), by decide⟩)).trans
    (V_main_arg1 m c)

theorem arg2_kept {r : PUnit × MemSt nD τ sig (Elt F)} (h : Pipeline.FramePostR cfgs (dats m) 0 R0 (V m) r) (c : Dev nD) :
    r.2.mem ((c.tc : Thread nD τ).loc main_arg2) = m ((c.tc : Thread nD τ).loc main_arg2) :=
  ((h c).1 10).trans (((dats m 0 c).arrAt_in 10 rfl _).trans ((A_eq m c 10).trans (V_main_arg2 m c)))

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨arg0_kept m h.1.toR c, arg1_kept m h.1.toR c, arg2_kept m h.1.toR c⟩, h.2⟩)
    (run m ρ)

end Cert.Kernel.Attn

namespace Cert.Proof

open Idealize.ShloMosaic Idealize.SL.Sem

theorem frame_kernel : Cert.quiescent_Kernel := fun m ρ _ => Cert.Kernel.Attn.frame (F := Bits) m ρ
theorem frame_ideal : Cert.quiescent_KernelIdeal := fun m ρ _ => Cert.KernelIdeal.Attn.frame (F := Ideal) m ρ

end Cert.Proof
-- ==== Proof.Ffn.Real.lean ====
/- The feed-forward half of one layer over the real numbers: what the forward pass computes row by row and what its
   gradient is, written once, so that the kernel's blocks and the reference's arrays are both compared with it. -/
module

public import Idealize.ShloMosaic.Lib.Pointwise
public import Idealize.ShloMosaic.Lib.IdealHost

@[expose] public section

set_option maxRecDepth 16384

noncomputable section

namespace Cert.Ffn

open Idealize.ShloMosaic Idealize.ShloMosaic.Pointwise

/-- An array of extended reals whose entries are the real numbers `a`. -/
abbrev Holds {n d : ℕ} {φ : FTy} (A : FVec Ideal ⟨2, ![n, d]⟩ φ) (a : Fin n → Fin d → ℝ) : Prop :=
  ∀ i j, A (ix2 i j) = ((a i j : ℝ) : EReal)

theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The small number under the root, exactly as it is stored. -/
def eps : ℝ := (Ideal.ofBits .f32 0x358637BD#32 : EReal).toReal

theorem ofBits_eps : (Ideal.ofBits .f32 0x358637BD#32 : EReal) = ((eps : ℝ) : EReal) ∧ 0 < eps := by
  have h : (Ideal.ofBits .f32 0x358637BD#32 : EReal) = (((8796093 : ℝ) * 2 ^ (-43 : ℤ) : ℝ) : EReal) := by
    simp [Ideal.ofBits, Ideal.ieee, -EReal.coe_mul]
    try norm_num
  have e : eps = (8796093 : ℝ) * 2 ^ (-43 : ℤ) := by unfold eps; rw [h]; rfl
  refine ⟨by rw [h, e], ?_⟩
  rw [e]; positivity

theorem ofBits_1024 : (Ideal.ofBits .f32 0x44800000#32 : EReal) = ((1024 : ℝ) : EReal) := by
  simp [Ideal.ofBits, Ideal.ieee, -EReal.coe_mul]
  try norm_num

theorem ofBits_neg_half : (Ideal.ofBits .f32 0xBF000000#32 : EReal) = ((-(1 / 2) : ℝ) : EReal) := by
  simp [Ideal.ofBits, Ideal.ieee, -EReal.coe_mul]
  try norm_num

theorem ofBits_one : (Ideal.ofBits .f32 0x3F800000#32 : EReal) = ((1 : ℝ) : EReal) := by
  simp [Ideal.ofBits, Ideal.ieee, -EReal.coe_mul]
  try norm_num

theorem ofBits_zero : (Ideal.ofBits .f32 0x00000000#32 : EReal) = ((0 : ℝ) : EReal) := by
  simp [Ideal.ofBits, Ideal.ieee, -EReal.coe_mul]

/-- What the calls are given: the gradient `dx` of the layer's output, the residual stream `x`, the attention output
    `o` of width `K`, and the layer's weights, gates and modulation vectors. -/
structure Data (n : ℕ) (K : ℕ := 1024) where
  dx : Fin n → Fin 1024 → ℝ
  x : Fin n → Fin 1024 → ℝ
  o : Fin n → Fin K → ℝ
  wm : Fin K → Fin 1024 → ℝ
  g1 : Fin 1024 → ℝ
  nf : Fin 1024 → ℝ
  sc : Fin 1024 → ℝ
  sh : Fin 1024 → ℝ
  wi : Fin 1024 → Fin 5632 → ℝ
  wo : Fin 2816 → Fin 1024 → ℝ
  g2 : Fin 1024 → ℝ

namespace Data

/-- The same call on some of its rows. -/
def rows {n p K : ℕ} (D : Data n K) (e : Fin p → Fin n) : Data p K :=
  { D with dx := fun i => D.dx (e i), x := fun i => D.x (e i), o := fun i => D.o (e i) }

variable {n K : ℕ} (D : Data n K)

/-- The gate half of the feed-forward input weight. -/
def wg (j : Fin 1024) (k : Fin 2816) : ℝ := D.wi j ⟨k.val, by omega⟩

/-- The other half. -/
def wu (j : Fin 1024) (k : Fin 2816) : ℝ := D.wi j ⟨2816 + k.val, by omega⟩

def y1 (i : Fin n) (j : Fin 1024) : ℝ := ∑ l, D.o i l * D.wm l j
def x1 (i : Fin n) (j : Fin 1024) : ℝ := D.x i j + D.g1 j * D.y1 i j

/-- The mean square of a row, with the small number added. -/
def den (i : Fin n) : ℝ := (∑ j, D.x1 i j * D.x1 i j) * (1 / 1024) + eps
def rs (i : Fin n) : ℝ := (√(D.den i))⁻¹
def xh (i : Fin n) (j : Fin 1024) : ℝ := D.x1 i j * D.rs i
def h (i : Fin n) (j : Fin 1024) : ℝ := D.xh i j * D.nf j * (1 + D.sc j) + D.sh j
def gate (i : Fin n) (k : Fin 2816) : ℝ := ∑ j, D.h i j * D.wg j k
def up (i : Fin n) (k : Fin 2816) : ℝ := ∑ j, D.h i j * D.wu j k
def sg (i : Fin n) (k : Fin 2816) : ℝ := (1 + Real.exp (-(D.gate i k)))⁻¹
def silu (i : Fin n) (k : Fin 2816) : ℝ := D.gate i k * D.sg i k

/-- What the forward pass saves of the gate: its derivative's factor and its value. -/
def ga (i : Fin n) (k : Fin 2816) : ℝ := D.up i k * (D.sg i k * (1 + D.gate i k * (1 - D.sg i k)))
def act (i : Fin n) (k : Fin 2816) : ℝ := D.silu i k * D.up i k
def y2 (i : Fin n) (j : Fin 1024) : ℝ := ∑ k, D.act i k * D.wo k j

def dy2 (i : Fin n) (j : Fin 1024) : ℝ := D.dx i j * D.g2 j
def da (i : Fin n) (k : Fin 2816) : ℝ := ∑ j, D.dy2 i j * D.wo k j
def dga (i : Fin n) (k : Fin 2816) : ℝ := D.da i k * D.ga i k
def dup (i : Fin n) (k : Fin 2816) : ℝ := D.da i k * D.silu i k
def dh (i : Fin n) (j : Fin 1024) : ℝ := (∑ k, D.dga i k * D.wg j k) + ∑ k, D.dup i k * D.wu j k
def dxh (i : Fin n) (j : Fin 1024) : ℝ := D.dh i j * (D.nf j * (1 + D.sc j))
def proj (i : Fin n) : ℝ := (∑ j, D.dxh i j * D.xh i j) * (1 / 1024)
def dx1 (i : Fin n) (j : Fin 1024) : ℝ := D.dx i j + D.rs i * (D.dxh i j - D.xh i j * D.proj i)
def dy1 (i : Fin n) (j : Fin 1024) : ℝ := D.dx1 i j * D.g1 j
def dO (i : Fin n) (l : Fin K) : ℝ := ∑ j, D.dy1 i j * D.wm l j

/-- The two halves of the gradient of the feed-forward input, side by side. -/
def dgu (i : Fin n) (k : Fin 5632) : ℝ :=
  if h : k.val < 2816 then D.dga i ⟨k.val, h⟩ else D.dup i ⟨k.val - 2816, by omega⟩

/-- The sums over the rows, one for each of the vectors. -/
def dg2 (j : Fin 1024) : ℝ := ∑ i, D.dx i j * D.y2 i j
def dsh (j : Fin 1024) : ℝ := ∑ i, D.dh i j
def dsc (j : Fin 1024) : ℝ := ∑ i, D.dh i j * D.xh i j * D.nf j
def dnf (j : Fin 1024) : ℝ := ∑ i, D.dh i j * D.xh i j * (1 + D.sc j)
def dg1 (j : Fin 1024) : ℝ := ∑ i, D.dx1 i j * D.y1 i j

theorem den_pos (i : Fin n) : 0 < D.den i := by
  have h := ofBits_eps.2
  have h0 : 0 ≤ ∑ j, D.x1 i j * D.x1 i j := Finset.sum_nonneg fun j _ => mul_self_nonneg _
  unfold den; positivity

end Data

/-- The reciprocal square root of a positive real. -/
theorem rsqrt_pos {r : ℝ} (h : 0 < r) : Ideal.rsqrt (r : EReal) = (((√r)⁻¹ : ℝ) : EReal) := by
  rw [Ideal.rsqrt_coe, if_neg (not_lt.mpr h.le), if_neg h.ne']

theorem one_add_real (a : ℝ) : (1 : EReal) + (a : EReal) = ((1 + a : ℝ) : EReal) := by rw [EReal.coe_add, EReal.coe_one]
theorem one_sub_real (a : ℝ) : (1 : EReal) - (a : EReal) = ((1 - a : ℝ) : EReal) := by rw [EReal.coe_sub, EReal.coe_one]
theorem div_1024 (a : ℝ) : Ideal.div (a : EReal) ((1024 : ℝ) : EReal) = ((a * (1 / 1024) : ℝ) : EReal) := by
  rw [Ideal.div_coe (by norm_num : (1024 : ℝ) ≠ 0), EReal.coe_mul]

namespace Data

variable {n K : ℕ} (D : Data n K)

theorem rsqrt_den (i : Fin n) :
    Ideal.rsqrt (((∑ j, D.x1 i j * D.x1 i j) * (1 / 1024) + eps : ℝ) : EReal) = ((D.rs i : ℝ) : EReal) :=
  rsqrt_pos (D.den_pos i)

theorem logistic_gate (i : Fin n) (k : Fin 2816) : Ideal.logistic ((D.gate i k : ℝ) : EReal) = ((D.sg i k : ℝ) : EReal) :=
  Ideal.logistic_coe _

end Data

theorem coe_at {n d : ℕ} {f : Fin n → Fin d → ℝ} {a a' : Fin n} {b b' : Fin d} (h0 : a.val = a'.val) (h1 : b.val = b'.val) :
    ((f a b : ℝ) : EReal) = ((f a' b' : ℝ) : EReal) := by
  rw [Fin.ext h0, Fin.ext h1]

theorem ix2_of {n d : ℕ} (y : (⟨2, ![n, d]⟩ : Shape).Idx) : ∃ i j, y = ix2 i j := ⟨y 0, y 1, by funext a; fin_cases a <;> rfl⟩

/-- What the first call saves of the gate and of the other half, side by side. -/
def Data.gu {n K : ℕ} (D : Data n K) (i : Fin n) (k : Fin 5632) : ℝ :=
  if h : k.val < 2816 then D.ga i ⟨k.val, h⟩ else D.silu i ⟨k.val - 2816, by omega⟩

theorem gu_lo {n K : ℕ} (D : Data n K) {i i' : Fin n} {k : Fin 2816} {k' : Fin 5632} (h0 : i.val = i'.val) (h1 : k.val = k'.val) :
    ((D.ga i k : ℝ) : EReal) = ((D.gu i' k' : ℝ) : EReal) := by
  obtain rfl := Fin.ext h0
  unfold Data.gu
  rw [dif_pos (by omega)]
  congr 2
  exact Fin.ext h1

theorem gu_hi {n K : ℕ} (D : Data n K) {i i' : Fin n} {k : Fin 2816} {k' : Fin 5632} (h0 : i.val = i'.val)
    (h1 : 2816 + k.val = k'.val) : ((D.silu i k : ℝ) : EReal) = ((D.gu i' k' : ℝ) : EReal) := by
  obtain rfl := Fin.ext h0
  unfold Data.gu
  rw [dif_neg (by omega)]
  congr 2
  exact Fin.ext (by simp only []; omega)

theorem dgu_lo {n K : ℕ} (D : Data n K) {i i' : Fin n} {k : Fin 2816} {k' : Fin 5632} (h0 : i.val = i'.val) (h1 : k.val = k'.val) :
    ((D.dga i k : ℝ) : EReal) = ((D.dgu i' k' : ℝ) : EReal) := by
  obtain rfl := Fin.ext h0
  unfold Data.dgu
  rw [dif_pos (by omega)]
  congr 2
  exact Fin.ext h1

theorem dgu_hi {n K : ℕ} (D : Data n K) {i i' : Fin n} {k : Fin 2816} {k' : Fin 5632} (h0 : i.val = i'.val)
    (h1 : 2816 + k.val = k'.val) : ((D.dup i k : ℝ) : EReal) = ((D.dgu i' k' : ℝ) : EReal) := by
  obtain rfl := Fin.ext h0
  unfold Data.dgu
  rw [dif_neg (by omega)]
  congr 2
  exact Fin.ext (by simp only []; omega)

/-- The rows of the second sum's array. -/
def Data.df {n K : ℕ} (D : Data n K) (i : Fin 8) (j : Fin 1024) : ℝ :=
  if i.val = 2 then D.dnf j else if i.val = 1 then D.dsc j else if i.val = 0 then D.dsh j else 0

namespace Data

variable {n K : ℕ} (D : Data n K)

/-- The derivative of x·σ(x), in the order the reference adds it, is the saved factor. -/
theorem dga_eq (i : Fin n) (k : Fin 2816) :
    D.da i k * D.up i k * D.sg i k + D.gate i k * (D.da i k * D.up i k) * (D.sg i k * (1 - D.sg i k)) = D.dga i k := by
  unfold dga ga
  ring

theorem sum_halves (f : Fin 5632 → ℝ) :
    ∑ k, f k = (∑ k : Fin 2816, f ⟨k.val, by omega⟩) + ∑ k : Fin 2816, f ⟨2816 + k.val, by omega⟩ :=
  Fin.sum_univ_add (a := 2816) (b := 2816) f

theorem dh_eq (i : Fin n) (j : Fin 1024) : ∑ k, D.dgu i k * D.wi j k = D.dh i j := by
  rw [sum_halves]
  unfold dh
  refine congrArg₂ (· + ·) (Finset.sum_congr rfl fun k _ => ?_) (Finset.sum_congr rfl fun k _ => ?_)
  · unfold dgu wg
    rw [dif_pos (show (⟨k.val, _⟩ : Fin 5632).val < 2816 from k.isLt)]
  · unfold dgu wu
    rw [dif_neg (by show ¬(2816 + k.val < 2816); omega)]
    congr 2
    exact Fin.ext (by show 2816 + k.val - 2816 = k.val; omega)

/-- The reciprocal square root's derivative brings its cube. -/
theorem rs_div (i : Fin n) : D.rs i * (1 / D.den i) = D.rs i * (D.rs i * D.rs i) := by
  have h := D.den_pos i
  unfold rs
  rw [← mul_inv, Real.mul_self_sqrt h.le, one_div]

/-- The gradient through the normalised row, as the reference adds it up. -/
theorem dx1_eq (i : Fin n) (j : Fin 1024) (s : ℝ) (hs : s = (∑ j, D.x1 i j * D.dxh i j) * (-(1 / 2) * (D.rs i * (1 / D.den i))) * (1 / 1024)) :
    D.dx i j + (D.dxh i j * D.rs i + D.x1 i j * s + s * D.x1 i j) = D.dx1 i j := by
  have hp : ∑ j, D.dxh i j * D.xh i j = D.rs i * ∑ j, D.x1 i j * D.dxh i j := by
    rw [Finset.mul_sum]
    refine Finset.sum_congr rfl fun j _ => ?_
    unfold xh
    ring
  subst hs
  unfold dx1 proj
  rw [hp, D.rs_div]
  unfold xh
  ring

end Data

/-- Arrays that are the same real numbers are equal. -/
theorem Holds.eq {n d : ℕ} {φ ψ : FTy} {A : FVec Ideal ⟨2, ![n, d]⟩ φ} {B : FVec Ideal ⟨2, ![n, d]⟩ ψ} {a : Fin n → Fin d → ℝ}
    (hA : Holds A a) (hB : Holds B a) : (B : Shape.Idx ⟨2, ![n, d]⟩ → EReal) = A := by
  funext k
  rw [← ix2_eta k]
  exact (hB _ _).trans (hA _ _).symm

/-- An array, entry by entry, as real numbers. -/
def re (n d : ℕ) (A : (⟨2, ![n, d]⟩ : Shape).Idx → EReal) (i : Fin n) (j : Fin d) : ℝ := (A (ix2 i j)).toReal

theorem row_real {d : ℕ} {A : (⟨2, ![1, d]⟩ : Shape).Idx → EReal} (h : ∀ i, A i = ((EReal.toReal (A i) : ℝ) : EReal)) (i : Fin 1)
    (j : Fin d) : A (ix2 i j) = ((re 1 d A 0 j : ℝ) : EReal) := by
  obtain rfl : i = 0 := Subsingleton.elim _ _
  exact h _

end Cert.Ffn

end
-- ==== Proof.Ffn.Next.lean ====
/- The end of the forward half over the real numbers: the layer's output, and the next layer's normalised row and its
   product with that layer's input weight. -/
module

public import proofs.«01_k».proof.Proof.Ffn.Real

@[expose] public section

noncomputable section

namespace Cert.Ffn

/-- What the call is given of the next layer: the norm's weight, the modulation vectors and the input weight of width `N`. -/
structure Next (N : ℕ) where
  nm : Fin 1024 → ℝ
  s1 : Fin 1024 → ℝ
  b1 : Fin 1024 → ℝ
  wn : Fin 1024 → Fin N → ℝ

namespace Data

variable {n K N : ℕ} (D : Data n K) (T : Next N)

/-- The layer's output. -/
def x2 (i : Fin n) (j : Fin 1024) : ℝ := D.x1 i j + D.g2 j * D.y2 i j

/-- The mean square of its row, with the small number added. -/
def den2 (i : Fin n) : ℝ := (∑ j, D.x2 i j * D.x2 i j) * (1 / 1024) + eps
def rs2 (i : Fin n) : ℝ := (√(D.den2 i))⁻¹
def xh2 (i : Fin n) (j : Fin 1024) : ℝ := D.x2 i j * D.rs2 i
def h1 (i : Fin n) (j : Fin 1024) : ℝ := D.xh2 i j * T.nm j * (1 + T.s1 j) + T.b1 j
def qkv (i : Fin n) (k : Fin N) : ℝ := ∑ j, D.h1 T i j * T.wn j k

theorem den2_pos (i : Fin n) : 0 < D.den2 i := by
  have h := ofBits_eps.2
  have h0 : 0 ≤ ∑ j, D.x2 i j * D.x2 i j := Finset.sum_nonneg fun j _ => mul_self_nonneg _
  unfold den2; positivity

theorem rsqrt_den2 (i : Fin n) :
    Idealize.ShloMosaic.Ideal.rsqrt (((∑ j, D.x2 i j * D.x2 i j) * (1 / 1024) + eps : ℝ) : EReal) = ((D.rs2 i : ℝ) : EReal) :=
  rsqrt_pos (D.den2_pos i)

end Data

end Cert.Ffn

end
-- ==== Proof.Ffn.Pay0.lean ====
/- The blocks the first two calls write, as real numbers. -/
module

public import proofs.«01_k».proof.Proof.Ffn.Next
public import proofs.«01_k».proof.Proof.Gen.Kernel2Ideal.Skeleton

@[expose] public section

set_option maxRecDepth 16384

noncomputable section

namespace Cert.Ffn

open Idealize.ShloMosaic Idealize.ShloMosaic.Pointwise Cert.Kernel2Ideal Cert.Kernel2Ideal.Gen

variable {D : Data 256}

theorem k0_y {v0 : FVec Ideal S256x1024 .bf16} {v1 : FVec Ideal S1024x1024 .bf16} (h0 : Holds v0 D.o) (h1 : Holds v1 D.wm) :
    Holds (k0_pay8 (F := Ideal) v0 v1) D.y1 := by
  intro i j
  pointwise [k0_pay8]
  simp only [h0 _ _, h1 _ _, ← EReal.coe_mul, ← EReal.coe_add, ← EReal.coe_sub, coe_sum, one_add_real, one_sub_real, div_1024, ofBits_1024, ofBits_eps.1]
  rfl

theorem k0_yb {v0 : FVec Ideal S256x1024 .bf16} {v1 : FVec Ideal S1024x1024 .bf16} (h0 : Holds v0 D.o) (h1 : Holds v1 D.wm) :
    Holds (k0_pay9 (F := Ideal) v0 v1) D.y1 := by
  intro i j
  pointwise [k0_pay9]
  simp only [k0_y h0 h1 _ _, ← EReal.coe_mul, ← EReal.coe_add, ← EReal.coe_sub, coe_sum, one_add_real, one_sub_real, div_1024, ofBits_1024, ofBits_eps.1]

theorem k0_x {v0 : FVec Ideal S256x1024 .bf16} {v1 : FVec Ideal S1024x1024 .bf16} {x : FVec Ideal S256x1024 .f32} {g : FVec Ideal S1x1024 .f32} (h0 : Holds v0 D.o) (h1 : Holds v1 D.wm) (hx : Holds x D.x) (hg : Holds g fun _ => D.g1) :
    Holds (k0_pay10 (F := Ideal) v0 v1 x g) D.x1 := by
  intro i j
  pointwise [k0_pay10]
  simp only [k0_y h0 h1 _ _, hx _ _, hg _ _, ← EReal.coe_mul, ← EReal.coe_add, ← EReal.coe_sub, coe_sum, one_add_real, one_sub_real, div_1024, ofBits_1024, ofBits_eps.1]
  rfl

theorem k0_h {v0 : FVec Ideal S256x1024 .bf16} {v1 : FVec Ideal S1024x1024 .bf16} {x : FVec Ideal S256x1024 .f32} {g : FVec Ideal S1x1024 .f32} {nf sc sh : FVec Ideal S1x1024 .f32} (h0 : Holds v0 D.o) (h1 : Holds v1 D.wm) (hx : Holds x D.x) (hg : Holds g fun _ => D.g1) (hnf : Holds nf fun _ => D.nf) (hsc : Holds sc fun _ => D.sc) (hsh : Holds sh fun _ => D.sh) :
    Holds (k0_pay11 (F := Ideal) v0 v1 x g nf sc sh) D.h := by
  intro i j
  pointwise [k0_pay11]
  simp only [k0_x h0 h1 hx hg _ _, hnf _ _, hsc _ _, hsh _ _, ← EReal.coe_mul, ← EReal.coe_add, ← EReal.coe_sub, coe_sum, one_add_real, one_sub_real, div_1024, ofBits_1024, ofBits_eps.1, D.rsqrt_den]
  rfl

theorem k0_gate {h : FVec Ideal S256x1024 .bf16} {wg : FVec Ideal S2816x1024 .bf16} (hh : Holds h D.h) (hg : Holds wg fun k j => D.wg j k) :
    Holds (k0_pay1 (F := Ideal) h wg) D.gate := by
  intro i j
  pointwise [k0_pay1]
  simp only [hh _ _, hg _ _, ← EReal.coe_mul, ← EReal.coe_add, ← EReal.coe_sub, coe_sum, one_add_real, one_sub_real, div_1024, ofBits_1024, ofBits_eps.1]
  rfl

theorem k0_up {h : FVec Ideal S256x1024 .bf16} {wu : FVec Ideal S2816x1024 .bf16} (hh : Holds h D.h) (hu : Holds wu fun k j => D.wu j k) :
    Holds (k0_pay2 (F := Ideal) h wu) D.up := by
  intro i j
  pointwise [k0_pay2]
  simp only [hh _ _, hu _ _, ← EReal.coe_mul, ← EReal.coe_add, ← EReal.coe_sub, coe_sum, one_add_real, one_sub_real, div_1024, ofBits_1024, ofBits_eps.1]
  rfl

theorem k0_sg {h : FVec Ideal S256x1024 .bf16} {wg : FVec Ideal S2816x1024 .bf16} (hh : Holds h D.h) (hg : Holds wg fun k j => D.wg j k) :
    Holds (k0_pay3 (F := Ideal) h wg) D.sg := by
  intro i j
  pointwise [k0_pay3]
  simp only [k0_gate hh hg _ _, D.logistic_gate, ← EReal.coe_mul, ← EReal.coe_add, ← EReal.coe_sub, coe_sum, one_add_real, one_sub_real, div_1024, ofBits_1024, ofBits_eps.1]

theorem k0_silu {h : FVec Ideal S256x1024 .bf16} {wg : FVec Ideal S2816x1024 .bf16} (hh : Holds h D.h) (hg : Holds wg fun k j => D.wg j k) :
    Holds (k0_pay4 (F := Ideal) h wg) D.silu := by
  intro i j
  pointwise [k0_pay4]
  simp only [k0_gate hh hg _ _, k0_sg hh hg _ _, ← EReal.coe_mul, ← EReal.coe_add, ← EReal.coe_sub, coe_sum, one_add_real, one_sub_real, div_1024, ofBits_1024, ofBits_eps.1]
  rfl

theorem k0_siluB {h : FVec Ideal S256x1024 .bf16} {wg : FVec Ideal S2816x1024 .bf16} (hh : Holds h D.h) (hg : Holds wg fun k j => D.wg j k) :
    Holds (k0_pay6 (F := Ideal) h wg) D.silu := by
  intro i j
  pointwise [k0_pay6]
  simp only [k0_silu hh hg _ _, ← EReal.coe_mul, ← EReal.coe_add, ← EReal.coe_sub, coe_sum, one_add_real, one_sub_real, div_1024, ofBits_1024, ofBits_eps.1]

theorem k0_ga {h : FVec Ideal S256x1024 .bf16} {wg wu : FVec Ideal S2816x1024 .bf16} (hh : Holds h D.h) (hg : Holds wg fun k j => D.wg j k) (hu : Holds wu fun k j => D.wu j k) :
    Holds (k0_pay5 (F := Ideal) h wg wu) D.ga := by
  intro i j
  pointwise [k0_pay5]
  simp only [k0_gate hh hg _ _, k0_sg hh hg _ _, k0_up hh hu _ _, ← EReal.coe_mul, ← EReal.coe_add, ← EReal.coe_sub, coe_sum, one_add_real, one_sub_real, div_1024, ofBits_1024, ofBits_eps.1]
  rfl

theorem k0_act {h : FVec Ideal S256x1024 .bf16} {wg wu : FVec Ideal S2816x1024 .bf16} (hh : Holds h D.h) (hg : Holds wg fun k j => D.wg j k) (hu : Holds wu fun k j => D.wu j k) :
    Holds (k0_pay7 (F := Ideal) h wg wu) D.act := by
  intro i j
  pointwise [k0_pay7]
  simp only [k0_silu hh hg _ _, k0_up hh hu _ _, ← EReal.coe_mul, ← EReal.coe_add, ← EReal.coe_sub, coe_sum, one_add_real, one_sub_real, div_1024, ofBits_1024, ofBits_eps.1]
  rfl

variable {E : Data 512} {T : Next 2304}

theorem k1_y {a : FVec Ideal S512x2816 .bf16} {w : FVec Ideal S2816x1024 .bf16} (ha : Holds a E.act) (hw : Holds w E.wo) :
    Holds (k1_pay3 (F := Ideal) a w) E.y2 := by
  intro i j
  pointwise [k1_pay3]
  simp only [ha _ _, hw _ _, ← EReal.coe_mul, ← EReal.coe_add, ← EReal.coe_sub, coe_sum, one_add_real, one_sub_real, div_1024, ofBits_1024, ofBits_eps.1]
  rfl

theorem k1_yb {a : FVec Ideal S512x2816 .bf16} {w : FVec Ideal S2816x1024 .bf16} (ha : Holds a E.act) (hw : Holds w E.wo) :
    Holds (k1_pay2 (F := Ideal) (k1_pay3 a w)) E.y2 := by
  intro i j
  pointwise [k1_pay2]
  simp only [k1_y ha hw _ _, ← EReal.coe_mul, ← EReal.coe_add, ← EReal.coe_sub, coe_sum, one_add_real, one_sub_real, div_1024, ofBits_1024, ofBits_eps.1]

theorem k1_x {a : FVec Ideal S512x2816 .bf16} {w : FVec Ideal S2816x1024 .bf16} {x : FVec Ideal S512x1024 .f32} {g : FVec Ideal S1x1024 .f32}
    (ha : Holds a E.act) (hw : Holds w E.wo) (hx : Holds x E.x1) (hg : Holds g fun _ => E.g2) :
    Holds (k1_pay4 (F := Ideal) a w x g) E.x2 := by
  intro i j
  pointwise [k1_pay4]
  simp only [k1_y ha hw _ _, hx _ _, hg _ _, ← EReal.coe_mul, ← EReal.coe_add, ← EReal.coe_sub, coe_sum, one_add_real, one_sub_real, div_1024, ofBits_1024, ofBits_eps.1]
  rfl

theorem k1_h {a : FVec Ideal S512x2816 .bf16} {w : FVec Ideal S2816x1024 .bf16} {x : FVec Ideal S512x1024 .f32} {g : FVec Ideal S1x1024 .f32}
    {nm s1 b1 : FVec Ideal S1x1024 .f32} (ha : Holds a E.act) (hw : Holds w E.wo) (hx : Holds x E.x1) (hg : Holds g fun _ => E.g2)
    (hn : Holds nm fun _ => T.nm) (hs : Holds s1 fun _ => T.s1) (hb : Holds b1 fun _ => T.b1) :
    Holds (k1_pay5 (F := Ideal) a w x g nm s1 b1) (E.h1 T) := by
  intro i j
  pointwise [k1_pay5]
  simp only [k1_x ha hw hx hg _ _, hn _ _, hs _ _, hb _ _, E.rsqrt_den2, ← EReal.coe_mul, ← EReal.coe_add, ← EReal.coe_sub, coe_sum, one_add_real, one_sub_real, div_1024, ofBits_1024, ofBits_eps.1]
  rfl

theorem k1_q {h : FVec Ideal S512x1024 .bf16} {w : FVec Ideal S2304x1024 .bf16} (hh : Holds h (E.h1 T)) (hw : Holds w fun k j => T.wn j k) :
    Holds (k1_pay1 (F := Ideal) h w) (E.qkv T) := by
  intro i j
  pointwise [k1_pay1]
  simp only [hh _ _, hw _ _, ← EReal.coe_mul, ← EReal.coe_add, ← EReal.coe_sub, coe_sum, one_add_real, one_sub_real, div_1024, ofBits_1024, ofBits_eps.1]
  rfl

end Cert.Ffn

end
-- ==== Proof.Ffn.Arr0.lean ====
/- The first call's blocks and the arrays it leaves. -/
module

public import proofs.«01_k».proof.Proof.Ffn.Pay0
public import proofs.«01_k».proof.Proof.Gen.Kernel2Ideal.Frame.Region0
public import Idealize.ShloMosaic.Lib.Pipeline.ValueKit

@[expose] public section

set_option maxRecDepth 16384

noncomputable section

namespace Cert.Ffn

open Idealize.ShloMosaic Idealize.ShloMosaic.TcCoe Idealize.ShloMosaic.Pointwise Cert.Kernel2Ideal Cert.Kernel2Ideal.Gen

/-- What the first call is given, as real numbers. -/
structure In0 (V : (c : Dev nD) → (b : Ref sig .tc) → Buf (Elt Ideal) ((c : Thread nD τ).loc b)) (c : Dev nD) (D : Data 16384) :
    Prop where
  o : Holds (φ := .bf16) (V c main_arg1) D.o
  wm : Holds (φ := .bf16) (V c main_v0) D.wm
  x : Holds (φ := .f32) (V c main_arg3) D.x
  g1 : Holds (φ := .f32) (V c main_arg4) fun _ : Fin 1 => D.g1
  nf : Holds (φ := .f32) (V c main_arg5) fun _ : Fin 1 => D.nf
  sc : Holds (φ := .f32) (V c main_arg6) fun _ : Fin 1 => D.sc
  sh : Holds (φ := .f32) (V c main_arg7) fun _ : Fin 1 => D.sh
  wi : Holds (φ := .bf16) (V c main_v2) fun k j => D.wi j k

/-- The rows of a grid point. -/
def row0 (t : Fin cfg0.N) (i : Fin 256) : Fin 16384 := ⟨t.val * 256 + i.val, by have := t.isLt; have : cfg0.N = 64 := rfl; omega⟩

theorem idx0 : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![t.val, 0] := by decide +kernel

variable {V : (c : Dev nD) → (b : Ref sig .tc) → Buf (Elt Ideal) ((c : Thread nD τ).loc b)} {c : Dev nD} {D : Data 16384}

theorem blk0_0 (H : In0 V c D) (t : Fin cfg0.N) : Holds (φ := .bf16) (n := 256) (d := 1024) (iblk0 V c 0 t) ((D.rows (row0 t)).o) := by
  intro i j
  refine Eq.trans ?_ (H.o (row0 t i) j)
  blk_ext [iblk0, row0, idx0 t]

theorem blk0_1 (H : In0 V c D) (t : Fin cfg0.N) : Holds (φ := .bf16) (n := 1024) (d := 1024) (iblk0 V c 1 t) (D.wm) := by
  intro i j
  refine Eq.trans ?_ (H.wm i j)
  blk_ext [iblk0, row0, idx0 t]

theorem blk0_2 (H : In0 V c D) (t : Fin cfg0.N) : Holds (φ := .f32) (n := 256) (d := 1024) (iblk0 V c 2 t) ((D.rows (row0 t)).x) := by
  intro i j
  refine Eq.trans ?_ (H.x (row0 t i) j)
  blk_ext [iblk0, row0, idx0 t]

theorem blk0_3 (H : In0 V c D) (t : Fin cfg0.N) : Holds (φ := .f32) (n := 1) (d := 1024) (iblk0 V c 3 t) (fun _ => D.g1) := by
  intro i j
  refine Eq.trans ?_ (H.g1 i j)
  blk_ext [iblk0, row0, idx0 t]

theorem blk0_4 (H : In0 V c D) (t : Fin cfg0.N) : Holds (φ := .f32) (n := 1) (d := 1024) (iblk0 V c 4 t) (fun _ => D.nf) := by
  intro i j
  refine Eq.trans ?_ (H.nf i j)
  blk_ext [iblk0, row0, idx0 t]

theorem blk0_5 (H : In0 V c D) (t : Fin cfg0.N) : Holds (φ := .f32) (n := 1) (d := 1024) (iblk0 V c 5 t) (fun _ => D.sc) := by
  intro i j
  refine Eq.trans ?_ (H.sc i j)
  blk_ext [iblk0, row0, idx0 t]

theorem blk0_6 (H : In0 V c D) (t : Fin cfg0.N) : Holds (φ := .f32) (n := 1) (d := 1024) (iblk0 V c 6 t) (fun _ => D.sh) := by
  intro i j
  refine Eq.trans ?_ (H.sh i j)
  blk_ext [iblk0, row0, idx0 t]

theorem blk0_7 (H : In0 V c D) (t : Fin cfg0.N) : Holds (φ := .bf16) (n := 5632) (d := 1024) (iblk0 V c 7 t) (fun k j => D.wi j k) := by
  intro i j
  refine Eq.trans ?_ (H.wi i j)
  blk_ext [iblk0, row0, idx0 t]

theorem blk0_g (H : In0 V c D) (t : Fin cfg0.N) : Holds (φ := .bf16) (n := 2816) (d := 1024) (View.ld (iblk0 V c 7 t) r0_3) fun k j => D.wg j k := by
  intro i j
  refine Eq.trans ?_ (blk0_7 H t ⟨i.val, by omega⟩ j)
  pointwise []

theorem blk0_u (H : In0 V c D) (t : Fin cfg0.N) : Holds (φ := .bf16) (n := 2816) (d := 1024) (View.ld (iblk0 V c 7 t) r0_4) fun k j => D.wu j k := by
  intro i j
  refine Eq.trans ?_ (blk0_7 H t ⟨2816 + i.val, by omega⟩ j)
  pointwise []

theorem blk0_h (H : In0 V c D) (t : Fin cfg0.N) :
    Holds (k0_pay12 (iblk0 V c 0 t) (iblk0 V c 1 t) (iblk0 V c 2 t) (iblk0 V c 3 t) (iblk0 V c 4 t) (iblk0 V c 5 t) (iblk0 V c 6 t) (iblk0 V c 7 t)) (D.rows (row0 t)).h := by
  unfold k0_pay12
  simp (disch := decide) only [View.ld_unit_lit]
  exact k0_h (D := D.rows (row0 t)) (blk0_0 H t) (blk0_1 H t) (blk0_2 H t) (blk0_3 H t) (blk0_4 H t) (blk0_5 H t) (blk0_6 H t)

theorem arr0_8 (H : In0 V c D) : Holds (φ := .f32) (n := 16384) (d := 1024) ((dat0 V c).arrAt 8 cfg0.N) D.x1 := by
  intro i j
  have h : (dat0 V c).arrAt 8 cfg0.N = fun y : S16384x1024.Idx => ((D.x1 (y 0) (y 1) : ℝ) : EReal) := by
    refine (dat0 V c).arrAt_eq_of_covers 8 _ (by decide +kernel) fun t hf y => ?_
    blk_simp
    rw [after0_8]
    frame_out
    obtain ⟨i, j, rfl⟩ := ix2_of (n := 256) (d := 1024) y
    refine Eq.trans (k0_x (D := D.rows (row0 t)) (blk0_0 H t) (blk0_1 H t) (blk0_2 H t) (blk0_3 H t) i j) ?_
    refine coe_at (f := D.x1) (a := row0 t i) (b := j) ?_ ?_ <;> blk_simp [row0, idx0 t]
  exact congrFun h (ix2 i j)

theorem arr0_9 (H : In0 V c D) : Holds (φ := .bf16) (n := 16384) (d := 1024) ((dat0 V c).arrAt 9 cfg0.N) D.y1 := by
  intro i j
  have h : (dat0 V c).arrAt 9 cfg0.N = fun y : S16384x1024.Idx => ((D.y1 (y 0) (y 1) : ℝ) : EReal) := by
    refine (dat0 V c).arrAt_eq_of_covers 9 _ (by decide +kernel) fun t hf y => ?_
    blk_simp
    rw [after0_9]
    frame_out
    obtain ⟨i, j, rfl⟩ := ix2_of (n := 256) (d := 1024) y
    refine Eq.trans (k0_yb (D := D.rows (row0 t)) (blk0_0 H t) (blk0_1 H t) i j) ?_
    refine coe_at (f := D.y1) (a := row0 t i) (b := j) ?_ ?_ <;> blk_simp [row0, idx0 t]
  exact congrFun h (ix2 i j)

theorem arr0_10 (H : In0 V c D) : Holds (φ := .bf16) (n := 16384) (d := 1024) ((dat0 V c).arrAt 10 cfg0.N) D.h := by
  intro i j
  have h : (dat0 V c).arrAt 10 cfg0.N = fun y : S16384x1024.Idx => ((D.h (y 0) (y 1) : ℝ) : EReal) := by
    refine (dat0 V c).arrAt_eq_of_covers 10 _ (by decide +kernel) fun t hf y => ?_
    blk_simp
    rw [after0_10]
    unfold out0_10; rw [View.canon_unit_zero (by decide)]
    obtain ⟨i, j, rfl⟩ := ix2_of (n := 256) (d := 1024) y
    refine Eq.trans (blk0_h H t i j) ?_
    refine coe_at (f := D.h) (a := row0 t i) (b := j) ?_ ?_ <;> blk_simp [row0, idx0 t]
  exact congrFun h (ix2 i j)

theorem arr0_12 (H : In0 V c D) : Holds (φ := .bf16) (n := 16384) (d := 2816) ((dat0 V c).arrAt 12 cfg0.N) D.act := by
  intro i j
  have h : (dat0 V c).arrAt 12 cfg0.N = fun y : S16384x2816.Idx => ((D.act (y 0) (y 1) : ℝ) : EReal) := by
    refine (dat0 V c).arrAt_eq_of_covers 12 _ (by decide +kernel) fun t hf y => ?_
    blk_simp
    rw [after0_12]
    frame_out
    obtain ⟨i, j, rfl⟩ := ix2_of (n := 256) (d := 2816) y
    refine Eq.trans (k0_act (D := D.rows (row0 t)) (blk0_h H t) (blk0_g H t) (blk0_u H t) i j) ?_
    refine coe_at (f := D.act) (a := row0 t i) (b := j) ?_ ?_ <;> blk_simp [row0, idx0 t]
  exact congrFun h (ix2 i j)

theorem arr0_11 (H : In0 V c D) : Holds (φ := .bf16) (n := 16384) (d := 5632) ((dat0 V c).arrAt 11 cfg0.N) D.gu := by
  intro i j
  have h : (dat0 V c).arrAt 11 cfg0.N = fun y : S16384x5632.Idx => ((D.gu (y 0) (y 1) : ℝ) : EReal) := by
    refine (dat0 V c).arrAt_eq_of_covers 11 _ (by decide +kernel) fun t hf y => ?_
    blk_simp
    rw [after0_11]
    unfold out0_11
    canon_tiles x h
    · obtain ⟨i, j, rfl⟩ := ix2_of (n := 256) (d := 2816) x
      refine Eq.trans (k0_siluB (D := D.rows (row0 t)) (blk0_h H t) (blk0_g H t) i j) ?_
      refine gu_hi D (i := row0 t i) (k := j) ?_ ?_
      · blk_simp [row0, idx0 t]; rw [h0]; rfl
      · blk_simp [row0, idx0 t]; rw [h1]; rfl
    · obtain ⟨i, j, rfl⟩ := ix2_of (n := 256) (d := 2816) x
      refine Eq.trans (k0_ga (D := D.rows (row0 t)) (blk0_h H t) (blk0_g H t) (blk0_u H t) i j) ?_
      refine gu_lo D (i := row0 t i) (k := j) ?_ ?_
      · blk_simp [row0, idx0 t]; rw [h0]; rfl
      · blk_simp [row0, idx0 t]; rw [h1]; rfl
  exact congrFun h (ix2 i j)

end Cert.Ffn

end
-- ==== Proof.Ffn.Arr1.lean ====
/- The second call's blocks and the arrays it leaves. -/
module

public import proofs.«01_k».proof.Proof.Ffn.Arr0
public import proofs.«01_k».proof.Proof.Gen.Kernel2Ideal.Frame.Region1

@[expose] public section

set_option maxRecDepth 16384

noncomputable section

namespace Cert.Ffn

open Idealize.ShloMosaic Idealize.ShloMosaic.TcCoe Idealize.ShloMosaic.Pointwise Cert.Kernel2Ideal Cert.Kernel2Ideal.Gen

structure In1 (V : (c : Dev nD) → (b : Ref sig .tc) → Buf (Elt Ideal) ((c : Thread nD τ).loc b)) (c : Dev nD) (D : Data 16384) :
    Prop where
  act : Holds (φ := .bf16) (V c main_v6_4) D.act
  wo : Holds (φ := .bf16) (V c main_v3) D.wo
  x1 : Holds (φ := .f32) (V c main_v6_0) D.x1
  g2 : Holds (φ := .f32) (V c main_arg10) fun _ : Fin 1 => D.g2

/-- What it is given of the next layer. -/
structure Next1 (V : (c : Dev nD) → (b : Ref sig .tc) → Buf (Elt Ideal) ((c : Thread nD τ).loc b)) (c : Dev nD) (T : Next 2304) :
    Prop where
  nm : Holds (φ := .f32) (V c main_arg11) fun _ : Fin 1 => T.nm
  s1 : Holds (φ := .f32) (V c main_arg12) fun _ : Fin 1 => T.s1
  b1 : Holds (φ := .f32) (V c main_arg13) fun _ : Fin 1 => T.b1
  wn : Holds (φ := .bf16) (V c main_v5) fun k j => T.wn j k

/-- The rows of a grid point. -/
def row1 (t : Fin cfg1.N) (i : Fin 512) : Fin 16384 := ⟨t.val * 512 + i.val, by have := t.isLt; have : cfg1.N = 32 := rfl; omega⟩

theorem idx1 : ∀ t : Fin cfg1.N, win1_0.index t = ![t.val, 0] ∧ win1_1.index t = ![0, 0] ∧ win1_2.index t = ![t.val, 0] ∧ win1_3.index t = ![0, 0] ∧ win1_4.index t = ![0, 0] ∧ win1_5.index t = ![0, 0] ∧ win1_6.index t = ![0, 0] ∧ win1_7.index t = ![0, 0]
    ∧ win1_8.index t = ![t.val, 0] ∧ win1_9.index t = ![t.val, 0] ∧ win1_10.index t = ![t.val, 0] ∧ win1_11.index t = ![t.val, 0] := by
  decide +kernel

variable {V : (c : Dev nD) → (b : Ref sig .tc) → Buf (Elt Ideal) ((c : Thread nD τ).loc b)} {c : Dev nD} {D : Data 16384} {T : Next 2304}

theorem blk1_0 (H : In1 V c D) (t : Fin cfg1.N) : Holds (φ := .bf16) (n := 512) (d := 2816) (iblk1 V c 0 t) ((D.rows (row1 t)).act) := by
  intro i j
  refine Eq.trans ?_ (H.act (row1 t i) j)
  blk_ext [iblk1, row1, idx1 t]

theorem blk1_1 (H : In1 V c D) (t : Fin cfg1.N) : Holds (φ := .bf16) (n := 2816) (d := 1024) (iblk1 V c 1 t) D.wo := by
  intro i j
  refine Eq.trans ?_ (H.wo i j)
  blk_ext [iblk1, row1, idx1 t]

theorem blk1_2 (H : In1 V c D) (t : Fin cfg1.N) : Holds (φ := .f32) (n := 512) (d := 1024) (iblk1 V c 2 t) ((D.rows (row1 t)).x1) := by
  intro i j
  refine Eq.trans ?_ (H.x1 (row1 t i) j)
  blk_ext [iblk1, row1, idx1 t]

theorem blk1_3 (H : In1 V c D) (t : Fin cfg1.N) : Holds (φ := .f32) (n := 1) (d := 1024) (iblk1 V c 3 t) (fun _ => D.g2) := by
  intro i j
  refine Eq.trans ?_ (H.g2 i j)
  blk_ext [iblk1, row1, idx1 t]

theorem blk1_4 (H : Next1 V c T) (t : Fin cfg1.N) : Holds (φ := .f32) (n := 1) (d := 1024) (iblk1 V c 4 t) (fun _ => T.nm) := by
  intro i j
  refine Eq.trans ?_ (H.nm i j)
  blk_ext [iblk1, row1, idx1 t]

theorem blk1_5 (H : Next1 V c T) (t : Fin cfg1.N) : Holds (φ := .f32) (n := 1) (d := 1024) (iblk1 V c 5 t) (fun _ => T.s1) := by
  intro i j
  refine Eq.trans ?_ (H.s1 i j)
  blk_ext [iblk1, row1, idx1 t]

theorem blk1_6 (H : Next1 V c T) (t : Fin cfg1.N) : Holds (φ := .f32) (n := 1) (d := 1024) (iblk1 V c 6 t) (fun _ => T.b1) := by
  intro i j
  refine Eq.trans ?_ (H.b1 i j)
  blk_ext [iblk1, row1, idx1 t]

theorem blk1_7 (H : Next1 V c T) (t : Fin cfg1.N) : Holds (φ := .bf16) (n := 2304) (d := 1024) (iblk1 V c 7 t) (fun k j => T.wn j k) := by
  intro i j
  refine Eq.trans ?_ (H.wn i j)
  blk_ext [iblk1, row1, idx1 t]

theorem arr1_8 (H : In1 V c D) : Holds (φ := .f32) (n := 16384) (d := 1024) ((dat1 V c).arrAt 8 cfg1.N) D.x2 := by
  intro i j
  have h : (dat1 V c).arrAt 8 cfg1.N = fun y : S16384x1024.Idx => ((D.x2 (y 0) (y 1) : ℝ) : EReal) := by
    refine (dat1 V c).arrAt_eq_of_covers 8 _ (by decide +kernel) fun t hf y => ?_
    blk_simp
    rw [after1_8]
    frame_out
    obtain ⟨i, j, rfl⟩ := ix2_of (n := 512) (d := 1024) y
    refine Eq.trans (k1_x (E := D.rows (row1 t)) (blk1_0 H t) (blk1_1 H t) (blk1_2 H t) (blk1_3 H t) i j) ?_
    refine coe_at (f := D.x2) (a := row1 t i) (b := j) ?_ ?_ <;> blk_simp [row1, idx1 t]
  exact congrFun h (ix2 i j)

theorem arr1_9 (H : In1 V c D) : Holds (φ := .bf16) (n := 16384) (d := 1024) ((dat1 V c).arrAt 9 cfg1.N) D.y2 := by
  intro i j
  have h : (dat1 V c).arrAt 9 cfg1.N = fun y : S16384x1024.Idx => ((D.y2 (y 0) (y 1) : ℝ) : EReal) := by
    refine (dat1 V c).arrAt_eq_of_covers 9 _ (by decide +kernel) fun t hf y => ?_
    blk_simp
    rw [after1_9]
    frame_out
    obtain ⟨i, j, rfl⟩ := ix2_of (n := 512) (d := 1024) y
    refine Eq.trans (k1_yb (E := D.rows (row1 t)) (blk1_0 H t) (blk1_1 H t) i j) ?_
    refine coe_at (f := D.y2) (a := row1 t i) (b := j) ?_ ?_ <;> blk_simp [row1, idx1 t]
  exact congrFun h (ix2 i j)

theorem arr1_10 (H : In1 V c D) (L : Next1 V c T) : Holds (φ := .bf16) (n := 16384) (d := 1024) ((dat1 V c).arrAt 10 cfg1.N) (D.h1 T) := by
  intro i j
  have h : (dat1 V c).arrAt 10 cfg1.N = fun y : S16384x1024.Idx => (((D.h1 T) (y 0) (y 1) : ℝ) : EReal) := by
    refine (dat1 V c).arrAt_eq_of_covers 10 _ (by decide +kernel) fun t hf y => ?_
    blk_simp
    rw [after1_10]
    frame_out
    obtain ⟨i, j, rfl⟩ := ix2_of (n := 512) (d := 1024) y
    refine Eq.trans (k1_h (E := D.rows (row1 t)) (T := T) (blk1_0 H t) (blk1_1 H t) (blk1_2 H t) (blk1_3 H t) (blk1_4 L t) (blk1_5 L t) (blk1_6 L t) i j) ?_
    refine coe_at (f := D.h1 T) (a := row1 t i) (b := j) ?_ ?_ <;> blk_simp [row1, idx1 t]
  exact congrFun h (ix2 i j)

theorem arr1_11 (H : In1 V c D) (L : Next1 V c T) : Holds (φ := .bf16) (n := 16384) (d := 2304) ((dat1 V c).arrAt 11 cfg1.N) (D.qkv T) := by
  intro i j
  have h : (dat1 V c).arrAt 11 cfg1.N = fun y : S16384x2304.Idx => (((D.qkv T) (y 0) (y 1) : ℝ) : EReal) := by
    refine (dat1 V c).arrAt_eq_of_covers 11 _ (by decide +kernel) fun t hf y => ?_
    blk_simp
    rw [after1_11]
    frame_out
    obtain ⟨i, j, rfl⟩ := ix2_of (n := 512) (d := 2304) y
    refine Eq.trans (k1_q (E := D.rows (row1 t)) (T := T) (k1_h (blk1_0 H t) (blk1_1 H t) (blk1_2 H t) (blk1_3 H t) (blk1_4 L t) (blk1_5 L t) (blk1_6 L t)) (blk1_7 L t) i j) ?_
    refine coe_at (f := D.qkv T) (a := row1 t i) (b := j) ?_ ?_ <;> blk_simp [row1, idx1 t]
  exact congrFun h (ix2 i j)

end Cert.Ffn

end
-- ==== Proof.Ffn.Pay2.lean ====
/- The blocks the third call writes, as real numbers. -/
module

public import proofs.«01_k».proof.Proof.Ffn.Real
public import proofs.«01_k».proof.Proof.Gen.Kernel2Ideal.Skeleton

@[expose] public section

set_option maxRecDepth 16384

noncomputable section

namespace Cert.Ffn

open Idealize.ShloMosaic Idealize.ShloMosaic.Pointwise Cert.Kernel2Ideal Cert.Kernel2Ideal.Gen

variable {D : Data 256}

theorem k2_dy2 {dx : FVec Ideal S256x1024 .f32} {g2 : FVec Ideal S1x1024 .f32} (hdx : Holds dx D.dx) (hg2 : Holds g2 fun _ => D.g2) :
    Holds (k2_pay7 (F := Ideal) dx g2) D.dy2 := by
  intro i j
  pointwise [k2_pay7]
  simp only [hdx _ _, hg2 _ _, ← EReal.coe_mul, ← EReal.coe_add, ← EReal.coe_sub, coe_sum, one_add_real, one_sub_real, div_1024, ofBits_1024, ofBits_eps.1]
  rfl

theorem k2_da {dx : FVec Ideal S256x1024 .f32} {g2 : FVec Ideal S1x1024 .f32} {wo : FVec Ideal S2816x1024 .bf16} (hdx : Holds dx D.dx) (hg2 : Holds g2 fun _ => D.g2) (hwo : Holds wo D.wo) :
    Holds (k2_pay8 (F := Ideal) dx g2 wo) D.da := by
  intro i j
  pointwise [k2_pay8]
  simp only [k2_dy2 hdx hg2 _ _, hwo _ _, ← EReal.coe_mul, ← EReal.coe_add, ← EReal.coe_sub, coe_sum, one_add_real, one_sub_real, div_1024, ofBits_1024, ofBits_eps.1]
  rfl

theorem k2_dga {dx : FVec Ideal S256x1024 .f32} {g2 : FVec Ideal S1x1024 .f32} {wo : FVec Ideal S2816x1024 .bf16} {ga : FVec Ideal S256x2816 .bf16} (hdx : Holds dx D.dx) (hg2 : Holds g2 fun _ => D.g2) (hwo : Holds wo D.wo) (hga : Holds ga D.ga) :
    Holds (k2_pay9 (F := Ideal) dx g2 wo ga) D.dga := by
  intro i j
  pointwise [k2_pay9]
  simp only [k2_da hdx hg2 hwo _ _, hga _ _, ← EReal.coe_mul, ← EReal.coe_add, ← EReal.coe_sub, coe_sum, one_add_real, one_sub_real, div_1024, ofBits_1024, ofBits_eps.1]
  rfl

theorem k2_dup {dx : FVec Ideal S256x1024 .f32} {g2 : FVec Ideal S1x1024 .f32} {wo : FVec Ideal S2816x1024 .bf16} {s : FVec Ideal S256x2816 .bf16} (hdx : Holds dx D.dx) (hg2 : Holds g2 fun _ => D.g2) (hwo : Holds wo D.wo) (hs : Holds s D.silu) :
    Holds (k2_pay10 (F := Ideal) dx g2 wo s) D.dup := by
  intro i j
  pointwise [k2_pay10]
  simp only [k2_da hdx hg2 hwo _ _, hs _ _, ← EReal.coe_mul, ← EReal.coe_add, ← EReal.coe_sub, coe_sum, one_add_real, one_sub_real, div_1024, ofBits_1024, ofBits_eps.1]
  rfl

theorem k2_dh {da db : FVec Ideal S256x2816 .bf16} {wg wu : FVec Ideal S2816x1024 .bf16} (ha : Holds da D.dga) (hb : Holds db D.dup) (hwg : Holds wg fun k j => D.wg j k) (hwu : Holds wu fun k j => D.wu j k) :
    Holds (k2_pay11 (F := Ideal) da db wg wu) D.dh := by
  intro i j
  pointwise [k2_pay11]
  simp only [ha _ _, hb _ _, hwg _ _, hwu _ _, ← EReal.coe_mul, ← EReal.coe_add, ← EReal.coe_sub, coe_sum, one_add_real, one_sub_real, div_1024, ofBits_1024, ofBits_eps.1]
  rfl

theorem k2_x {x : FVec Ideal S256x1024 .f32} (hx : Holds x D.x1) :
    Holds (k2_pay12 (F := Ideal) x) D.x1 := by
  intro i j
  pointwise [k2_pay12]
  simp only [hx _ _, ← EReal.coe_mul, ← EReal.coe_add, ← EReal.coe_sub, coe_sum, one_add_real, one_sub_real, div_1024, ofBits_1024, ofBits_eps.1]

theorem k2_rs {x : FVec Ideal S256x1024 .f32} (hx : Holds x D.x1) :
    Holds (k2_pay13 (F := Ideal) x) fun i _ => D.rs i := by
  intro i j
  pointwise [k2_pay13]
  simp only [k2_x hx _ _, D.rsqrt_den, ← EReal.coe_mul, ← EReal.coe_add, ← EReal.coe_sub, coe_sum, one_add_real, one_sub_real, div_1024, ofBits_1024, ofBits_eps.1]

theorem k2_xh {x : FVec Ideal S256x1024 .f32} (hx : Holds x D.x1) :
    Holds (k2_pay14 (F := Ideal) x) D.xh := by
  intro i j
  pointwise [k2_pay14]
  simp only [k2_x hx _ _, k2_rs hx _ _, ← EReal.coe_mul, ← EReal.coe_add, ← EReal.coe_sub, coe_sum, one_add_real, one_sub_real, div_1024, ofBits_1024, ofBits_eps.1]
  rfl

theorem k2_sc {sc : FVec Ideal S1x1024 .f32} (hsc : Holds sc fun _ => D.sc) :
    Holds (k2_pay15 (F := Ideal) sc) fun _ j => 1 + D.sc j := by
  intro i j
  pointwise [k2_pay15]
  simp only [hsc _ _, ← EReal.coe_mul, ← EReal.coe_add, ← EReal.coe_sub, coe_sum, one_add_real, one_sub_real, div_1024, ofBits_1024, ofBits_eps.1]

theorem k2_dz {da db : FVec Ideal S256x2816 .bf16} {wg wu : FVec Ideal S2816x1024 .bf16} {x : FVec Ideal S256x1024 .f32} {nf sc : FVec Ideal S1x1024 .f32} (ha : Holds da D.dga) (hb : Holds db D.dup) (hwg : Holds wg fun k j => D.wg j k) (hwu : Holds wu fun k j => D.wu j k) (hx : Holds x D.x1) (hnf : Holds nf fun _ => D.nf) (hsc : Holds sc fun _ => D.sc) :
    Holds (k2_pay16 (F := Ideal) da db wg wu x nf sc) fun i j => D.rs i * (D.dxh i j - D.xh i j * D.proj i) := by
  intro i j
  pointwise [k2_pay16]
  simp only [k2_dh ha hb hwg hwu _ _, k2_xh hx _ _, k2_rs hx _ _, k2_sc hsc _ _, hnf _ _, ← EReal.coe_mul, ← EReal.coe_add, ← EReal.coe_sub, coe_sum, one_add_real, one_sub_real, div_1024, ofBits_1024, ofBits_eps.1]
  rfl

theorem k2_dx1 {dx z : FVec Ideal S256x1024 .f32} (hdx : Holds dx D.dx) (hz : Holds z fun i j => D.rs i * (D.dxh i j - D.xh i j * D.proj i)) :
    Holds (k2_pay17 (F := Ideal) dx z) D.dx1 := by
  intro i j
  pointwise [k2_pay17]
  simp only [hdx _ _, hz _ _, ← EReal.coe_mul, ← EReal.coe_add, ← EReal.coe_sub, coe_sum, one_add_real, one_sub_real, div_1024, ofBits_1024, ofBits_eps.1]
  rfl

theorem k2_dy1 {d : FVec Ideal S256x1024 .f32} {g : FVec Ideal S1x1024 .f32} (hd : Holds d D.dx1) (hg : Holds g fun _ => D.g1) :
    Holds (k2_pay1 (F := Ideal) d g) D.dy1 := by
  intro i j
  pointwise [k2_pay1]
  simp only [hd _ _, hg _ _, ← EReal.coe_mul, ← EReal.coe_add, ← EReal.coe_sub, coe_sum, one_add_real, one_sub_real, div_1024, ofBits_1024, ofBits_eps.1]
  rfl

theorem k2_do {d : FVec Ideal S256x1024 .f32} {g : FVec Ideal S1x1024 .f32} {w : FVec Ideal S1024x1024 .bf16} (hd : Holds d D.dx1) (hg : Holds g fun _ => D.g1) (hw : Holds w D.wm) :
    Holds (k2_pay2 (F := Ideal) d g w) D.dO := by
  intro i j
  pointwise [k2_pay2]
  simp only [k2_dy1 hd hg _ _, hw _ _, ← EReal.coe_mul, ← EReal.coe_add, ← EReal.coe_sub, coe_sum, one_add_real, one_sub_real, div_1024, ofBits_1024, ofBits_eps.1]
  rfl

theorem k2_dg2 {dx : FVec Ideal S256x1024 .f32} {acc : FVec Ideal S1x1024 .f32} {c : Fin 1024 → ℝ} {y : FVec Ideal S256x1024 .bf16} (hc : Holds acc fun _ => c) (hdx : Holds dx D.dx) (hy : Holds y D.y2) :
    Holds (k2_pay6 (F := Ideal) dx acc y) fun _ j => c j + D.dg2 j := by
  intro i j
  pointwise [k2_pay6]
  simp only [hc _ _, hdx _ _, hy _ _, ← EReal.coe_mul, ← EReal.coe_add, ← EReal.coe_sub, coe_sum, one_add_real, one_sub_real, div_1024, ofBits_1024, ofBits_eps.1]
  rfl

theorem k2_dhx {d xh : FVec Ideal S256x1024 .f32} (hd : Holds d D.dh) (hx : Holds xh D.xh) :
    Holds (k2_pay18 (F := Ideal) d xh) fun i j => D.dh i j * D.xh i j := by
  intro i j
  pointwise [k2_pay18]
  simp only [hd _ _, hx _ _, ← EReal.coe_mul, ← EReal.coe_add, ← EReal.coe_sub, coe_sum, one_add_real, one_sub_real, div_1024, ofBits_1024, ofBits_eps.1]

theorem k2_dsh {d : FVec Ideal S256x1024 .f32} {acc : FVec Ideal S1x1024 .f32} {c : Fin 1024 → ℝ} (hc : Holds acc fun _ => c) (hd : Holds d D.dh) :
    Holds (k2_pay19 (F := Ideal) d acc) fun _ j => c j + D.dsh j := by
  intro i j
  pointwise [k2_pay19]
  simp only [hc _ _, hd _ _, ← EReal.coe_mul, ← EReal.coe_add, ← EReal.coe_sub, coe_sum, one_add_real, one_sub_real, div_1024, ofBits_1024, ofBits_eps.1]
  rfl

theorem k2_dsc {d xh : FVec Ideal S256x1024 .f32} {nf : FVec Ideal S1x1024 .f32} {acc : FVec Ideal S1x1024 .f32} {c : Fin 1024 → ℝ} (hc : Holds acc fun _ => c) (hd : Holds d D.dh) (hx : Holds xh D.xh) (hnf : Holds nf fun _ => D.nf) :
    Holds (k2_pay20 (F := Ideal) d xh nf acc) fun _ j => c j + D.dsc j := by
  intro i j
  pointwise [k2_pay20]
  simp only [hc _ _, k2_dhx hd hx _ _, hnf _ _, ← EReal.coe_mul, ← EReal.coe_add, ← EReal.coe_sub, coe_sum, one_add_real, one_sub_real, div_1024, ofBits_1024, ofBits_eps.1]
  rfl

theorem k2_dnf {d xh : FVec Ideal S256x1024 .f32} {s : FVec Ideal S1x1024 .f32} {acc : FVec Ideal S1x1024 .f32} {c : Fin 1024 → ℝ} (hc : Holds acc fun _ => c) (hd : Holds d D.dh) (hx : Holds xh D.xh) (hs : Holds s fun _ j => 1 + D.sc j) :
    Holds (k2_pay21 (F := Ideal) d xh s acc) fun _ j => c j + D.dnf j := by
  intro i j
  pointwise [k2_pay21]
  simp only [hc _ _, k2_dhx hd hx _ _, hs _ _, ← EReal.coe_mul, ← EReal.coe_add, ← EReal.coe_sub, coe_sum, one_add_real, one_sub_real, div_1024, ofBits_1024, ofBits_eps.1]
  rfl

theorem k2_dg1 {dx z : FVec Ideal S256x1024 .f32} {acc : FVec Ideal S1x1024 .f32} {c : Fin 1024 → ℝ} {y : FVec Ideal S256x1024 .bf16} (hc : Holds acc fun _ => c) (hdx : Holds dx D.dx) (hz : Holds z fun i j => D.rs i * (D.dxh i j - D.xh i j * D.proj i)) (hy : Holds y D.y1) :
    Holds (k2_pay22 (F := Ideal) dx z acc y) fun _ j => c j + D.dg1 j := by
  intro i j
  pointwise [k2_pay22]
  simp only [hc _ _, k2_dx1 hdx hz _ _, hy _ _, ← EReal.coe_mul, ← EReal.coe_add, ← EReal.coe_sub, coe_sum, one_add_real, one_sub_real, div_1024, ofBits_1024, ofBits_eps.1]
  rfl

end Cert.Ffn

end
-- ==== Proof.Ffn.Blk2.lean ====
/- The third call's blocks and the arrays it leaves. -/
module

public import proofs.«01_k».proof.Proof.Ffn.Pay2
public import proofs.«01_k».proof.Proof.Gen.Kernel2Ideal.Frame.Region2
public import proofs.«01_k».proof.Proof.Ffn.Arr0

@[expose] public section

set_option maxRecDepth 16384

noncomputable section

namespace Cert.Ffn

open Idealize.ShloMosaic Idealize.ShloMosaic.TcCoe Idealize.ShloMosaic.Pointwise Cert.Kernel2Ideal Cert.Kernel2Ideal.Gen

structure In2 (V : (c : Dev nD) → (b : Ref sig .tc) → Buf (Elt Ideal) ((c : Thread nD τ).loc b)) (c : Dev nD) (D : Data 16384) :
    Prop where
  dx : Holds (φ := .f32) (V c main_arg0) D.dx
  y2 : Holds (φ := .bf16) (V c main_v7_1) D.y2
  g2 : Holds (φ := .f32) (V c main_arg10) (fun _ : Fin 1 => D.g2)
  wo : Holds (φ := .bf16) (V c main_v3) D.wo
  gu : Holds (φ := .bf16) (V c main_v6_3) D.gu
  wi : Holds (φ := .bf16) (V c main_v2) (fun k j => D.wi j k)
  x1 : Holds (φ := .f32) (V c main_v6_0) D.x1
  nf : Holds (φ := .f32) (V c main_arg5) (fun _ : Fin 1 => D.nf)
  sc : Holds (φ := .f32) (V c main_arg6) (fun _ : Fin 1 => D.sc)
  y1 : Holds (φ := .bf16) (V c main_v6_1) D.y1
  g1 : Holds (φ := .f32) (V c main_arg4) (fun _ : Fin 1 => D.g1)
  wm : Holds (φ := .bf16) (V c main_v0) D.wm

/-- The rows of a grid point. -/
def row2 (t : Fin cfg2.N) (i : Fin 256) : Fin 16384 := ⟨t.val * 256 + i.val, by have := t.isLt; have : cfg2.N = 64 := rfl; omega⟩

theorem idx2 : ∀ t : Fin cfg2.N, win2_0.index t = ![t.val, 0] ∧ win2_1.index t = ![t.val, 0] ∧ win2_2.index t = ![0, 0] ∧ win2_3.index t = ![0, 0] ∧ win2_4.index t = ![t.val, 0] ∧ win2_5.index t = ![0, 0] ∧ win2_6.index t = ![t.val, 0] ∧ win2_7.index t = ![0, 0] ∧ win2_8.index t = ![0, 0] ∧ win2_9.index t = ![t.val, 0] ∧ win2_10.index t = ![0, 0] ∧ win2_11.index t = ![0, 0] ∧ win2_12.index t = ![t.val, 0] ∧ win2_13.index t = ![t.val, 0] ∧ win2_14.index t = ![t.val, 0] ∧ win2_15.index t = ![t.val, 0] ∧ win2_16.index t = ![t.val, 0] ∧ win2_17.index t = ![0, 0] ∧ win2_18.index t = ![0, 0] ∧ win2_19.index t = ![0, 0] := by
  decide +kernel

variable {V : (c : Dev nD) → (b : Ref sig .tc) → Buf (Elt Ideal) ((c : Thread nD τ).loc b)} {c : Dev nD} {D : Data 16384}

theorem blk2_0 (H : In2 V c D) (t : Fin cfg2.N) : Holds (φ := .f32) (n := 256) (d := 1024) (iblk2 V c 0 t) ((D.rows (row2 t)).dx) := by
  intro i j
  refine Eq.trans ?_ (H.dx (row2 t i) j)
  blk_ext [iblk2, row2, idx2 t]

theorem blk2_1 (H : In2 V c D) (t : Fin cfg2.N) : Holds (φ := .bf16) (n := 256) (d := 1024) (iblk2 V c 1 t) ((D.rows (row2 t)).y2) := by
  intro i j
  refine Eq.trans ?_ (H.y2 (row2 t i) j)
  blk_ext [iblk2, row2, idx2 t]

theorem blk2_2 (H : In2 V c D) (t : Fin cfg2.N) : Holds (φ := .f32) (n := 1) (d := 1024) (iblk2 V c 2 t) (fun _ => D.g2) := by
  intro i j
  refine Eq.trans ?_ (H.g2 i j)
  blk_ext [iblk2, row2, idx2 t]

theorem blk2_3 (H : In2 V c D) (t : Fin cfg2.N) : Holds (φ := .bf16) (n := 2816) (d := 1024) (iblk2 V c 3 t) (D.wo) := by
  intro i j
  refine Eq.trans ?_ (H.wo i j)
  blk_ext [iblk2, row2, idx2 t]

theorem blk2_4 (H : In2 V c D) (t : Fin cfg2.N) : Holds (φ := .bf16) (n := 256) (d := 5632) (iblk2 V c 4 t) ((D.rows (row2 t)).gu) := by
  intro i j
  refine Eq.trans ?_ (H.gu (row2 t i) j)
  blk_ext [iblk2, row2, idx2 t]

theorem blk2_5 (H : In2 V c D) (t : Fin cfg2.N) : Holds (φ := .bf16) (n := 5632) (d := 1024) (iblk2 V c 5 t) (fun k j => D.wi j k) := by
  intro i j
  refine Eq.trans ?_ (H.wi i j)
  blk_ext [iblk2, row2, idx2 t]

theorem blk2_6 (H : In2 V c D) (t : Fin cfg2.N) : Holds (φ := .f32) (n := 256) (d := 1024) (iblk2 V c 6 t) ((D.rows (row2 t)).x1) := by
  intro i j
  refine Eq.trans ?_ (H.x1 (row2 t i) j)
  blk_ext [iblk2, row2, idx2 t]

theorem blk2_7 (H : In2 V c D) (t : Fin cfg2.N) : Holds (φ := .f32) (n := 1) (d := 1024) (iblk2 V c 7 t) (fun _ => D.nf) := by
  intro i j
  refine Eq.trans ?_ (H.nf i j)
  blk_ext [iblk2, row2, idx2 t]

theorem blk2_8 (H : In2 V c D) (t : Fin cfg2.N) : Holds (φ := .f32) (n := 1) (d := 1024) (iblk2 V c 8 t) (fun _ => D.sc) := by
  intro i j
  refine Eq.trans ?_ (H.sc i j)
  blk_ext [iblk2, row2, idx2 t]

theorem blk2_9 (H : In2 V c D) (t : Fin cfg2.N) : Holds (φ := .bf16) (n := 256) (d := 1024) (iblk2 V c 9 t) ((D.rows (row2 t)).y1) := by
  intro i j
  refine Eq.trans ?_ (H.y1 (row2 t i) j)
  blk_ext [iblk2, row2, idx2 t]

theorem blk2_10 (H : In2 V c D) (t : Fin cfg2.N) : Holds (φ := .f32) (n := 1) (d := 1024) (iblk2 V c 10 t) (fun _ => D.g1) := by
  intro i j
  refine Eq.trans ?_ (H.g1 i j)
  blk_ext [iblk2, row2, idx2 t]

theorem blk2_11 (H : In2 V c D) (t : Fin cfg2.N) : Holds (φ := .bf16) (n := 1024) (d := 1024) (iblk2 V c 11 t) (D.wm) := by
  intro i j
  refine Eq.trans ?_ (H.wm i j)
  blk_ext [iblk2, row2, idx2 t]

end Cert.Ffn

end
-- ==== Proof.Ffn.Arr2.lean ====
/- The arrays the third call leaves, but for its running sums. -/
module

public import proofs.«01_k».proof.Proof.Ffn.Blk2

@[expose] public section

set_option maxRecDepth 16384

noncomputable section

namespace Cert.Ffn

open Idealize.ShloMosaic Idealize.ShloMosaic.TcCoe Idealize.ShloMosaic.Pointwise Cert.Kernel2Ideal Cert.Kernel2Ideal.Gen

variable {V : (c : Dev nD) → (b : Ref sig .tc) → Buf (Elt Ideal) ((c : Thread nD τ).loc b)} {c : Dev nD} {D : Data 16384}

/-- The left half of the saved block is the gate's factor. -/
theorem blk2_ga (H : In2 V c D) (t : Fin cfg2.N) :
    Holds (φ := .bf16) (n := 256) (d := 2816) (View.ld (iblk2 V c 4 t) (Rect.unit ![0, 0] ![256, 2816] inb_S256x5632_S256x2816_0_0)) (D.rows (row2 t)).ga := by
  intro i j
  refine Eq.trans ?_ ((blk2_4 H t i ⟨j.val, by omega⟩).trans (gu_lo (D.rows (row2 t)) (i := i) (k := j) rfl rfl).symm)
  pointwise []

/-- The right half is the activation. -/
theorem blk2_silu (H : In2 V c D) (t : Fin cfg2.N) :
    Holds (φ := .bf16) (n := 256) (d := 2816) (View.ld (iblk2 V c 4 t) (Rect.unit ![0, 2816] ![256, 2816] inb_S256x5632_S256x2816_0_2816)) (D.rows (row2 t)).silu := by
  intro i j
  refine Eq.trans ?_ ((blk2_4 H t i ⟨2816 + j.val, by omega⟩).trans (gu_hi (D.rows (row2 t)) (i := i) (k := j) rfl rfl).symm)
  pointwise []

theorem blk2_wg (H : In2 V c D) (t : Fin cfg2.N) :
    Holds (φ := .bf16) (n := 2816) (d := 1024) (View.ld (iblk2 V c 5 t) (Rect.unit ![0, 0] ![2816, 1024] inb_S5632x1024_S2816x1024_0_0)) fun k j => (D.rows (row2 t)).wg j k := by
  intro i j
  refine Eq.trans ?_ (blk2_5 H t ⟨i.val, by omega⟩ j)
  pointwise []

theorem blk2_wu (H : In2 V c D) (t : Fin cfg2.N) :
    Holds (φ := .bf16) (n := 2816) (d := 1024) (View.ld (iblk2 V c 5 t) (Rect.unit ![2816, 0] ![2816, 1024] inb_S5632x1024_S2816x1024_2816_0)) fun k j => (D.rows (row2 t)).wu j k := by
  intro i j
  refine Eq.trans ?_ (blk2_5 H t ⟨2816 + i.val, by omega⟩ j)
  pointwise []

theorem blk2_dga (H : In2 V c D) (t : Fin cfg2.N) :
    Holds (k2_pay9 (F := Ideal) (iblk2 V c 0 t) (iblk2 V c 2 t) (iblk2 V c 3 t) (View.ld (iblk2 V c 4 t) (Rect.unit ![0, 0] ![256, 2816] inb_S256x5632_S256x2816_0_0))) (D.rows (row2 t)).dga :=
  k2_dga (D := D.rows (row2 t)) (blk2_0 H t) (blk2_2 H t) (blk2_3 H t) (blk2_ga H t)

theorem blk2_dup (H : In2 V c D) (t : Fin cfg2.N) :
    Holds (k2_pay10 (F := Ideal) (iblk2 V c 0 t) (iblk2 V c 2 t) (iblk2 V c 3 t) (View.ld (iblk2 V c 4 t) (Rect.unit ![0, 2816] ![256, 2816] inb_S256x5632_S256x2816_0_2816))) (D.rows (row2 t)).dup :=
  k2_dup (D := D.rows (row2 t)) (blk2_0 H t) (blk2_2 H t) (blk2_3 H t) (blk2_silu H t)

/-- The gradient of the normalised row's input at a block of rows, as the call computes it. -/
abbrev bdh (V : (c : Dev nD) → (b : Ref sig .tc) → Buf (Elt Ideal) ((c : Thread nD τ).loc b)) (c : Dev nD) (t : Fin cfg2.N) : FVec Ideal S256x1024 .f32 :=
  k2_pay11 (F := Ideal)
    (k2_pay9 (iblk2 V c 0 t) (iblk2 V c 2 t) (iblk2 V c 3 t) (View.ld (iblk2 V c 4 t) (Rect.unit ![0, 0] ![256, 2816] inb_S256x5632_S256x2816_0_0)))
    (k2_pay10 (iblk2 V c 0 t) (iblk2 V c 2 t) (iblk2 V c 3 t) (View.ld (iblk2 V c 4 t) (Rect.unit ![0, 2816] ![256, 2816] inb_S256x5632_S256x2816_0_2816)))
    (View.ld (iblk2 V c 5 t) (Rect.unit ![0, 0] ![2816, 1024] inb_S5632x1024_S2816x1024_0_0))
    (View.ld (iblk2 V c 5 t) (Rect.unit ![2816, 0] ![2816, 1024] inb_S5632x1024_S2816x1024_2816_0))

abbrev bdz (V : (c : Dev nD) → (b : Ref sig .tc) → Buf (Elt Ideal) ((c : Thread nD τ).loc b)) (c : Dev nD) (t : Fin cfg2.N) : FVec Ideal S256x1024 .f32 :=
  k2_pay16 (F := Ideal)
    (k2_pay9 (iblk2 V c 0 t) (iblk2 V c 2 t) (iblk2 V c 3 t) (View.ld (iblk2 V c 4 t) (Rect.unit ![0, 0] ![256, 2816] inb_S256x5632_S256x2816_0_0)))
    (k2_pay10 (iblk2 V c 0 t) (iblk2 V c 2 t) (iblk2 V c 3 t) (View.ld (iblk2 V c 4 t) (Rect.unit ![0, 2816] ![256, 2816] inb_S256x5632_S256x2816_0_2816)))
    (View.ld (iblk2 V c 5 t) (Rect.unit ![0, 0] ![2816, 1024] inb_S5632x1024_S2816x1024_0_0))
    (View.ld (iblk2 V c 5 t) (Rect.unit ![2816, 0] ![2816, 1024] inb_S5632x1024_S2816x1024_2816_0))
    (iblk2 V c 6 t) (iblk2 V c 7 t) (iblk2 V c 8 t)

theorem blk2_dh (H : In2 V c D) (t : Fin cfg2.N) : Holds (bdh V c t) (D.rows (row2 t)).dh :=
  k2_dh (D := D.rows (row2 t)) (blk2_dga H t) (blk2_dup H t) (blk2_wg H t) (blk2_wu H t)

theorem blk2_dz (H : In2 V c D) (t : Fin cfg2.N) :
    Holds (bdz V c t) fun i j => (D.rows (row2 t)).rs i * ((D.rows (row2 t)).dxh i j - (D.rows (row2 t)).xh i j * (D.rows (row2 t)).proj i) :=
  k2_dz (D := D.rows (row2 t)) (blk2_dga H t) (blk2_dup H t) (blk2_wg H t) (blk2_wu H t) (blk2_6 H t) (blk2_7 H t) (blk2_8 H t)

theorem blk2_dx1 (H : In2 V c D) (t : Fin cfg2.N) :
    Holds (k2_pay17 (F := Ideal) (iblk2 V c 0 t) (bdz V c t)) (D.rows (row2 t)).dx1 :=
  k2_dx1 (D := D.rows (row2 t)) (blk2_0 H t) (blk2_dz H t)

/-- What a point leaves in the tiles it writes itself, whichever case it runs. -/
theorem out2_13 (c : Dev nD) (t : Fin cfg2.N) : (outsAt2 V c t.val t.isLt).2.1 = k2_pay7 (F := Ideal) (iblk2 V c 0 t) (iblk2 V c 2 t) := by
  by_cases h : t.val % 64 = 0
  · rw [outsAt2_A V c t h]; frame_out
  · rw [outsAt2_B V c t h]; frame_out

theorem out2_14 (c : Dev nD) (t : Fin cfg2.N) : (outsAt2 V c t.val t.isLt).2.2.1 = k2_pay17 (F := Ideal) (iblk2 V c 0 t) (bdz V c t) := by
  by_cases h : t.val % 64 = 0
  · rw [outsAt2_A V c t h]; frame_out; rfl
  · rw [outsAt2_B V c t h]; frame_out; rfl

theorem out2_15 (c : Dev nD) (t : Fin cfg2.N) :
    (outsAt2 V c t.val t.isLt).2.2.2.1 = k2_pay2 (F := Ideal) (k2_pay17 (iblk2 V c 0 t) (bdz V c t)) (iblk2 V c 10 t) (iblk2 V c 11 t) := by
  by_cases h : t.val % 64 = 0
  · rw [outsAt2_A V c t h]; frame_out; rfl
  · rw [outsAt2_B V c t h]; frame_out; rfl

theorem out2_16 (c : Dev nD) (t : Fin cfg2.N) :
    (outsAt2 V c t.val t.isLt).2.2.2.2.1 = k2_pay1 (F := Ideal) (k2_pay17 (iblk2 V c 0 t) (bdz V c t)) (iblk2 V c 10 t) := by
  by_cases h : t.val % 64 = 0
  · rw [outsAt2_A V c t h]; frame_out; rfl
  · rw [outsAt2_B V c t h]; frame_out; rfl

theorem out2_12 (c : Dev nD) (t : Fin cfg2.N) :
    (outsAt2 V c t.val t.isLt).1 = View.canon
      [(⟨Rect.unit ![0, 2816] ![256, 2816] inb_S256x5632_S256x2816_0_2816, k2_pay10 (F := Ideal) (iblk2 V c 0 t) (iblk2 V c 2 t) (iblk2 V c 3 t) (View.ld (iblk2 V c 4 t) (Rect.unit ![0, 2816] ![256, 2816] inb_S256x5632_S256x2816_0_2816))⟩ : View.Piece (Elt Ideal) S256x5632 .bf16),
       ⟨Rect.unit ![0, 0] ![256, 2816] inb_S256x5632_S256x2816_0_0, k2_pay9 (F := Ideal) (iblk2 V c 0 t) (iblk2 V c 2 t) (iblk2 V c 3 t) (View.ld (iblk2 V c 4 t) (Rect.unit ![0, 0] ![256, 2816] inb_S256x5632_S256x2816_0_0))⟩] := by
  by_cases h : t.val % 64 = 0
  · rw [outsAt2_A V c t h]; frame_out; rfl
  · rw [outsAt2_B V c t h]; frame_out; rfl

theorem arr2_13 (H : In2 V c D) : Holds (φ := .bf16) (n := 16384) (d := 1024) ((dat2 V c).arrAt 13 cfg2.N) D.dy2 := by
  intro i j
  have h : (dat2 V c).arrAt 13 cfg2.N = fun y : S16384x1024.Idx => ((D.dy2 (y 0) (y 1) : ℝ) : EReal) := by
    refine (dat2 V c).arrAt_eq_of_covers 13 _ (by decide +kernel) fun t hf y => ?_
    blk_simp
    rw [after2_13, out2_13]
    obtain ⟨i, j, rfl⟩ := ix2_of (n := 256) (d := 1024) y
    refine Eq.trans (k2_dy2 (D := D.rows (row2 t)) (blk2_0 H t) (blk2_2 H t) i j) ?_
    refine coe_at (f := D.dy2) (a := row2 t i) (b := j) ?_ ?_ <;> blk_simp [row2, idx2 t]
  exact congrFun h (ix2 i j)

theorem arr2_14 (H : In2 V c D) : Holds (φ := .f32) (n := 16384) (d := 1024) ((dat2 V c).arrAt 14 cfg2.N) D.dx1 := by
  intro i j
  have h : (dat2 V c).arrAt 14 cfg2.N = fun y : S16384x1024.Idx => ((D.dx1 (y 0) (y 1) : ℝ) : EReal) := by
    refine (dat2 V c).arrAt_eq_of_covers 14 _ (by decide +kernel) fun t hf y => ?_
    blk_simp
    rw [after2_14, out2_14]
    obtain ⟨i, j, rfl⟩ := ix2_of (n := 256) (d := 1024) y
    refine Eq.trans (blk2_dx1 H t i j) ?_
    refine coe_at (f := D.dx1) (a := row2 t i) (b := j) ?_ ?_ <;> blk_simp [row2, idx2 t]
  exact congrFun h (ix2 i j)

theorem arr2_15 (H : In2 V c D) : Holds (φ := .bf16) (n := 16384) (d := 1024) ((dat2 V c).arrAt 15 cfg2.N) D.dO := by
  intro i j
  have h : (dat2 V c).arrAt 15 cfg2.N = fun y : S16384x1024.Idx => ((D.dO (y 0) (y 1) : ℝ) : EReal) := by
    refine (dat2 V c).arrAt_eq_of_covers 15 _ (by decide +kernel) fun t hf y => ?_
    blk_simp
    rw [after2_15, out2_15]
    obtain ⟨i, j, rfl⟩ := ix2_of (n := 256) (d := 1024) y
    refine Eq.trans (k2_do (D := D.rows (row2 t)) (blk2_dx1 H t) (blk2_10 H t) (blk2_11 H t) i j) ?_
    refine coe_at (f := D.dO) (a := row2 t i) (b := j) ?_ ?_ <;> blk_simp [row2, idx2 t]
  exact congrFun h (ix2 i j)

theorem arr2_16 (H : In2 V c D) : Holds (φ := .bf16) (n := 16384) (d := 1024) ((dat2 V c).arrAt 16 cfg2.N) D.dy1 := by
  intro i j
  have h : (dat2 V c).arrAt 16 cfg2.N = fun y : S16384x1024.Idx => ((D.dy1 (y 0) (y 1) : ℝ) : EReal) := by
    refine (dat2 V c).arrAt_eq_of_covers 16 _ (by decide +kernel) fun t hf y => ?_
    blk_simp
    rw [after2_16, out2_16]
    obtain ⟨i, j, rfl⟩ := ix2_of (n := 256) (d := 1024) y
    refine Eq.trans (k2_dy1 (D := D.rows (row2 t)) (blk2_dx1 H t) (blk2_10 H t) i j) ?_
    refine coe_at (f := D.dy1) (a := row2 t i) (b := j) ?_ ?_ <;> blk_simp [row2, idx2 t]
  exact congrFun h (ix2 i j)

theorem arr2_12 (H : In2 V c D) : Holds (φ := .bf16) (n := 16384) (d := 5632) ((dat2 V c).arrAt 12 cfg2.N) D.dgu := by
  intro i j
  have h : (dat2 V c).arrAt 12 cfg2.N = fun y : S16384x5632.Idx => ((D.dgu (y 0) (y 1) : ℝ) : EReal) := by
    refine (dat2 V c).arrAt_eq_of_covers 12 _ (by decide +kernel) fun t hf y => ?_
    blk_simp
    rw [after2_12, out2_12]
    canon_tiles x h
    · obtain ⟨i, j, rfl⟩ := ix2_of (n := 256) (d := 2816) x
      refine Eq.trans (blk2_dup H t i j) ?_
      refine dgu_hi D (i := row2 t i) (k := j) ?_ ?_
      · blk_simp [row2, idx2 t]; rw [h0]; rfl
      · blk_simp [row2, idx2 t]; rw [h1]; rfl
    · obtain ⟨i, j, rfl⟩ := ix2_of (n := 256) (d := 2816) x
      refine Eq.trans (blk2_dga H t i j) ?_
      refine dgu_lo D (i := row2 t i) (k := j) ?_ ?_
      · blk_simp [row2, idx2 t]; rw [h0]; rfl
      · blk_simp [row2, idx2 t]; rw [h1]; rfl
  exact congrFun h (ix2 i j)

end Cert.Ffn

end
-- ==== Proof.Ffn.Acc2.lean ====
/- The running sums the third call keeps over the points of its grid. -/
module

public import proofs.«01_k».proof.Proof.Ffn.Arr2
public import Idealize.ShloMosaic.Lib.Pipeline.ReadBack
public import Idealize.ShloMosaic.Lib.WritesUnit

@[expose] public section

set_option maxRecDepth 16384

noncomputable section

namespace Cert.Ffn

open Idealize.ShloMosaic Idealize.ShloMosaic.TcCoe Idealize.ShloMosaic.Pointwise Cert.Kernel2Ideal Cert.Kernel2Ideal.Gen

variable {V : (c : Dev nD) → (b : Ref sig .tc) → Buf (Elt Ideal) ((c : Thread nD τ).loc b)} {c : Dev nD} {D : Data 16384}

/-- A row store over earlier stores, read back: its own row, and the others as they were. -/
theorem canon_row {o : ℕ} (inb : ∀ a, (![o, 0] : Fin 2 → ℕ) a + (![1, 1024] : Fin 2 → ℕ) a ≤ S8x1024.size a)
    (w : S1x1024.Idx → EReal) (L : List (View.Piece (Elt Ideal) S8x1024 .f32)) (i : Fin 8) (j : Fin 1024) :
    View.canon ((⟨Rect.unit ![o, 0] ![1, 1024] inb, w⟩ : View.Piece (Elt Ideal) S8x1024 .f32) :: L) (ix2 i j)
      = if i.val = o then w (ix2 0 j) else View.canon L (ix2 i j) := by
  split
  · next h =>
    have hy : (Rect.unit (s := S8x1024) ![o, 0] ![1, 1024] inb).emb (ix2 (0 : Fin 1) j) = ix2 i j := by
      funext a
      apply Fin.ext
      rw [Rect.emb_apply]
      fin_cases a
      · show o + 1 * 0 = i.val
        omega
      · show 0 + 1 * j.val = j.val
        omega
    rw [← hy]
    exact View.canon_cons_emb (Val := Elt Ideal) (e := .f32) (Rect.unit (s := S8x1024) ![o, 0] ![1, 1024] inb) w L (ix2 0 j)
  · next h =>
    refine View.canon_cons_of_not_mem _ _ ?_
    rw [Rect.mem_set_unit]
    intro hm
    have := hm 0
    have h1 : o ≤ i.val ∧ i.val < o + 1 := this
    omega

theorem writes_row {sp : Space} (v : View sig .tc sp S8x1024 .f32) (f : v.ty.Contents (Elt Ideal)) {o : ℕ}
    (inb : ∀ a, (![o, 0] : Fin 2 → ℕ) a + (![1, 1024] : Fin 2 → ℕ) a ≤ S8x1024.size a)
    (w : S1x1024.Idx → EReal) (L : List (View.Piece (Elt Ideal) S8x1024 .f32)) (i : Fin 8) (j : Fin 1024) :
    v.read (Elt Ideal) (v.writes (Elt Ideal) f ((⟨Rect.unit ![o, 0] ![1, 1024] inb, w⟩ : View.Piece (Elt Ideal) S8x1024 .f32) :: L)) (ix2 i j)
      = if i.val = o then w (ix2 0 j) else v.read (Elt Ideal) (v.writes (Elt Ideal) f L) (ix2 i j) := by
  split
  · next h =>
    refine View.read_writes_cons_unit_of_mem v f inb w L (ix2 i j) (ix2 0 j) rfl fun a => ?_
    fin_cases a
    · show i.val = o + 0
      omega
    · show j.val = 0 + j.val
      omega
  · next h =>
    refine View.read_writes_cons_unit_of_not_mem v f inb w L (ix2 i j) rfl (0 : Fin 2) ?_
    show i.val < o ∨ o + 1 ≤ i.val
    omega

theorem ld_row {o : ℕ} (inb : ∀ a, (![o, 0] : Fin 2 → ℕ) a + (![1, 1024] : Fin 2 → ℕ) a ≤ S8x1024.size a)
    {A : FVec Ideal S8x1024 .f32} {a : Fin 8 → Fin 1024 → ℝ} (hA : Holds A a) (h : o < 8) :
    Holds (φ := .f32) (n := 1) (d := 1024) (View.ld (Val := Elt Ideal) (e' := .f32) (S := S8x1024) A (Rect.unit (s := S8x1024) ![o, 0] ![1, 1024] inb)) fun _ => a ⟨o, h⟩ := by
  intro i j
  refine Eq.trans (congrArg A ?_) (hA ⟨o, h⟩ j)
  funext b
  apply Fin.ext
  fin_cases b
  · show o + 1 * i.val = o
    omega
  · show 0 + 1 * j.val = j.val
    omega

/-- The sum of a point's share over the points so far. -/
def upTo (f : Fin cfg2.N → ℝ) (n : ℕ) : ℝ := ∑ s ∈ Finset.range (n + 1), if h : s < cfg2.N then f ⟨s, h⟩ else 0

theorem upTo_zero (f : Fin cfg2.N → ℝ) (h : 0 < cfg2.N) : upTo f 0 = 0 + f ⟨0, h⟩ := by
  unfold upTo
  rw [Finset.sum_range_succ, dif_pos h, Finset.sum_range_zero]

theorem upTo_succ (f : Fin cfg2.N → ℝ) (n : ℕ) (h : n + 1 < cfg2.N) : upTo f (n + 1) = upTo f n + f ⟨n + 1, h⟩ := by
  unfold upTo
  rw [Finset.sum_range_succ, dif_pos h]

/-- The last point of the grid. -/
def last2 : Fin cfg2.N := ⟨63, by decide⟩

theorem upTo_last (g : Fin 16384 → ℝ) : upTo (fun t => ∑ i, g (row2 t i)) last2.val = ∑ r, g r := by
  show upTo (fun t => ∑ i, g (row2 t i)) 63 = _
  unfold upTo
  rw [Finset.sum_range]
  have : ∀ s : Fin 64, (if h : s.val < cfg2.N then ∑ i, g (row2 ⟨s.val, h⟩ i) else 0) = ∑ i, g (row2 s i) := fun s => dif_pos s.isLt
  refine (Finset.sum_congr rfl fun s _ => this s).trans ?_
  refine (Fin.sum_points_lanes_congr (A := 1) (L := 16384) 64 (g := fun _ r => g r) fun t k ha hl => ?_).trans (Fin.sum_univ_one _)
  congr 1
  apply Fin.ext
  show t.val * 256 + k.val = t.val % 64 * 256 + k.val
  have := t.isLt
  omega

theorem zeros3 : Holds (k2_pay3 (F := Ideal)) fun _ _ => 0 := by
  intro i j
  pointwise [k2_pay3]
  exact EReal.coe_zero.symm

theorem zeros4 : Holds (k2_pay4 (F := Ideal)) fun _ _ => 0 := by
  intro i j
  pointwise [k2_pay4]
  exact EReal.coe_zero.symm

theorem zeros5 : Holds (k2_pay5 (F := Ideal)) fun _ _ => 0 := by
  intro i j
  pointwise [k2_pay5]
  exact EReal.coe_zero.symm

/-- The first sum's tile after a point: its row 0 is the sum so far. -/
theorem acc17 (H : In2 V c D) : ∀ (n : ℕ) (hn : n < cfg2.N), Holds (φ := .f32) (n := 8) (d := 1024) (outsAt2 V c n hn).2.2.2.2.2.1
    fun i j => if i.val = 0 then upTo (fun t => (D.rows (row2 t)).dg2 j) n else 0
  | 0, hn => by
    intro i j
    have e := outsAt2_A V c ⟨0, hn⟩ rfl
    refine (congrFun (congrArg (fun p => p.2.2.2.2.2.1) e) (ix2 i j)).trans ?_
    frame_out
    simp (disch := decide) only [View.readCov_fill]
    rw [canon_row]
    simp (disch := decide) only [View.canon_cons_unit_lit]
    rw [upTo_zero _ hn]
    split
    · exact k2_dg2 (D := D.rows (row2 ⟨0, hn⟩)) (c := fun _ => 0) (ld_row _ zeros3 (by decide)) (blk2_0 H _) (blk2_1 H _) 0 j
    · exact zeros3 i j
  | n + 1, hn => by
    intro i j
    have h : ¬(⟨n + 1, hn⟩ : Fin cfg2.N).val % 64 = 0 := by
      have : cfg2.N = 64 := rfl
      show ¬(n + 1) % 64 = 0
      omega
    have e := outsAt2_B V c ⟨n + 1, hn⟩ h
    refine (congrFun (congrArg (fun p => p.2.2.2.2.2.1) e) (ix2 i j)).trans ?_
    frame_out
    rw [writes_row, View.writes_nil, (hs2_17 _).read_unread, upTo_succ _ _ hn]
    split
    · exact k2_dg2 (D := D.rows (row2 ⟨n + 1, hn⟩)) (ld_row _ (acc17 H n (Nat.lt_of_succ_lt hn)) (by decide)) (blk2_0 H _) (blk2_1 H _) 0 j
    · next hi => exact (acc17 H n (Nat.lt_of_succ_lt hn) i j).trans (congrArg Real.toEReal (if_neg hi))

/-- The second sum's tile after a point: its rows 0, 1 and 2 are sums so far. -/
def rows18 (D : Data 16384) (n : ℕ) (i : Fin 8) (j : Fin 1024) : ℝ :=
  if i.val = 2 then upTo (fun t => (D.rows (row2 t)).dnf j) n
  else if i.val = 1 then upTo (fun t => (D.rows (row2 t)).dsc j) n
  else if i.val = 0 then upTo (fun t => (D.rows (row2 t)).dsh j) n else 0

theorem acc18 (H : In2 V c D) : ∀ (n : ℕ) (hn : n < cfg2.N),
    Holds (φ := .f32) (n := 8) (d := 1024) (outsAt2 V c n hn).2.2.2.2.2.2.1 (rows18 D n)
  | 0, hn => by
    intro i j
    have e := outsAt2_A V c ⟨0, hn⟩ rfl
    refine (congrFun (congrArg (fun p => p.2.2.2.2.2.2.1) e) (ix2 i j)).trans ?_
    frame_out
    simp (disch := first | decide | rfl) only [View.readCov_skip, View.readCov_fill]
    rw [canon_row, canon_row, canon_row]
    simp (disch := decide) only [View.canon_cons_unit_lit]
    unfold rows18
    rw [upTo_zero _ hn, upTo_zero _ hn, upTo_zero _ hn]
    have hd := blk2_dh H ⟨0, hn⟩
    have hx := k2_xh (D := D.rows (row2 ⟨0, hn⟩)) (blk2_6 H ⟨0, hn⟩)
    split
    · exact k2_dnf (D := D.rows (row2 ⟨0, hn⟩)) (c := fun _ => 0) (ld_row _ zeros4 (by decide)) hd hx (k2_sc (D := D.rows (row2 ⟨0, hn⟩)) (blk2_8 H _)) 0 j
    split
    · exact k2_dsc (D := D.rows (row2 ⟨0, hn⟩)) (c := fun _ => 0) (ld_row _ zeros4 (by decide)) hd hx (blk2_7 H _) 0 j
    split
    · exact k2_dsh (D := D.rows (row2 ⟨0, hn⟩)) (c := fun _ => 0) (ld_row _ zeros4 (by decide)) hd 0 j
    · exact zeros4 i j
  | n + 1, hn => by
    intro i j
    have h : ¬(⟨n + 1, hn⟩ : Fin cfg2.N).val % 64 = 0 := by
      have : cfg2.N = 64 := rfl
      show ¬(n + 1) % 64 = 0
      omega
    have e := outsAt2_B V c ⟨n + 1, hn⟩ h
    refine (congrFun (congrArg (fun p => p.2.2.2.2.2.2.1) e) (ix2 i j)).trans ?_
    frame_out
    rw [writes_row, writes_row, writes_row, View.writes_nil, (hs2_18 _).read_unread]
    unfold rows18
    rw [upTo_succ _ _ hn, upTo_succ _ _ hn, upTo_succ _ _ hn]
    have hd := blk2_dh H ⟨n + 1, hn⟩
    have hx := k2_xh (D := D.rows (row2 ⟨n + 1, hn⟩)) (blk2_6 H ⟨n + 1, hn⟩)
    have hp := acc18 H n (Nat.lt_of_succ_lt hn)
    split
    · exact k2_dnf (D := D.rows (row2 ⟨n + 1, hn⟩)) (ld_row _ hp (by decide)) hd hx (k2_sc (D := D.rows (row2 ⟨n + 1, hn⟩)) (blk2_8 H _)) 0 j
    split
    · exact k2_dsc (D := D.rows (row2 ⟨n + 1, hn⟩)) (ld_row _ hp (by decide)) hd hx (blk2_7 H _) 0 j
    split
    · exact k2_dsh (D := D.rows (row2 ⟨n + 1, hn⟩)) (ld_row _ hp (by decide)) hd 0 j
    · next h2 h1 h0 => exact (hp i j).trans (congrArg Real.toEReal ((if_neg h2).trans ((if_neg h1).trans (if_neg h0))))

/-- The third sum's tile after a point. -/
theorem acc19 (H : In2 V c D) : ∀ (n : ℕ) (hn : n < cfg2.N), Holds (φ := .f32) (n := 8) (d := 1024) (outsAt2 V c n hn).2.2.2.2.2.2.2
    fun i j => if i.val = 0 then upTo (fun t => (D.rows (row2 t)).dg1 j) n else 0
  | 0, hn => by
    intro i j
    have e := outsAt2_A V c ⟨0, hn⟩ rfl
    refine (congrFun (congrArg (fun p => p.2.2.2.2.2.2.2) e) (ix2 i j)).trans ?_
    frame_out
    simp (disch := decide) only [View.readCov_fill]
    rw [canon_row]
    simp (disch := decide) only [View.canon_cons_unit_lit]
    rw [upTo_zero _ hn]
    split
    · exact k2_dg1 (D := D.rows (row2 ⟨0, hn⟩)) (c := fun _ => 0) (ld_row _ zeros5 (by decide)) (blk2_0 H _) (blk2_dz H _) (blk2_9 H _) 0 j
    · exact zeros5 i j
  | n + 1, hn => by
    intro i j
    have h : ¬(⟨n + 1, hn⟩ : Fin cfg2.N).val % 64 = 0 := by
      have : cfg2.N = 64 := rfl
      show ¬(n + 1) % 64 = 0
      omega
    have e := outsAt2_B V c ⟨n + 1, hn⟩ h
    refine (congrFun (congrArg (fun p => p.2.2.2.2.2.2.2) e) (ix2 i j)).trans ?_
    frame_out
    rw [writes_row, View.writes_nil, (hs2_19 _).read_unread, upTo_succ _ _ hn]
    split
    · exact k2_dg1 (D := D.rows (row2 ⟨n + 1, hn⟩)) (ld_row _ (acc19 H n (Nat.lt_of_succ_lt hn)) (by decide)) (blk2_0 H _) (blk2_dz H _) (blk2_9 H _) 0 j
    · next hi => exact (acc19 H n (Nat.lt_of_succ_lt hn) i j).trans (congrArg Real.toEReal (if_neg hi))

theorem arr2_17 (H : In2 V c D) : Holds (φ := .f32) (n := 8) (d := 1024) ((dat2 V c).arrAt 17 cfg2.N) fun i j => if i.val = 0 then D.dg2 j else 0 := by
  intro i j
  have h : (dat2 V c).arrAt 17 cfg2.N = fun y : S8x1024.Idx => (((if (y 0).val = 0 then D.dg2 (y 1) else 0 : ℝ)) : EReal) := by
    refine (dat2 V c).arrAt_eq_of_after_last 17 last2 (by decide +kernel) _ fun j => ?_
    blk_simp
    rw [after2_17]
    obtain ⟨i, j, rfl⟩ := ix2_of (n := 8) (d := 1024) j
    refine Eq.trans (acc17 H last2.val last2.isLt i j) (congrArg Real.toEReal ?_)
    exact if_congr Iff.rfl (upTo_last fun r => D.dx r j * D.y2 r j) rfl
  exact congrFun h (ix2 i j)

theorem arr2_19 (H : In2 V c D) : Holds (φ := .f32) (n := 8) (d := 1024) ((dat2 V c).arrAt 19 cfg2.N) fun i j => if i.val = 0 then D.dg1 j else 0 := by
  intro i j
  have h : (dat2 V c).arrAt 19 cfg2.N = fun y : S8x1024.Idx => (((if (y 0).val = 0 then D.dg1 (y 1) else 0 : ℝ)) : EReal) := by
    refine (dat2 V c).arrAt_eq_of_after_last 19 last2 (by decide +kernel) _ fun j => ?_
    blk_simp
    rw [after2_19]
    obtain ⟨i, j, rfl⟩ := ix2_of (n := 8) (d := 1024) j
    refine Eq.trans (acc19 H last2.val last2.isLt i j) (congrArg Real.toEReal ?_)
    exact if_congr Iff.rfl (upTo_last fun r => D.dx1 r j * D.y1 r j) rfl
  exact congrFun h (ix2 i j)

theorem arr2_18 (H : In2 V c D) : Holds (φ := .f32) (n := 8) (d := 1024) ((dat2 V c).arrAt 18 cfg2.N) D.df := by
  intro i j
  have h : (dat2 V c).arrAt 18 cfg2.N = fun y : S8x1024.Idx => ((D.df (y 0) (y 1) : ℝ) : EReal) := by
    refine (dat2 V c).arrAt_eq_of_after_last 18 last2 (by decide +kernel) _ fun j => ?_
    blk_simp
    rw [after2_18]
    obtain ⟨i, j, rfl⟩ := ix2_of (n := 8) (d := 1024) j
    refine Eq.trans (acc18 H last2.val last2.isLt i j) (congrArg Real.toEReal ?_)
    refine if_congr Iff.rfl (upTo_last fun r => D.dh r j * D.xh r j * (1 + D.sc j)) ?_
    refine if_congr Iff.rfl (upTo_last fun r => D.dh r j * D.xh r j * D.nf j) ?_
    exact if_congr Iff.rfl (upTo_last fun r => D.dh r j) rfl
  exact congrFun h (ix2 i j)

end Cert.Ffn

end
-- ==== Proof.Ffn.Run2.lean ====
/- The run of the three calls: what they leave, as real numbers. -/
module

public import proofs.«01_k».proof.Proof.Gen.Kernel2Ideal.Frame
public import proofs.«01_k».proof.Proof.Ffn.Arr1
public import proofs.«01_k».proof.Proof.Ffn.Acc2

@[expose] public section

set_option maxRecDepth 16384

noncomputable section

namespace Cert.Ffn

open Idealize.ShloMosaic Idealize.ShloMosaic.TcCoe Idealize.ShloMosaic.Pointwise
open Cert.Kernel2Ideal Cert.Kernel2Ideal.Gen

section run

open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig Unit (Elt F) ℕ (UR sig nD τ) ℕ

variable (F) in
theorem no_share : (BI.emp : sProp 𝕄) ⊢ bigSep Finset.univ fun _ : Dev nD => (BI.emp : sProp 𝕄) := by
  rw [BI.bigSep_emp_const]

variable (F) in
theorem cells_elt : (ownU (initOf (Pipeline.cells cfgs cellOf_inj) (Pipeline.launchToks cfgs cellOf_inj)) : sProp 𝕄)
    ⊢ BI.own (emb₁ (initOf (Pipeline.cells cfgs cellOf_inj) (Pipeline.launchToks cfgs cellOf_inj))) := .rfl

set_option backward.isDefEq.respectTransparency.types false in
/-- Every buffer of the machine's main core ends at what the fold through the calls says it holds. -/
theorem run_fold : θ_run defs (onTc (τ := τ) (main (F := F))) ⟨m, fun _ => 0, ρ⟩ fun r =>
    ∀ (c : Dev nD), ∀ b ∈ Pipeline.ucRefs τ sig, r.2.mem (((c : Thread nD τ)).1, b) = W4 m ρ c b :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H
      imodintro
      isplitl [H]
      · iapply (cells_elt F)
        iexact H
      · iapply (no_share F)
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := Pipeline.initEach L lv fun c => by
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨HB, -, HO, -, HP, -⟩, -⟩
      imodintro
      isplitl [HB]
      · iexact HB
      isplitl [HP]
      · iexists _
        iexact HP
      · iexists ∅
        iexact HO)
    (QY := fun c s => ∀ b ∈ Pipeline.ucRefs τ sig, s.mem (((c : Thread nD τ)).1, b) = W4 m ρ c b)
    (hfin := fun c s' => by
      iintro ⟨⟨HB, -⟩, HS⟩
      unfold StableHlo.held
      imodintro
      iapply (pointsTo_read_all (Pipeline.ucRefs τ sig) (fun b => (((c : Thread nD τ)).1, b)) (W4 m ρ c) s')
      isplitl [HB] <;> iassumption)
    (hQ := fun _ h _ => h)

end run

variable (m : (ℓ : Loc nD τ sig) → Buf (Elt Ideal) ℓ) (ρ : Dev nD → PrngReg)

/-- What the calls are given, as real numbers. -/
structure Given (c : Dev nD) (D : Data 16384) : Prop where
  dx : Holds (φ := .f32) (m ((c : Thread nD τ).loc main_arg0)) D.dx
  o : Holds (φ := .bf16) (m ((c : Thread nD τ).loc main_arg1)) D.o
  wm : Holds (φ := .f32) (m ((c : Thread nD τ).loc main_arg2)) D.wm
  x : Holds (φ := .f32) (m ((c : Thread nD τ).loc main_arg3)) D.x
  g1 : Holds (φ := .f32) (m ((c : Thread nD τ).loc main_arg4)) fun _ : Fin 1 => D.g1
  nf : Holds (φ := .f32) (m ((c : Thread nD τ).loc main_arg5)) fun _ : Fin 1 => D.nf
  sc : Holds (φ := .f32) (m ((c : Thread nD τ).loc main_arg6)) fun _ : Fin 1 => D.sc
  sh : Holds (φ := .f32) (m ((c : Thread nD τ).loc main_arg7)) fun _ : Fin 1 => D.sh
  wi : Holds (φ := .f32) (m ((c : Thread nD τ).loc main_arg8)) D.wi
  wo : Holds (φ := .f32) (m ((c : Thread nD τ).loc main_arg9)) D.wo
  g2 : Holds (φ := .f32) (m ((c : Thread nD τ).loc main_arg10)) fun _ : Fin 1 => D.g2

/-- What they are given of the next layer. -/
structure GivenNext (c : Dev nD) (T : Next 2304) : Prop where
  nm : Holds (φ := .f32) (m ((c : Thread nD τ).loc main_arg11)) fun _ : Fin 1 => T.nm
  s1 : Holds (φ := .f32) (m ((c : Thread nD τ).loc main_arg12)) fun _ : Fin 1 => T.s1
  b1 : Holds (φ := .f32) (m ((c : Thread nD τ).loc main_arg13)) fun _ : Fin 1 => T.b1
  wn : Holds (φ := .f32) (m ((c : Thread nD τ).loc main_arg14)) T.wn

variable {m ρ} {c : Dev nD} {D : Data 16384} {T : Next 2304}

/-- The host operations in front of the calls: casts, and two transposes. -/
theorem v0_eq : W1 m ρ c (Proc.devRef .tc main_v0) = (truncf .bf16 (m ((c : Thread nD τ).loc main_arg2)) bitsLt_bf16_f32 : FVec Ideal S1024x1024 .bf16) := by
  simp only [W1, hostOps0]
  after_results_simp

theorem v2_eq : W1 m ρ c (Proc.devRef .tc main_v2)
    = (truncf .bf16 (transpose S5632x1024 [1, 0] (m ((c : Thread nD τ).loc main_arg8) : FVec Ideal S1024x5632 .f32) transposes_S1024x5632_S5632x1024_1_0) bitsLt_bf16_f32
      : FVec Ideal S5632x1024 .bf16) := by
  simp only [W1, hostOps0]
  after_results_simp

theorem v3_eq : W1 m ρ c (Proc.devRef .tc main_v3) = (truncf .bf16 (m ((c : Thread nD τ).loc main_arg9)) bitsLt_bf16_f32 : FVec Ideal S2816x1024 .bf16) := by
  simp only [W1, hostOps0]
  after_results_simp

theorem wn_eq : W1 m ρ c (Proc.devRef .tc main_v5)
    = (truncf .bf16 (transpose S2304x1024 [1, 0] (m ((c : Thread nD τ).loc main_arg14) : FVec Ideal S1024x2304 .f32) transposes_S1024x2304_S2304x1024_1_0) bitsLt_bf16_f32
      : FVec Ideal S2304x1024 .bf16) := by
  simp only [W1, hostOps0]
  after_results_simp

/-- What the first call is given. -/
theorem in0 (G : Given m c D) : In0 (V1 m ρ) c D where
  o i j := (congrFun (W1_args m ρ c main_arg1 (by decide)) _).trans (G.o i j)
  wm i j := by
    refine (congrFun v0_eq _).trans (Eq.trans ?_ (G.wm i j))
    pointwise []
  x i j := (congrFun (W1_args m ρ c main_arg3 (by decide)) _).trans (G.x i j)
  g1 i j := (congrFun (W1_args m ρ c main_arg4 (by decide)) _).trans (G.g1 i j)
  nf i j := (congrFun (W1_args m ρ c main_arg5 (by decide)) _).trans (G.nf i j)
  sc i j := (congrFun (W1_args m ρ c main_arg6 (by decide)) _).trans (G.sc i j)
  sh i j := (congrFun (W1_args m ρ c main_arg7 (by decide)) _).trans (G.sh i j)
  wi i j := by
    refine (congrFun v2_eq _).trans (Eq.trans ?_ (G.wi j i))
    pointwise []

/-- What the second is given. -/
theorem in1 (G : Given m c D) : In1 (V2 m ρ) c D where
  act i j := (congrFun (W2_arr m ρ c 12) _).trans (arr0_12 (in0 G) i j)
  wo i j := by
    refine (congrFun ((W2_of m ρ c main_v3 (by decide)).trans v3_eq) _).trans (Eq.trans ?_ (G.wo i j))
    pointwise []
  x1 i j := (congrFun (W2_arr m ρ c 8) _).trans (arr0_8 (in0 G) i j)
  g2 i j := (congrFun (W2_args m ρ c main_arg10 (by decide)) _).trans (G.g2 i j)

theorem next1 (L : GivenNext m c T) : Next1 (V2 m ρ) c T where
  nm i j := (congrFun (W2_args m ρ c main_arg11 (by decide)) _).trans (L.nm i j)
  s1 i j := (congrFun (W2_args m ρ c main_arg12 (by decide)) _).trans (L.s1 i j)
  b1 i j := (congrFun (W2_args m ρ c main_arg13 (by decide)) _).trans (L.b1 i j)
  wn i j := by
    refine (congrFun ((W2_of m ρ c main_v5 (by decide)).trans wn_eq) _).trans (Eq.trans ?_ (L.wn j i))
    pointwise []

/-- What the third is given. -/
theorem in2 (G : Given m c D) : In2 (V3 m ρ) c D where
  dx i j := (congrFun (W3_args m ρ c main_arg0 (by decide)) _).trans (G.dx i j)
  y2 i j := (congrFun (W3_arr m ρ c 9) _).trans (arr1_9 (in1 G) i j)
  g2 i j := (congrFun (W3_args m ρ c main_arg10 (by decide)) _).trans (G.g2 i j)
  wo i j := (congrFun (W3_of m ρ c main_v3 (by decide)) _).trans ((in1 G).wo i j)
  gu i j := (congrFun ((W3_of m ρ c main_v6_3 (by decide)).trans (W2_arr m ρ c 11)) _).trans (arr0_11 (in0 G) i j)
  wi i j := (congrFun ((W3_of m ρ c main_v2 (by decide)).trans (W2_of m ρ c main_v2 (by decide))) _).trans ((in0 G).wi i j)
  x1 i j := (congrFun ((W3_of m ρ c main_v6_0 (by decide)).trans (W2_arr m ρ c 8)) _).trans (arr0_8 (in0 G) i j)
  nf i j := (congrFun (W3_args m ρ c main_arg5 (by decide)) _).trans (G.nf i j)
  sc i j := (congrFun (W3_args m ρ c main_arg6 (by decide)) _).trans (G.sc i j)
  y1 i j := (congrFun ((W3_of m ρ c main_v6_1 (by decide)).trans (W2_arr m ρ c 9)) _).trans (arr0_9 (in0 G) i j)
  g1 i j := (congrFun (W3_args m ρ c main_arg4 (by decide)) _).trans (G.g1 i j)
  wm i j := (congrFun ((W3_of m ρ c main_v0 (by decide)).trans (W2_of m ρ c main_v0 (by decide))) _).trans ((in0 G).wm i j)

theorem out_dgu (G : Given m c D) : Holds (φ := .bf16) (W4 m ρ c (Proc.devRef .tc main_v8_0)) D.dgu :=
  fun i j => (congrFun (W4_arr m ρ c 12) _).trans (arr2_12 (in2 G) i j)
theorem out_dy2 (G : Given m c D) : Holds (φ := .bf16) (W4 m ρ c (Proc.devRef .tc main_v8_1)) D.dy2 :=
  fun i j => (congrFun (W4_arr m ρ c 13) _).trans (arr2_13 (in2 G) i j)
theorem out_dx1 (G : Given m c D) : Holds (φ := .f32) (W4 m ρ c (Proc.devRef .tc main_v8_2)) D.dx1 :=
  fun i j => (congrFun (W4_arr m ρ c 14) _).trans (arr2_14 (in2 G) i j)
theorem out_dO (G : Given m c D) : Holds (φ := .bf16) (W4 m ρ c (Proc.devRef .tc main_v8_3)) D.dO :=
  fun i j => (congrFun (W4_arr m ρ c 15) _).trans (arr2_15 (in2 G) i j)
theorem out_dy1 (G : Given m c D) : Holds (φ := .bf16) (W4 m ρ c (Proc.devRef .tc main_v8_4)) D.dy1 :=
  fun i j => (congrFun (W4_arr m ρ c 16) _).trans (arr2_16 (in2 G) i j)
theorem out_g2 (G : Given m c D) : Holds (n := 8) (φ := .f32) (W4 m ρ c (Proc.devRef .tc main_v8_5)) fun i j => if i.val = 0 then D.dg2 j else 0 :=
  fun i j => (congrFun (W4_arr m ρ c 17) _).trans (arr2_17 (in2 G) i j)
theorem out_f (G : Given m c D) : Holds (n := 8) (φ := .f32) (W4 m ρ c (Proc.devRef .tc main_v8_6)) D.df :=
  fun i j => (congrFun (W4_arr m ρ c 18) _).trans (arr2_18 (in2 G) i j)
theorem out_g1 (G : Given m c D) : Holds (n := 8) (φ := .f32) (W4 m ρ c (Proc.devRef .tc main_v8_7)) fun i j => if i.val = 0 then D.dg1 j else 0 :=
  fun i j => (congrFun (W4_arr m ρ c 19) _).trans (arr2_19 (in2 G) i j)

theorem out_h (G : Given m c D) : Holds (φ := .bf16) (W4 m ρ c (Proc.devRef .tc main_v6_2)) D.h :=
  fun i j => (congrFun ((W4_of m ρ c main_v6_2 (by decide)).trans ((W3_of m ρ c main_v6_2 (by decide)).trans (W2_arr m ρ c 10))) _).trans (arr0_10 (in0 G) i j)
theorem out_act (G : Given m c D) : Holds (φ := .bf16) (W4 m ρ c (Proc.devRef .tc main_v6_4)) D.act :=
  fun i j => (congrFun ((W4_of m ρ c main_v6_4 (by decide)).trans ((W3_of m ρ c main_v6_4 (by decide)).trans (W2_arr m ρ c 12))) _).trans (arr0_12 (in0 G) i j)
theorem out_x2 (G : Given m c D) : Holds (φ := .f32) (W4 m ρ c (Proc.devRef .tc main_v7_0)) D.x2 :=
  fun i j => (congrFun ((W4_of m ρ c main_v7_0 (by decide)).trans (W3_arr m ρ c 8)) _).trans (arr1_8 (in1 G) i j)
theorem out_h1 (G : Given m c D) (L : GivenNext m c T) : Holds (φ := .bf16) (W4 m ρ c (Proc.devRef .tc main_v7_2)) (D.h1 T) :=
  fun i j => (congrFun ((W4_of m ρ c main_v7_2 (by decide)).trans (W3_arr m ρ c 10)) _).trans (arr1_10 (in1 G) (next1 L) i j)
theorem out_qkv (G : Given m c D) (L : GivenNext m c T) : Holds (φ := .bf16) (W4 m ρ c (Proc.devRef .tc main_v7_3)) (D.qkv T) :=
  fun i j => (congrFun ((W4_of m ρ c main_v7_3 (by decide)).trans (W3_arr m ρ c 11)) _).trans (arr1_11 (in1 G) (next1 L) i j)

end Cert.Ffn

end
-- ==== Proof.Ffn.Line.lean ====
/- A straight line of host operations in which every reference is written once: what each reference holds at the end is
   its operation's result on what the operands hold at the end. -/
module

public import Idealize.ShloMosaic.Lib.StableHlo.RunRead

@[expose] public section

noncomputable section

namespace Cert.Ffn

open Idealize.ShloMosaic Idealize.ShloMosaic.StableHlo

variable {τ : Topo} {sig : RefSig} {Val : EltTy → Type} {ops : List (HloOp τ sig Val)} {W : List (Ref sig .tc)}

theorem after_app (l l' : List (HloOp τ sig Val)) (V : Valuation τ sig Val) : after (l ++ l') V = after l' (after l V) := by
  induction l generalizing V with
  | nil => rfl
  | cons op l ih => exact ih _

/-- A reference that no later operation writes already holds its final contents. -/
theorem upto_eq (hW : ops.map HloOp.writes = W.map fun w => {Proc.devRef (τ := τ) .tc w}) {i : ℕ} {r : Ref sig .tc}
    (hr : r ∉ W.drop i) (V : Valuation τ sig Val) :
    upto ops V i (Proc.devRef .tc r) = after ops V (Proc.devRef .tc r) := by
  have h : after ops V = after (ops.drop i) (after (ops.take i) V) := by
    rw [← after_app, List.take_append_drop]
  rw [h, after_unwritten (W.drop i) (by rw [List.map_drop, hW, List.map_drop]) hr]
  rfl

theorem at_op (hW : ops.map HloOp.writes = W.map fun w => {Proc.devRef (τ := τ) .tc w}) {i : ℕ} {op : HloOp τ sig Val}
    (h : ops[i]? = some op) {r : Ref sig .tc} (hr : r ∉ W.drop (i + 1)) (V : Valuation τ sig Val) :
    after ops V (Proc.devRef .tc r) = op.result (upto ops V i) (Proc.devRef .tc r) := by
  obtain ⟨hl, he⟩ := List.getElem?_eq_some_iff.mp h
  refine after_last_write (W.drop (i + 1)) (rest := ops.drop (i + 1)) ?_ (by rw [List.map_drop, hW, List.map_drop]) hr V
  rw [List.drop_eq_getElem_cons hl, he]

variable (hW : ops.map HloOp.writes = W.map fun w => {Proc.devRef (τ := τ) .tc w}) {i : ℕ} {x a b y : Ref sig .tc}
include hW

theorem nullary_at {v : y.ty.Contents Val} {hy} (h : ops[i]? = some (nullary y v hy)) (hr : y ∉ W.drop (i + 1))
    (V : Valuation τ sig Val) : after ops V (Proc.devRef .tc y) = v := by
  rw [at_op hW h hr, nullary_result]

theorem unary_at {f : x.ty.Contents Val → y.ty.Contents Val} {hx hy} (h : ops[i]? = some (unary x y f hx hy))
    (hr : y ∉ W.drop (i + 1)) (h1 : x ∉ W.drop i) (V : Valuation τ sig Val) :
    after ops V (Proc.devRef .tc y) = f (after ops V (Proc.devRef .tc x)) := by
  rw [at_op hW h hr, unary_result, upto_eq hW h1]

theorem binary_at {f : a.ty.Contents Val → b.ty.Contents Val → y.ty.Contents Val} {ha hb hy}
    (h : ops[i]? = some (binary a b y f ha hb hy)) (hr : y ∉ W.drop (i + 1)) (h1 : a ∉ W.drop i) (h2 : b ∉ W.drop i)
    (V : Valuation τ sig Val) :
    after ops V (Proc.devRef .tc y) = f (after ops V (Proc.devRef .tc a)) (after ops V (Proc.devRef .tc b)) := by
  rw [at_op hW h hr, binary_result, upto_eq hW h1, upto_eq hW h2]

theorem reshape_at {he hn hx hy} (h : ops[i]? = some (reshape x y he hn hx hy)) (hr : y ∉ W.drop (i + 1))
    (h1 : x ∉ W.drop i) (V : Valuation τ sig Val) :
    after ops V (Proc.devRef .tc y) = fun k => he ▸ shapeCast y.ty.shape (after ops V (Proc.devRef .tc x)) hn k := by
  rw [at_op hW h hr, reshape_result, upto_eq hW h1]

theorem nary_at {n : ℕ} {xs : Fin n → Ref sig .tc} {f : ((k : Fin n) → (xs k).ty.Contents Val) → y.ty.Contents Val} {hxs hy}
    (h : ops[i]? = some (nary xs y f hxs hy)) (hr : y ∉ W.drop (i + 1)) (h1 : ∀ k, xs k ∉ W.drop i) (V : Valuation τ sig Val) :
    after ops V (Proc.devRef .tc y) = f fun k => after ops V (Proc.devRef .tc (xs k)) := by
  rw [at_op hW h hr, nary_result]
  congr 1
  funext k
  exact upto_eq hW (h1 k) V

end Cert.Ffn

end
-- ==== Proof.Ffn.RefEqs.lean ====
/- What each value of the reference is, from the values it is computed of. -/
module

public import proofs.«01_k».proof.Proof.Ffn.Real
public import proofs.«01_k».proof.Proof.Ffn.Line
public import proofs.«01_k».proof.Proof.Gen.Reference2Ideal.Run

@[expose] public section

set_option maxRecDepth 16384

noncomputable section

namespace Cert.Ffn.Ref

open Idealize.ShloMosaic Idealize.ShloMosaic.StableHlo Idealize.ShloMosaic.TcCoe
open Cert.Reference2Ideal Cert.Reference2Ideal.Gen Cert.Reference2Ideal.Value

abbrev Val := Valuation τ sig (Elt Ideal)

/-- What a reference holds when the line has run. -/
abbrev R (V : Val) (r : Ref sig .tc) : r.ty.Contents (Elt Ideal) := after (ops (F := Ideal)) V (Proc.devRef .tc r)

/-- The references the line writes, in order. -/
def W : List (Ref sig .tc) := [main_v0, main_v1, main_v2, main_v3, main_v4, main_v5, main_cst, main_v6, main_v7, main_cst_0, main_v8, main_v9, main_cst_1, main_v10, main_v11, main_v12, main_v13, main_cst_2, main_v14, main_v15, main_v16, main_v17, main_v18, main_v19, main_cst_3, main_v20, main_v21, main_v22, main_v23, main_v24, main_v25, main_v26, main_v27, main_v28, main_call0_v0, main_call0_v1, main_call0_cst, main_call0_v2, main_call0_v3, main_call0_cst_0, main_call0_v4, main_v29_2, main_call0_cst_1, main_call0_v6, main_call0_v7, main_v29_1, main_v29_0, main_v30, main_v31, main_v32, main_v33, main_v34, main_v35, main_v36, main_v37, main_v38, main_v39, main_cst_4, main_v40, main_v41, main_v42, main_v43, main_v44, main_call1_v0, main_call1_v1, main_call1_v2, main_v45, main_v46, main_v47, main_cst_5, main_v48, main_v49, main_v50, main_cst_6, main_v51, main_v52, main_v53, main_v54, main_v55, main_cst_7, main_v56, main_v57, main_v58, main_v59, main_v60, main_cst_8, main_v61, main_v62, main_v63, main_v64, main_v65, main_cst_9, main_v66, main_v67, main_cst_10, main_v68, main_v69, main_v70, main_v71, main_v72, main_v73, main_v74, main_v75, main_v76, main_v77, main_cst_11, main_v78, main_v79, main_v80, main_v81, main_v82, main_v83, main_v84, main_cst_12, main_v85, main_v86, main_cst_13, main_v87, main_v88, main_cst_14, main_v89, main_v90, main_v91, main_v92, main_call2_v0, main_call2_v1, main_call2_cst, main_call2_v2, main_call2_v3, main_call2_cst_0, main_call2_v4, main_call2_v5, main_v93, main_v94, main_v95, main_v96, main_v97, main_v98, main_cst_15, main_v99, main_v100, main_cst_16, main_v101, main_v102, main_cst_17, main_v103, main_v104, main_v105, main_v106, main_v107, main_v108, main_v109, main_cst_18, main_v110, main_v111, main_v112, main_v113, main_v114, main_v115, main_v116, main_v117, main_v118, main_v119, main_v120]

theorem W_eq : (ops (F := Ideal)).map HloOp.writes = W.map fun w => {Proc.devRef (τ := τ) .tc w} := rfl

def r_arg1 (V : Val) : FVec Ideal S16384x1024 .bf16 := R V main_arg1
def r_arg2 (V : Val) : FVec Ideal S1024x1024 .f32 := R V main_arg2
def r_arg4 (V : Val) : FVec Ideal S1x1024 .f32 := R V main_arg4
def r_arg3 (V : Val) : FVec Ideal S16384x1024 .f32 := R V main_arg3
def r_arg5 (V : Val) : FVec Ideal S1x1024 .f32 := R V main_arg5
def r_arg6 (V : Val) : FVec Ideal S1x1024 .f32 := R V main_arg6
def r_arg7 (V : Val) : FVec Ideal S1x1024 .f32 := R V main_arg7
def r_arg8 (V : Val) : FVec Ideal S1024x5632 .f32 := R V main_arg8
def r_arg9 (V : Val) : FVec Ideal S2816x1024 .f32 := R V main_arg9
def r_arg10 (V : Val) : FVec Ideal S1x1024 .f32 := R V main_arg10
def r_arg0 (V : Val) : FVec Ideal S16384x1024 .f32 := R V main_arg0
def r_v0 (V : Val) : FVec Ideal S16384x1024 .f32 := R V main_v0
def r_v1 (V : Val) : FVec Ideal S16384x1024 .f32 := R V main_v1
def r_v2 (V : Val) : FVec Ideal S16384x1024 .f32 := R V main_v2
def r_v3 (V : Val) : FVec Ideal S16384x1024 .f32 := R V main_v3
def r_v4 (V : Val) : FVec Ideal S16384x1024 .f32 := R V main_v4
def r_v5 (V : Val) : FVec Ideal S16384x1024 .f32 := R V main_v5
def r_cst (V : Val) : FVec Ideal S_ .f32 := R V main_cst
def r_v6 (V : Val) : FVec Ideal S16384 .f32 := R V main_v6
def r_v7 (V : Val) : FVec Ideal S16384x1 .f32 := R V main_v7
def r_cst_0 (V : Val) : FVec Ideal S_ .f32 := R V main_cst_0
def r_v8 (V : Val) : FVec Ideal S16384x1 .f32 := R V main_v8
def r_v9 (V : Val) : FVec Ideal S16384x1 .f32 := R V main_v9
def r_cst_1 (V : Val) : FVec Ideal S_ .f32 := R V main_cst_1
def r_v10 (V : Val) : FVec Ideal S16384x1 .f32 := R V main_v10
def r_v11 (V : Val) : FVec Ideal S16384x1 .f32 := R V main_v11
def r_v12 (V : Val) : FVec Ideal S16384x1 .f32 := R V main_v12
def r_v13 (V : Val) : FVec Ideal S16384x1 .f32 := R V main_v13
def r_cst_2 (V : Val) : FVec Ideal S_ .f32 := R V main_cst_2
def r_v14 (V : Val) : FVec Ideal S16384x1 .f32 := R V main_v14
def r_v15 (V : Val) : FVec Ideal S16384x1 .f32 := R V main_v15
def r_v16 (V : Val) : FVec Ideal S16384x1024 .f32 := R V main_v16
def r_v17 (V : Val) : FVec Ideal S16384x1024 .f32 := R V main_v17
def r_v18 (V : Val) : FVec Ideal S16384x1024 .f32 := R V main_v18
def r_v19 (V : Val) : FVec Ideal S16384x1024 .f32 := R V main_v19
def r_cst_3 (V : Val) : FVec Ideal S_ .f32 := R V main_cst_3
def r_v20 (V : Val) : FVec Ideal S1x1024 .f32 := R V main_v20
def r_v21 (V : Val) : FVec Ideal S1x1024 .f32 := R V main_v21
def r_v22 (V : Val) : FVec Ideal S16384x1024 .f32 := R V main_v22
def r_v23 (V : Val) : FVec Ideal S16384x1024 .f32 := R V main_v23
def r_v24 (V : Val) : FVec Ideal S16384x1024 .f32 := R V main_v24
def r_v25 (V : Val) : FVec Ideal S16384x1024 .f32 := R V main_v25
def r_v26 (V : Val) : FVec Ideal S16384x5632 .f32 := R V main_v26
def r_v27 (V : Val) : FVec Ideal S16384x2816 .f32 := R V main_v27
def r_v28 (V : Val) : FVec Ideal S16384x2816 .f32 := R V main_v28
def r_call0_v0 (V : Val) : FVec Ideal S16384x2816 .f32 := R V main_call0_v0
def r_call0_v1 (V : Val) : FVec Ideal S16384x2816 .f32 := R V main_call0_v1
def r_call0_cst (V : Val) : FVec Ideal S_ .f32 := R V main_call0_cst
def r_call0_v2 (V : Val) : FVec Ideal S16384x2816 .f32 := R V main_call0_v2
def r_call0_v3 (V : Val) : FVec Ideal S16384x2816 .f32 := R V main_call0_v3
def r_call0_cst_0 (V : Val) : FVec Ideal S_ .f32 := R V main_call0_cst_0
def r_call0_v4 (V : Val) : FVec Ideal S16384x2816 .f32 := R V main_call0_v4
def r_v29_2 (V : Val) : FVec Ideal S16384x2816 .f32 := R V main_v29_2
def r_call0_cst_1 (V : Val) : FVec Ideal S_ .f32 := R V main_call0_cst_1
def r_call0_v6 (V : Val) : FVec Ideal S16384x2816 .f32 := R V main_call0_v6
def r_call0_v7 (V : Val) : FVec Ideal S16384x2816 .f32 := R V main_call0_v7
def r_v29_1 (V : Val) : FVec Ideal S16384x2816 .f32 := R V main_v29_1
def r_v29_0 (V : Val) : FVec Ideal S16384x2816 .f32 := R V main_v29_0
def r_v30 (V : Val) : FVec Ideal S16384x2816 .f32 := R V main_v30
def r_v31 (V : Val) : FVec Ideal S16384x1024 .f32 := R V main_v31
def r_v32 (V : Val) : FVec Ideal S16384x1024 .f32 := R V main_v32
def r_v33 (V : Val) : FVec Ideal S16384x1024 .f32 := R V main_v33
def r_v34 (V : Val) : FVec Ideal S16384x1024 .f32 := R V main_v34
def r_v35 (V : Val) : FVec Ideal S16384x1024 .f32 := R V main_v35
def r_v36 (V : Val) : FVec Ideal S16384x1024 .f32 := R V main_v36
def r_v37 (V : Val) : FVec Ideal S16384x1024 .f32 := R V main_v37
def r_v38 (V : Val) : FVec Ideal S16384x1024 .f32 := R V main_v38
def r_v39 (V : Val) : FVec Ideal S16384x1024 .f32 := R V main_v39
def r_cst_4 (V : Val) : FVec Ideal S_ .f32 := R V main_cst_4
def r_v40 (V : Val) : FVec Ideal S1024 .f32 := R V main_v40
def r_v41 (V : Val) : FVec Ideal S1x1024 .f32 := R V main_v41
def r_v42 (V : Val) : FVec Ideal S16384x2816 .f32 := R V main_v42
def r_v43 (V : Val) : FVec Ideal S16384x2816 .f32 := R V main_v43
def r_v44 (V : Val) : FVec Ideal S16384x2816 .f32 := R V main_v44
def r_call1_v0 (V : Val) : FVec Ideal S16384x2816 .f32 := R V main_call1_v0
def r_call1_v1 (V : Val) : FVec Ideal S16384x2816 .f32 := R V main_call1_v1
def r_call1_v2 (V : Val) : FVec Ideal S16384x2816 .f32 := R V main_call1_v2
def r_v45 (V : Val) : FVec Ideal S16384x2816 .f32 := R V main_v45
def r_v46 (V : Val) : FVec Ideal S16384x5632 .f32 := R V main_v46
def r_v47 (V : Val) : FVec Ideal S16384x1024 .f32 := R V main_v47
def r_cst_5 (V : Val) : FVec Ideal S_ .f32 := R V main_cst_5
def r_v48 (V : Val) : FVec Ideal S1024 .f32 := R V main_v48
def r_v49 (V : Val) : FVec Ideal S1x1024 .f32 := R V main_v49
def r_v50 (V : Val) : FVec Ideal S16384x1024 .f32 := R V main_v50
def r_cst_6 (V : Val) : FVec Ideal S_ .f32 := R V main_cst_6
def r_v51 (V : Val) : FVec Ideal S1024 .f32 := R V main_v51
def r_v52 (V : Val) : FVec Ideal S1x1024 .f32 := R V main_v52
def r_v53 (V : Val) : FVec Ideal S16384x1024 .f32 := R V main_v53
def r_v54 (V : Val) : FVec Ideal S16384x1024 .f32 := R V main_v54
def r_v55 (V : Val) : FVec Ideal S16384x1024 .f32 := R V main_v55
def r_cst_7 (V : Val) : FVec Ideal S_ .f32 := R V main_cst_7
def r_v56 (V : Val) : FVec Ideal S1024 .f32 := R V main_v56
def r_v57 (V : Val) : FVec Ideal S1x1024 .f32 := R V main_v57
def r_v58 (V : Val) : FVec Ideal S16384x1024 .f32 := R V main_v58
def r_v59 (V : Val) : FVec Ideal S16384x1024 .f32 := R V main_v59
def r_v60 (V : Val) : FVec Ideal S16384x1024 .f32 := R V main_v60
def r_cst_8 (V : Val) : FVec Ideal S_ .f32 := R V main_cst_8
def r_v61 (V : Val) : FVec Ideal S16384 .f32 := R V main_v61
def r_v62 (V : Val) : FVec Ideal S16384x1 .f32 := R V main_v62
def r_v63 (V : Val) : FVec Ideal S16384x1024 .f32 := R V main_v63
def r_v64 (V : Val) : FVec Ideal S16384x1024 .f32 := R V main_v64
def r_v65 (V : Val) : FVec Ideal S16384x1 .f32 := R V main_v65
def r_cst_9 (V : Val) : FVec Ideal S_ .f32 := R V main_cst_9
def r_v66 (V : Val) : FVec Ideal S16384x1 .f32 := R V main_v66
def r_v67 (V : Val) : FVec Ideal S16384x1 .f32 := R V main_v67
def r_cst_10 (V : Val) : FVec Ideal S_ .f32 := R V main_cst_10
def r_v68 (V : Val) : FVec Ideal S16384 .f32 := R V main_v68
def r_v69 (V : Val) : FVec Ideal S16384x1024 .f32 := R V main_v69
def r_v70 (V : Val) : FVec Ideal S16384x1024 .f32 := R V main_v70
def r_v71 (V : Val) : FVec Ideal S16384x1024 .f32 := R V main_v71
def r_v72 (V : Val) : FVec Ideal S16384x1024 .f32 := R V main_v72
def r_v73 (V : Val) : FVec Ideal S16384x1024 .f32 := R V main_v73
def r_v74 (V : Val) : FVec Ideal S16384x1024 .f32 := R V main_v74
def r_v75 (V : Val) : FVec Ideal S16384x1024 .f32 := R V main_v75
def r_v76 (V : Val) : FVec Ideal S16384x1024 .f32 := R V main_v76
def r_v77 (V : Val) : FVec Ideal S16384x1024 .f32 := R V main_v77
def r_cst_11 (V : Val) : FVec Ideal S_ .f32 := R V main_cst_11
def r_v78 (V : Val) : FVec Ideal S1024 .f32 := R V main_v78
def r_v79 (V : Val) : FVec Ideal S1x1024 .f32 := R V main_v79
def r_v80 (V : Val) : FVec Ideal S16384x1024 .f32 := R V main_v80
def r_v81 (V : Val) : FVec Ideal S16384x5632 .bf16 := R V main_v81
def r_v82 (V : Val) : FVec Ideal S16384x1024 .bf16 := R V main_v82
def r_v83 (V : Val) : FVec Ideal S16384x1024 .bf16 := R V main_v83
def r_v84 (V : Val) : FVec Ideal S16384x1024 .bf16 := R V main_v84
def r_cst_12 (V : Val) : FVec Ideal S_ .f32 := R V main_cst_12
def r_v85 (V : Val) : FVec Ideal S7x1024 .f32 := R V main_v85
def r_cst_13 (V : Val) : FVec Ideal S_ .f32 := R V main_cst_13
def r_v87 (V : Val) : FVec Ideal S5x1024 .f32 := R V main_v87
def r_cst_14 (V : Val) : FVec Ideal S_ .f32 := R V main_cst_14
def r_v89 (V : Val) : FVec Ideal S7x1024 .f32 := R V main_v89
def r_v86 (V : Val) : FVec Ideal S8x1024 .f32 := R V main_v86
def r_v88 (V : Val) : FVec Ideal S8x1024 .f32 := R V main_v88
def r_v90 (V : Val) : FVec Ideal S8x1024 .f32 := R V main_v90
def r_arg11 (V : Val) : FVec Ideal S1x1024 .f32 := R V main_arg11
def r_arg12 (V : Val) : FVec Ideal S1x1024 .f32 := R V main_arg12
def r_arg13 (V : Val) : FVec Ideal S1x1024 .f32 := R V main_arg13
def r_arg14 (V : Val) : FVec Ideal S1024x2304 .f32 := R V main_arg14
def r_v91 (V : Val) : FVec Ideal S16384x2816 .f32 := R V main_v91
def r_v92 (V : Val) : FVec Ideal S16384x2816 .f32 := R V main_v92
def r_call2_v0 (V : Val) : FVec Ideal S16384x2816 .f32 := R V main_call2_v0
def r_call2_v1 (V : Val) : FVec Ideal S16384x2816 .f32 := R V main_call2_v1
def r_call2_cst (V : Val) : FVec Ideal S_ .f32 := R V main_call2_cst
def r_call2_v2 (V : Val) : FVec Ideal S16384x2816 .f32 := R V main_call2_v2
def r_call2_v3 (V : Val) : FVec Ideal S16384x2816 .f32 := R V main_call2_v3
def r_call2_cst_0 (V : Val) : FVec Ideal S_ .f32 := R V main_call2_cst_0
def r_call2_v4 (V : Val) : FVec Ideal S16384x2816 .f32 := R V main_call2_v4
def r_call2_v5 (V : Val) : FVec Ideal S16384x2816 .f32 := R V main_call2_v5
def r_v93 (V : Val) : FVec Ideal S16384x2816 .f32 := R V main_v93
def r_v94 (V : Val) : FVec Ideal S16384x2816 .f32 := R V main_v94
def r_v95 (V : Val) : FVec Ideal S16384x1024 .f32 := R V main_v95
def r_v96 (V : Val) : FVec Ideal S16384x1024 .f32 := R V main_v96
def r_v97 (V : Val) : FVec Ideal S16384x1024 .f32 := R V main_v97
def r_v98 (V : Val) : FVec Ideal S16384x1024 .f32 := R V main_v98
def r_cst_15 (V : Val) : FVec Ideal S_ .f32 := R V main_cst_15
def r_v99 (V : Val) : FVec Ideal S16384 .f32 := R V main_v99
def r_v100 (V : Val) : FVec Ideal S16384x1 .f32 := R V main_v100
def r_cst_16 (V : Val) : FVec Ideal S_ .f32 := R V main_cst_16
def r_v101 (V : Val) : FVec Ideal S16384x1 .f32 := R V main_v101
def r_v102 (V : Val) : FVec Ideal S16384x1 .f32 := R V main_v102
def r_cst_17 (V : Val) : FVec Ideal S_ .f32 := R V main_cst_17
def r_v103 (V : Val) : FVec Ideal S16384x1 .f32 := R V main_v103
def r_v104 (V : Val) : FVec Ideal S16384x1 .f32 := R V main_v104
def r_v105 (V : Val) : FVec Ideal S16384x1 .f32 := R V main_v105
def r_v106 (V : Val) : FVec Ideal S16384x1024 .f32 := R V main_v106
def r_v107 (V : Val) : FVec Ideal S16384x1024 .f32 := R V main_v107
def r_v108 (V : Val) : FVec Ideal S16384x1024 .f32 := R V main_v108
def r_v109 (V : Val) : FVec Ideal S16384x1024 .f32 := R V main_v109
def r_cst_18 (V : Val) : FVec Ideal S_ .f32 := R V main_cst_18
def r_v110 (V : Val) : FVec Ideal S1x1024 .f32 := R V main_v110
def r_v111 (V : Val) : FVec Ideal S1x1024 .f32 := R V main_v111
def r_v112 (V : Val) : FVec Ideal S16384x1024 .f32 := R V main_v112
def r_v113 (V : Val) : FVec Ideal S16384x1024 .f32 := R V main_v113
def r_v114 (V : Val) : FVec Ideal S16384x1024 .f32 := R V main_v114
def r_v115 (V : Val) : FVec Ideal S16384x1024 .f32 := R V main_v115
def r_v116 (V : Val) : FVec Ideal S16384x2304 .f32 := R V main_v116
def r_v117 (V : Val) : FVec Ideal S16384x1024 .bf16 := R V main_v117
def r_v118 (V : Val) : FVec Ideal S16384x2816 .bf16 := R V main_v118
def r_v119 (V : Val) : FVec Ideal S16384x1024 .bf16 := R V main_v119
def r_v120 (V : Val) : FVec Ideal S16384x2304 .bf16 := R V main_v120

theorem v0 (V : Val) : r_v0 V = extf .f32 (r_arg1 V) bitsLt_bf16_f32 :=
  Eq.trans (unary_at W_eq (i := 0) (x := main_arg1) (y := main_v0) rfl (by decide) (by decide) V) rfl
theorem v1 (V : Val) : r_v1 V = Host.dotGeneral dot_S16384x1024_S1024x1024_S16384x1024_1_0_0_1_n_n none (r_v0 V) (r_arg2 V) :=
  Eq.trans (binary_at W_eq (i := 1) (a := main_v0) (b := main_arg2) (y := main_v1) rfl (by decide) (by decide) (by decide) V) rfl
theorem v2 (V : Val) : r_v2 V = broadcastInDim S16384x1024 ![0, 1] bcast_S1x1024_S16384x1024_0_1 (r_arg4 V) :=
  Eq.trans (unary_at W_eq (i := 2) (x := main_arg4) (y := main_v2) rfl (by decide) (by decide) V) rfl
theorem v3 (V : Val) : r_v3 V = mulf (r_v2 V) (r_v1 V) :=
  Eq.trans (binary_at W_eq (i := 3) (a := main_v2) (b := main_v1) (y := main_v3) rfl (by decide) (by decide) (by decide) V) rfl
theorem v4 (V : Val) : r_v4 V = addf (r_arg3 V) (r_v3 V) :=
  Eq.trans (binary_at W_eq (i := 4) (a := main_arg3) (b := main_v3) (y := main_v4) rfl (by decide) (by decide) (by decide) V) rfl
theorem v5 (V : Val) : r_v5 V = mulf (r_v4 V) (r_v4 V) :=
  Eq.trans (binary_at W_eq (i := 5) (a := main_v4) (b := main_v4) (y := main_v5) rfl (by decide) (by decide) (by decide) V) rfl
theorem cst (V : Val) : r_cst V = (constant S_ .f32 0x00000000#32) :=
  Eq.trans (nullary_at W_eq (i := 6) (y := main_cst) rfl (by decide) V) rfl
theorem v6 (V : Val) : r_v6 V = Host.reduceAdd (r_v5 V) (r_cst V) reducesTo_S16384x1024_S16384_d1 h_S_ :=
  Eq.trans (binary_at W_eq (i := 7) (a := main_v5) (b := main_cst) (y := main_v6) rfl (by decide) (by decide) (by decide) V) rfl
theorem v7 (V : Val) : r_v7 V = broadcastInDim S16384x1 ![0] bcast_S16384_S16384x1_0 (r_v6 V) :=
  Eq.trans (unary_at W_eq (i := 8) (x := main_v6) (y := main_v7) rfl (by decide) (by decide) V) rfl
theorem cst_0 (V : Val) : r_cst_0 V = (constant S_ .f32 0x44800000#32) :=
  Eq.trans (nullary_at W_eq (i := 9) (y := main_cst_0) rfl (by decide) V) rfl
theorem v8 (V : Val) : r_v8 V = broadcastInDim S16384x1 ![] bcast_S_S16384x1 (r_cst_0 V) :=
  Eq.trans (unary_at W_eq (i := 10) (x := main_cst_0) (y := main_v8) rfl (by decide) (by decide) V) rfl
theorem v9 (V : Val) : r_v9 V = Host.divf (r_v7 V) (r_v8 V) :=
  Eq.trans (binary_at W_eq (i := 11) (a := main_v7) (b := main_v8) (y := main_v9) rfl (by decide) (by decide) (by decide) V) rfl
theorem cst_1 (V : Val) : r_cst_1 V = (constant S_ .f32 0x358637BD#32) :=
  Eq.trans (nullary_at W_eq (i := 12) (y := main_cst_1) rfl (by decide) V) rfl
theorem v10 (V : Val) : r_v10 V = broadcastInDim S16384x1 ![] bcast_S_S16384x1 (r_cst_1 V) :=
  Eq.trans (unary_at W_eq (i := 13) (x := main_cst_1) (y := main_v10) rfl (by decide) (by decide) V) rfl
theorem v11 (V : Val) : r_v11 V = addf (r_v9 V) (r_v10 V) :=
  Eq.trans (binary_at W_eq (i := 14) (a := main_v9) (b := main_v10) (y := main_v11) rfl (by decide) (by decide) (by decide) V) rfl
theorem v12 (V : Val) : r_v12 V = Host.rsqrt (r_v11 V) :=
  Eq.trans (unary_at W_eq (i := 15) (x := main_v11) (y := main_v12) rfl (by decide) (by decide) V) rfl
theorem v13 (V : Val) : r_v13 V = Host.divf (r_v12 V) (r_v11 V) :=
  Eq.trans (binary_at W_eq (i := 16) (a := main_v12) (b := main_v11) (y := main_v13) rfl (by decide) (by decide) (by decide) V) rfl
theorem cst_2 (V : Val) : r_cst_2 V = (constant S_ .f32 0xBF000000#32) :=
  Eq.trans (nullary_at W_eq (i := 17) (y := main_cst_2) rfl (by decide) V) rfl
theorem v14 (V : Val) : r_v14 V = broadcastInDim S16384x1 ![] bcast_S_S16384x1 (r_cst_2 V) :=
  Eq.trans (unary_at W_eq (i := 18) (x := main_cst_2) (y := main_v14) rfl (by decide) (by decide) V) rfl
theorem v15 (V : Val) : r_v15 V = mulf (r_v14 V) (r_v13 V) :=
  Eq.trans (binary_at W_eq (i := 19) (a := main_v14) (b := main_v13) (y := main_v15) rfl (by decide) (by decide) (by decide) V) rfl
theorem v16 (V : Val) : r_v16 V = broadcastInDim S16384x1024 ![0, 1] bcast_S16384x1_S16384x1024_0_1 (r_v12 V) :=
  Eq.trans (unary_at W_eq (i := 20) (x := main_v12) (y := main_v16) rfl (by decide) (by decide) V) rfl
theorem v17 (V : Val) : r_v17 V = mulf (r_v4 V) (r_v16 V) :=
  Eq.trans (binary_at W_eq (i := 21) (a := main_v4) (b := main_v16) (y := main_v17) rfl (by decide) (by decide) (by decide) V) rfl
theorem v18 (V : Val) : r_v18 V = broadcastInDim S16384x1024 ![0, 1] bcast_S1x1024_S16384x1024_0_1 (r_arg5 V) :=
  Eq.trans (unary_at W_eq (i := 22) (x := main_arg5) (y := main_v18) rfl (by decide) (by decide) V) rfl
theorem v19 (V : Val) : r_v19 V = mulf (r_v17 V) (r_v18 V) :=
  Eq.trans (binary_at W_eq (i := 23) (a := main_v17) (b := main_v18) (y := main_v19) rfl (by decide) (by decide) (by decide) V) rfl
theorem cst_3 (V : Val) : r_cst_3 V = (constant S_ .f32 0x3F800000#32) :=
  Eq.trans (nullary_at W_eq (i := 24) (y := main_cst_3) rfl (by decide) V) rfl
theorem v20 (V : Val) : r_v20 V = broadcastInDim S1x1024 ![] bcast_S_S1x1024 (r_cst_3 V) :=
  Eq.trans (unary_at W_eq (i := 25) (x := main_cst_3) (y := main_v20) rfl (by decide) (by decide) V) rfl
theorem v21 (V : Val) : r_v21 V = addf (r_v20 V) (r_arg6 V) :=
  Eq.trans (binary_at W_eq (i := 26) (a := main_v20) (b := main_arg6) (y := main_v21) rfl (by decide) (by decide) (by decide) V) rfl
theorem v22 (V : Val) : r_v22 V = broadcastInDim S16384x1024 ![0, 1] bcast_S1x1024_S16384x1024_0_1 (r_v21 V) :=
  Eq.trans (unary_at W_eq (i := 27) (x := main_v21) (y := main_v22) rfl (by decide) (by decide) V) rfl
theorem v23 (V : Val) : r_v23 V = mulf (r_v19 V) (r_v22 V) :=
  Eq.trans (binary_at W_eq (i := 28) (a := main_v19) (b := main_v22) (y := main_v23) rfl (by decide) (by decide) (by decide) V) rfl
theorem v24 (V : Val) : r_v24 V = broadcastInDim S16384x1024 ![0, 1] bcast_S1x1024_S16384x1024_0_1 (r_arg7 V) :=
  Eq.trans (unary_at W_eq (i := 29) (x := main_arg7) (y := main_v24) rfl (by decide) (by decide) V) rfl
theorem v25 (V : Val) : r_v25 V = addf (r_v23 V) (r_v24 V) :=
  Eq.trans (binary_at W_eq (i := 30) (a := main_v23) (b := main_v24) (y := main_v25) rfl (by decide) (by decide) (by decide) V) rfl
theorem v26 (V : Val) : r_v26 V = Host.dotGeneral dot_S16384x1024_S1024x5632_S16384x5632_1_0_0_1_n_n none (r_v25 V) (r_arg8 V) :=
  Eq.trans (binary_at W_eq (i := 31) (a := main_v25) (b := main_arg8) (y := main_v26) rfl (by decide) (by decide) (by decide) V) rfl
theorem v27 (V : Val) : r_v27 V = extractStridedSlice S16384x2816 ![0, 0] (r_v26 V) slices_S16384x5632_S16384x2816_0_0 :=
  Eq.trans (unary_at W_eq (i := 32) (x := main_v26) (y := main_v27) rfl (by decide) (by decide) V) rfl
theorem v28 (V : Val) : r_v28 V = extractStridedSlice S16384x2816 ![0, 2816] (r_v26 V) slices_S16384x5632_S16384x2816_0_2816 :=
  Eq.trans (unary_at W_eq (i := 33) (x := main_v26) (y := main_v28) rfl (by decide) (by decide) V) rfl
theorem call0_v0 (V : Val) : r_call0_v0 V = Host.negf (r_v27 V) :=
  Eq.trans (unary_at W_eq (i := 34) (x := main_v27) (y := main_call0_v0) rfl (by decide) (by decide) V) rfl
theorem call0_v1 (V : Val) : r_call0_v1 V = Host.exp (r_call0_v0 V) :=
  Eq.trans (unary_at W_eq (i := 35) (x := main_call0_v0) (y := main_call0_v1) rfl (by decide) (by decide) V) rfl
theorem call0_cst (V : Val) : r_call0_cst V = (constant S_ .f32 0x3F800000#32) :=
  Eq.trans (nullary_at W_eq (i := 36) (y := main_call0_cst) rfl (by decide) V) rfl
theorem call0_v2 (V : Val) : r_call0_v2 V = (broadcastInDim S16384x2816 ![] bcast_S_S16384x2816) (r_call0_cst V) :=
  Eq.trans (unary_at W_eq (i := 37) (x := main_call0_cst) (y := main_call0_v2) rfl (by decide) (by decide) V) rfl
theorem call0_v3 (V : Val) : r_call0_v3 V = addf (r_call0_v2 V) (r_call0_v1 V) :=
  Eq.trans (binary_at W_eq (i := 38) (a := main_call0_v2) (b := main_call0_v1) (y := main_call0_v3) rfl (by decide) (by decide) (by decide) V) rfl
theorem call0_cst_0 (V : Val) : r_call0_cst_0 V = (constant S_ .f32 0x3F800000#32) :=
  Eq.trans (nullary_at W_eq (i := 39) (y := main_call0_cst_0) rfl (by decide) V) rfl
theorem call0_v4 (V : Val) : r_call0_v4 V = (broadcastInDim S16384x2816 ![] bcast_S_S16384x2816) (r_call0_cst_0 V) :=
  Eq.trans (unary_at W_eq (i := 40) (x := main_call0_cst_0) (y := main_call0_v4) rfl (by decide) (by decide) V) rfl
theorem v29_2 (V : Val) : r_v29_2 V = Host.divf (r_call0_v4 V) (r_call0_v3 V) :=
  Eq.trans (binary_at W_eq (i := 41) (a := main_call0_v4) (b := main_call0_v3) (y := main_v29_2) rfl (by decide) (by decide) (by decide) V) rfl
theorem call0_cst_1 (V : Val) : r_call0_cst_1 V = (constant S_ .f32 0x3F800000#32) :=
  Eq.trans (nullary_at W_eq (i := 42) (y := main_call0_cst_1) rfl (by decide) V) rfl
theorem call0_v6 (V : Val) : r_call0_v6 V = (broadcastInDim S16384x2816 ![] bcast_S_S16384x2816) (r_call0_cst_1 V) :=
  Eq.trans (unary_at W_eq (i := 43) (x := main_call0_cst_1) (y := main_call0_v6) rfl (by decide) (by decide) V) rfl
theorem call0_v7 (V : Val) : r_call0_v7 V = subf (r_call0_v6 V) (r_v29_2 V) :=
  Eq.trans (binary_at W_eq (i := 44) (a := main_call0_v6) (b := main_v29_2) (y := main_call0_v7) rfl (by decide) (by decide) (by decide) V) rfl
theorem v29_1 (V : Val) : r_v29_1 V = mulf (r_v29_2 V) (r_call0_v7 V) :=
  Eq.trans (binary_at W_eq (i := 45) (a := main_v29_2) (b := main_call0_v7) (y := main_v29_1) rfl (by decide) (by decide) (by decide) V) rfl
theorem v29_0 (V : Val) : r_v29_0 V = mulf (r_v27 V) (r_v29_2 V) :=
  Eq.trans (binary_at W_eq (i := 46) (a := main_v27) (b := main_v29_2) (y := main_v29_0) rfl (by decide) (by decide) (by decide) V) rfl
theorem v30 (V : Val) : r_v30 V = mulf (r_v29_0 V) (r_v28 V) :=
  Eq.trans (binary_at W_eq (i := 47) (a := main_v29_0) (b := main_v28) (y := main_v30) rfl (by decide) (by decide) (by decide) V) rfl
theorem v31 (V : Val) : r_v31 V = Host.dotGeneral dot_S16384x2816_S2816x1024_S16384x1024_1_0_0_1_n_n none (r_v30 V) (r_arg9 V) :=
  Eq.trans (binary_at W_eq (i := 48) (a := main_v30) (b := main_arg9) (y := main_v31) rfl (by decide) (by decide) (by decide) V) rfl
theorem v32 (V : Val) : r_v32 V = broadcastInDim S16384x1024 ![0, 1] bcast_S1x1024_S16384x1024_0_1 (r_arg10 V) :=
  Eq.trans (unary_at W_eq (i := 49) (x := main_arg10) (y := main_v32) rfl (by decide) (by decide) V) rfl
theorem v33 (V : Val) : r_v33 V = mulf (r_v32 V) (r_v31 V) :=
  Eq.trans (binary_at W_eq (i := 50) (a := main_v32) (b := main_v31) (y := main_v33) rfl (by decide) (by decide) (by decide) V) rfl
theorem v34 (V : Val) : r_v34 V = addf (r_v4 V) (r_v33 V) :=
  Eq.trans (binary_at W_eq (i := 51) (a := main_v4) (b := main_v33) (y := main_v34) rfl (by decide) (by decide) (by decide) V) rfl
theorem v35 (V : Val) : r_v35 V = shapeCast S16384x1024 (r_arg0 V) (by decide) :=
  Eq.trans (reshape_at W_eq (i := 52) (x := main_arg0) (y := main_v35) rfl (by decide) (by decide) V) rfl
theorem v36 (V : Val) : r_v36 V = shapeCast S16384x1024 (r_arg0 V) (by decide) :=
  Eq.trans (reshape_at W_eq (i := 53) (x := main_arg0) (y := main_v36) rfl (by decide) (by decide) V) rfl
theorem v37 (V : Val) : r_v37 V = broadcastInDim S16384x1024 ![0, 1] bcast_S1x1024_S16384x1024_0_1 (r_arg10 V) :=
  Eq.trans (unary_at W_eq (i := 54) (x := main_arg10) (y := main_v37) rfl (by decide) (by decide) V) rfl
theorem v38 (V : Val) : r_v38 V = mulf (r_v37 V) (r_v36 V) :=
  Eq.trans (binary_at W_eq (i := 55) (a := main_v37) (b := main_v36) (y := main_v38) rfl (by decide) (by decide) (by decide) V) rfl
theorem v39 (V : Val) : r_v39 V = mulf (r_v36 V) (r_v31 V) :=
  Eq.trans (binary_at W_eq (i := 56) (a := main_v36) (b := main_v31) (y := main_v39) rfl (by decide) (by decide) (by decide) V) rfl
theorem cst_4 (V : Val) : r_cst_4 V = (constant S_ .f32 0x00000000#32) :=
  Eq.trans (nullary_at W_eq (i := 57) (y := main_cst_4) rfl (by decide) V) rfl
theorem v40 (V : Val) : r_v40 V = Host.reduceAdd (r_v39 V) (r_cst_4 V) reducesTo_S16384x1024_S1024_d0 h_S_ :=
  Eq.trans (binary_at W_eq (i := 58) (a := main_v39) (b := main_cst_4) (y := main_v40) rfl (by decide) (by decide) (by decide) V) rfl
theorem v41 (V : Val) : r_v41 V = shapeCast S1x1024 (r_v40 V) (by decide) :=
  Eq.trans (reshape_at W_eq (i := 59) (x := main_v40) (y := main_v41) rfl (by decide) (by decide) V) rfl
theorem v42 (V : Val) : r_v42 V = Host.dotGeneral dot_S16384x1024_S2816x1024_S16384x2816_1_1_0_0_n_n none (r_v38 V) (r_arg9 V) :=
  Eq.trans (binary_at W_eq (i := 60) (a := main_v38) (b := main_arg9) (y := main_v42) rfl (by decide) (by decide) (by decide) V) rfl
theorem v43 (V : Val) : r_v43 V = mulf (r_v29_0 V) (r_v42 V) :=
  Eq.trans (binary_at W_eq (i := 61) (a := main_v29_0) (b := main_v42) (y := main_v43) rfl (by decide) (by decide) (by decide) V) rfl
theorem v44 (V : Val) : r_v44 V = mulf (r_v42 V) (r_v28 V) :=
  Eq.trans (binary_at W_eq (i := 62) (a := main_v42) (b := main_v28) (y := main_v44) rfl (by decide) (by decide) (by decide) V) rfl
theorem call1_v0 (V : Val) : r_call1_v0 V = mulf (r_v27 V) (r_v44 V) :=
  Eq.trans (binary_at W_eq (i := 63) (a := main_v27) (b := main_v44) (y := main_call1_v0) rfl (by decide) (by decide) (by decide) V) rfl
theorem call1_v1 (V : Val) : r_call1_v1 V = mulf (r_v44 V) (r_v29_2 V) :=
  Eq.trans (binary_at W_eq (i := 64) (a := main_v44) (b := main_v29_2) (y := main_call1_v1) rfl (by decide) (by decide) (by decide) V) rfl
theorem call1_v2 (V : Val) : r_call1_v2 V = mulf (r_call1_v0 V) (r_v29_1 V) :=
  Eq.trans (binary_at W_eq (i := 65) (a := main_call1_v0) (b := main_v29_1) (y := main_call1_v2) rfl (by decide) (by decide) (by decide) V) rfl
theorem v45 (V : Val) : r_v45 V = addf (r_call1_v1 V) (r_call1_v2 V) :=
  Eq.trans (binary_at W_eq (i := 66) (a := main_call1_v1) (b := main_call1_v2) (y := main_v45) rfl (by decide) (by decide) (by decide) V) rfl
theorem v46 (V : Val) : r_v46 V = (fn_main_v46 (F := Ideal)) (r_v45 V) (r_v43 V) :=
  Eq.trans (binary_at W_eq (i := 67) (a := main_v45) (b := main_v43) (y := main_v46) rfl (by decide) (by decide) (by decide) V) rfl
theorem v47 (V : Val) : r_v47 V = Host.dotGeneral dot_S16384x5632_S1024x5632_S16384x1024_1_1_0_0_n_n none (r_v46 V) (r_arg8 V) :=
  Eq.trans (binary_at W_eq (i := 68) (a := main_v46) (b := main_arg8) (y := main_v47) rfl (by decide) (by decide) (by decide) V) rfl
theorem cst_5 (V : Val) : r_cst_5 V = (constant S_ .f32 0x00000000#32) :=
  Eq.trans (nullary_at W_eq (i := 69) (y := main_cst_5) rfl (by decide) V) rfl
theorem v48 (V : Val) : r_v48 V = Host.reduceAdd (r_v47 V) (r_cst_5 V) reducesTo_S16384x1024_S1024_d0 h_S_ :=
  Eq.trans (binary_at W_eq (i := 70) (a := main_v47) (b := main_cst_5) (y := main_v48) rfl (by decide) (by decide) (by decide) V) rfl
theorem v49 (V : Val) : r_v49 V = shapeCast S1x1024 (r_v48 V) (by decide) :=
  Eq.trans (reshape_at W_eq (i := 71) (x := main_v48) (y := main_v49) rfl (by decide) (by decide) V) rfl
theorem v50 (V : Val) : r_v50 V = mulf (r_v19 V) (r_v47 V) :=
  Eq.trans (binary_at W_eq (i := 72) (a := main_v19) (b := main_v47) (y := main_v50) rfl (by decide) (by decide) (by decide) V) rfl
theorem cst_6 (V : Val) : r_cst_6 V = (constant S_ .f32 0x00000000#32) :=
  Eq.trans (nullary_at W_eq (i := 73) (y := main_cst_6) rfl (by decide) V) rfl
theorem v51 (V : Val) : r_v51 V = Host.reduceAdd (r_v50 V) (r_cst_6 V) reducesTo_S16384x1024_S1024_d0 h_S_ :=
  Eq.trans (binary_at W_eq (i := 74) (a := main_v50) (b := main_cst_6) (y := main_v51) rfl (by decide) (by decide) (by decide) V) rfl
theorem v52 (V : Val) : r_v52 V = shapeCast S1x1024 (r_v51 V) (by decide) :=
  Eq.trans (reshape_at W_eq (i := 75) (x := main_v51) (y := main_v52) rfl (by decide) (by decide) V) rfl
theorem v53 (V : Val) : r_v53 V = broadcastInDim S16384x1024 ![0, 1] bcast_S1x1024_S16384x1024_0_1 (r_v21 V) :=
  Eq.trans (unary_at W_eq (i := 76) (x := main_v21) (y := main_v53) rfl (by decide) (by decide) V) rfl
theorem v54 (V : Val) : r_v54 V = mulf (r_v47 V) (r_v53 V) :=
  Eq.trans (binary_at W_eq (i := 77) (a := main_v47) (b := main_v53) (y := main_v54) rfl (by decide) (by decide) (by decide) V) rfl
theorem v55 (V : Val) : r_v55 V = mulf (r_v17 V) (r_v54 V) :=
  Eq.trans (binary_at W_eq (i := 78) (a := main_v17) (b := main_v54) (y := main_v55) rfl (by decide) (by decide) (by decide) V) rfl
theorem cst_7 (V : Val) : r_cst_7 V = (constant S_ .f32 0x00000000#32) :=
  Eq.trans (nullary_at W_eq (i := 79) (y := main_cst_7) rfl (by decide) V) rfl
theorem v56 (V : Val) : r_v56 V = Host.reduceAdd (r_v55 V) (r_cst_7 V) reducesTo_S16384x1024_S1024_d0 h_S_ :=
  Eq.trans (binary_at W_eq (i := 80) (a := main_v55) (b := main_cst_7) (y := main_v56) rfl (by decide) (by decide) (by decide) V) rfl
theorem v57 (V : Val) : r_v57 V = shapeCast S1x1024 (r_v56 V) (by decide) :=
  Eq.trans (reshape_at W_eq (i := 81) (x := main_v56) (y := main_v57) rfl (by decide) (by decide) V) rfl
theorem v58 (V : Val) : r_v58 V = broadcastInDim S16384x1024 ![0, 1] bcast_S1x1024_S16384x1024_0_1 (r_arg5 V) :=
  Eq.trans (unary_at W_eq (i := 82) (x := main_arg5) (y := main_v58) rfl (by decide) (by decide) V) rfl
theorem v59 (V : Val) : r_v59 V = mulf (r_v54 V) (r_v58 V) :=
  Eq.trans (binary_at W_eq (i := 83) (a := main_v54) (b := main_v58) (y := main_v59) rfl (by decide) (by decide) (by decide) V) rfl
theorem v60 (V : Val) : r_v60 V = mulf (r_v4 V) (r_v59 V) :=
  Eq.trans (binary_at W_eq (i := 84) (a := main_v4) (b := main_v59) (y := main_v60) rfl (by decide) (by decide) (by decide) V) rfl
theorem cst_8 (V : Val) : r_cst_8 V = (constant S_ .f32 0x00000000#32) :=
  Eq.trans (nullary_at W_eq (i := 85) (y := main_cst_8) rfl (by decide) V) rfl
theorem v61 (V : Val) : r_v61 V = Host.reduceAdd (r_v60 V) (r_cst_8 V) reducesTo_S16384x1024_S16384_d1 h_S_ :=
  Eq.trans (binary_at W_eq (i := 86) (a := main_v60) (b := main_cst_8) (y := main_v61) rfl (by decide) (by decide) (by decide) V) rfl
theorem v62 (V : Val) : r_v62 V = shapeCast S16384x1 (r_v61 V) (by decide) :=
  Eq.trans (reshape_at W_eq (i := 87) (x := main_v61) (y := main_v62) rfl (by decide) (by decide) V) rfl
theorem v63 (V : Val) : r_v63 V = broadcastInDim S16384x1024 ![0, 1] bcast_S16384x1_S16384x1024_0_1 (r_v12 V) :=
  Eq.trans (unary_at W_eq (i := 88) (x := main_v12) (y := main_v63) rfl (by decide) (by decide) V) rfl
theorem v64 (V : Val) : r_v64 V = mulf (r_v59 V) (r_v63 V) :=
  Eq.trans (binary_at W_eq (i := 89) (a := main_v59) (b := main_v63) (y := main_v64) rfl (by decide) (by decide) (by decide) V) rfl
theorem v65 (V : Val) : r_v65 V = mulf (r_v62 V) (r_v15 V) :=
  Eq.trans (binary_at W_eq (i := 90) (a := main_v62) (b := main_v15) (y := main_v65) rfl (by decide) (by decide) (by decide) V) rfl
theorem cst_9 (V : Val) : r_cst_9 V = (constant S_ .f32 0x44800000#32) :=
  Eq.trans (nullary_at W_eq (i := 91) (y := main_cst_9) rfl (by decide) V) rfl
theorem v66 (V : Val) : r_v66 V = broadcastInDim S16384x1 ![] bcast_S_S16384x1 (r_cst_9 V) :=
  Eq.trans (unary_at W_eq (i := 92) (x := main_cst_9) (y := main_v66) rfl (by decide) (by decide) V) rfl
theorem v67 (V : Val) : r_v67 V = Host.divf (r_v65 V) (r_v66 V) :=
  Eq.trans (binary_at W_eq (i := 93) (a := main_v65) (b := main_v66) (y := main_v67) rfl (by decide) (by decide) (by decide) V) rfl
theorem cst_10 (V : Val) : r_cst_10 V = (constant S_ .f32 0x00000000#32) :=
  Eq.trans (nullary_at W_eq (i := 94) (y := main_cst_10) rfl (by decide) V) rfl
theorem v68 (V : Val) : r_v68 V = Host.reduceAdd (r_v67 V) (r_cst_10 V) reducesTo_S16384x1_S16384_d1 h_S_ :=
  Eq.trans (binary_at W_eq (i := 95) (a := main_v67) (b := main_cst_10) (y := main_v68) rfl (by decide) (by decide) (by decide) V) rfl
theorem v69 (V : Val) : r_v69 V = broadcastInDim S16384x1024 ![0] bcast_S16384_S16384x1024_0 (r_v68 V) :=
  Eq.trans (unary_at W_eq (i := 96) (x := main_v68) (y := main_v69) rfl (by decide) (by decide) V) rfl
theorem v70 (V : Val) : r_v70 V = mulf (r_v4 V) (r_v69 V) :=
  Eq.trans (binary_at W_eq (i := 97) (a := main_v4) (b := main_v69) (y := main_v70) rfl (by decide) (by decide) (by decide) V) rfl
theorem v71 (V : Val) : r_v71 V = addf (r_v64 V) (r_v70 V) :=
  Eq.trans (binary_at W_eq (i := 98) (a := main_v64) (b := main_v70) (y := main_v71) rfl (by decide) (by decide) (by decide) V) rfl
theorem v72 (V : Val) : r_v72 V = mulf (r_v69 V) (r_v4 V) :=
  Eq.trans (binary_at W_eq (i := 99) (a := main_v69) (b := main_v4) (y := main_v72) rfl (by decide) (by decide) (by decide) V) rfl
theorem v73 (V : Val) : r_v73 V = addf (r_v71 V) (r_v72 V) :=
  Eq.trans (binary_at W_eq (i := 100) (a := main_v71) (b := main_v72) (y := main_v73) rfl (by decide) (by decide) (by decide) V) rfl
theorem v74 (V : Val) : r_v74 V = addf (r_v35 V) (r_v73 V) :=
  Eq.trans (binary_at W_eq (i := 101) (a := main_v35) (b := main_v73) (y := main_v74) rfl (by decide) (by decide) (by decide) V) rfl
theorem v75 (V : Val) : r_v75 V = broadcastInDim S16384x1024 ![0, 1] bcast_S1x1024_S16384x1024_0_1 (r_arg4 V) :=
  Eq.trans (unary_at W_eq (i := 102) (x := main_arg4) (y := main_v75) rfl (by decide) (by decide) V) rfl
theorem v76 (V : Val) : r_v76 V = mulf (r_v75 V) (r_v74 V) :=
  Eq.trans (binary_at W_eq (i := 103) (a := main_v75) (b := main_v74) (y := main_v76) rfl (by decide) (by decide) (by decide) V) rfl
theorem v77 (V : Val) : r_v77 V = mulf (r_v74 V) (r_v1 V) :=
  Eq.trans (binary_at W_eq (i := 104) (a := main_v74) (b := main_v1) (y := main_v77) rfl (by decide) (by decide) (by decide) V) rfl
theorem cst_11 (V : Val) : r_cst_11 V = (constant S_ .f32 0x00000000#32) :=
  Eq.trans (nullary_at W_eq (i := 105) (y := main_cst_11) rfl (by decide) V) rfl
theorem v78 (V : Val) : r_v78 V = Host.reduceAdd (r_v77 V) (r_cst_11 V) reducesTo_S16384x1024_S1024_d0 h_S_ :=
  Eq.trans (binary_at W_eq (i := 106) (a := main_v77) (b := main_cst_11) (y := main_v78) rfl (by decide) (by decide) (by decide) V) rfl
theorem v79 (V : Val) : r_v79 V = shapeCast S1x1024 (r_v78 V) (by decide) :=
  Eq.trans (reshape_at W_eq (i := 107) (x := main_v78) (y := main_v79) rfl (by decide) (by decide) V) rfl
theorem v80 (V : Val) : r_v80 V = Host.dotGeneral dot_S16384x1024_S1024x1024_S16384x1024_1_1_0_0_n_n none (r_v76 V) (r_arg2 V) :=
  Eq.trans (binary_at W_eq (i := 108) (a := main_v76) (b := main_arg2) (y := main_v80) rfl (by decide) (by decide) (by decide) V) rfl
theorem v81 (V : Val) : r_v81 V = truncf .bf16 (r_v46 V) bitsLt_bf16_f32 :=
  Eq.trans (unary_at W_eq (i := 109) (x := main_v46) (y := main_v81) rfl (by decide) (by decide) V) rfl
theorem v82 (V : Val) : r_v82 V = truncf .bf16 (r_v38 V) bitsLt_bf16_f32 :=
  Eq.trans (unary_at W_eq (i := 110) (x := main_v38) (y := main_v82) rfl (by decide) (by decide) V) rfl
theorem v83 (V : Val) : r_v83 V = truncf .bf16 (r_v80 V) bitsLt_bf16_f32 :=
  Eq.trans (unary_at W_eq (i := 111) (x := main_v80) (y := main_v83) rfl (by decide) (by decide) V) rfl
theorem v84 (V : Val) : r_v84 V = truncf .bf16 (r_v76 V) bitsLt_bf16_f32 :=
  Eq.trans (unary_at W_eq (i := 112) (x := main_v76) (y := main_v84) rfl (by decide) (by decide) V) rfl
theorem cst_12 (V : Val) : r_cst_12 V = (constant S_ .f32 0x00000000#32) :=
  Eq.trans (nullary_at W_eq (i := 113) (y := main_cst_12) rfl (by decide) V) rfl
theorem v85 (V : Val) : r_v85 V = broadcastInDim S7x1024 ![] bcast_S_S7x1024 (r_cst_12 V) :=
  Eq.trans (unary_at W_eq (i := 114) (x := main_cst_12) (y := main_v85) rfl (by decide) (by decide) V) rfl
theorem v86 (V : Val) : r_v86 V = (fn_main_v86 (F := Ideal)) (r_v41 V) (r_v85 V) :=
  Eq.trans (binary_at W_eq (i := 115) (a := main_v41) (b := main_v85) (y := main_v86) rfl (by decide) (by decide) (by decide) V) rfl
theorem cst_13 (V : Val) : r_cst_13 V = (constant S_ .f32 0x00000000#32) :=
  Eq.trans (nullary_at W_eq (i := 116) (y := main_cst_13) rfl (by decide) V) rfl
theorem v87 (V : Val) : r_v87 V = broadcastInDim S5x1024 ![] bcast_S_S5x1024 (r_cst_13 V) :=
  Eq.trans (unary_at W_eq (i := 117) (x := main_cst_13) (y := main_v87) rfl (by decide) (by decide) V) rfl
theorem v88 (V : Val) : r_v88 V = fn_main_v88 (F := Ideal) (r_v49 V) (r_v52 V) (r_v57 V) (r_v87 V) :=
  Eq.trans (nary_at W_eq (i := 118) (xs := ![main_v49, main_v52, main_v57, main_v87]) (y := main_v88) rfl (by decide) (by decide) V) rfl
theorem cst_14 (V : Val) : r_cst_14 V = (constant S_ .f32 0x00000000#32) :=
  Eq.trans (nullary_at W_eq (i := 119) (y := main_cst_14) rfl (by decide) V) rfl
theorem v89 (V : Val) : r_v89 V = broadcastInDim S7x1024 ![] bcast_S_S7x1024 (r_cst_14 V) :=
  Eq.trans (unary_at W_eq (i := 120) (x := main_cst_14) (y := main_v89) rfl (by decide) (by decide) V) rfl
theorem v90 (V : Val) : r_v90 V = (fn_main_v90 (F := Ideal)) (r_v79 V) (r_v89 V) :=
  Eq.trans (binary_at W_eq (i := 121) (a := main_v79) (b := main_v89) (y := main_v90) rfl (by decide) (by decide) (by decide) V) rfl
theorem v91 (V : Val) : r_v91 V = extractStridedSlice S16384x2816 ![0, 0] (r_v26 V) slices_S16384x5632_S16384x2816_0_0 :=
  Eq.trans (unary_at W_eq (i := 122) (x := main_v26) (y := main_v91) rfl (by decide) (by decide) V) rfl
theorem v92 (V : Val) : r_v92 V = extractStridedSlice S16384x2816 ![0, 2816] (r_v26 V) slices_S16384x5632_S16384x2816_0_2816 :=
  Eq.trans (unary_at W_eq (i := 123) (x := main_v26) (y := main_v92) rfl (by decide) (by decide) V) rfl
theorem call2_v0 (V : Val) : r_call2_v0 V = Host.negf (r_v91 V) :=
  Eq.trans (unary_at W_eq (i := 124) (x := main_v91) (y := main_call2_v0) rfl (by decide) (by decide) V) rfl
theorem call2_v1 (V : Val) : r_call2_v1 V = Host.exp (r_call2_v0 V) :=
  Eq.trans (unary_at W_eq (i := 125) (x := main_call2_v0) (y := main_call2_v1) rfl (by decide) (by decide) V) rfl
theorem call2_cst (V : Val) : r_call2_cst V = (constant S_ .f32 0x3F800000#32) :=
  Eq.trans (nullary_at W_eq (i := 126) (y := main_call2_cst) rfl (by decide) V) rfl
theorem call2_v2 (V : Val) : r_call2_v2 V = (broadcastInDim S16384x2816 ![] bcast_S_S16384x2816) (r_call2_cst V) :=
  Eq.trans (unary_at W_eq (i := 127) (x := main_call2_cst) (y := main_call2_v2) rfl (by decide) (by decide) V) rfl
theorem call2_v3 (V : Val) : r_call2_v3 V = addf (r_call2_v2 V) (r_call2_v1 V) :=
  Eq.trans (binary_at W_eq (i := 128) (a := main_call2_v2) (b := main_call2_v1) (y := main_call2_v3) rfl (by decide) (by decide) (by decide) V) rfl
theorem call2_cst_0 (V : Val) : r_call2_cst_0 V = (constant S_ .f32 0x3F800000#32) :=
  Eq.trans (nullary_at W_eq (i := 129) (y := main_call2_cst_0) rfl (by decide) V) rfl
theorem call2_v4 (V : Val) : r_call2_v4 V = (broadcastInDim S16384x2816 ![] bcast_S_S16384x2816) (r_call2_cst_0 V) :=
  Eq.trans (unary_at W_eq (i := 130) (x := main_call2_cst_0) (y := main_call2_v4) rfl (by decide) (by decide) V) rfl
theorem call2_v5 (V : Val) : r_call2_v5 V = Host.divf (r_call2_v4 V) (r_call2_v3 V) :=
  Eq.trans (binary_at W_eq (i := 131) (a := main_call2_v4) (b := main_call2_v3) (y := main_call2_v5) rfl (by decide) (by decide) (by decide) V) rfl
theorem v93 (V : Val) : r_v93 V = mulf (r_v91 V) (r_call2_v5 V) :=
  Eq.trans (binary_at W_eq (i := 132) (a := main_v91) (b := main_call2_v5) (y := main_v93) rfl (by decide) (by decide) (by decide) V) rfl
theorem v94 (V : Val) : r_v94 V = mulf (r_v93 V) (r_v92 V) :=
  Eq.trans (binary_at W_eq (i := 133) (a := main_v93) (b := main_v92) (y := main_v94) rfl (by decide) (by decide) (by decide) V) rfl
theorem v95 (V : Val) : r_v95 V = broadcastInDim S16384x1024 ![0, 1] bcast_S1x1024_S16384x1024_0_1 (r_arg10 V) :=
  Eq.trans (unary_at W_eq (i := 134) (x := main_arg10) (y := main_v95) rfl (by decide) (by decide) V) rfl
theorem v96 (V : Val) : r_v96 V = mulf (r_v95 V) (r_v31 V) :=
  Eq.trans (binary_at W_eq (i := 135) (a := main_v95) (b := main_v31) (y := main_v96) rfl (by decide) (by decide) (by decide) V) rfl
theorem v97 (V : Val) : r_v97 V = addf (r_v4 V) (r_v96 V) :=
  Eq.trans (binary_at W_eq (i := 136) (a := main_v4) (b := main_v96) (y := main_v97) rfl (by decide) (by decide) (by decide) V) rfl
theorem v98 (V : Val) : r_v98 V = mulf (r_v97 V) (r_v97 V) :=
  Eq.trans (binary_at W_eq (i := 137) (a := main_v97) (b := main_v97) (y := main_v98) rfl (by decide) (by decide) (by decide) V) rfl
theorem cst_15 (V : Val) : r_cst_15 V = (constant S_ .f32 0x00000000#32) :=
  Eq.trans (nullary_at W_eq (i := 138) (y := main_cst_15) rfl (by decide) V) rfl
theorem v99 (V : Val) : r_v99 V = Host.reduceAdd (r_v98 V) (r_cst_15 V) reducesTo_S16384x1024_S16384_d1 h_S_ :=
  Eq.trans (binary_at W_eq (i := 139) (a := main_v98) (b := main_cst_15) (y := main_v99) rfl (by decide) (by decide) (by decide) V) rfl
theorem v100 (V : Val) : r_v100 V = broadcastInDim S16384x1 ![0] bcast_S16384_S16384x1_0 (r_v99 V) :=
  Eq.trans (unary_at W_eq (i := 140) (x := main_v99) (y := main_v100) rfl (by decide) (by decide) V) rfl
theorem cst_16 (V : Val) : r_cst_16 V = (constant S_ .f32 0x44800000#32) :=
  Eq.trans (nullary_at W_eq (i := 141) (y := main_cst_16) rfl (by decide) V) rfl
theorem v101 (V : Val) : r_v101 V = broadcastInDim S16384x1 ![] bcast_S_S16384x1 (r_cst_16 V) :=
  Eq.trans (unary_at W_eq (i := 142) (x := main_cst_16) (y := main_v101) rfl (by decide) (by decide) V) rfl
theorem v102 (V : Val) : r_v102 V = Host.divf (r_v100 V) (r_v101 V) :=
  Eq.trans (binary_at W_eq (i := 143) (a := main_v100) (b := main_v101) (y := main_v102) rfl (by decide) (by decide) (by decide) V) rfl
theorem cst_17 (V : Val) : r_cst_17 V = (constant S_ .f32 0x358637BD#32) :=
  Eq.trans (nullary_at W_eq (i := 144) (y := main_cst_17) rfl (by decide) V) rfl
theorem v103 (V : Val) : r_v103 V = broadcastInDim S16384x1 ![] bcast_S_S16384x1 (r_cst_17 V) :=
  Eq.trans (unary_at W_eq (i := 145) (x := main_cst_17) (y := main_v103) rfl (by decide) (by decide) V) rfl
theorem v104 (V : Val) : r_v104 V = addf (r_v102 V) (r_v103 V) :=
  Eq.trans (binary_at W_eq (i := 146) (a := main_v102) (b := main_v103) (y := main_v104) rfl (by decide) (by decide) (by decide) V) rfl
theorem v105 (V : Val) : r_v105 V = Host.rsqrt (r_v104 V) :=
  Eq.trans (unary_at W_eq (i := 147) (x := main_v104) (y := main_v105) rfl (by decide) (by decide) V) rfl
theorem v106 (V : Val) : r_v106 V = broadcastInDim S16384x1024 ![0, 1] bcast_S16384x1_S16384x1024_0_1 (r_v105 V) :=
  Eq.trans (unary_at W_eq (i := 148) (x := main_v105) (y := main_v106) rfl (by decide) (by decide) V) rfl
theorem v107 (V : Val) : r_v107 V = mulf (r_v97 V) (r_v106 V) :=
  Eq.trans (binary_at W_eq (i := 149) (a := main_v97) (b := main_v106) (y := main_v107) rfl (by decide) (by decide) (by decide) V) rfl
theorem v108 (V : Val) : r_v108 V = broadcastInDim S16384x1024 ![0, 1] bcast_S1x1024_S16384x1024_0_1 (r_arg11 V) :=
  Eq.trans (unary_at W_eq (i := 150) (x := main_arg11) (y := main_v108) rfl (by decide) (by decide) V) rfl
theorem v109 (V : Val) : r_v109 V = mulf (r_v107 V) (r_v108 V) :=
  Eq.trans (binary_at W_eq (i := 151) (a := main_v107) (b := main_v108) (y := main_v109) rfl (by decide) (by decide) (by decide) V) rfl
theorem cst_18 (V : Val) : r_cst_18 V = (constant S_ .f32 0x3F800000#32) :=
  Eq.trans (nullary_at W_eq (i := 152) (y := main_cst_18) rfl (by decide) V) rfl
theorem v110 (V : Val) : r_v110 V = broadcastInDim S1x1024 ![] bcast_S_S1x1024 (r_cst_18 V) :=
  Eq.trans (unary_at W_eq (i := 153) (x := main_cst_18) (y := main_v110) rfl (by decide) (by decide) V) rfl
theorem v111 (V : Val) : r_v111 V = addf (r_v110 V) (r_arg12 V) :=
  Eq.trans (binary_at W_eq (i := 154) (a := main_v110) (b := main_arg12) (y := main_v111) rfl (by decide) (by decide) (by decide) V) rfl
theorem v112 (V : Val) : r_v112 V = broadcastInDim S16384x1024 ![0, 1] bcast_S1x1024_S16384x1024_0_1 (r_v111 V) :=
  Eq.trans (unary_at W_eq (i := 155) (x := main_v111) (y := main_v112) rfl (by decide) (by decide) V) rfl
theorem v113 (V : Val) : r_v113 V = mulf (r_v109 V) (r_v112 V) :=
  Eq.trans (binary_at W_eq (i := 156) (a := main_v109) (b := main_v112) (y := main_v113) rfl (by decide) (by decide) (by decide) V) rfl
theorem v114 (V : Val) : r_v114 V = broadcastInDim S16384x1024 ![0, 1] bcast_S1x1024_S16384x1024_0_1 (r_arg13 V) :=
  Eq.trans (unary_at W_eq (i := 157) (x := main_arg13) (y := main_v114) rfl (by decide) (by decide) V) rfl
theorem v115 (V : Val) : r_v115 V = addf (r_v113 V) (r_v114 V) :=
  Eq.trans (binary_at W_eq (i := 158) (a := main_v113) (b := main_v114) (y := main_v115) rfl (by decide) (by decide) (by decide) V) rfl
theorem v116 (V : Val) : r_v116 V = Host.dotGeneral dot_S16384x1024_S1024x2304_S16384x2304_1_0_0_1_n_n none (r_v115 V) (r_arg14 V) :=
  Eq.trans (binary_at W_eq (i := 159) (a := main_v115) (b := main_arg14) (y := main_v116) rfl (by decide) (by decide) (by decide) V) rfl
theorem v117 (V : Val) : r_v117 V = truncf .bf16 (r_v25 V) bitsLt_bf16_f32 :=
  Eq.trans (unary_at W_eq (i := 160) (x := main_v25) (y := main_v117) rfl (by decide) (by decide) V) rfl
theorem v118 (V : Val) : r_v118 V = truncf .bf16 (r_v94 V) bitsLt_bf16_f32 :=
  Eq.trans (unary_at W_eq (i := 161) (x := main_v94) (y := main_v118) rfl (by decide) (by decide) V) rfl
theorem v119 (V : Val) : r_v119 V = truncf .bf16 (r_v115 V) bitsLt_bf16_f32 :=
  Eq.trans (unary_at W_eq (i := 162) (x := main_v115) (y := main_v119) rfl (by decide) (by decide) V) rfl
theorem v120 (V : Val) : r_v120 V = truncf .bf16 (r_v116 V) bitsLt_bf16_f32 :=
  Eq.trans (unary_at W_eq (i := 163) (x := main_v116) (y := main_v120) rfl (by decide) (by decide) V) rfl

end Cert.Ffn.Ref

end
-- ==== Proof.Ffn.RefFwd.lean ====
/- The reference's forward values, as real numbers. -/
module

public import proofs.«01_k».proof.Proof.Ffn.RefEqs

@[expose] public section

set_option maxRecDepth 16384

noncomputable section

namespace Cert.Ffn.Ref

open Idealize.ShloMosaic Idealize.ShloMosaic.StableHlo Idealize.ShloMosaic.TcCoe Idealize.ShloMosaic.Pointwise
open Cert.Reference2Ideal Cert.Reference2Ideal.Gen Cert.Reference2Ideal.Value

/-- What the reference is given, as real numbers. -/
structure Args (V : Val) (D : Data 16384) : Prop where
  dx : Holds (r_arg0 V) D.dx
  o : Holds (r_arg1 V) D.o
  wm : Holds (r_arg2 V) D.wm
  x : Holds (r_arg3 V) D.x
  g1 : Holds (r_arg4 V) fun _ => D.g1
  nf : Holds (r_arg5 V) fun _ => D.nf
  sc : Holds (r_arg6 V) fun _ => D.sc
  sh : Holds (r_arg7 V) fun _ => D.sh
  wi : Holds (r_arg8 V) D.wi
  wo : Holds (r_arg9 V) D.wo
  g2 : Holds (r_arg10 V) fun _ => D.g2

variable {V : Val} {D : Data 16384}

theorem h_v1 (A : Args V D) : Holds (r_v1 V) D.y1 := by
  intro i j
  rw [v1, v0]
  pointwise []
  simp only [A.o _ _, A.wm _ _, ← EReal.coe_mul, coe_sum]
  rfl

theorem h_v4 (A : Args V D) : Holds (r_v4 V) D.x1 := by
  intro i j
  rw [v4, v3, v2]
  pointwise []
  simp only [A.x _ _, A.g1 _ _, h_v1 A _ _, ← EReal.coe_mul, ← EReal.coe_add]
  rfl

theorem h_v11 (A : Args V D) : Holds (r_v11 V) fun i _ => D.den i := by
  intro i j
  rw [v11, v9, v10, v7, v8, v6, v5, cst, cst_0, cst_1]
  pointwise []
  simp only [h_v4 A _ _, ← EReal.coe_mul, ← EReal.coe_add, coe_sum, zero_add, ofBits_1024, ofBits_eps.1, div_1024]
  rfl

theorem h_v12 (A : Args V D) : Holds (r_v12 V) fun i _ => D.rs i := by
  intro i j
  rw [v12]
  pointwise []
  simp only [h_v11 A _ _]
  exact rsqrt_pos (D.den_pos i)

theorem h_v17 (A : Args V D) : Holds (r_v17 V) D.xh := by
  intro i j
  rw [v17, v16]
  pointwise []
  simp only [h_v4 A _ _, h_v12 A _ _, ← EReal.coe_mul]
  rfl

theorem h_v19 (A : Args V D) : Holds (r_v19 V) fun i j => D.xh i j * D.nf j := by
  intro i j
  rw [v19, v18]
  pointwise []
  simp only [h_v17 A _ _, A.nf _ _, ← EReal.coe_mul]

theorem h_v21 (A : Args V D) : Holds (r_v21 V) fun _ j => 1 + D.sc j := by
  intro i j
  rw [v21, v20, cst_3]
  pointwise []
  simp only [A.sc _ _, one_add_real]

theorem h_v25 (A : Args V D) : Holds (r_v25 V) D.h := by
  intro i j
  rw [v25, v23, v22, v24]
  pointwise []
  simp only [h_v19 A _ _, h_v21 A _ _, A.sh _ _, ← EReal.coe_mul, ← EReal.coe_add]
  rfl

theorem h_v27 (A : Args V D) : Holds (r_v27 V) D.gate := by
  intro i k
  rw [v27, v26]
  pointwise []
  simp only [h_v25 A _ _, A.wi _ _, ← EReal.coe_mul, coe_sum]
  rfl

theorem h_v28 (A : Args V D) : Holds (r_v28 V) D.up := by
  intro i k
  rw [v28, v26]
  pointwise []
  simp only [h_v25 A _ _, A.wi _ _, ← EReal.coe_mul, coe_sum]
  rfl

theorem h_sg (A : Args V D) : Holds (r_v29_2 V) D.sg := by
  intro i k
  rw [v29_2, call0_v4, call0_v3, call0_v2, call0_v1, call0_v0, call0_cst, call0_cst_0]
  pointwise []
  simp only [h_v27 A _ _]
  exact D.logistic_gate i k

theorem h_v29_1 (A : Args V D) : Holds (r_v29_1 V) fun i k => D.sg i k * (1 - D.sg i k) := by
  intro i k
  rw [v29_1, call0_v7, call0_v6, call0_cst_1]
  pointwise []
  simp only [h_sg A _ _, one_sub_real, ← EReal.coe_mul]

theorem h_v29_0 (A : Args V D) : Holds (r_v29_0 V) D.silu := by
  intro i k
  rw [v29_0]
  pointwise []
  simp only [h_sg A _ _, h_v27 A _ _, ← EReal.coe_mul]
  rfl

theorem h_v31 (A : Args V D) : Holds (r_v31 V) D.y2 := by
  intro i j
  rw [v31, v30]
  pointwise []
  simp only [h_v29_0 A _ _, h_v28 A _ _, A.wo _ _, ← EReal.coe_mul, coe_sum]
  rfl

end Cert.Ffn.Ref

end
-- ==== Proof.Ffn.RefBwd.lean ====
/- The reference's gradients, as real numbers. -/
module

public import proofs.«01_k».proof.Proof.Ffn.RefFwd

@[expose] public section

set_option maxRecDepth 16384

noncomputable section

namespace Cert.Ffn

namespace Ref

open Idealize.ShloMosaic Idealize.ShloMosaic.StableHlo Idealize.ShloMosaic.TcCoe Idealize.ShloMosaic.Pointwise
open Cert.Reference2Ideal Cert.Reference2Ideal.Gen Cert.Reference2Ideal.Value

variable {V : Val} {D : Data 16384}

theorem h_v35 (A : Args V D) : Holds (r_v35 V) D.dx := by
  intro i j
  rw [v35]
  pointwise []
  exact A.dx i j

theorem h_v36 (A : Args V D) : Holds (r_v36 V) D.dx := by
  intro i j
  rw [v36]
  pointwise []
  exact A.dx i j

theorem h_v38 (A : Args V D) : Holds (r_v38 V) D.dy2 := by
  intro i j
  rw [v38, v37]
  pointwise []
  simp only [h_v36 A _ _, A.g2 _ _, ← EReal.coe_mul]
  exact congrArg Real.toEReal (mul_comm _ _)

theorem h_v41 (A : Args V D) : Holds (r_v41 V) fun _ => D.dg2 := by
  intro i j
  rw [v41, v40, v39, cst_4]
  pointwise []
  simp only [h_v36 A _ _, h_v31 A _ _, ← EReal.coe_mul, coe_sum, zero_add]
  rfl

theorem h_v42 (A : Args V D) : Holds (r_v42 V) D.da := by
  intro i k
  rw [v42]
  pointwise []
  simp only [h_v38 A _ _, A.wo _ _, ← EReal.coe_mul, coe_sum]
  rfl

theorem h_v43 (A : Args V D) : Holds (r_v43 V) D.dup := by
  intro i k
  rw [v43]
  pointwise []
  simp only [h_v42 A _ _, h_v29_0 A _ _, ← EReal.coe_mul]
  exact congrArg Real.toEReal (mul_comm _ _)

theorem h_v44 (A : Args V D) : Holds (r_v44 V) fun i k => D.da i k * D.up i k := by
  intro i k
  rw [v44]
  pointwise []
  simp only [h_v42 A _ _, h_v28 A _ _, ← EReal.coe_mul]

theorem h_v45 (A : Args V D) : Holds (r_v45 V) D.dga := by
  intro i k
  rw [v45, call1_v1, call1_v2, call1_v0]
  pointwise []
  simp only [h_v44 A _ _, h_v27 A _ _, h_sg A _ _, h_v29_1 A _ _, ← EReal.coe_mul, ← EReal.coe_add]
  exact congrArg Real.toEReal (D.dga_eq i k)

theorem h_v46 (A : Args V D) : Holds (r_v46 V) D.dgu := by
  intro i k
  rw [v46]
  pointwise [fn_main_v46]
  unfold Data.dgu
  split
  · exact h_v45 A _ _
  · exact h_v43 A _ _

theorem h_v47 (A : Args V D) : Holds (r_v47 V) D.dh := by
  intro i j
  rw [v47]
  pointwise []
  simp only [h_v46 A _ _, A.wi _ _, ← EReal.coe_mul, coe_sum]
  exact congrArg Real.toEReal (D.dh_eq i j)

theorem h_v49 (A : Args V D) : Holds (r_v49 V) fun _ => D.dsh := by
  intro i j
  rw [v49, v48, cst_5]
  pointwise []
  simp only [h_v47 A _ _, coe_sum, zero_add]
  rfl

theorem h_v52 (A : Args V D) : Holds (r_v52 V) fun _ => D.dsc := by
  intro i j
  rw [v52, v51, v50, cst_6]
  pointwise []
  simp only [h_v47 A _ _, h_v19 A _ _, ← EReal.coe_mul, coe_sum, zero_add]
  exact congrArg Real.toEReal (Finset.sum_congr rfl fun i _ => by ring)

theorem h_v54 (A : Args V D) : Holds (r_v54 V) fun i j => D.dh i j * (1 + D.sc j) := by
  intro i j
  rw [v54, v53]
  pointwise []
  simp only [h_v47 A _ _, h_v21 A _ _, ← EReal.coe_mul]

theorem h_v57 (A : Args V D) : Holds (r_v57 V) fun _ => D.dnf := by
  intro i j
  rw [v57, v56, v55, cst_7]
  pointwise []
  simp only [h_v17 A _ _, h_v54 A _ _, ← EReal.coe_mul, coe_sum, zero_add]
  exact congrArg Real.toEReal (Finset.sum_congr rfl fun i _ => by ring)

theorem h_v59 (A : Args V D) : Holds (r_v59 V) D.dxh := by
  intro i j
  rw [v59, v58]
  pointwise []
  simp only [h_v54 A _ _, A.nf _ _, ← EReal.coe_mul]
  exact congrArg Real.toEReal (by unfold Data.dxh; ring)

theorem h_v15 (A : Args V D) : Holds (r_v15 V) fun i _ => -(1 / 2) * (D.rs i * (1 / D.den i)) := by
  intro i j
  rw [v15, v14, v13, cst_2]
  pointwise []
  simp only [h_v11 A _ _, h_v12 A _ _, ofBits_neg_half, Ideal.div_coe (D.den_pos i).ne', ← EReal.coe_mul]

theorem h_v69 (A : Args V D) : Holds (r_v69 V) fun i _ => (∑ j, D.x1 i j * D.dxh i j) * (-(1 / 2) * (D.rs i * (1 / D.den i))) * (1 / 1024) := by
  intro i j
  rw [v69, v68, v67, v66, v65, v62, v61, v60, cst_8, cst_9, cst_10]
  pointwise []
  simp only [h_v4 A _ _, h_v59 A _ _, h_v15 A _ _, ← EReal.coe_mul, coe_sum, zero_add, ofBits_1024, div_1024]
  exact congrArg Real.toEReal (Fin.sum_univ_one _)

theorem h_v74 (A : Args V D) : Holds (r_v74 V) D.dx1 := by
  intro i j
  rw [v74, v73, v72, v71, v70, v64, v63]
  pointwise []
  simp only [h_v35 A _ _, h_v4 A _ _, h_v59 A _ _, h_v12 A _ _, h_v69 A _ _, ← EReal.coe_mul, ← EReal.coe_add]
  exact congrArg Real.toEReal (D.dx1_eq i j _ rfl)

theorem h_v76 (A : Args V D) : Holds (r_v76 V) D.dy1 := by
  intro i j
  rw [v76, v75]
  pointwise []
  simp only [h_v74 A _ _, A.g1 _ _, ← EReal.coe_mul]
  exact congrArg Real.toEReal (mul_comm _ _)

theorem h_v79 (A : Args V D) : Holds (r_v79 V) fun _ => D.dg1 := by
  intro i j
  rw [v79, v78, v77, cst_11]
  pointwise []
  simp only [h_v74 A _ _, h_v1 A _ _, ← EReal.coe_mul, coe_sum, zero_add]
  rfl

theorem h_v81 (A : Args V D) : Holds (r_v81 V) D.dgu := by
  intro i j
  rw [v81]
  pointwise []
  exact h_v46 A i j

theorem h_v82 (A : Args V D) : Holds (r_v82 V) D.dy2 := by
  intro i j
  rw [v82]
  pointwise []
  exact h_v38 A i j

theorem h_v83 (A : Args V D) : Holds (r_v83 V) D.dO := by
  intro i j
  rw [v83, v80]
  pointwise []
  simp only [h_v76 A _ _, A.wm _ _, ← EReal.coe_mul, coe_sum]
  rfl

theorem h_v84 (A : Args V D) : Holds (r_v84 V) D.dy1 := by
  intro i j
  rw [v84]
  pointwise []
  exact h_v76 A i j

theorem h_v86 (A : Args V D) : Holds (r_v86 V) fun i j => if i.val = 0 then D.dg2 j else 0 := by
  intro i j
  rw [v86, v85, cst_12]
  pointwise [fn_main_v86]
  by_cases h : i.val = 0
  · rw [dif_pos (by omega), if_pos h]
    exact h_v41 A _ _
  · rw [dif_neg (by omega), if_neg h]
    rfl

theorem h_v88 (A : Args V D) : Holds (r_v88 V) (fun i j => if i.val = 2 then D.dnf j else if i.val = 1 then D.dsc j else if i.val = 0 then D.dsh j else 0) := by
  intro i j
  rw [v88, v87, cst_13]
  pointwise [fn_main_v88]
  by_cases h0 : i.val = 0
  · have h1 : ¬ i.val = 1 := by omega
    have h2 : ¬ i.val = 2 := by omega
    rw [dif_pos (by omega)]
    exact (h_v49 A _ _).trans (congrArg Real.toEReal ((if_neg h2).trans ((if_neg h1).trans (if_pos h0))).symm)
  by_cases h1 : i.val = 1
  · have h2 : ¬ i.val = 2 := by omega
    rw [dif_neg (by omega), dif_pos (by omega)]
    exact (h_v52 A _ _).trans (congrArg Real.toEReal ((if_neg h2).trans (if_pos h1)).symm)
  by_cases h2 : i.val = 2
  · rw [dif_neg (by omega), dif_neg (by omega), dif_pos (by omega)]
    exact (h_v57 A _ _).trans (congrArg Real.toEReal (if_pos h2).symm)
  · rw [dif_neg (by omega), dif_neg (by omega), dif_neg (by omega)]
    exact EReal.coe_zero.symm.trans (congrArg Real.toEReal ((if_neg h2).trans ((if_neg h1).trans (if_neg h0))).symm)

theorem h_v90 (A : Args V D) : Holds (r_v90 V) fun i j => if i.val = 0 then D.dg1 j else 0 := by
  intro i j
  rw [v90, v89, cst_14]
  pointwise [fn_main_v90]
  by_cases h : i.val = 0
  · rw [dif_pos (by omega), if_pos h]
    exact h_v79 A _ _
  · rw [dif_neg (by omega), if_neg h]
    rfl

end Ref

end Cert.Ffn

end
-- ==== Proof.Ffn.RefNext.lean ====
/- The reference's values after the layer's output, and the forward results, as real numbers. -/
module

public import proofs.«01_k».proof.Proof.Ffn.Next
public import proofs.«01_k».proof.Proof.Ffn.RefFwd

@[expose] public section

set_option maxRecDepth 16384

noncomputable section

namespace Cert.Ffn.Ref

open Idealize.ShloMosaic Idealize.ShloMosaic.StableHlo Idealize.ShloMosaic.TcCoe Idealize.ShloMosaic.Pointwise
open Cert.Reference2Ideal Cert.Reference2Ideal.Gen Cert.Reference2Ideal.Value

/-- What the reference is given of the next layer, as real numbers. -/
structure NextArgs (V : Val) (T : Next 2304) : Prop where
  nm : Holds (r_arg11 V) fun _ => T.nm
  s1 : Holds (r_arg12 V) fun _ => T.s1
  b1 : Holds (r_arg13 V) fun _ => T.b1
  wn : Holds (r_arg14 V) T.wn

variable {V : Val} {D : Data 16384} {T : Next 2304}

theorem h_v91 (A : Args V D) : Holds (r_v91 V) D.gate := by
  intro i j
  rw [v91, v26]
  pointwise []
  simp only [h_v25 A _ _, A.wi _ _, ← EReal.coe_mul, coe_sum]
  rfl

theorem h_v92 (A : Args V D) : Holds (r_v92 V) D.up := by
  intro i j
  rw [v92, v26]
  pointwise []
  simp only [h_v25 A _ _, A.wi _ _, ← EReal.coe_mul, coe_sum]
  rfl

theorem h_sg2 (A : Args V D) : Holds (r_call2_v5 V) D.sg := by
  intro i j
  rw [call2_v5, call2_v4, call2_v3, call2_v2, call2_v1, call2_v0, call2_cst, call2_cst_0]
  pointwise []
  simp only [h_v91 A _ _]
  exact D.logistic_gate i j

theorem h_v93 (A : Args V D) : Holds (r_v93 V) D.silu := by
  intro i j
  rw [v93]
  pointwise []
  simp only [h_v91 A _ _, h_sg2 A _ _, ← EReal.coe_mul]
  rfl

theorem h_v94 (A : Args V D) : Holds (r_v94 V) D.act := by
  intro i j
  rw [v94]
  pointwise []
  simp only [h_v93 A _ _, h_v92 A _ _, ← EReal.coe_mul]
  rfl

theorem h_v97 (A : Args V D) : Holds (r_v97 V) D.x2 := by
  intro i j
  rw [v97, v96, v95]
  pointwise []
  simp only [h_v4 A _ _, A.g2 _ _, h_v31 A _ _, ← EReal.coe_mul, ← EReal.coe_add]
  rfl

theorem h_v104 (A : Args V D) : Holds (r_v104 V) fun i _ => D.den2 i := by
  intro i j
  rw [v104, v102, v103, v100, v101, v99, v98, cst_15, cst_16, cst_17]
  pointwise []
  simp only [h_v97 A _ _, ← EReal.coe_mul, ← EReal.coe_add, coe_sum, zero_add, ofBits_1024, ofBits_eps.1, div_1024]
  rfl

theorem h_v105 (A : Args V D) : Holds (r_v105 V) fun i _ => D.rs2 i := by
  intro i j
  rw [v105]
  pointwise []
  simp only [h_v104 A _ _]
  exact rsqrt_pos (D.den2_pos i)

theorem h_v107 (A : Args V D) : Holds (r_v107 V) D.xh2 := by
  intro i j
  rw [v107, v106]
  pointwise []
  simp only [h_v97 A _ _, h_v105 A _ _, ← EReal.coe_mul]
  rfl

theorem h_v109 (A : Args V D) (L : NextArgs V T) : Holds (r_v109 V) fun i j => D.xh2 i j * T.nm j := by
  intro i j
  rw [v109, v108]
  pointwise []
  simp only [h_v107 A _ _, L.nm _ _, ← EReal.coe_mul]

theorem h_v111 (L : NextArgs V T) : Holds (r_v111 V) fun _ j => 1 + T.s1 j := by
  intro i j
  rw [v111, v110, cst_18]
  pointwise []
  simp only [L.s1 _ _, one_add_real]

theorem h_v115 (A : Args V D) (L : NextArgs V T) : Holds (r_v115 V) (D.h1 T) := by
  intro i j
  rw [v115, v113, v112, v114]
  pointwise []
  simp only [h_v109 A L _ _, h_v111 L _ _, L.b1 _ _, ← EReal.coe_mul, ← EReal.coe_add]
  rfl

theorem h_v116 (A : Args V D) (L : NextArgs V T) : Holds (r_v116 V) (D.qkv T) := by
  intro i j
  rw [v116]
  pointwise []
  simp only [h_v115 A L _ _, L.wn _ _, ← EReal.coe_mul, coe_sum]
  rfl

theorem h_v117 (A : Args V D) : Holds (r_v117 V) D.h := by
  intro i j
  rw [v117]
  pointwise []
  exact h_v25 A i j

theorem h_v118 (A : Args V D) : Holds (r_v118 V) D.act := by
  intro i j
  rw [v118]
  pointwise []
  exact h_v94 A i j

theorem h_v119 (A : Args V D) (L : NextArgs V T) : Holds (r_v119 V) (D.h1 T) := by
  intro i j
  rw [v119]
  pointwise []
  exact h_v115 A L i j

theorem h_v120 (A : Args V D) (L : NextArgs V T) : Holds (r_v120 V) (D.qkv T) := by
  intro i j
  rw [v120]
  pointwise []
  exact h_v116 A L i j

end Cert.Ffn.Ref

end
-- ==== Proof.Ffn.Finite.lean ====
/- What the precondition says: every entry of every argument is a real number. -/
module

public import proofs.«01_k».proof.Pre_finite2
public import proofs.«01_k».proof.Proof.Ffn.Real
public import Idealize.ShloMosaic.Lib.ReduceAll

@[expose] public section

set_option maxRecDepth 16384

noncomputable section

namespace Cert.Pre_finite2

open Idealize.ShloMosaic Idealize.ShloMosaic.Pointwise

/-- The shape relations the precondition's operations take. -/
theorem facts : Facts where
  bitsLt_bf16_f32 := by decide
  bcast_S_S16384x1024 := by decide
  reducesTo_S16384x1024_S_d0_1 := by decide
  h_S_ := by decide
  bcast_S_S1024x1024 := by decide
  reducesTo_S1024x1024_S_d0_1 := by decide
  bcast_S_S1x1024 := by decide
  reducesTo_S1x1024_S_d0_1 := by decide
  bcast_S_S1024x5632 := by decide
  reducesTo_S1024x5632_S_d0_1 := by decide
  bcast_S_S2816x1024 := by decide
  reducesTo_S2816x1024_S_d0_1 := by decide
  bcast_S_S1024x2304 := by decide
  reducesTo_S1024x2304_S_d0_1 := by decide

theorem ofBits_inf : (Ideal.ofBits .f32 0x7F800000#32 : EReal) = ⊤ := by
  simp [Ideal.ofBits, Ideal.ieee]

/-- An extended real whose absolute value is below infinity is a real number. -/
theorem real_of_abs_lt {a : EReal} (h : max a (-a) < ⊤) : a = ((a.toReal : ℝ) : EReal) := by
  refine (EReal.coe_toReal ?_ ?_).symm
  · rintro rfl
    simp at h
  · rintro rfl
    simp at h

/-- The test of one array. -/
theorem all_real {n d : ℕ} (A : FVec Ideal ⟨2, ![n, d]⟩ .f32) (hb : S_.BroadcastsInDim ⟨2, ![n, d]⟩ ![])
    (hr : (⟨2, ![n, d]⟩ : Shape).ReducesTo [0, 1] S_) (h0 : 0 < S_.numel) (j : S_.Idx)
    (h : Host.reduce IntOp.andi (cmpf .olt (Host.absf A) (broadcastInDim ⟨2, ![n, d]⟩ ![] hb (constant S_ .f32 0x7F800000#32)))
      (constantI S_ 1 1#1) hr h0 j = 1#1) (i : (⟨2, ![n, d]⟩ : Shape).Idx) : A i = (((A i).toReal : ℝ) : EReal) := by
  haveI : Subsingleton S_.Idx := ⟨fun a b => funext fun k => k.elim0⟩
  have e := Host.reduce_andi_all _ _ hr h0 j h i
  refine real_of_abs_lt ?_
  have e' : BitVec.ofBool (decide (max (A i) (-(A i)) < (Ideal.ofBits .f32 0x7F800000#32 : EReal))) = 1#1 := e
  rw [ofBits_inf] at e'
  by_contra hn
  rw [decide_eq_false hn] at e'
  exact absurd e' (by decide)

variable [Facts]
open Facts

theorem split {x y : IVec S_ 1} {j : S_.Idx} (h : andi x y j = 1#1) : x j = 1#1 ∧ y j = 1#1 := IntOp.andi_eq_one.1 h

/-- Every entry is real. -/
abbrev AllReal {s : Shape} {φ : FTy} (A : FVec Ideal s φ) : Prop := ∀ i : s.Idx, A i = ((EReal.toReal (A i) : ℝ) : EReal)

theorem reals {a0 : FVec Ideal S16384x1024 .f32} {a1 : FVec Ideal S16384x1024 .bf16} {a2 : FVec Ideal S1024x1024 .f32}
    {a3 : FVec Ideal S16384x1024 .f32} {a4 a5 a6 a7 : FVec Ideal S1x1024 .f32} {a8 : FVec Ideal S1024x5632 .f32}
    {a9 : FVec Ideal S2816x1024 .f32} {a10 a11 a12 a13 : FVec Ideal S1x1024 .f32}
    {a14 : FVec Ideal S1024x2304 .f32} {j : S_.Idx}
    (h : fn (F := Ideal) a0 a1 a2 a3 a4 a5 a6 a7 a8 a9 a10 a11 a12 a13 a14 j = 1#1) :
    AllReal a0 ∧ AllReal a1 ∧ AllReal a2 ∧ AllReal a3 ∧ AllReal a4 ∧ AllReal a5 ∧ AllReal a6 ∧ AllReal a7 ∧ AllReal a8
      ∧ AllReal a9 ∧ AllReal a10 ∧ AllReal a11 ∧ AllReal a12 ∧ AllReal a13 ∧ AllReal a14 := by
  exact ⟨all_real a0 _ _ _ j (split (split (split (split (split (split (split (split (split (split (split (split (split (split h).1).1).1).1).1).1).1).1).1).1).1).1).1).2,
    all_real (extf .f32 a1 bitsLt_bf16_f32) _ _ _ j (split (split (split (split (split (split (split (split (split (split (split (split (split (split h).1).1).1).1).1).1).1).1).1).1).1).1).1).1,
    all_real a2 _ _ _ j (split (split (split (split (split (split (split (split (split (split (split (split (split h).1).1).1).1).1).1).1).1).1).1).1).1).2,
    all_real a3 _ _ _ j (split (split (split (split (split (split (split (split (split (split (split (split h).1).1).1).1).1).1).1).1).1).1).1).2,
    all_real a4 _ _ _ j (split (split (split (split (split (split (split (split (split (split (split h).1).1).1).1).1).1).1).1).1).1).2,
    all_real a5 _ _ _ j (split (split (split (split (split (split (split (split (split (split h).1).1).1).1).1).1).1).1).1).2,
    all_real a6 _ _ _ j (split (split (split (split (split (split (split (split (split h).1).1).1).1).1).1).1).1).2,
    all_real a7 _ _ _ j (split (split (split (split (split (split (split (split h).1).1).1).1).1).1).1).2,
    all_real a8 _ _ _ j (split (split (split (split (split (split (split h).1).1).1).1).1).1).2,
    all_real a9 _ _ _ j (split (split (split (split (split (split h).1).1).1).1).1).2,
    all_real a10 _ _ _ j (split (split (split (split (split h).1).1).1).1).2,
    all_real a11 _ _ _ j (split (split (split (split h).1).1).1).2,
    all_real a12 _ _ _ j (split (split (split h).1).1).2,
    all_real a13 _ _ _ j (split (split h).1).2,
    all_real a14 _ _ _ j (split h).2⟩

end Cert.Pre_finite2

end
-- ==== Proof.Ffn.Equal.lean ====
/- The three calls and the reference end with equal results. -/
module

public import proofs.«01_k».proof.Defs
public import proofs.«01_k».proof.Proof.Ffn.Run2
public import proofs.«01_k».proof.Proof.Ffn.RefBwd
public import proofs.«01_k».proof.Proof.Ffn.RefNext
public import proofs.«01_k».proof.Proof.Ffn.Finite

@[expose] public section

set_option maxRecDepth 16384

noncomputable section

namespace Cert.Ffn

open Idealize.ShloMosaic Idealize.ShloMosaic.TcCoe Idealize.ShloMosaic.Pointwise Idealize.ShloMosaic.StableHlo
open Idealize.SL.Sem

section given

variable (m : (ℓ : Loc Cert.Kernel2Ideal.nD Cert.Kernel2Ideal.τ Cert.Kernel2Ideal.sig) → Buf (Elt Ideal) ℓ) (c : Dev Cert.Kernel2Ideal.nD)

open Cert.Kernel2Ideal in
/-- The real numbers the calls are given. -/
def given : Data 16384 where
  dx := re 16384 1024 (m ((c : Thread nD τ).loc main_arg0))
  o := re 16384 1024 (m ((c : Thread nD τ).loc main_arg1))
  wm := re 1024 1024 (m ((c : Thread nD τ).loc main_arg2))
  x := re 16384 1024 (m ((c : Thread nD τ).loc main_arg3))
  g1 := re 1 1024 (m ((c : Thread nD τ).loc main_arg4)) 0
  nf := re 1 1024 (m ((c : Thread nD τ).loc main_arg5)) 0
  sc := re 1 1024 (m ((c : Thread nD τ).loc main_arg6)) 0
  sh := re 1 1024 (m ((c : Thread nD τ).loc main_arg7)) 0
  wi := re 1024 5632 (m ((c : Thread nD τ).loc main_arg8))
  wo := re 2816 1024 (m ((c : Thread nD τ).loc main_arg9))
  g2 := re 1 1024 (m ((c : Thread nD τ).loc main_arg10)) 0

open Cert.Kernel2Ideal in
/-- Those of the next layer. -/
def givenNext : Next 2304 where
  nm := re 1 1024 (m ((c : Thread nD τ).loc main_arg11)) 0
  s1 := re 1 1024 (m ((c : Thread nD τ).loc main_arg12)) 0
  b1 := re 1 1024 (m ((c : Thread nD τ).loc main_arg13)) 0
  wn := re 1024 2304 (m ((c : Thread nD τ).loc main_arg14))

variable [Cert.Pre_finite2.Facts]

theorem given_holds (h : Cert.Pre_Kernel2Ideal_finite2 m) : Given m c (given m c) := by
  obtain ⟨h0, h1, h2, h3, h4, h5, h6, h7, h8, h9, h10, -, -, -, -⟩ := Cert.Pre_finite2.reals (congrFun (h c) (fun k => k.elim0))
  exact {
    dx := fun i j => h0 _
    o := fun i j => h1 _
    wm := fun i j => h2 _
    x := fun i j => h3 _
    g1 := row_real h4
    nf := row_real h5
    sc := row_real h6
    sh := row_real h7
    wi := fun i j => h8 _
    wo := fun i j => h9 _
    g2 := row_real h10 }

theorem givenNext_holds (h : Cert.Pre_Kernel2Ideal_finite2 m) : GivenNext m c (givenNext m c) := by
  obtain ⟨-, -, -, -, -, -, -, -, -, -, -, h11, h12, h13, h14⟩ := Cert.Pre_finite2.reals (congrFun (h c) (fun k => k.elim0))
  exact {
    nm := row_real h11
    s1 := row_real h12
    b1 := row_real h13
    wn := fun i j => h14 _ }

end given

section reference

open Cert.Reference2Ideal Cert.Reference2Ideal.Gen Cert.Reference2Ideal.Value

/-- The reference's line of operations writes none of its arguments. -/
theorem arg_kept (V : Ref.Val) {r : Ref sig .tc} (h : r ∉ Ref.W) : after (ops (F := Ideal)) V (Proc.devRef .tc r) = V (Proc.devRef .tc r) :=
  after_unwritten Ref.W Ref.W_eq h V

theorem g2_eq {m : (ℓ : Loc Cert.Kernel2Ideal.nD Cert.Kernel2Ideal.τ Cert.Kernel2Ideal.sig) → Buf (Elt Ideal) ℓ} {g : Dev Cert.Kernel2Ideal.nD → PrngReg}
    {c : Dev Cert.Kernel2Ideal.nD} {D : Data 16384} {V : Ref.Val} (G : Given m c D) (A : Ref.Args V D) :
    (Ref.R V main_v86 : (⟨2, ![8, 1024]⟩ : Shape).Idx → EReal) = Cert.Kernel2Ideal.Gen.W4 m g c (Proc.devRef .tc Cert.Kernel2Ideal.main_v8_5) := by
  funext k
  rw [eq_ix2 k]
  have e1 := Ref.h_v86 A (k 0) (k 1)
  have e2 := out_g2 (ρ := g) G (k 0) (k 1)
  exact e1.trans e2.symm

theorem f_eq {m : (ℓ : Loc Cert.Kernel2Ideal.nD Cert.Kernel2Ideal.τ Cert.Kernel2Ideal.sig) → Buf (Elt Ideal) ℓ} {g : Dev Cert.Kernel2Ideal.nD → PrngReg}
    {c : Dev Cert.Kernel2Ideal.nD} {D : Data 16384} {V : Ref.Val} (G : Given m c D) (A : Ref.Args V D) :
    (Ref.R V main_v88 : (⟨2, ![8, 1024]⟩ : Shape).Idx → EReal) = Cert.Kernel2Ideal.Gen.W4 m g c (Proc.devRef .tc Cert.Kernel2Ideal.main_v8_6) := by
  funext k
  rw [eq_ix2 k]
  have e1 := Ref.h_v88 A (k 0) (k 1)
  have e2 := out_f (ρ := g) G (k 0) (k 1)
  exact e1.trans e2.symm

theorem g1_eq {m : (ℓ : Loc Cert.Kernel2Ideal.nD Cert.Kernel2Ideal.τ Cert.Kernel2Ideal.sig) → Buf (Elt Ideal) ℓ} {g : Dev Cert.Kernel2Ideal.nD → PrngReg}
    {c : Dev Cert.Kernel2Ideal.nD} {D : Data 16384} {V : Ref.Val} (G : Given m c D) (A : Ref.Args V D) :
    (Ref.R V main_v90 : (⟨2, ![8, 1024]⟩ : Shape).Idx → EReal) = Cert.Kernel2Ideal.Gen.W4 m g c (Proc.devRef .tc Cert.Kernel2Ideal.main_v8_7) := by
  funext k
  rw [eq_ix2 k]
  have e1 := Ref.h_v90 A (k 0) (k 1)
  have e2 := out_g1 (ρ := g) G (k 0) (k 1)
  exact e1.trans e2.symm

variable [Cert.Pre_finite2.Facts]

set_option maxHeartbeats 4000000 in
theorem algebraic : Cert.algebraic_Kernel2Ideal_Reference2Ideal_pre_finite2 := by
  intro m g m' g' hp agree
  have G := fun c => given_holds m c hp
  have N := fun c => givenNext_holds m c hp
  have A : ∀ c : Dev nD, Ref.Args (launchContents m' c) (given m c) := fun c => {
    dx := fun i j => (congrFun ((arg_kept _ (r := main_arg0) (by decide)).trans (agree c).1) _).trans ((G c).dx i j)
    o := fun i j => (congrFun ((arg_kept _ (r := main_arg1) (by decide)).trans (agree c).2.1) _).trans ((G c).o i j)
    wm := fun i j => (congrFun ((arg_kept _ (r := main_arg2) (by decide)).trans (agree c).2.2.1) _).trans ((G c).wm i j)
    x := fun i j => (congrFun ((arg_kept _ (r := main_arg3) (by decide)).trans (agree c).2.2.2.1) _).trans ((G c).x i j)
    g1 := fun i j => (congrFun ((arg_kept _ (r := main_arg4) (by decide)).trans (agree c).2.2.2.2.1) _).trans ((G c).g1 i j)
    nf := fun i j => (congrFun ((arg_kept _ (r := main_arg5) (by decide)).trans (agree c).2.2.2.2.2.1) _).trans ((G c).nf i j)
    sc := fun i j => (congrFun ((arg_kept _ (r := main_arg6) (by decide)).trans (agree c).2.2.2.2.2.2.1) _).trans ((G c).sc i j)
    sh := fun i j => (congrFun ((arg_kept _ (r := main_arg7) (by decide)).trans (agree c).2.2.2.2.2.2.2.1) _).trans ((G c).sh i j)
    wi := fun i j => (congrFun ((arg_kept _ (r := main_arg8) (by decide)).trans (agree c).2.2.2.2.2.2.2.2.1) _).trans ((G c).wi i j)
    wo := fun i j => (congrFun ((arg_kept _ (r := main_arg9) (by decide)).trans (agree c).2.2.2.2.2.2.2.2.2.1) _).trans ((G c).wo i j)
    g2 := fun i j => (congrFun ((arg_kept _ (r := main_arg10) (by decide)).trans (agree c).2.2.2.2.2.2.2.2.2.2.1) _).trans ((G c).g2 i j) }
  have B : ∀ c : Dev nD, Ref.NextArgs (launchContents m' c) (givenNext m c) := fun c => {
    nm := fun i j => (congrFun ((arg_kept _ (r := main_arg11) (by decide)).trans (agree c).2.2.2.2.2.2.2.2.2.2.2.1) _).trans ((N c).nm i j)
    s1 := fun i j => (congrFun ((arg_kept _ (r := main_arg12) (by decide)).trans (agree c).2.2.2.2.2.2.2.2.2.2.2.2.1) _).trans ((N c).s1 i j)
    b1 := fun i j => (congrFun ((arg_kept _ (r := main_arg13) (by decide)).trans (agree c).2.2.2.2.2.2.2.2.2.2.2.2.2.1) _).trans ((N c).b1 i j)
    wn := fun i j => (congrFun ((arg_kept _ (r := main_arg14) (by decide)).trans (agree c).2.2.2.2.2.2.2.2.2.2.2.2.2.2) _).trans ((N c).wn i j) }
  refine ⟨fun c => Cert.Kernel2Ideal.Gen.W4 m g c (Proc.devRef .tc Cert.Kernel2Ideal.main_v8_0),
    fun c => Cert.Kernel2Ideal.Gen.W4 m g c (Proc.devRef .tc Cert.Kernel2Ideal.main_v8_1),
    fun c => Cert.Kernel2Ideal.Gen.W4 m g c (Proc.devRef .tc Cert.Kernel2Ideal.main_v8_2),
    fun c => Cert.Kernel2Ideal.Gen.W4 m g c (Proc.devRef .tc Cert.Kernel2Ideal.main_v8_3),
    fun c => Cert.Kernel2Ideal.Gen.W4 m g c (Proc.devRef .tc Cert.Kernel2Ideal.main_v8_4),
    fun c => Cert.Kernel2Ideal.Gen.W4 m g c (Proc.devRef .tc Cert.Kernel2Ideal.main_v8_5),
    fun c => Cert.Kernel2Ideal.Gen.W4 m g c (Proc.devRef .tc Cert.Kernel2Ideal.main_v8_6),
    fun c => Cert.Kernel2Ideal.Gen.W4 m g c (Proc.devRef .tc Cert.Kernel2Ideal.main_v8_7),
    fun c => Cert.Kernel2Ideal.Gen.W4 m g c (Proc.devRef .tc Cert.Kernel2Ideal.main_v6_2),
    fun c => Cert.Kernel2Ideal.Gen.W4 m g c (Proc.devRef .tc Cert.Kernel2Ideal.main_v6_4),
    fun c => Cert.Kernel2Ideal.Gen.W4 m g c (Proc.devRef .tc Cert.Kernel2Ideal.main_v7_0),
    fun c => Cert.Kernel2Ideal.Gen.W4 m g c (Proc.devRef .tc Cert.Kernel2Ideal.main_v7_2),
    fun c => Cert.Kernel2Ideal.Gen.W4 m g c (Proc.devRef .tc Cert.Kernel2Ideal.main_v7_3), ?_, ?_⟩
  · refine (θ_run Cert.Kernel2Ideal.defs _ _).mono (fun r h c => ?_) (run_fold m g)
    exact ⟨h c _ (Cert.Kernel2Ideal.Gen.mem_uc Cert.Kernel2Ideal.main_v8_0 (by decide)),
      h c _ (Cert.Kernel2Ideal.Gen.mem_uc Cert.Kernel2Ideal.main_v8_1 (by decide)),
      h c _ (Cert.Kernel2Ideal.Gen.mem_uc Cert.Kernel2Ideal.main_v8_2 (by decide)),
      h c _ (Cert.Kernel2Ideal.Gen.mem_uc Cert.Kernel2Ideal.main_v8_3 (by decide)),
      h c _ (Cert.Kernel2Ideal.Gen.mem_uc Cert.Kernel2Ideal.main_v8_4 (by decide)),
      h c _ (Cert.Kernel2Ideal.Gen.mem_uc Cert.Kernel2Ideal.main_v8_5 (by decide)),
      h c _ (Cert.Kernel2Ideal.Gen.mem_uc Cert.Kernel2Ideal.main_v8_6 (by decide)),
      h c _ (Cert.Kernel2Ideal.Gen.mem_uc Cert.Kernel2Ideal.main_v8_7 (by decide)),
      h c _ (Cert.Kernel2Ideal.Gen.mem_uc Cert.Kernel2Ideal.main_v6_2 (by decide)),
      h c _ (Cert.Kernel2Ideal.Gen.mem_uc Cert.Kernel2Ideal.main_v6_4 (by decide)),
      h c _ (Cert.Kernel2Ideal.Gen.mem_uc Cert.Kernel2Ideal.main_v7_0 (by decide)),
      h c _ (Cert.Kernel2Ideal.Gen.mem_uc Cert.Kernel2Ideal.main_v7_2 (by decide)),
      h c _ (Cert.Kernel2Ideal.Gen.mem_uc Cert.Kernel2Ideal.main_v7_3 (by decide)),
      (h c _ (Cert.Kernel2Ideal.Gen.mem_uc Cert.Kernel2Ideal.main_arg0 (by decide))).trans (Cert.Kernel2Ideal.Gen.W4_main_arg0 m g c),
      (h c _ (Cert.Kernel2Ideal.Gen.mem_uc Cert.Kernel2Ideal.main_arg1 (by decide))).trans (Cert.Kernel2Ideal.Gen.W4_main_arg1 m g c),
      (h c _ (Cert.Kernel2Ideal.Gen.mem_uc Cert.Kernel2Ideal.main_arg2 (by decide))).trans (Cert.Kernel2Ideal.Gen.W4_main_arg2 m g c),
      (h c _ (Cert.Kernel2Ideal.Gen.mem_uc Cert.Kernel2Ideal.main_arg3 (by decide))).trans (Cert.Kernel2Ideal.Gen.W4_main_arg3 m g c),
      (h c _ (Cert.Kernel2Ideal.Gen.mem_uc Cert.Kernel2Ideal.main_arg4 (by decide))).trans (Cert.Kernel2Ideal.Gen.W4_main_arg4 m g c),
      (h c _ (Cert.Kernel2Ideal.Gen.mem_uc Cert.Kernel2Ideal.main_arg5 (by decide))).trans (Cert.Kernel2Ideal.Gen.W4_main_arg5 m g c),
      (h c _ (Cert.Kernel2Ideal.Gen.mem_uc Cert.Kernel2Ideal.main_arg6 (by decide))).trans (Cert.Kernel2Ideal.Gen.W4_main_arg6 m g c),
      (h c _ (Cert.Kernel2Ideal.Gen.mem_uc Cert.Kernel2Ideal.main_arg7 (by decide))).trans (Cert.Kernel2Ideal.Gen.W4_main_arg7 m g c),
      (h c _ (Cert.Kernel2Ideal.Gen.mem_uc Cert.Kernel2Ideal.main_arg8 (by decide))).trans (Cert.Kernel2Ideal.Gen.W4_main_arg8 m g c),
      (h c _ (Cert.Kernel2Ideal.Gen.mem_uc Cert.Kernel2Ideal.main_arg9 (by decide))).trans (Cert.Kernel2Ideal.Gen.W4_main_arg9 m g c),
      (h c _ (Cert.Kernel2Ideal.Gen.mem_uc Cert.Kernel2Ideal.main_arg10 (by decide))).trans (Cert.Kernel2Ideal.Gen.W4_main_arg10 m g c),
      (h c _ (Cert.Kernel2Ideal.Gen.mem_uc Cert.Kernel2Ideal.main_arg11 (by decide))).trans (Cert.Kernel2Ideal.Gen.W4_main_arg11 m g c),
      (h c _ (Cert.Kernel2Ideal.Gen.mem_uc Cert.Kernel2Ideal.main_arg12 (by decide))).trans (Cert.Kernel2Ideal.Gen.W4_main_arg12 m g c),
      (h c _ (Cert.Kernel2Ideal.Gen.mem_uc Cert.Kernel2Ideal.main_arg13 (by decide))).trans (Cert.Kernel2Ideal.Gen.W4_main_arg13 m g c),
      (h c _ (Cert.Kernel2Ideal.Gen.mem_uc Cert.Kernel2Ideal.main_arg14 (by decide))).trans (Cert.Kernel2Ideal.Gen.W4_main_arg14 m g c)⟩
  · refine (θ_run defs _ _).mono (fun r h c => ?_)
      (run_seq scopedRefs_eq scopedSems_eq defs main (fun _ => ops) main_eq (fun _ => ops_sub) m' g')
    exact ⟨(h c main_v81).trans ((out_dgu (G c)).eq (Ref.h_v81 (A c))),
      (h c main_v82).trans ((out_dy2 (G c)).eq (Ref.h_v82 (A c))),
      (h c main_v74).trans ((out_dx1 (G c)).eq (Ref.h_v74 (A c))),
      (h c main_v83).trans ((out_dO (G c)).eq (Ref.h_v83 (A c))),
      (h c main_v84).trans ((out_dy1 (G c)).eq (Ref.h_v84 (A c))),
      (h c main_v86).trans (g2_eq (V := launchContents m' c) (G c) (A c)),
      (h c main_v88).trans (f_eq (V := launchContents m' c) (G c) (A c)),
      (h c main_v90).trans (g1_eq (V := launchContents m' c) (G c) (A c)),
      (h c main_v117).trans ((out_h (G c)).eq (Ref.h_v117 (A c))),
      (h c main_v118).trans ((out_act (G c)).eq (Ref.h_v118 (A c))),
      (h c main_v97).trans ((out_x2 (G c)).eq (Ref.h_v97 (A c))),
      (h c main_v119).trans ((out_h1 (G c) (N c)).eq (Ref.h_v119 (A c) (B c))),
      (h c main_v120).trans ((out_qkv (G c) (N c)).eq (Ref.h_v120 (A c) (B c))),
      (h c main_arg0).trans (arg_kept (launchContents m' c) (r := main_arg0) (by decide)),
      (h c main_arg1).trans (arg_kept (launchContents m' c) (r := main_arg1) (by decide)),
      (h c main_arg2).trans (arg_kept (launchContents m' c) (r := main_arg2) (by decide)),
      (h c main_arg3).trans (arg_kept (launchContents m' c) (r := main_arg3) (by decide)),
      (h c main_arg4).trans (arg_kept (launchContents m' c) (r := main_arg4) (by decide)),
      (h c main_arg5).trans (arg_kept (launchContents m' c) (r := main_arg5) (by decide)),
      (h c main_arg6).trans (arg_kept (launchContents m' c) (r := main_arg6) (by decide)),
      (h c main_arg7).trans (arg_kept (launchContents m' c) (r := main_arg7) (by decide)),
      (h c main_arg8).trans (arg_kept (launchContents m' c) (r := main_arg8) (by decide)),
      (h c main_arg9).trans (arg_kept (launchContents m' c) (r := main_arg9) (by decide)),
      (h c main_arg10).trans (arg_kept (launchContents m' c) (r := main_arg10) (by decide)),
      (h c main_arg11).trans (arg_kept (launchContents m' c) (r := main_arg11) (by decide)),
      (h c main_arg12).trans (arg_kept (launchContents m' c) (r := main_arg12) (by decide)),
      (h c main_arg13).trans (arg_kept (launchContents m' c) (r := main_arg13) (by decide)),
      (h c main_arg14).trans (arg_kept (launchContents m' c) (r := main_arg14) (by decide))⟩

end reference

end Cert.Ffn

end
-- ==== Proof.Ffb.Pay0.lean ====
/- The blocks the first two calls write, as real numbers. -/
module

public import proofs.«01_k».proof.Proof.Ffn.Next
public import proofs.«01_k».proof.Proof.Gen.Kernel7Ideal.Skeleton

@[expose] public section

set_option maxRecDepth 16384

noncomputable section

namespace Cert.Ffb

open Cert.Ffn
open Idealize.ShloMosaic Idealize.ShloMosaic.Pointwise Cert.Kernel7Ideal Cert.Kernel7Ideal.Gen

variable {D : Data 256 512}

theorem k0_y {v0 : FVec Ideal S256x512 .bf16} {v1 : FVec Ideal S1024x512 .bf16} (h0 : Holds v0 D.o) (h1 : Holds v1 fun j l => D.wm l j) :
    Holds (k0_pay8 (F := Ideal) v0 v1) D.y1 := by
  intro i j
  pointwise [k0_pay8]
  simp only [h0 _ _, h1 _ _, ← EReal.coe_mul, ← EReal.coe_add, ← EReal.coe_sub, coe_sum, one_add_real, one_sub_real, div_1024, ofBits_1024, ofBits_eps.1]
  rfl

theorem k0_yb {v0 : FVec Ideal S256x512 .bf16} {v1 : FVec Ideal S1024x512 .bf16} (h0 : Holds v0 D.o) (h1 : Holds v1 fun j l => D.wm l j) :
    Holds (k0_pay9 (F := Ideal) v0 v1) D.y1 := by
  intro i j
  pointwise [k0_pay9]
  simp only [k0_y h0 h1 _ _, ← EReal.coe_mul, ← EReal.coe_add, ← EReal.coe_sub, coe_sum, one_add_real, one_sub_real, div_1024, ofBits_1024, ofBits_eps.1]

theorem k0_x {v0 : FVec Ideal S256x512 .bf16} {v1 : FVec Ideal S1024x512 .bf16} {x : FVec Ideal S256x1024 .f32} {g : FVec Ideal S1x1024 .f32} (h0 : Holds v0 D.o) (h1 : Holds v1 fun j l => D.wm l j) (hx : Holds x D.x) (hg : Holds g fun _ => D.g1) :
    Holds (k0_pay10 (F := Ideal) v0 v1 x g) D.x1 := by
  intro i j
  pointwise [k0_pay10]
  simp only [k0_y h0 h1 _ _, hx _ _, hg _ _, ← EReal.coe_mul, ← EReal.coe_add, ← EReal.coe_sub, coe_sum, one_add_real, one_sub_real, div_1024, ofBits_1024, ofBits_eps.1]
  rfl

theorem k0_h {v0 : FVec Ideal S256x512 .bf16} {v1 : FVec Ideal S1024x512 .bf16} {x : FVec Ideal S256x1024 .f32} {g : FVec Ideal S1x1024 .f32} {nf sc sh : FVec Ideal S1x1024 .f32} (h0 : Holds v0 D.o) (h1 : Holds v1 fun j l => D.wm l j) (hx : Holds x D.x) (hg : Holds g fun _ => D.g1) (hnf : Holds nf fun _ => D.nf) (hsc : Holds sc fun _ => D.sc) (hsh : Holds sh fun _ => D.sh) :
    Holds (k0_pay11 (F := Ideal) v0 v1 x g nf sc sh) D.h := by
  intro i j
  pointwise [k0_pay11]
  simp only [k0_x h0 h1 hx hg _ _, hnf _ _, hsc _ _, hsh _ _, ← EReal.coe_mul, ← EReal.coe_add, ← EReal.coe_sub, coe_sum, one_add_real, one_sub_real, div_1024, ofBits_1024, ofBits_eps.1, D.rsqrt_den]
  rfl

theorem k0_gate {h : FVec Ideal S256x1024 .bf16} {wg : FVec Ideal S2816x1024 .bf16} (hh : Holds h D.h) (hg : Holds wg fun k j => D.wg j k) :
    Holds (k0_pay1 (F := Ideal) h wg) D.gate := by
  intro i j
  pointwise [k0_pay1]
  simp only [hh _ _, hg _ _, ← EReal.coe_mul, ← EReal.coe_add, ← EReal.coe_sub, coe_sum, one_add_real, one_sub_real, div_1024, ofBits_1024, ofBits_eps.1]
  rfl

theorem k0_up {h : FVec Ideal S256x1024 .bf16} {wu : FVec Ideal S2816x1024 .bf16} (hh : Holds h D.h) (hu : Holds wu fun k j => D.wu j k) :
    Holds (k0_pay2 (F := Ideal) h wu) D.up := by
  intro i j
  pointwise [k0_pay2]
  simp only [hh _ _, hu _ _, ← EReal.coe_mul, ← EReal.coe_add, ← EReal.coe_sub, coe_sum, one_add_real, one_sub_real, div_1024, ofBits_1024, ofBits_eps.1]
  rfl

theorem k0_sg {h : FVec Ideal S256x1024 .bf16} {wg : FVec Ideal S2816x1024 .bf16} (hh : Holds h D.h) (hg : Holds wg fun k j => D.wg j k) :
    Holds (k0_pay3 (F := Ideal) h wg) D.sg := by
  intro i j
  pointwise [k0_pay3]
  simp only [k0_gate hh hg _ _, D.logistic_gate, ← EReal.coe_mul, ← EReal.coe_add, ← EReal.coe_sub, coe_sum, one_add_real, one_sub_real, div_1024, ofBits_1024, ofBits_eps.1]

theorem k0_silu {h : FVec Ideal S256x1024 .bf16} {wg : FVec Ideal S2816x1024 .bf16} (hh : Holds h D.h) (hg : Holds wg fun k j => D.wg j k) :
    Holds (k0_pay4 (F := Ideal) h wg) D.silu := by
  intro i j
  pointwise [k0_pay4]
  simp only [k0_gate hh hg _ _, k0_sg hh hg _ _, ← EReal.coe_mul, ← EReal.coe_add, ← EReal.coe_sub, coe_sum, one_add_real, one_sub_real, div_1024, ofBits_1024, ofBits_eps.1]
  rfl

theorem k0_siluB {h : FVec Ideal S256x1024 .bf16} {wg : FVec Ideal S2816x1024 .bf16} (hh : Holds h D.h) (hg : Holds wg fun k j => D.wg j k) :
    Holds (k0_pay6 (F := Ideal) h wg) D.silu := by
  intro i j
  pointwise [k0_pay6]
  simp only [k0_silu hh hg _ _, ← EReal.coe_mul, ← EReal.coe_add, ← EReal.coe_sub, coe_sum, one_add_real, one_sub_real, div_1024, ofBits_1024, ofBits_eps.1]

theorem k0_ga {h : FVec Ideal S256x1024 .bf16} {wg wu : FVec Ideal S2816x1024 .bf16} (hh : Holds h D.h) (hg : Holds wg fun k j => D.wg j k) (hu : Holds wu fun k j => D.wu j k) :
    Holds (k0_pay5 (F := Ideal) h wg wu) D.ga := by
  intro i j
  pointwise [k0_pay5]
  simp only [k0_gate hh hg _ _, k0_sg hh hg _ _, k0_up hh hu _ _, ← EReal.coe_mul, ← EReal.coe_add, ← EReal.coe_sub, coe_sum, one_add_real, one_sub_real, div_1024, ofBits_1024, ofBits_eps.1]
  rfl

theorem k0_act {h : FVec Ideal S256x1024 .bf16} {wg wu : FVec Ideal S2816x1024 .bf16} (hh : Holds h D.h) (hg : Holds wg fun k j => D.wg j k) (hu : Holds wu fun k j => D.wu j k) :
    Holds (k0_pay7 (F := Ideal) h wg wu) D.act := by
  intro i j
  pointwise [k0_pay7]
  simp only [k0_silu hh hg _ _, k0_up hh hu _ _, ← EReal.coe_mul, ← EReal.coe_add, ← EReal.coe_sub, coe_sum, one_add_real, one_sub_real, div_1024, ofBits_1024, ofBits_eps.1]
  rfl

variable {E : Data 512 512} {T : Next 1536}

theorem k1_y {a : FVec Ideal S512x2816 .bf16} {w : FVec Ideal S2816x1024 .bf16} (ha : Holds a E.act) (hw : Holds w E.wo) :
    Holds (k1_pay3 (F := Ideal) a w) E.y2 := by
  intro i j
  pointwise [k1_pay3]
  simp only [ha _ _, hw _ _, ← EReal.coe_mul, ← EReal.coe_add, ← EReal.coe_sub, coe_sum, one_add_real, one_sub_real, div_1024, ofBits_1024, ofBits_eps.1]
  rfl

theorem k1_yb {a : FVec Ideal S512x2816 .bf16} {w : FVec Ideal S2816x1024 .bf16} (ha : Holds a E.act) (hw : Holds w E.wo) :
    Holds (k1_pay2 (F := Ideal) (k1_pay3 a w)) E.y2 := by
  intro i j
  pointwise [k1_pay2]
  simp only [k1_y ha hw _ _, ← EReal.coe_mul, ← EReal.coe_add, ← EReal.coe_sub, coe_sum, one_add_real, one_sub_real, div_1024, ofBits_1024, ofBits_eps.1]

theorem k1_x {a : FVec Ideal S512x2816 .bf16} {w : FVec Ideal S2816x1024 .bf16} {x : FVec Ideal S512x1024 .f32} {g : FVec Ideal S1x1024 .f32}
    (ha : Holds a E.act) (hw : Holds w E.wo) (hx : Holds x E.x1) (hg : Holds g fun _ => E.g2) :
    Holds (k1_pay4 (F := Ideal) a w x g) E.x2 := by
  intro i j
  pointwise [k1_pay4]
  simp only [k1_y ha hw _ _, hx _ _, hg _ _, ← EReal.coe_mul, ← EReal.coe_add, ← EReal.coe_sub, coe_sum, one_add_real, one_sub_real, div_1024, ofBits_1024, ofBits_eps.1]
  rfl

theorem k1_h {a : FVec Ideal S512x2816 .bf16} {w : FVec Ideal S2816x1024 .bf16} {x : FVec Ideal S512x1024 .f32} {g : FVec Ideal S1x1024 .f32}
    {nm s1 b1 : FVec Ideal S1x1024 .f32} (ha : Holds a E.act) (hw : Holds w E.wo) (hx : Holds x E.x1) (hg : Holds g fun _ => E.g2)
    (hn : Holds nm fun _ => T.nm) (hs : Holds s1 fun _ => T.s1) (hb : Holds b1 fun _ => T.b1) :
    Holds (k1_pay5 (F := Ideal) a w x g nm s1 b1) (E.h1 T) := by
  intro i j
  pointwise [k1_pay5]
  simp only [k1_x ha hw hx hg _ _, hn _ _, hs _ _, hb _ _, E.rsqrt_den2, ← EReal.coe_mul, ← EReal.coe_add, ← EReal.coe_sub, coe_sum, one_add_real, one_sub_real, div_1024, ofBits_1024, ofBits_eps.1]
  rfl

theorem k1_q {h : FVec Ideal S512x1024 .bf16} {w : FVec Ideal S1536x1024 .bf16} (hh : Holds h (E.h1 T)) (hw : Holds w fun k j => T.wn j k) :
    Holds (k1_pay1 (F := Ideal) h w) (E.qkv T) := by
  intro i j
  pointwise [k1_pay1]
  simp only [hh _ _, hw _ _, ← EReal.coe_mul, ← EReal.coe_add, ← EReal.coe_sub, coe_sum, one_add_real, one_sub_real, div_1024, ofBits_1024, ofBits_eps.1]
  rfl

end Cert.Ffb

end
-- ==== Proof.Ffb.Arr0.lean ====
/- The first call's blocks and the arrays it leaves. -/
module

public import proofs.«01_k».proof.Proof.Ffb.Pay0
public import proofs.«01_k».proof.Proof.Gen.Kernel7Ideal.Frame.Region0
public import Idealize.ShloMosaic.Lib.Pipeline.ValueKit

@[expose] public section

set_option maxRecDepth 16384

noncomputable section

namespace Cert.Ffb

open Cert.Ffn
open Idealize.ShloMosaic Idealize.ShloMosaic.TcCoe Idealize.ShloMosaic.Pointwise Cert.Kernel7Ideal Cert.Kernel7Ideal.Gen

/-- What the first call is given, as real numbers. -/
structure In0 (V : (c : Dev nD) → (b : Ref sig .tc) → Buf (Elt Ideal) ((c : Thread nD τ).loc b)) (c : Dev nD) (D : Data 16384 512) :
    Prop where
  o : Holds (φ := .bf16) (V c main_arg1) D.o
  wm : Holds (φ := .bf16) (V c main_v1) fun j l => D.wm l j
  x : Holds (φ := .f32) (V c main_arg3) D.x
  g1 : Holds (φ := .f32) (V c main_arg4) fun _ : Fin 1 => D.g1
  nf : Holds (φ := .f32) (V c main_arg5) fun _ : Fin 1 => D.nf
  sc : Holds (φ := .f32) (V c main_arg6) fun _ : Fin 1 => D.sc
  sh : Holds (φ := .f32) (V c main_arg7) fun _ : Fin 1 => D.sh
  wi : Holds (φ := .bf16) (V c main_v3) fun k j => D.wi j k

/-- The rows of a grid point. -/
def row0 (t : Fin cfg0.N) (i : Fin 256) : Fin 16384 := ⟨t.val * 256 + i.val, by have := t.isLt; have : cfg0.N = 64 := rfl; omega⟩

theorem idx0 : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![t.val, 0] := by decide +kernel

variable {V : (c : Dev nD) → (b : Ref sig .tc) → Buf (Elt Ideal) ((c : Thread nD τ).loc b)} {c : Dev nD} {D : Data 16384 512}

theorem blk0_0 (H : In0 V c D) (t : Fin cfg0.N) : Holds (φ := .bf16) (n := 256) (d := 512) (iblk0 V c 0 t) ((D.rows (row0 t)).o) := by
  intro i j
  refine Eq.trans ?_ (H.o (row0 t i) j)
  blk_ext [iblk0, row0, idx0 t]

theorem blk0_1 (H : In0 V c D) (t : Fin cfg0.N) : Holds (φ := .bf16) (n := 1024) (d := 512) (iblk0 V c 1 t) (fun j l => D.wm l j) := by
  intro i j
  refine Eq.trans ?_ (H.wm i j)
  blk_ext [iblk0, row0, idx0 t]

theorem blk0_2 (H : In0 V c D) (t : Fin cfg0.N) : Holds (φ := .f32) (n := 256) (d := 1024) (iblk0 V c 2 t) ((D.rows (row0 t)).x) := by
  intro i j
  refine Eq.trans ?_ (H.x (row0 t i) j)
  blk_ext [iblk0, row0, idx0 t]

theorem blk0_3 (H : In0 V c D) (t : Fin cfg0.N) : Holds (φ := .f32) (n := 1) (d := 1024) (iblk0 V c 3 t) (fun _ => D.g1) := by
  intro i j
  refine Eq.trans ?_ (H.g1 i j)
  blk_ext [iblk0, row0, idx0 t]

theorem blk0_4 (H : In0 V c D) (t : Fin cfg0.N) : Holds (φ := .f32) (n := 1) (d := 1024) (iblk0 V c 4 t) (fun _ => D.nf) := by
  intro i j
  refine Eq.trans ?_ (H.nf i j)
  blk_ext [iblk0, row0, idx0 t]

theorem blk0_5 (H : In0 V c D) (t : Fin cfg0.N) : Holds (φ := .f32) (n := 1) (d := 1024) (iblk0 V c 5 t) (fun _ => D.sc) := by
  intro i j
  refine Eq.trans ?_ (H.sc i j)
  blk_ext [iblk0, row0, idx0 t]

theorem blk0_6 (H : In0 V c D) (t : Fin cfg0.N) : Holds (φ := .f32) (n := 1) (d := 1024) (iblk0 V c 6 t) (fun _ => D.sh) := by
  intro i j
  refine Eq.trans ?_ (H.sh i j)
  blk_ext [iblk0, row0, idx0 t]

theorem blk0_7 (H : In0 V c D) (t : Fin cfg0.N) : Holds (φ := .bf16) (n := 5632) (d := 1024) (iblk0 V c 7 t) (fun k j => D.wi j k) := by
  intro i j
  refine Eq.trans ?_ (H.wi i j)
  blk_ext [iblk0, row0, idx0 t]

theorem blk0_g (H : In0 V c D) (t : Fin cfg0.N) : Holds (φ := .bf16) (n := 2816) (d := 1024) (View.ld (iblk0 V c 7 t) r0_4) fun k j => D.wg j k := by
  intro i j
  refine Eq.trans ?_ (blk0_7 H t ⟨i.val, by omega⟩ j)
  pointwise []

theorem blk0_u (H : In0 V c D) (t : Fin cfg0.N) : Holds (φ := .bf16) (n := 2816) (d := 1024) (View.ld (iblk0 V c 7 t) r0_5) fun k j => D.wu j k := by
  intro i j
  refine Eq.trans ?_ (blk0_7 H t ⟨2816 + i.val, by omega⟩ j)
  pointwise []

theorem blk0_h (H : In0 V c D) (t : Fin cfg0.N) :
    Holds (k0_pay12 (iblk0 V c 0 t) (iblk0 V c 1 t) (iblk0 V c 2 t) (iblk0 V c 3 t) (iblk0 V c 4 t) (iblk0 V c 5 t) (iblk0 V c 6 t) (iblk0 V c 7 t)) (D.rows (row0 t)).h := by
  unfold k0_pay12
  simp (disch := decide) only [View.ld_unit_lit]
  exact k0_h (D := D.rows (row0 t)) (blk0_0 H t) (blk0_1 H t) (blk0_2 H t) (blk0_3 H t) (blk0_4 H t) (blk0_5 H t) (blk0_6 H t)

theorem arr0_8 (H : In0 V c D) : Holds (φ := .f32) (n := 16384) (d := 1024) ((dat0 V c).arrAt 8 cfg0.N) D.x1 := by
  intro i j
  have h : (dat0 V c).arrAt 8 cfg0.N = fun y : S16384x1024.Idx => ((D.x1 (y 0) (y 1) : ℝ) : EReal) := by
    refine (dat0 V c).arrAt_eq_of_covers 8 _ (by decide +kernel) fun t hf y => ?_
    blk_simp
    rw [after0_8]
    frame_out
    obtain ⟨i, j, rfl⟩ := ix2_of (n := 256) (d := 1024) y
    refine Eq.trans (k0_x (D := D.rows (row0 t)) (blk0_0 H t) (blk0_1 H t) (blk0_2 H t) (blk0_3 H t) i j) ?_
    refine coe_at (f := D.x1) (a := row0 t i) (b := j) ?_ ?_ <;> blk_simp [row0, idx0 t]
  exact congrFun h (ix2 i j)

theorem arr0_9 (H : In0 V c D) : Holds (φ := .bf16) (n := 16384) (d := 1024) ((dat0 V c).arrAt 9 cfg0.N) D.y1 := by
  intro i j
  have h : (dat0 V c).arrAt 9 cfg0.N = fun y : S16384x1024.Idx => ((D.y1 (y 0) (y 1) : ℝ) : EReal) := by
    refine (dat0 V c).arrAt_eq_of_covers 9 _ (by decide +kernel) fun t hf y => ?_
    blk_simp
    rw [after0_9]
    frame_out
    obtain ⟨i, j, rfl⟩ := ix2_of (n := 256) (d := 1024) y
    refine Eq.trans (k0_yb (D := D.rows (row0 t)) (blk0_0 H t) (blk0_1 H t) i j) ?_
    refine coe_at (f := D.y1) (a := row0 t i) (b := j) ?_ ?_ <;> blk_simp [row0, idx0 t]
  exact congrFun h (ix2 i j)

theorem arr0_10 (H : In0 V c D) : Holds (φ := .bf16) (n := 16384) (d := 1024) ((dat0 V c).arrAt 10 cfg0.N) D.h := by
  intro i j
  have h : (dat0 V c).arrAt 10 cfg0.N = fun y : S16384x1024.Idx => ((D.h (y 0) (y 1) : ℝ) : EReal) := by
    refine (dat0 V c).arrAt_eq_of_covers 10 _ (by decide +kernel) fun t hf y => ?_
    blk_simp
    rw [after0_10]
    unfold out0_10; rw [View.canon_unit_zero (by decide)]
    obtain ⟨i, j, rfl⟩ := ix2_of (n := 256) (d := 1024) y
    refine Eq.trans (blk0_h H t i j) ?_
    refine coe_at (f := D.h) (a := row0 t i) (b := j) ?_ ?_ <;> blk_simp [row0, idx0 t]
  exact congrFun h (ix2 i j)

theorem arr0_12 (H : In0 V c D) : Holds (φ := .bf16) (n := 16384) (d := 2816) ((dat0 V c).arrAt 12 cfg0.N) D.act := by
  intro i j
  have h : (dat0 V c).arrAt 12 cfg0.N = fun y : S16384x2816.Idx => ((D.act (y 0) (y 1) : ℝ) : EReal) := by
    refine (dat0 V c).arrAt_eq_of_covers 12 _ (by decide +kernel) fun t hf y => ?_
    blk_simp
    rw [after0_12]
    frame_out
    obtain ⟨i, j, rfl⟩ := ix2_of (n := 256) (d := 2816) y
    refine Eq.trans (k0_act (D := D.rows (row0 t)) (blk0_h H t) (blk0_g H t) (blk0_u H t) i j) ?_
    refine coe_at (f := D.act) (a := row0 t i) (b := j) ?_ ?_ <;> blk_simp [row0, idx0 t]
  exact congrFun h (ix2 i j)

theorem arr0_11 (H : In0 V c D) : Holds (φ := .bf16) (n := 16384) (d := 5632) ((dat0 V c).arrAt 11 cfg0.N) D.gu := by
  intro i j
  have h : (dat0 V c).arrAt 11 cfg0.N = fun y : S16384x5632.Idx => ((D.gu (y 0) (y 1) : ℝ) : EReal) := by
    refine (dat0 V c).arrAt_eq_of_covers 11 _ (by decide +kernel) fun t hf y => ?_
    blk_simp
    rw [after0_11]
    unfold out0_11
    canon_tiles x h
    · obtain ⟨i, j, rfl⟩ := ix2_of (n := 256) (d := 2816) x
      refine Eq.trans (k0_siluB (D := D.rows (row0 t)) (blk0_h H t) (blk0_g H t) i j) ?_
      refine gu_hi D (i := row0 t i) (k := j) ?_ ?_
      · blk_simp [row0, idx0 t]; rw [h0]; rfl
      · blk_simp [row0, idx0 t]; rw [h1]; rfl
    · obtain ⟨i, j, rfl⟩ := ix2_of (n := 256) (d := 2816) x
      refine Eq.trans (k0_ga (D := D.rows (row0 t)) (blk0_h H t) (blk0_g H t) (blk0_u H t) i j) ?_
      refine gu_lo D (i := row0 t i) (k := j) ?_ ?_
      · blk_simp [row0, idx0 t]; rw [h0]; rfl
      · blk_simp [row0, idx0 t]; rw [h1]; rfl
  exact congrFun h (ix2 i j)

end Cert.Ffb

end
-- ==== Proof.Ffb.Arr1.lean ====
/- The second call's blocks and the arrays it leaves. -/
module

public import proofs.«01_k».proof.Proof.Ffb.Arr0
public import proofs.«01_k».proof.Proof.Gen.Kernel7Ideal.Frame.Region1

@[expose] public section

set_option maxRecDepth 16384

noncomputable section

namespace Cert.Ffb

open Cert.Ffn
open Idealize.ShloMosaic Idealize.ShloMosaic.TcCoe Idealize.ShloMosaic.Pointwise Cert.Kernel7Ideal Cert.Kernel7Ideal.Gen

structure In1 (V : (c : Dev nD) → (b : Ref sig .tc) → Buf (Elt Ideal) ((c : Thread nD τ).loc b)) (c : Dev nD) (D : Data 16384 512) :
    Prop where
  act : Holds (φ := .bf16) (V c main_v7_4) D.act
  wo : Holds (φ := .bf16) (V c main_v4) D.wo
  x1 : Holds (φ := .f32) (V c main_v7_0) D.x1
  g2 : Holds (φ := .f32) (V c main_arg10) fun _ : Fin 1 => D.g2

/-- What it is given of the next layer. -/
structure Next1 (V : (c : Dev nD) → (b : Ref sig .tc) → Buf (Elt Ideal) ((c : Thread nD τ).loc b)) (c : Dev nD) (T : Next 1536) :
    Prop where
  nm : Holds (φ := .f32) (V c main_arg11) fun _ : Fin 1 => T.nm
  s1 : Holds (φ := .f32) (V c main_arg12) fun _ : Fin 1 => T.s1
  b1 : Holds (φ := .f32) (V c main_arg13) fun _ : Fin 1 => T.b1
  wn : Holds (φ := .bf16) (V c main_v6) fun k j => T.wn j k

/-- The rows of a grid point. -/
def row1 (t : Fin cfg1.N) (i : Fin 512) : Fin 16384 := ⟨t.val * 512 + i.val, by have := t.isLt; have : cfg1.N = 32 := rfl; omega⟩

theorem idx1 : ∀ t : Fin cfg1.N, win1_0.index t = ![t.val, 0] ∧ win1_1.index t = ![0, 0] ∧ win1_2.index t = ![t.val, 0] ∧ win1_3.index t = ![0, 0] ∧ win1_4.index t = ![0, 0] ∧ win1_5.index t = ![0, 0] ∧ win1_6.index t = ![0, 0] ∧ win1_7.index t = ![0, 0]
    ∧ win1_8.index t = ![t.val, 0] ∧ win1_9.index t = ![t.val, 0] ∧ win1_10.index t = ![t.val, 0] ∧ win1_11.index t = ![t.val, 0] := by
  decide +kernel

variable {V : (c : Dev nD) → (b : Ref sig .tc) → Buf (Elt Ideal) ((c : Thread nD τ).loc b)} {c : Dev nD} {D : Data 16384 512} {T : Next 1536}

theorem blk1_0 (H : In1 V c D) (t : Fin cfg1.N) : Holds (φ := .bf16) (n := 512) (d := 2816) (iblk1 V c 0 t) ((D.rows (row1 t)).act) := by
  intro i j
  refine Eq.trans ?_ (H.act (row1 t i) j)
  blk_ext [iblk1, row1, idx1 t]

theorem blk1_1 (H : In1 V c D) (t : Fin cfg1.N) : Holds (φ := .bf16) (n := 2816) (d := 1024) (iblk1 V c 1 t) D.wo := by
  intro i j
  refine Eq.trans ?_ (H.wo i j)
  blk_ext [iblk1, row1, idx1 t]

theorem blk1_2 (H : In1 V c D) (t : Fin cfg1.N) : Holds (φ := .f32) (n := 512) (d := 1024) (iblk1 V c 2 t) ((D.rows (row1 t)).x1) := by
  intro i j
  refine Eq.trans ?_ (H.x1 (row1 t i) j)
  blk_ext [iblk1, row1, idx1 t]

theorem blk1_3 (H : In1 V c D) (t : Fin cfg1.N) : Holds (φ := .f32) (n := 1) (d := 1024) (iblk1 V c 3 t) (fun _ => D.g2) := by
  intro i j
  refine Eq.trans ?_ (H.g2 i j)
  blk_ext [iblk1, row1, idx1 t]

theorem blk1_4 (H : Next1 V c T) (t : Fin cfg1.N) : Holds (φ := .f32) (n := 1) (d := 1024) (iblk1 V c 4 t) (fun _ => T.nm) := by
  intro i j
  refine Eq.trans ?_ (H.nm i j)
  blk_ext [iblk1, row1, idx1 t]

theorem blk1_5 (H : Next1 V c T) (t : Fin cfg1.N) : Holds (φ := .f32) (n := 1) (d := 1024) (iblk1 V c 5 t) (fun _ => T.s1) := by
  intro i j
  refine Eq.trans ?_ (H.s1 i j)
  blk_ext [iblk1, row1, idx1 t]

theorem blk1_6 (H : Next1 V c T) (t : Fin cfg1.N) : Holds (φ := .f32) (n := 1) (d := 1024) (iblk1 V c 6 t) (fun _ => T.b1) := by
  intro i j
  refine Eq.trans ?_ (H.b1 i j)
  blk_ext [iblk1, row1, idx1 t]

theorem blk1_7 (H : Next1 V c T) (t : Fin cfg1.N) : Holds (φ := .bf16) (n := 1536) (d := 1024) (iblk1 V c 7 t) (fun k j => T.wn j k) := by
  intro i j
  refine Eq.trans ?_ (H.wn i j)
  blk_ext [iblk1, row1, idx1 t]

theorem arr1_8 (H : In1 V c D) : Holds (φ := .f32) (n := 16384) (d := 1024) ((dat1 V c).arrAt 8 cfg1.N) D.x2 := by
  intro i j
  have h : (dat1 V c).arrAt 8 cfg1.N = fun y : S16384x1024.Idx => ((D.x2 (y 0) (y 1) : ℝ) : EReal) := by
    refine (dat1 V c).arrAt_eq_of_covers 8 _ (by decide +kernel) fun t hf y => ?_
    blk_simp
    rw [after1_8]
    frame_out
    obtain ⟨i, j, rfl⟩ := ix2_of (n := 512) (d := 1024) y
    refine Eq.trans (k1_x (E := D.rows (row1 t)) (blk1_0 H t) (blk1_1 H t) (blk1_2 H t) (blk1_3 H t) i j) ?_
    refine coe_at (f := D.x2) (a := row1 t i) (b := j) ?_ ?_ <;> blk_simp [row1, idx1 t]
  exact congrFun h (ix2 i j)

theorem arr1_9 (H : In1 V c D) : Holds (φ := .bf16) (n := 16384) (d := 1024) ((dat1 V c).arrAt 9 cfg1.N) D.y2 := by
  intro i j
  have h : (dat1 V c).arrAt 9 cfg1.N = fun y : S16384x1024.Idx => ((D.y2 (y 0) (y 1) : ℝ) : EReal) := by
    refine (dat1 V c).arrAt_eq_of_covers 9 _ (by decide +kernel) fun t hf y => ?_
    blk_simp
    rw [after1_9]
    frame_out
    obtain ⟨i, j, rfl⟩ := ix2_of (n := 512) (d := 1024) y
    refine Eq.trans (k1_yb (E := D.rows (row1 t)) (blk1_0 H t) (blk1_1 H t) i j) ?_
    refine coe_at (f := D.y2) (a := row1 t i) (b := j) ?_ ?_ <;> blk_simp [row1, idx1 t]
  exact congrFun h (ix2 i j)

theorem arr1_10 (H : In1 V c D) (L : Next1 V c T) : Holds (φ := .bf16) (n := 16384) (d := 1024) ((dat1 V c).arrAt 10 cfg1.N) (D.h1 T) := by
  intro i j
  have h : (dat1 V c).arrAt 10 cfg1.N = fun y : S16384x1024.Idx => (((D.h1 T) (y 0) (y 1) : ℝ) : EReal) := by
    refine (dat1 V c).arrAt_eq_of_covers 10 _ (by decide +kernel) fun t hf y => ?_
    blk_simp
    rw [after1_10]
    frame_out
    obtain ⟨i, j, rfl⟩ := ix2_of (n := 512) (d := 1024) y
    refine Eq.trans (k1_h (E := D.rows (row1 t)) (T := T) (blk1_0 H t) (blk1_1 H t) (blk1_2 H t) (blk1_3 H t) (blk1_4 L t) (blk1_5 L t) (blk1_6 L t) i j) ?_
    refine coe_at (f := D.h1 T) (a := row1 t i) (b := j) ?_ ?_ <;> blk_simp [row1, idx1 t]
  exact congrFun h (ix2 i j)

theorem arr1_11 (H : In1 V c D) (L : Next1 V c T) : Holds (φ := .bf16) (n := 16384) (d := 1536) ((dat1 V c).arrAt 11 cfg1.N) (D.qkv T) := by
  intro i j
  have h : (dat1 V c).arrAt 11 cfg1.N = fun y : S16384x1536.Idx => (((D.qkv T) (y 0) (y 1) : ℝ) : EReal) := by
    refine (dat1 V c).arrAt_eq_of_covers 11 _ (by decide +kernel) fun t hf y => ?_
    blk_simp
    rw [after1_11]
    frame_out
    obtain ⟨i, j, rfl⟩ := ix2_of (n := 512) (d := 1536) y
    refine Eq.trans (k1_q (E := D.rows (row1 t)) (T := T) (k1_h (blk1_0 H t) (blk1_1 H t) (blk1_2 H t) (blk1_3 H t) (blk1_4 L t) (blk1_5 L t) (blk1_6 L t)) (blk1_7 L t) i j) ?_
    refine coe_at (f := D.qkv T) (a := row1 t i) (b := j) ?_ ?_ <;> blk_simp [row1, idx1 t]
  exact congrFun h (ix2 i j)

end Cert.Ffb

end
-- ==== Proof.Ffb.Pay2.lean ====
/- The blocks the third call writes, as real numbers. -/
module

public import proofs.«01_k».proof.Proof.Ffn.Real
public import proofs.«01_k».proof.Proof.Gen.Kernel7Ideal.Skeleton

@[expose] public section

set_option maxRecDepth 16384

noncomputable section

namespace Cert.Ffb

open Cert.Ffn
open Idealize.ShloMosaic Idealize.ShloMosaic.Pointwise Cert.Kernel7Ideal Cert.Kernel7Ideal.Gen

variable {D : Data 256 512}

theorem k2_dy2 {dx : FVec Ideal S256x1024 .f32} {g2 : FVec Ideal S1x1024 .f32} (hdx : Holds dx D.dx) (hg2 : Holds g2 fun _ => D.g2) :
    Holds (k2_pay7 (F := Ideal) dx g2) D.dy2 := by
  intro i j
  pointwise [k2_pay7]
  simp only [hdx _ _, hg2 _ _, ← EReal.coe_mul, ← EReal.coe_add, ← EReal.coe_sub, coe_sum, one_add_real, one_sub_real, div_1024, ofBits_1024, ofBits_eps.1]
  rfl

theorem k2_da {dx : FVec Ideal S256x1024 .f32} {g2 : FVec Ideal S1x1024 .f32} {wo : FVec Ideal S2816x1024 .bf16} (hdx : Holds dx D.dx) (hg2 : Holds g2 fun _ => D.g2) (hwo : Holds wo D.wo) :
    Holds (k2_pay8 (F := Ideal) dx g2 wo) D.da := by
  intro i j
  pointwise [k2_pay8]
  simp only [k2_dy2 hdx hg2 _ _, hwo _ _, ← EReal.coe_mul, ← EReal.coe_add, ← EReal.coe_sub, coe_sum, one_add_real, one_sub_real, div_1024, ofBits_1024, ofBits_eps.1]
  rfl

theorem k2_dga {dx : FVec Ideal S256x1024 .f32} {g2 : FVec Ideal S1x1024 .f32} {wo : FVec Ideal S2816x1024 .bf16} {ga : FVec Ideal S256x2816 .bf16} (hdx : Holds dx D.dx) (hg2 : Holds g2 fun _ => D.g2) (hwo : Holds wo D.wo) (hga : Holds ga D.ga) :
    Holds (k2_pay9 (F := Ideal) dx g2 wo ga) D.dga := by
  intro i j
  pointwise [k2_pay9]
  simp only [k2_da hdx hg2 hwo _ _, hga _ _, ← EReal.coe_mul, ← EReal.coe_add, ← EReal.coe_sub, coe_sum, one_add_real, one_sub_real, div_1024, ofBits_1024, ofBits_eps.1]
  rfl

theorem k2_dup {dx : FVec Ideal S256x1024 .f32} {g2 : FVec Ideal S1x1024 .f32} {wo : FVec Ideal S2816x1024 .bf16} {s : FVec Ideal S256x2816 .bf16} (hdx : Holds dx D.dx) (hg2 : Holds g2 fun _ => D.g2) (hwo : Holds wo D.wo) (hs : Holds s D.silu) :
    Holds (k2_pay10 (F := Ideal) dx g2 wo s) D.dup := by
  intro i j
  pointwise [k2_pay10]
  simp only [k2_da hdx hg2 hwo _ _, hs _ _, ← EReal.coe_mul, ← EReal.coe_add, ← EReal.coe_sub, coe_sum, one_add_real, one_sub_real, div_1024, ofBits_1024, ofBits_eps.1]
  rfl

theorem k2_dh {da db : FVec Ideal S256x2816 .bf16} {wg wu : FVec Ideal S2816x1024 .bf16} (ha : Holds da D.dga) (hb : Holds db D.dup) (hwg : Holds wg fun k j => D.wg j k) (hwu : Holds wu fun k j => D.wu j k) :
    Holds (k2_pay11 (F := Ideal) da db wg wu) D.dh := by
  intro i j
  pointwise [k2_pay11]
  simp only [ha _ _, hb _ _, hwg _ _, hwu _ _, ← EReal.coe_mul, ← EReal.coe_add, ← EReal.coe_sub, coe_sum, one_add_real, one_sub_real, div_1024, ofBits_1024, ofBits_eps.1]
  rfl

theorem k2_x {x : FVec Ideal S256x1024 .f32} (hx : Holds x D.x1) :
    Holds (k2_pay12 (F := Ideal) x) D.x1 := by
  intro i j
  pointwise [k2_pay12]
  simp only [hx _ _, ← EReal.coe_mul, ← EReal.coe_add, ← EReal.coe_sub, coe_sum, one_add_real, one_sub_real, div_1024, ofBits_1024, ofBits_eps.1]

theorem k2_rs {x : FVec Ideal S256x1024 .f32} (hx : Holds x D.x1) :
    Holds (k2_pay13 (F := Ideal) x) fun i _ => D.rs i := by
  intro i j
  pointwise [k2_pay13]
  simp only [k2_x hx _ _, D.rsqrt_den, ← EReal.coe_mul, ← EReal.coe_add, ← EReal.coe_sub, coe_sum, one_add_real, one_sub_real, div_1024, ofBits_1024, ofBits_eps.1]

theorem k2_xh {x : FVec Ideal S256x1024 .f32} (hx : Holds x D.x1) :
    Holds (k2_pay14 (F := Ideal) x) D.xh := by
  intro i j
  pointwise [k2_pay14]
  simp only [k2_x hx _ _, k2_rs hx _ _, ← EReal.coe_mul, ← EReal.coe_add, ← EReal.coe_sub, coe_sum, one_add_real, one_sub_real, div_1024, ofBits_1024, ofBits_eps.1]
  rfl

theorem k2_sc {sc : FVec Ideal S1x1024 .f32} (hsc : Holds sc fun _ => D.sc) :
    Holds (k2_pay15 (F := Ideal) sc) fun _ j => 1 + D.sc j := by
  intro i j
  pointwise [k2_pay15]
  simp only [hsc _ _, ← EReal.coe_mul, ← EReal.coe_add, ← EReal.coe_sub, coe_sum, one_add_real, one_sub_real, div_1024, ofBits_1024, ofBits_eps.1]

theorem k2_dz {da db : FVec Ideal S256x2816 .bf16} {wg wu : FVec Ideal S2816x1024 .bf16} {x : FVec Ideal S256x1024 .f32} {nf sc : FVec Ideal S1x1024 .f32} (ha : Holds da D.dga) (hb : Holds db D.dup) (hwg : Holds wg fun k j => D.wg j k) (hwu : Holds wu fun k j => D.wu j k) (hx : Holds x D.x1) (hnf : Holds nf fun _ => D.nf) (hsc : Holds sc fun _ => D.sc) :
    Holds (k2_pay16 (F := Ideal) da db wg wu x nf sc) fun i j => D.rs i * (D.dxh i j - D.xh i j * D.proj i) := by
  intro i j
  pointwise [k2_pay16]
  simp only [k2_dh ha hb hwg hwu _ _, k2_xh hx _ _, k2_rs hx _ _, k2_sc hsc _ _, hnf _ _, ← EReal.coe_mul, ← EReal.coe_add, ← EReal.coe_sub, coe_sum, one_add_real, one_sub_real, div_1024, ofBits_1024, ofBits_eps.1]
  rfl

theorem k2_dx1 {dx z : FVec Ideal S256x1024 .f32} (hdx : Holds dx D.dx) (hz : Holds z fun i j => D.rs i * (D.dxh i j - D.xh i j * D.proj i)) :
    Holds (k2_pay17 (F := Ideal) dx z) D.dx1 := by
  intro i j
  pointwise [k2_pay17]
  simp only [hdx _ _, hz _ _, ← EReal.coe_mul, ← EReal.coe_add, ← EReal.coe_sub, coe_sum, one_add_real, one_sub_real, div_1024, ofBits_1024, ofBits_eps.1]
  rfl

theorem k2_dy1 {d : FVec Ideal S256x1024 .f32} {g : FVec Ideal S1x1024 .f32} (hd : Holds d D.dx1) (hg : Holds g fun _ => D.g1) :
    Holds (k2_pay1 (F := Ideal) d g) D.dy1 := by
  intro i j
  pointwise [k2_pay1]
  simp only [hd _ _, hg _ _, ← EReal.coe_mul, ← EReal.coe_add, ← EReal.coe_sub, coe_sum, one_add_real, one_sub_real, div_1024, ofBits_1024, ofBits_eps.1]
  rfl

theorem k2_do {d : FVec Ideal S256x1024 .f32} {g : FVec Ideal S1x1024 .f32} {w : FVec Ideal S1024x512 .bf16} (hd : Holds d D.dx1) (hg : Holds g fun _ => D.g1) (hw : Holds w fun j l => D.wm l j) :
    Holds (k2_pay2 (F := Ideal) d g w) D.dO := by
  intro i j
  pointwise [k2_pay2]
  simp only [k2_dy1 hd hg _ _, hw _ _, ← EReal.coe_mul, ← EReal.coe_add, ← EReal.coe_sub, coe_sum, one_add_real, one_sub_real, div_1024, ofBits_1024, ofBits_eps.1]
  rfl

theorem k2_dg2 {dx : FVec Ideal S256x1024 .f32} {acc : FVec Ideal S1x1024 .f32} {c : Fin 1024 → ℝ} {y : FVec Ideal S256x1024 .bf16} (hc : Holds acc fun _ => c) (hdx : Holds dx D.dx) (hy : Holds y D.y2) :
    Holds (k2_pay6 (F := Ideal) dx acc y) fun _ j => c j + D.dg2 j := by
  intro i j
  pointwise [k2_pay6]
  simp only [hc _ _, hdx _ _, hy _ _, ← EReal.coe_mul, ← EReal.coe_add, ← EReal.coe_sub, coe_sum, one_add_real, one_sub_real, div_1024, ofBits_1024, ofBits_eps.1]
  rfl

theorem k2_dhx {d xh : FVec Ideal S256x1024 .f32} (hd : Holds d D.dh) (hx : Holds xh D.xh) :
    Holds (k2_pay18 (F := Ideal) d xh) fun i j => D.dh i j * D.xh i j := by
  intro i j
  pointwise [k2_pay18]
  simp only [hd _ _, hx _ _, ← EReal.coe_mul, ← EReal.coe_add, ← EReal.coe_sub, coe_sum, one_add_real, one_sub_real, div_1024, ofBits_1024, ofBits_eps.1]

theorem k2_dsh {d : FVec Ideal S256x1024 .f32} {acc : FVec Ideal S1x1024 .f32} {c : Fin 1024 → ℝ} (hc : Holds acc fun _ => c) (hd : Holds d D.dh) :
    Holds (k2_pay19 (F := Ideal) d acc) fun _ j => c j + D.dsh j := by
  intro i j
  pointwise [k2_pay19]
  simp only [hc _ _, hd _ _, ← EReal.coe_mul, ← EReal.coe_add, ← EReal.coe_sub, coe_sum, one_add_real, one_sub_real, div_1024, ofBits_1024, ofBits_eps.1]
  rfl

theorem k2_dsc {d xh : FVec Ideal S256x1024 .f32} {nf : FVec Ideal S1x1024 .f32} {acc : FVec Ideal S1x1024 .f32} {c : Fin 1024 → ℝ} (hc : Holds acc fun _ => c) (hd : Holds d D.dh) (hx : Holds xh D.xh) (hnf : Holds nf fun _ => D.nf) :
    Holds (k2_pay20 (F := Ideal) d xh nf acc) fun _ j => c j + D.dsc j := by
  intro i j
  pointwise [k2_pay20]
  simp only [hc _ _, k2_dhx hd hx _ _, hnf _ _, ← EReal.coe_mul, ← EReal.coe_add, ← EReal.coe_sub, coe_sum, one_add_real, one_sub_real, div_1024, ofBits_1024, ofBits_eps.1]
  rfl

theorem k2_dnf {d xh : FVec Ideal S256x1024 .f32} {s : FVec Ideal S1x1024 .f32} {acc : FVec Ideal S1x1024 .f32} {c : Fin 1024 → ℝ} (hc : Holds acc fun _ => c) (hd : Holds d D.dh) (hx : Holds xh D.xh) (hs : Holds s fun _ j => 1 + D.sc j) :
    Holds (k2_pay21 (F := Ideal) d xh s acc) fun _ j => c j + D.dnf j := by
  intro i j
  pointwise [k2_pay21]
  simp only [hc _ _, k2_dhx hd hx _ _, hs _ _, ← EReal.coe_mul, ← EReal.coe_add, ← EReal.coe_sub, coe_sum, one_add_real, one_sub_real, div_1024, ofBits_1024, ofBits_eps.1]
  rfl

theorem k2_dg1 {dx z : FVec Ideal S256x1024 .f32} {acc : FVec Ideal S1x1024 .f32} {c : Fin 1024 → ℝ} {y : FVec Ideal S256x1024 .bf16} (hc : Holds acc fun _ => c) (hdx : Holds dx D.dx) (hz : Holds z fun i j => D.rs i * (D.dxh i j - D.xh i j * D.proj i)) (hy : Holds y D.y1) :
    Holds (k2_pay22 (F := Ideal) dx z acc y) fun _ j => c j + D.dg1 j := by
  intro i j
  pointwise [k2_pay22]
  simp only [hc _ _, k2_dx1 hdx hz _ _, hy _ _, ← EReal.coe_mul, ← EReal.coe_add, ← EReal.coe_sub, coe_sum, one_add_real, one_sub_real, div_1024, ofBits_1024, ofBits_eps.1]
  rfl

end Cert.Ffb

end
-- ==== Proof.Ffb.Blk2.lean ====
/- The third call's blocks and the arrays it leaves. -/
module

public import proofs.«01_k».proof.Proof.Ffb.Pay2
public import proofs.«01_k».proof.Proof.Gen.Kernel7Ideal.Frame.Region2
public import proofs.«01_k».proof.Proof.Ffb.Arr0

@[expose] public section

set_option maxRecDepth 16384

noncomputable section

namespace Cert.Ffb

open Cert.Ffn
open Idealize.ShloMosaic Idealize.ShloMosaic.TcCoe Idealize.ShloMosaic.Pointwise Cert.Kernel7Ideal Cert.Kernel7Ideal.Gen

structure In2 (V : (c : Dev nD) → (b : Ref sig .tc) → Buf (Elt Ideal) ((c : Thread nD τ).loc b)) (c : Dev nD) (D : Data 16384 512) :
    Prop where
  dx : Holds (φ := .f32) (V c main_arg0) D.dx
  y2 : Holds (φ := .bf16) (V c main_v8_1) D.y2
  g2 : Holds (φ := .f32) (V c main_arg10) (fun _ : Fin 1 => D.g2)
  wo : Holds (φ := .bf16) (V c main_v4) D.wo
  gu : Holds (φ := .bf16) (V c main_v7_3) D.gu
  wi : Holds (φ := .bf16) (V c main_v3) (fun k j => D.wi j k)
  x1 : Holds (φ := .f32) (V c main_v7_0) D.x1
  nf : Holds (φ := .f32) (V c main_arg5) (fun _ : Fin 1 => D.nf)
  sc : Holds (φ := .f32) (V c main_arg6) (fun _ : Fin 1 => D.sc)
  y1 : Holds (φ := .bf16) (V c main_v7_1) D.y1
  g1 : Holds (φ := .f32) (V c main_arg4) (fun _ : Fin 1 => D.g1)
  wm : Holds (φ := .bf16) (V c main_v1) fun j l => D.wm l j

/-- The rows of a grid point. -/
def row2 (t : Fin cfg2.N) (i : Fin 256) : Fin 16384 := ⟨t.val * 256 + i.val, by have := t.isLt; have : cfg2.N = 64 := rfl; omega⟩

theorem idx2 : ∀ t : Fin cfg2.N, win2_0.index t = ![t.val, 0] ∧ win2_1.index t = ![t.val, 0] ∧ win2_2.index t = ![0, 0] ∧ win2_3.index t = ![0, 0] ∧ win2_4.index t = ![t.val, 0] ∧ win2_5.index t = ![0, 0] ∧ win2_6.index t = ![t.val, 0] ∧ win2_7.index t = ![0, 0] ∧ win2_8.index t = ![0, 0] ∧ win2_9.index t = ![t.val, 0] ∧ win2_10.index t = ![0, 0] ∧ win2_11.index t = ![0, 0] ∧ win2_12.index t = ![t.val, 0] ∧ win2_13.index t = ![t.val, 0] ∧ win2_14.index t = ![t.val, 0] ∧ win2_15.index t = ![t.val, 0] ∧ win2_16.index t = ![t.val, 0] ∧ win2_17.index t = ![0, 0] ∧ win2_18.index t = ![0, 0] ∧ win2_19.index t = ![0, 0] := by
  decide +kernel

variable {V : (c : Dev nD) → (b : Ref sig .tc) → Buf (Elt Ideal) ((c : Thread nD τ).loc b)} {c : Dev nD} {D : Data 16384 512}

theorem blk2_0 (H : In2 V c D) (t : Fin cfg2.N) : Holds (φ := .f32) (n := 256) (d := 1024) (iblk2 V c 0 t) ((D.rows (row2 t)).dx) := by
  intro i j
  refine Eq.trans ?_ (H.dx (row2 t i) j)
  blk_ext [iblk2, row2, idx2 t]

theorem blk2_1 (H : In2 V c D) (t : Fin cfg2.N) : Holds (φ := .bf16) (n := 256) (d := 1024) (iblk2 V c 1 t) ((D.rows (row2 t)).y2) := by
  intro i j
  refine Eq.trans ?_ (H.y2 (row2 t i) j)
  blk_ext [iblk2, row2, idx2 t]

theorem blk2_2 (H : In2 V c D) (t : Fin cfg2.N) : Holds (φ := .f32) (n := 1) (d := 1024) (iblk2 V c 2 t) (fun _ => D.g2) := by
  intro i j
  refine Eq.trans ?_ (H.g2 i j)
  blk_ext [iblk2, row2, idx2 t]

theorem blk2_3 (H : In2 V c D) (t : Fin cfg2.N) : Holds (φ := .bf16) (n := 2816) (d := 1024) (iblk2 V c 3 t) (D.wo) := by
  intro i j
  refine Eq.trans ?_ (H.wo i j)
  blk_ext [iblk2, row2, idx2 t]

theorem blk2_4 (H : In2 V c D) (t : Fin cfg2.N) : Holds (φ := .bf16) (n := 256) (d := 5632) (iblk2 V c 4 t) ((D.rows (row2 t)).gu) := by
  intro i j
  refine Eq.trans ?_ (H.gu (row2 t i) j)
  blk_ext [iblk2, row2, idx2 t]

theorem blk2_5 (H : In2 V c D) (t : Fin cfg2.N) : Holds (φ := .bf16) (n := 5632) (d := 1024) (iblk2 V c 5 t) (fun k j => D.wi j k) := by
  intro i j
  refine Eq.trans ?_ (H.wi i j)
  blk_ext [iblk2, row2, idx2 t]

theorem blk2_6 (H : In2 V c D) (t : Fin cfg2.N) : Holds (φ := .f32) (n := 256) (d := 1024) (iblk2 V c 6 t) ((D.rows (row2 t)).x1) := by
  intro i j
  refine Eq.trans ?_ (H.x1 (row2 t i) j)
  blk_ext [iblk2, row2, idx2 t]

theorem blk2_7 (H : In2 V c D) (t : Fin cfg2.N) : Holds (φ := .f32) (n := 1) (d := 1024) (iblk2 V c 7 t) (fun _ => D.nf) := by
  intro i j
  refine Eq.trans ?_ (H.nf i j)
  blk_ext [iblk2, row2, idx2 t]

theorem blk2_8 (H : In2 V c D) (t : Fin cfg2.N) : Holds (φ := .f32) (n := 1) (d := 1024) (iblk2 V c 8 t) (fun _ => D.sc) := by
  intro i j
  refine Eq.trans ?_ (H.sc i j)
  blk_ext [iblk2, row2, idx2 t]

theorem blk2_9 (H : In2 V c D) (t : Fin cfg2.N) : Holds (φ := .bf16) (n := 256) (d := 1024) (iblk2 V c 9 t) ((D.rows (row2 t)).y1) := by
  intro i j
  refine Eq.trans ?_ (H.y1 (row2 t i) j)
  blk_ext [iblk2, row2, idx2 t]

theorem blk2_10 (H : In2 V c D) (t : Fin cfg2.N) : Holds (φ := .f32) (n := 1) (d := 1024) (iblk2 V c 10 t) (fun _ => D.g1) := by
  intro i j
  refine Eq.trans ?_ (H.g1 i j)
  blk_ext [iblk2, row2, idx2 t]

theorem blk2_11 (H : In2 V c D) (t : Fin cfg2.N) : Holds (φ := .bf16) (n := 1024) (d := 512) (iblk2 V c 11 t) (fun j l => D.wm l j) := by
  intro i j
  refine Eq.trans ?_ (H.wm i j)
  blk_ext [iblk2, row2, idx2 t]

end Cert.Ffb

end
-- ==== Proof.Ffb.Arr2.lean ====
/- The arrays the third call leaves, but for its running sums. -/
module

public import proofs.«01_k».proof.Proof.Ffb.Blk2

@[expose] public section

set_option maxRecDepth 16384

noncomputable section

namespace Cert.Ffb

open Cert.Ffn
open Idealize.ShloMosaic Idealize.ShloMosaic.TcCoe Idealize.ShloMosaic.Pointwise Cert.Kernel7Ideal Cert.Kernel7Ideal.Gen

variable {V : (c : Dev nD) → (b : Ref sig .tc) → Buf (Elt Ideal) ((c : Thread nD τ).loc b)} {c : Dev nD} {D : Data 16384 512}

/-- The left half of the saved block is the gate's factor. -/
theorem blk2_ga (H : In2 V c D) (t : Fin cfg2.N) :
    Holds (φ := .bf16) (n := 256) (d := 2816) (View.ld (iblk2 V c 4 t) (Rect.unit ![0, 0] ![256, 2816] inb_S256x5632_S256x2816_0_0)) (D.rows (row2 t)).ga := by
  intro i j
  refine Eq.trans ?_ ((blk2_4 H t i ⟨j.val, by omega⟩).trans (gu_lo (D.rows (row2 t)) (i := i) (k := j) rfl rfl).symm)
  pointwise []

/-- The right half is the activation. -/
theorem blk2_silu (H : In2 V c D) (t : Fin cfg2.N) :
    Holds (φ := .bf16) (n := 256) (d := 2816) (View.ld (iblk2 V c 4 t) (Rect.unit ![0, 2816] ![256, 2816] inb_S256x5632_S256x2816_0_2816)) (D.rows (row2 t)).silu := by
  intro i j
  refine Eq.trans ?_ ((blk2_4 H t i ⟨2816 + j.val, by omega⟩).trans (gu_hi (D.rows (row2 t)) (i := i) (k := j) rfl rfl).symm)
  pointwise []

theorem blk2_wg (H : In2 V c D) (t : Fin cfg2.N) :
    Holds (φ := .bf16) (n := 2816) (d := 1024) (View.ld (iblk2 V c 5 t) (Rect.unit ![0, 0] ![2816, 1024] inb_S5632x1024_S2816x1024_0_0)) fun k j => (D.rows (row2 t)).wg j k := by
  intro i j
  refine Eq.trans ?_ (blk2_5 H t ⟨i.val, by omega⟩ j)
  pointwise []

theorem blk2_wu (H : In2 V c D) (t : Fin cfg2.N) :
    Holds (φ := .bf16) (n := 2816) (d := 1024) (View.ld (iblk2 V c 5 t) (Rect.unit ![2816, 0] ![2816, 1024] inb_S5632x1024_S2816x1024_2816_0)) fun k j => (D.rows (row2 t)).wu j k := by
  intro i j
  refine Eq.trans ?_ (blk2_5 H t ⟨2816 + i.val, by omega⟩ j)
  pointwise []

theorem blk2_dga (H : In2 V c D) (t : Fin cfg2.N) :
    Holds (k2_pay9 (F := Ideal) (iblk2 V c 0 t) (iblk2 V c 2 t) (iblk2 V c 3 t) (View.ld (iblk2 V c 4 t) (Rect.unit ![0, 0] ![256, 2816] inb_S256x5632_S256x2816_0_0))) (D.rows (row2 t)).dga :=
  k2_dga (D := D.rows (row2 t)) (blk2_0 H t) (blk2_2 H t) (blk2_3 H t) (blk2_ga H t)

theorem blk2_dup (H : In2 V c D) (t : Fin cfg2.N) :
    Holds (k2_pay10 (F := Ideal) (iblk2 V c 0 t) (iblk2 V c 2 t) (iblk2 V c 3 t) (View.ld (iblk2 V c 4 t) (Rect.unit ![0, 2816] ![256, 2816] inb_S256x5632_S256x2816_0_2816))) (D.rows (row2 t)).dup :=
  k2_dup (D := D.rows (row2 t)) (blk2_0 H t) (blk2_2 H t) (blk2_3 H t) (blk2_silu H t)

/-- The gradient of the normalised row's input at a block of rows, as the call computes it. -/
abbrev bdh (V : (c : Dev nD) → (b : Ref sig .tc) → Buf (Elt Ideal) ((c : Thread nD τ).loc b)) (c : Dev nD) (t : Fin cfg2.N) : FVec Ideal S256x1024 .f32 :=
  k2_pay11 (F := Ideal)
    (k2_pay9 (iblk2 V c 0 t) (iblk2 V c 2 t) (iblk2 V c 3 t) (View.ld (iblk2 V c 4 t) (Rect.unit ![0, 0] ![256, 2816] inb_S256x5632_S256x2816_0_0)))
    (k2_pay10 (iblk2 V c 0 t) (iblk2 V c 2 t) (iblk2 V c 3 t) (View.ld (iblk2 V c 4 t) (Rect.unit ![0, 2816] ![256, 2816] inb_S256x5632_S256x2816_0_2816)))
    (View.ld (iblk2 V c 5 t) (Rect.unit ![0, 0] ![2816, 1024] inb_S5632x1024_S2816x1024_0_0))
    (View.ld (iblk2 V c 5 t) (Rect.unit ![2816, 0] ![2816, 1024] inb_S5632x1024_S2816x1024_2816_0))

abbrev bdz (V : (c : Dev nD) → (b : Ref sig .tc) → Buf (Elt Ideal) ((c : Thread nD τ).loc b)) (c : Dev nD) (t : Fin cfg2.N) : FVec Ideal S256x1024 .f32 :=
  k2_pay16 (F := Ideal)
    (k2_pay9 (iblk2 V c 0 t) (iblk2 V c 2 t) (iblk2 V c 3 t) (View.ld (iblk2 V c 4 t) (Rect.unit ![0, 0] ![256, 2816] inb_S256x5632_S256x2816_0_0)))
    (k2_pay10 (iblk2 V c 0 t) (iblk2 V c 2 t) (iblk2 V c 3 t) (View.ld (iblk2 V c 4 t) (Rect.unit ![0, 2816] ![256, 2816] inb_S256x5632_S256x2816_0_2816)))
    (View.ld (iblk2 V c 5 t) (Rect.unit ![0, 0] ![2816, 1024] inb_S5632x1024_S2816x1024_0_0))
    (View.ld (iblk2 V c 5 t) (Rect.unit ![2816, 0] ![2816, 1024] inb_S5632x1024_S2816x1024_2816_0))
    (iblk2 V c 6 t) (iblk2 V c 7 t) (iblk2 V c 8 t)

theorem blk2_dh (H : In2 V c D) (t : Fin cfg2.N) : Holds (bdh V c t) (D.rows (row2 t)).dh :=
  k2_dh (D := D.rows (row2 t)) (blk2_dga H t) (blk2_dup H t) (blk2_wg H t) (blk2_wu H t)

theorem blk2_dz (H : In2 V c D) (t : Fin cfg2.N) :
    Holds (bdz V c t) fun i j => (D.rows (row2 t)).rs i * ((D.rows (row2 t)).dxh i j - (D.rows (row2 t)).xh i j * (D.rows (row2 t)).proj i) :=
  k2_dz (D := D.rows (row2 t)) (blk2_dga H t) (blk2_dup H t) (blk2_wg H t) (blk2_wu H t) (blk2_6 H t) (blk2_7 H t) (blk2_8 H t)

theorem blk2_dx1 (H : In2 V c D) (t : Fin cfg2.N) :
    Holds (k2_pay17 (F := Ideal) (iblk2 V c 0 t) (bdz V c t)) (D.rows (row2 t)).dx1 :=
  k2_dx1 (D := D.rows (row2 t)) (blk2_0 H t) (blk2_dz H t)

/-- What a point leaves in the tiles it writes itself, whichever case it runs. -/
theorem out2_13 (c : Dev nD) (t : Fin cfg2.N) : (outsAt2 V c t.val t.isLt).2.1 = k2_pay7 (F := Ideal) (iblk2 V c 0 t) (iblk2 V c 2 t) := by
  by_cases h : t.val % 64 = 0
  · rw [outsAt2_A V c t h]; frame_out
  · rw [outsAt2_B V c t h]; frame_out

theorem out2_14 (c : Dev nD) (t : Fin cfg2.N) : (outsAt2 V c t.val t.isLt).2.2.1 = k2_pay17 (F := Ideal) (iblk2 V c 0 t) (bdz V c t) := by
  by_cases h : t.val % 64 = 0
  · rw [outsAt2_A V c t h]; frame_out; rfl
  · rw [outsAt2_B V c t h]; frame_out; rfl

theorem out2_15 (c : Dev nD) (t : Fin cfg2.N) :
    (outsAt2 V c t.val t.isLt).2.2.2.1 = k2_pay2 (F := Ideal) (k2_pay17 (iblk2 V c 0 t) (bdz V c t)) (iblk2 V c 10 t) (iblk2 V c 11 t) := by
  by_cases h : t.val % 64 = 0
  · rw [outsAt2_A V c t h]; frame_out; rfl
  · rw [outsAt2_B V c t h]; frame_out; rfl

theorem out2_16 (c : Dev nD) (t : Fin cfg2.N) :
    (outsAt2 V c t.val t.isLt).2.2.2.2.1 = k2_pay1 (F := Ideal) (k2_pay17 (iblk2 V c 0 t) (bdz V c t)) (iblk2 V c 10 t) := by
  by_cases h : t.val % 64 = 0
  · rw [outsAt2_A V c t h]; frame_out; rfl
  · rw [outsAt2_B V c t h]; frame_out; rfl

theorem out2_12 (c : Dev nD) (t : Fin cfg2.N) :
    (outsAt2 V c t.val t.isLt).1 = View.canon
      [(⟨Rect.unit ![0, 2816] ![256, 2816] inb_S256x5632_S256x2816_0_2816, k2_pay10 (F := Ideal) (iblk2 V c 0 t) (iblk2 V c 2 t) (iblk2 V c 3 t) (View.ld (iblk2 V c 4 t) (Rect.unit ![0, 2816] ![256, 2816] inb_S256x5632_S256x2816_0_2816))⟩ : View.Piece (Elt Ideal) S256x5632 .bf16),
       ⟨Rect.unit ![0, 0] ![256, 2816] inb_S256x5632_S256x2816_0_0, k2_pay9 (F := Ideal) (iblk2 V c 0 t) (iblk2 V c 2 t) (iblk2 V c 3 t) (View.ld (iblk2 V c 4 t) (Rect.unit ![0, 0] ![256, 2816] inb_S256x5632_S256x2816_0_0))⟩] := by
  by_cases h : t.val % 64 = 0
  · rw [outsAt2_A V c t h]; frame_out; rfl
  · rw [outsAt2_B V c t h]; frame_out; rfl

theorem arr2_13 (H : In2 V c D) : Holds (φ := .bf16) (n := 16384) (d := 1024) ((dat2 V c).arrAt 13 cfg2.N) D.dy2 := by
  intro i j
  have h : (dat2 V c).arrAt 13 cfg2.N = fun y : S16384x1024.Idx => ((D.dy2 (y 0) (y 1) : ℝ) : EReal) := by
    refine (dat2 V c).arrAt_eq_of_covers 13 _ (by decide +kernel) fun t hf y => ?_
    blk_simp
    rw [after2_13, out2_13]
    obtain ⟨i, j, rfl⟩ := ix2_of (n := 256) (d := 1024) y
    refine Eq.trans (k2_dy2 (D := D.rows (row2 t)) (blk2_0 H t) (blk2_2 H t) i j) ?_
    refine coe_at (f := D.dy2) (a := row2 t i) (b := j) ?_ ?_ <;> blk_simp [row2, idx2 t]
  exact congrFun h (ix2 i j)

theorem arr2_14 (H : In2 V c D) : Holds (φ := .f32) (n := 16384) (d := 1024) ((dat2 V c).arrAt 14 cfg2.N) D.dx1 := by
  intro i j
  have h : (dat2 V c).arrAt 14 cfg2.N = fun y : S16384x1024.Idx => ((D.dx1 (y 0) (y 1) : ℝ) : EReal) := by
    refine (dat2 V c).arrAt_eq_of_covers 14 _ (by decide +kernel) fun t hf y => ?_
    blk_simp
    rw [after2_14, out2_14]
    obtain ⟨i, j, rfl⟩ := ix2_of (n := 256) (d := 1024) y
    refine Eq.trans (blk2_dx1 H t i j) ?_
    refine coe_at (f := D.dx1) (a := row2 t i) (b := j) ?_ ?_ <;> blk_simp [row2, idx2 t]
  exact congrFun h (ix2 i j)

theorem arr2_15 (H : In2 V c D) : Holds (φ := .bf16) (n := 16384) (d := 512) ((dat2 V c).arrAt 15 cfg2.N) D.dO := by
  intro i j
  have h : (dat2 V c).arrAt 15 cfg2.N = fun y : S16384x512.Idx => ((D.dO (y 0) (y 1) : ℝ) : EReal) := by
    refine (dat2 V c).arrAt_eq_of_covers 15 _ (by decide +kernel) fun t hf y => ?_
    blk_simp
    rw [after2_15, out2_15]
    obtain ⟨i, j, rfl⟩ := ix2_of (n := 256) (d := 512) y
    refine Eq.trans (k2_do (D := D.rows (row2 t)) (blk2_dx1 H t) (blk2_10 H t) (blk2_11 H t) i j) ?_
    refine coe_at (f := D.dO) (a := row2 t i) (b := j) ?_ ?_ <;> blk_simp [row2, idx2 t]
  exact congrFun h (ix2 i j)

theorem arr2_16 (H : In2 V c D) : Holds (φ := .bf16) (n := 16384) (d := 1024) ((dat2 V c).arrAt 16 cfg2.N) D.dy1 := by
  intro i j
  have h : (dat2 V c).arrAt 16 cfg2.N = fun y : S16384x1024.Idx => ((D.dy1 (y 0) (y 1) : ℝ) : EReal) := by
    refine (dat2 V c).arrAt_eq_of_covers 16 _ (by decide +kernel) fun t hf y => ?_
    blk_simp
    rw [after2_16, out2_16]
    obtain ⟨i, j, rfl⟩ := ix2_of (n := 256) (d := 1024) y
    refine Eq.trans (k2_dy1 (D := D.rows (row2 t)) (blk2_dx1 H t) (blk2_10 H t) i j) ?_
    refine coe_at (f := D.dy1) (a := row2 t i) (b := j) ?_ ?_ <;> blk_simp [row2, idx2 t]
  exact congrFun h (ix2 i j)

theorem arr2_12 (H : In2 V c D) : Holds (φ := .bf16) (n := 16384) (d := 5632) ((dat2 V c).arrAt 12 cfg2.N) D.dgu := by
  intro i j
  have h : (dat2 V c).arrAt 12 cfg2.N = fun y : S16384x5632.Idx => ((D.dgu (y 0) (y 1) : ℝ) : EReal) := by
    refine (dat2 V c).arrAt_eq_of_covers 12 _ (by decide +kernel) fun t hf y => ?_
    blk_simp
    rw [after2_12, out2_12]
    canon_tiles x h
    · obtain ⟨i, j, rfl⟩ := ix2_of (n := 256) (d := 2816) x
      refine Eq.trans (blk2_dup H t i j) ?_
      refine dgu_hi D (i := row2 t i) (k := j) ?_ ?_
      · blk_simp [row2, idx2 t]; rw [h0]; rfl
      · blk_simp [row2, idx2 t]; rw [h1]; rfl
    · obtain ⟨i, j, rfl⟩ := ix2_of (n := 256) (d := 2816) x
      refine Eq.trans (blk2_dga H t i j) ?_
      refine dgu_lo D (i := row2 t i) (k := j) ?_ ?_
      · blk_simp [row2, idx2 t]; rw [h0]; rfl
      · blk_simp [row2, idx2 t]; rw [h1]; rfl
  exact congrFun h (ix2 i j)

end Cert.Ffb

end
-- ==== Proof.Ffb.Acc2.lean ====
/- The running sums the third call keeps over the points of its grid. -/
module

public import proofs.«01_k».proof.Proof.Ffb.Arr2
public import Idealize.ShloMosaic.Lib.Pipeline.ReadBack
public import Idealize.ShloMosaic.Lib.WritesUnit

@[expose] public section

set_option maxRecDepth 16384

noncomputable section

namespace Cert.Ffb

open Cert.Ffn
open Idealize.ShloMosaic Idealize.ShloMosaic.TcCoe Idealize.ShloMosaic.Pointwise Cert.Kernel7Ideal Cert.Kernel7Ideal.Gen

variable {V : (c : Dev nD) → (b : Ref sig .tc) → Buf (Elt Ideal) ((c : Thread nD τ).loc b)} {c : Dev nD} {D : Data 16384 512}

/-- A row store over earlier stores, read back: its own row, and the others as they were. -/
theorem canon_row {o : ℕ} (inb : ∀ a, (![o, 0] : Fin 2 → ℕ) a + (![1, 1024] : Fin 2 → ℕ) a ≤ S8x1024.size a)
    (w : S1x1024.Idx → EReal) (L : List (View.Piece (Elt Ideal) S8x1024 .f32)) (i : Fin 8) (j : Fin 1024) :
    View.canon ((⟨Rect.unit ![o, 0] ![1, 1024] inb, w⟩ : View.Piece (Elt Ideal) S8x1024 .f32) :: L) (ix2 i j)
      = if i.val = o then w (ix2 0 j) else View.canon L (ix2 i j) := by
  split
  · next h =>
    have hy : (Rect.unit (s := S8x1024) ![o, 0] ![1, 1024] inb).emb (ix2 (0 : Fin 1) j) = ix2 i j := by
      funext a
      apply Fin.ext
      rw [Rect.emb_apply]
      fin_cases a
      · show o + 1 * 0 = i.val
        omega
      · show 0 + 1 * j.val = j.val
        omega
    rw [← hy]
    exact View.canon_cons_emb (Val := Elt Ideal) (e := .f32) (Rect.unit (s := S8x1024) ![o, 0] ![1, 1024] inb) w L (ix2 0 j)
  · next h =>
    refine View.canon_cons_of_not_mem _ _ ?_
    rw [Rect.mem_set_unit]
    intro hm
    have := hm 0
    have h1 : o ≤ i.val ∧ i.val < o + 1 := this
    omega

theorem writes_row {sp : Space} (v : View sig .tc sp S8x1024 .f32) (f : v.ty.Contents (Elt Ideal)) {o : ℕ}
    (inb : ∀ a, (![o, 0] : Fin 2 → ℕ) a + (![1, 1024] : Fin 2 → ℕ) a ≤ S8x1024.size a)
    (w : S1x1024.Idx → EReal) (L : List (View.Piece (Elt Ideal) S8x1024 .f32)) (i : Fin 8) (j : Fin 1024) :
    v.read (Elt Ideal) (v.writes (Elt Ideal) f ((⟨Rect.unit ![o, 0] ![1, 1024] inb, w⟩ : View.Piece (Elt Ideal) S8x1024 .f32) :: L)) (ix2 i j)
      = if i.val = o then w (ix2 0 j) else v.read (Elt Ideal) (v.writes (Elt Ideal) f L) (ix2 i j) := by
  split
  · next h =>
    refine View.read_writes_cons_unit_of_mem v f inb w L (ix2 i j) (ix2 0 j) rfl fun a => ?_
    fin_cases a
    · show i.val = o + 0
      omega
    · show j.val = 0 + j.val
      omega
  · next h =>
    refine View.read_writes_cons_unit_of_not_mem v f inb w L (ix2 i j) rfl (0 : Fin 2) ?_
    show i.val < o ∨ o + 1 ≤ i.val
    omega

theorem ld_row {o : ℕ} (inb : ∀ a, (![o, 0] : Fin 2 → ℕ) a + (![1, 1024] : Fin 2 → ℕ) a ≤ S8x1024.size a)
    {A : FVec Ideal S8x1024 .f32} {a : Fin 8 → Fin 1024 → ℝ} (hA : Holds A a) (h : o < 8) :
    Holds (φ := .f32) (n := 1) (d := 1024) (View.ld (Val := Elt Ideal) (e' := .f32) (S := S8x1024) A (Rect.unit (s := S8x1024) ![o, 0] ![1, 1024] inb)) fun _ => a ⟨o, h⟩ := by
  intro i j
  refine Eq.trans (congrArg A ?_) (hA ⟨o, h⟩ j)
  funext b
  apply Fin.ext
  fin_cases b
  · show o + 1 * i.val = o
    omega
  · show 0 + 1 * j.val = j.val
    omega

/-- The sum of a point's share over the points so far. -/
def upTo (f : Fin cfg2.N → ℝ) (n : ℕ) : ℝ := ∑ s ∈ Finset.range (n + 1), if h : s < cfg2.N then f ⟨s, h⟩ else 0

theorem upTo_zero (f : Fin cfg2.N → ℝ) (h : 0 < cfg2.N) : upTo f 0 = 0 + f ⟨0, h⟩ := by
  unfold upTo
  rw [Finset.sum_range_succ, dif_pos h, Finset.sum_range_zero]

theorem upTo_succ (f : Fin cfg2.N → ℝ) (n : ℕ) (h : n + 1 < cfg2.N) : upTo f (n + 1) = upTo f n + f ⟨n + 1, h⟩ := by
  unfold upTo
  rw [Finset.sum_range_succ, dif_pos h]

/-- The last point of the grid. -/
def last2 : Fin cfg2.N := ⟨63, by decide⟩

theorem upTo_last (g : Fin 16384 → ℝ) : upTo (fun t => ∑ i, g (row2 t i)) last2.val = ∑ r, g r := by
  show upTo (fun t => ∑ i, g (row2 t i)) 63 = _
  unfold upTo
  rw [Finset.sum_range]
  have : ∀ s : Fin 64, (if h : s.val < cfg2.N then ∑ i, g (row2 ⟨s.val, h⟩ i) else 0) = ∑ i, g (row2 s i) := fun s => dif_pos s.isLt
  refine (Finset.sum_congr rfl fun s _ => this s).trans ?_
  refine (Fin.sum_points_lanes_congr (A := 1) (L := 16384) 64 (g := fun _ r => g r) fun t k ha hl => ?_).trans (Fin.sum_univ_one _)
  congr 1
  apply Fin.ext
  show t.val * 256 + k.val = t.val % 64 * 256 + k.val
  have := t.isLt
  omega

theorem zeros3 : Holds (k2_pay3 (F := Ideal)) fun _ _ => 0 := by
  intro i j
  pointwise [k2_pay3]
  exact EReal.coe_zero.symm

theorem zeros4 : Holds (k2_pay4 (F := Ideal)) fun _ _ => 0 := by
  intro i j
  pointwise [k2_pay4]
  exact EReal.coe_zero.symm

theorem zeros5 : Holds (k2_pay5 (F := Ideal)) fun _ _ => 0 := by
  intro i j
  pointwise [k2_pay5]
  exact EReal.coe_zero.symm

/-- The first sum's tile after a point: its row 0 is the sum so far. -/
theorem acc17 (H : In2 V c D) : ∀ (n : ℕ) (hn : n < cfg2.N), Holds (φ := .f32) (n := 8) (d := 1024) (outsAt2 V c n hn).2.2.2.2.2.1
    fun i j => if i.val = 0 then upTo (fun t => (D.rows (row2 t)).dg2 j) n else 0
  | 0, hn => by
    intro i j
    have e := outsAt2_A V c ⟨0, hn⟩ rfl
    refine (congrFun (congrArg (fun p => p.2.2.2.2.2.1) e) (ix2 i j)).trans ?_
    frame_out
    simp (disch := decide) only [View.readCov_fill]
    rw [canon_row]
    simp (disch := decide) only [View.canon_cons_unit_lit]
    rw [upTo_zero _ hn]
    split
    · exact k2_dg2 (D := D.rows (row2 ⟨0, hn⟩)) (c := fun _ => 0) (ld_row _ zeros3 (by decide)) (blk2_0 H _) (blk2_1 H _) 0 j
    · exact zeros3 i j
  | n + 1, hn => by
    intro i j
    have h : ¬(⟨n + 1, hn⟩ : Fin cfg2.N).val % 64 = 0 := by
      have : cfg2.N = 64 := rfl
      show ¬(n + 1) % 64 = 0
      omega
    have e := outsAt2_B V c ⟨n + 1, hn⟩ h
    refine (congrFun (congrArg (fun p => p.2.2.2.2.2.1) e) (ix2 i j)).trans ?_
    frame_out
    rw [writes_row, View.writes_nil, (hs2_17 _).read_unread, upTo_succ _ _ hn]
    split
    · exact k2_dg2 (D := D.rows (row2 ⟨n + 1, hn⟩)) (ld_row _ (acc17 H n (Nat.lt_of_succ_lt hn)) (by decide)) (blk2_0 H _) (blk2_1 H _) 0 j
    · next hi => exact (acc17 H n (Nat.lt_of_succ_lt hn) i j).trans (congrArg Real.toEReal (if_neg hi))

/-- The second sum's tile after a point: its rows 0, 1 and 2 are sums so far. -/
def rows18 (D : Data 16384 512) (n : ℕ) (i : Fin 8) (j : Fin 1024) : ℝ :=
  if i.val = 2 then upTo (fun t => (D.rows (row2 t)).dnf j) n
  else if i.val = 1 then upTo (fun t => (D.rows (row2 t)).dsc j) n
  else if i.val = 0 then upTo (fun t => (D.rows (row2 t)).dsh j) n else 0

theorem acc18 (H : In2 V c D) : ∀ (n : ℕ) (hn : n < cfg2.N),
    Holds (φ := .f32) (n := 8) (d := 1024) (outsAt2 V c n hn).2.2.2.2.2.2.1 (rows18 D n)
  | 0, hn => by
    intro i j
    have e := outsAt2_A V c ⟨0, hn⟩ rfl
    refine (congrFun (congrArg (fun p => p.2.2.2.2.2.2.1) e) (ix2 i j)).trans ?_
    frame_out
    simp (disch := first | decide | rfl) only [View.readCov_skip, View.readCov_fill]
    rw [canon_row, canon_row, canon_row]
    simp (disch := decide) only [View.canon_cons_unit_lit]
    unfold rows18
    rw [upTo_zero _ hn, upTo_zero _ hn, upTo_zero _ hn]
    have hd := blk2_dh H ⟨0, hn⟩
    have hx := k2_xh (D := D.rows (row2 ⟨0, hn⟩)) (blk2_6 H ⟨0, hn⟩)
    split
    · exact k2_dnf (D := D.rows (row2 ⟨0, hn⟩)) (c := fun _ => 0) (ld_row _ zeros4 (by decide)) hd hx (k2_sc (D := D.rows (row2 ⟨0, hn⟩)) (blk2_8 H _)) 0 j
    split
    · exact k2_dsc (D := D.rows (row2 ⟨0, hn⟩)) (c := fun _ => 0) (ld_row _ zeros4 (by decide)) hd hx (blk2_7 H _) 0 j
    split
    · exact k2_dsh (D := D.rows (row2 ⟨0, hn⟩)) (c := fun _ => 0) (ld_row _ zeros4 (by decide)) hd 0 j
    · exact zeros4 i j
  | n + 1, hn => by
    intro i j
    have h : ¬(⟨n + 1, hn⟩ : Fin cfg2.N).val % 64 = 0 := by
      have : cfg2.N = 64 := rfl
      show ¬(n + 1) % 64 = 0
      omega
    have e := outsAt2_B V c ⟨n + 1, hn⟩ h
    refine (congrFun (congrArg (fun p => p.2.2.2.2.2.2.1) e) (ix2 i j)).trans ?_
    frame_out
    rw [writes_row, writes_row, writes_row, View.writes_nil, (hs2_18 _).read_unread]
    unfold rows18
    rw [upTo_succ _ _ hn, upTo_succ _ _ hn, upTo_succ _ _ hn]
    have hd := blk2_dh H ⟨n + 1, hn⟩
    have hx := k2_xh (D := D.rows (row2 ⟨n + 1, hn⟩)) (blk2_6 H ⟨n + 1, hn⟩)
    have hp := acc18 H n (Nat.lt_of_succ_lt hn)
    split
    · exact k2_dnf (D := D.rows (row2 ⟨n + 1, hn⟩)) (ld_row _ hp (by decide)) hd hx (k2_sc (D := D.rows (row2 ⟨n + 1, hn⟩)) (blk2_8 H _)) 0 j
    split
    · exact k2_dsc (D := D.rows (row2 ⟨n + 1, hn⟩)) (ld_row _ hp (by decide)) hd hx (blk2_7 H _) 0 j
    split
    · exact k2_dsh (D := D.rows (row2 ⟨n + 1, hn⟩)) (ld_row _ hp (by decide)) hd 0 j
    · next h2 h1 h0 => exact (hp i j).trans (congrArg Real.toEReal ((if_neg h2).trans ((if_neg h1).trans (if_neg h0))))

/-- The third sum's tile after a point. -/
theorem acc19 (H : In2 V c D) : ∀ (n : ℕ) (hn : n < cfg2.N), Holds (φ := .f32) (n := 8) (d := 1024) (outsAt2 V c n hn).2.2.2.2.2.2.2
    fun i j => if i.val = 0 then upTo (fun t => (D.rows (row2 t)).dg1 j) n else 0
  | 0, hn => by
    intro i j
    have e := outsAt2_A V c ⟨0, hn⟩ rfl
    refine (congrFun (congrArg (fun p => p.2.2.2.2.2.2.2) e) (ix2 i j)).trans ?_
    frame_out
    simp (disch := decide) only [View.readCov_fill]
    rw [canon_row]
    simp (disch := decide) only [View.canon_cons_unit_lit]
    rw [upTo_zero _ hn]
    split
    · exact k2_dg1 (D := D.rows (row2 ⟨0, hn⟩)) (c := fun _ => 0) (ld_row _ zeros5 (by decide)) (blk2_0 H _) (blk2_dz H _) (blk2_9 H _) 0 j
    · exact zeros5 i j
  | n + 1, hn => by
    intro i j
    have h : ¬(⟨n + 1, hn⟩ : Fin cfg2.N).val % 64 = 0 := by
      have : cfg2.N = 64 := rfl
      show ¬(n + 1) % 64 = 0
      omega
    have e := outsAt2_B V c ⟨n + 1, hn⟩ h
    refine (congrFun (congrArg (fun p => p.2.2.2.2.2.2.2) e) (ix2 i j)).trans ?_
    frame_out
    rw [writes_row, View.writes_nil, (hs2_19 _).read_unread, upTo_succ _ _ hn]
    split
    · exact k2_dg1 (D := D.rows (row2 ⟨n + 1, hn⟩)) (ld_row _ (acc19 H n (Nat.lt_of_succ_lt hn)) (by decide)) (blk2_0 H _) (blk2_dz H _) (blk2_9 H _) 0 j
    · next hi => exact (acc19 H n (Nat.lt_of_succ_lt hn) i j).trans (congrArg Real.toEReal (if_neg hi))

theorem arr2_17 (H : In2 V c D) : Holds (φ := .f32) (n := 8) (d := 1024) ((dat2 V c).arrAt 17 cfg2.N) fun i j => if i.val = 0 then D.dg2 j else 0 := by
  intro i j
  have h : (dat2 V c).arrAt 17 cfg2.N = fun y : S8x1024.Idx => (((if (y 0).val = 0 then D.dg2 (y 1) else 0 : ℝ)) : EReal) := by
    refine (dat2 V c).arrAt_eq_of_after_last 17 last2 (by decide +kernel) _ fun j => ?_
    blk_simp
    rw [after2_17]
    obtain ⟨i, j, rfl⟩ := ix2_of (n := 8) (d := 1024) j
    refine Eq.trans (acc17 H last2.val last2.isLt i j) (congrArg Real.toEReal ?_)
    exact if_congr Iff.rfl (upTo_last fun r => D.dx r j * D.y2 r j) rfl
  exact congrFun h (ix2 i j)

theorem arr2_19 (H : In2 V c D) : Holds (φ := .f32) (n := 8) (d := 1024) ((dat2 V c).arrAt 19 cfg2.N) fun i j => if i.val = 0 then D.dg1 j else 0 := by
  intro i j
  have h : (dat2 V c).arrAt 19 cfg2.N = fun y : S8x1024.Idx => (((if (y 0).val = 0 then D.dg1 (y 1) else 0 : ℝ)) : EReal) := by
    refine (dat2 V c).arrAt_eq_of_after_last 19 last2 (by decide +kernel) _ fun j => ?_
    blk_simp
    rw [after2_19]
    obtain ⟨i, j, rfl⟩ := ix2_of (n := 8) (d := 1024) j
    refine Eq.trans (acc19 H last2.val last2.isLt i j) (congrArg Real.toEReal ?_)
    exact if_congr Iff.rfl (upTo_last fun r => D.dx1 r j * D.y1 r j) rfl
  exact congrFun h (ix2 i j)

theorem arr2_18 (H : In2 V c D) : Holds (φ := .f32) (n := 8) (d := 1024) ((dat2 V c).arrAt 18 cfg2.N) D.df := by
  intro i j
  have h : (dat2 V c).arrAt 18 cfg2.N = fun y : S8x1024.Idx => ((D.df (y 0) (y 1) : ℝ) : EReal) := by
    refine (dat2 V c).arrAt_eq_of_after_last 18 last2 (by decide +kernel) _ fun j => ?_
    blk_simp
    rw [after2_18]
    obtain ⟨i, j, rfl⟩ := ix2_of (n := 8) (d := 1024) j
    refine Eq.trans (acc18 H last2.val last2.isLt i j) (congrArg Real.toEReal ?_)
    refine if_congr Iff.rfl (upTo_last fun r => D.dh r j * D.xh r j * (1 + D.sc j)) ?_
    refine if_congr Iff.rfl (upTo_last fun r => D.dh r j * D.xh r j * D.nf j) ?_
    exact if_congr Iff.rfl (upTo_last fun r => D.dh r j) rfl
  exact congrFun h (ix2 i j)

end Cert.Ffb

end
-- ==== Proof.Ffb.Run2.lean ====
/- The run of the three calls: what they leave, as real numbers. -/
module

public import proofs.«01_k».proof.Proof.Gen.Kernel7Ideal.Frame
public import proofs.«01_k».proof.Proof.Ffb.Arr1
public import proofs.«01_k».proof.Proof.Ffb.Acc2

@[expose] public section

set_option maxRecDepth 16384

noncomputable section

namespace Cert.Ffb

open Cert.Ffn
open Idealize.ShloMosaic Idealize.ShloMosaic.TcCoe Idealize.ShloMosaic.Pointwise
open Cert.Kernel7Ideal Cert.Kernel7Ideal.Gen

section run

open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig Unit (Elt F) ℕ (UR sig nD τ) ℕ

variable (F) in
theorem no_share : (BI.emp : sProp 𝕄) ⊢ bigSep Finset.univ fun _ : Dev nD => (BI.emp : sProp 𝕄) := by
  rw [BI.bigSep_emp_const]

variable (F) in
theorem cells_elt : (ownU (initOf (Pipeline.cells cfgs cellOf_inj) (Pipeline.launchToks cfgs cellOf_inj)) : sProp 𝕄)
    ⊢ BI.own (emb₁ (initOf (Pipeline.cells cfgs cellOf_inj) (Pipeline.launchToks cfgs cellOf_inj))) := .rfl

set_option backward.isDefEq.respectTransparency.types false in
/-- Every buffer of the machine's main core ends at what the fold through the calls says it holds. -/
theorem run_fold : θ_run defs (onTc (τ := τ) (main (F := F))) ⟨m, fun _ => 0, ρ⟩ fun r =>
    ∀ (c : Dev nD), ∀ b ∈ Pipeline.ucRefs τ sig, r.2.mem (((c : Thread nD τ)).1, b) = W4 m ρ c b :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro H
      imodintro
      isplitl [H]
      · iapply (cells_elt F)
        iexact H
      · iapply (no_share F)
        iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := Pipeline.initEach L lv fun c => by
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨HB, -, HO, -, HP, -⟩, -⟩
      imodintro
      isplitl [HB]
      · iexact HB
      isplitl [HP]
      · iexists _
        iexact HP
      · iexists ∅
        iexact HO)
    (QY := fun c s => ∀ b ∈ Pipeline.ucRefs τ sig, s.mem (((c : Thread nD τ)).1, b) = W4 m ρ c b)
    (hfin := fun c s' => by
      iintro ⟨⟨HB, -⟩, HS⟩
      unfold StableHlo.held
      imodintro
      iapply (pointsTo_read_all (Pipeline.ucRefs τ sig) (fun b => (((c : Thread nD τ)).1, b)) (W4 m ρ c) s')
      isplitl [HB] <;> iassumption)
    (hQ := fun _ h _ => h)

end run

variable (m : (ℓ : Loc nD τ sig) → Buf (Elt Ideal) ℓ) (ρ : Dev nD → PrngReg)

/-- What the calls are given, as real numbers. -/
structure Given (c : Dev nD) (D : Data 16384 512) : Prop where
  dx : Holds (φ := .f32) (m ((c : Thread nD τ).loc main_arg0)) D.dx
  o : Holds (φ := .bf16) (m ((c : Thread nD τ).loc main_arg1)) D.o
  wm : Holds (φ := .f32) (m ((c : Thread nD τ).loc main_arg2)) D.wm
  x : Holds (φ := .f32) (m ((c : Thread nD τ).loc main_arg3)) D.x
  g1 : Holds (φ := .f32) (m ((c : Thread nD τ).loc main_arg4)) fun _ : Fin 1 => D.g1
  nf : Holds (φ := .f32) (m ((c : Thread nD τ).loc main_arg5)) fun _ : Fin 1 => D.nf
  sc : Holds (φ := .f32) (m ((c : Thread nD τ).loc main_arg6)) fun _ : Fin 1 => D.sc
  sh : Holds (φ := .f32) (m ((c : Thread nD τ).loc main_arg7)) fun _ : Fin 1 => D.sh
  wi : Holds (φ := .f32) (m ((c : Thread nD τ).loc main_arg8)) D.wi
  wo : Holds (φ := .f32) (m ((c : Thread nD τ).loc main_arg9)) D.wo
  g2 : Holds (φ := .f32) (m ((c : Thread nD τ).loc main_arg10)) fun _ : Fin 1 => D.g2

/-- What they are given of the next layer. -/
structure GivenNext (c : Dev nD) (T : Next 1536) : Prop where
  nm : Holds (φ := .f32) (m ((c : Thread nD τ).loc main_arg11)) fun _ : Fin 1 => T.nm
  s1 : Holds (φ := .f32) (m ((c : Thread nD τ).loc main_arg12)) fun _ : Fin 1 => T.s1
  b1 : Holds (φ := .f32) (m ((c : Thread nD τ).loc main_arg13)) fun _ : Fin 1 => T.b1
  wn : Holds (φ := .f32) (m ((c : Thread nD τ).loc main_arg14)) T.wn

variable {m ρ} {c : Dev nD} {D : Data 16384 512} {T : Next 1536}

/-- The host operations in front of the calls: casts, and three transposes. -/
theorem v1_eq : W1 m ρ c (Proc.devRef .tc main_v1) = (truncf .bf16 (transpose S1024x512 [1, 0] (m ((c : Thread nD τ).loc main_arg2) : FVec Ideal S512x1024 .f32) transposes_S512x1024_S1024x512_1_0) bitsLt_bf16_f32
      : FVec Ideal S1024x512 .bf16) := by
  simp only [W1, hostOps0]
  after_results_simp

theorem v3_eq : W1 m ρ c (Proc.devRef .tc main_v3)
    = (truncf .bf16 (transpose S5632x1024 [1, 0] (m ((c : Thread nD τ).loc main_arg8) : FVec Ideal S1024x5632 .f32) transposes_S1024x5632_S5632x1024_1_0) bitsLt_bf16_f32
      : FVec Ideal S5632x1024 .bf16) := by
  simp only [W1, hostOps0]
  after_results_simp

theorem v4_eq : W1 m ρ c (Proc.devRef .tc main_v4) = (truncf .bf16 (m ((c : Thread nD τ).loc main_arg9)) bitsLt_bf16_f32 : FVec Ideal S2816x1024 .bf16) := by
  simp only [W1, hostOps0]
  after_results_simp

theorem wn_eq : W1 m ρ c (Proc.devRef .tc main_v6)
    = (truncf .bf16 (transpose S1536x1024 [1, 0] (m ((c : Thread nD τ).loc main_arg14) : FVec Ideal S1024x1536 .f32) transposes_S1024x1536_S1536x1024_1_0) bitsLt_bf16_f32
      : FVec Ideal S1536x1024 .bf16) := by
  simp only [W1, hostOps0]
  after_results_simp

/-- What the first call is given. -/
theorem in0 (G : Given m c D) : In0 (V1 m ρ) c D where
  o i j := (congrFun (W1_args m ρ c main_arg1 (by decide)) _).trans (G.o i j)
  wm i j := by
    refine (congrFun v1_eq _).trans (Eq.trans ?_ (G.wm j i))
    pointwise []
  x i j := (congrFun (W1_args m ρ c main_arg3 (by decide)) _).trans (G.x i j)
  g1 i j := (congrFun (W1_args m ρ c main_arg4 (by decide)) _).trans (G.g1 i j)
  nf i j := (congrFun (W1_args m ρ c main_arg5 (by decide)) _).trans (G.nf i j)
  sc i j := (congrFun (W1_args m ρ c main_arg6 (by decide)) _).trans (G.sc i j)
  sh i j := (congrFun (W1_args m ρ c main_arg7 (by decide)) _).trans (G.sh i j)
  wi i j := by
    refine (congrFun v3_eq _).trans (Eq.trans ?_ (G.wi j i))
    pointwise []

/-- What the second is given. -/
theorem in1 (G : Given m c D) : In1 (V2 m ρ) c D where
  act i j := (congrFun (W2_arr m ρ c 12) _).trans (arr0_12 (in0 G) i j)
  wo i j := by
    refine (congrFun ((W2_of m ρ c main_v4 (by decide)).trans v4_eq) _).trans (Eq.trans ?_ (G.wo i j))
    pointwise []
  x1 i j := (congrFun (W2_arr m ρ c 8) _).trans (arr0_8 (in0 G) i j)
  g2 i j := (congrFun (W2_args m ρ c main_arg10 (by decide)) _).trans (G.g2 i j)

theorem next1 (L : GivenNext m c T) : Next1 (V2 m ρ) c T where
  nm i j := (congrFun (W2_args m ρ c main_arg11 (by decide)) _).trans (L.nm i j)
  s1 i j := (congrFun (W2_args m ρ c main_arg12 (by decide)) _).trans (L.s1 i j)
  b1 i j := (congrFun (W2_args m ρ c main_arg13 (by decide)) _).trans (L.b1 i j)
  wn i j := by
    refine (congrFun ((W2_of m ρ c main_v6 (by decide)).trans wn_eq) _).trans (Eq.trans ?_ (L.wn j i))
    pointwise []

/-- What the third is given. -/
theorem in2 (G : Given m c D) : In2 (V3 m ρ) c D where
  dx i j := (congrFun (W3_args m ρ c main_arg0 (by decide)) _).trans (G.dx i j)
  y2 i j := (congrFun (W3_arr m ρ c 9) _).trans (arr1_9 (in1 G) i j)
  g2 i j := (congrFun (W3_args m ρ c main_arg10 (by decide)) _).trans (G.g2 i j)
  wo i j := (congrFun (W3_of m ρ c main_v4 (by decide)) _).trans ((in1 G).wo i j)
  gu i j := (congrFun ((W3_of m ρ c main_v7_3 (by decide)).trans (W2_arr m ρ c 11)) _).trans (arr0_11 (in0 G) i j)
  wi i j := (congrFun ((W3_of m ρ c main_v3 (by decide)).trans (W2_of m ρ c main_v3 (by decide))) _).trans ((in0 G).wi i j)
  x1 i j := (congrFun ((W3_of m ρ c main_v7_0 (by decide)).trans (W2_arr m ρ c 8)) _).trans (arr0_8 (in0 G) i j)
  nf i j := (congrFun (W3_args m ρ c main_arg5 (by decide)) _).trans (G.nf i j)
  sc i j := (congrFun (W3_args m ρ c main_arg6 (by decide)) _).trans (G.sc i j)
  y1 i j := (congrFun ((W3_of m ρ c main_v7_1 (by decide)).trans (W2_arr m ρ c 9)) _).trans (arr0_9 (in0 G) i j)
  g1 i j := (congrFun (W3_args m ρ c main_arg4 (by decide)) _).trans (G.g1 i j)
  wm i j := (congrFun ((W3_of m ρ c main_v1 (by decide)).trans (W2_of m ρ c main_v1 (by decide))) _).trans ((in0 G).wm i j)

theorem out_dgu (G : Given m c D) : Holds (φ := .bf16) (W4 m ρ c (Proc.devRef .tc main_v9_0)) D.dgu :=
  fun i j => (congrFun (W4_arr m ρ c 12) _).trans (arr2_12 (in2 G) i j)
theorem out_dy2 (G : Given m c D) : Holds (φ := .bf16) (W4 m ρ c (Proc.devRef .tc main_v9_1)) D.dy2 :=
  fun i j => (congrFun (W4_arr m ρ c 13) _).trans (arr2_13 (in2 G) i j)
theorem out_dx1 (G : Given m c D) : Holds (φ := .f32) (W4 m ρ c (Proc.devRef .tc main_v9_2)) D.dx1 :=
  fun i j => (congrFun (W4_arr m ρ c 14) _).trans (arr2_14 (in2 G) i j)
theorem out_dO (G : Given m c D) : Holds (φ := .bf16) (W4 m ρ c (Proc.devRef .tc main_v9_3)) D.dO :=
  fun i j => (congrFun (W4_arr m ρ c 15) _).trans (arr2_15 (in2 G) i j)
theorem out_dy1 (G : Given m c D) : Holds (φ := .bf16) (W4 m ρ c (Proc.devRef .tc main_v9_4)) D.dy1 :=
  fun i j => (congrFun (W4_arr m ρ c 16) _).trans (arr2_16 (in2 G) i j)
theorem out_g2 (G : Given m c D) : Holds (n := 8) (φ := .f32) (W4 m ρ c (Proc.devRef .tc main_v9_5)) fun i j => if i.val = 0 then D.dg2 j else 0 :=
  fun i j => (congrFun (W4_arr m ρ c 17) _).trans (arr2_17 (in2 G) i j)
theorem out_f (G : Given m c D) : Holds (n := 8) (φ := .f32) (W4 m ρ c (Proc.devRef .tc main_v9_6)) D.df :=
  fun i j => (congrFun (W4_arr m ρ c 18) _).trans (arr2_18 (in2 G) i j)
theorem out_g1 (G : Given m c D) : Holds (n := 8) (φ := .f32) (W4 m ρ c (Proc.devRef .tc main_v9_7)) fun i j => if i.val = 0 then D.dg1 j else 0 :=
  fun i j => (congrFun (W4_arr m ρ c 19) _).trans (arr2_19 (in2 G) i j)

theorem out_h (G : Given m c D) : Holds (φ := .bf16) (W4 m ρ c (Proc.devRef .tc main_v7_2)) D.h :=
  fun i j => (congrFun ((W4_of m ρ c main_v7_2 (by decide)).trans ((W3_of m ρ c main_v7_2 (by decide)).trans (W2_arr m ρ c 10))) _).trans (arr0_10 (in0 G) i j)
theorem out_act (G : Given m c D) : Holds (φ := .bf16) (W4 m ρ c (Proc.devRef .tc main_v7_4)) D.act :=
  fun i j => (congrFun ((W4_of m ρ c main_v7_4 (by decide)).trans ((W3_of m ρ c main_v7_4 (by decide)).trans (W2_arr m ρ c 12))) _).trans (arr0_12 (in0 G) i j)
theorem out_x2 (G : Given m c D) : Holds (φ := .f32) (W4 m ρ c (Proc.devRef .tc main_v8_0)) D.x2 :=
  fun i j => (congrFun ((W4_of m ρ c main_v8_0 (by decide)).trans (W3_arr m ρ c 8)) _).trans (arr1_8 (in1 G) i j)
theorem out_h1 (G : Given m c D) (L : GivenNext m c T) : Holds (φ := .bf16) (W4 m ρ c (Proc.devRef .tc main_v8_2)) (D.h1 T) :=
  fun i j => (congrFun ((W4_of m ρ c main_v8_2 (by decide)).trans (W3_arr m ρ c 10)) _).trans (arr1_10 (in1 G) (next1 L) i j)
theorem out_qkv (G : Given m c D) (L : GivenNext m c T) : Holds (φ := .bf16) (W4 m ρ c (Proc.devRef .tc main_v8_3)) (D.qkv T) :=
  fun i j => (congrFun ((W4_of m ρ c main_v8_3 (by decide)).trans (W3_arr m ρ c 11)) _).trans (arr1_11 (in1 G) (next1 L) i j)

end Cert.Ffb

end
-- ==== Proof.Ffb.RefEqs.lean ====
/- What each value of the reference is, from the values it is computed of. -/
module

public import proofs.«01_k».proof.Proof.Ffn.Real
public import proofs.«01_k».proof.Proof.Ffn.Line
public import proofs.«01_k».proof.Proof.Gen.Reference7Ideal.Run

@[expose] public section

set_option maxRecDepth 16384

noncomputable section

namespace Cert.Ffb.Ref

open Cert.Ffn
open Idealize.ShloMosaic Idealize.ShloMosaic.StableHlo Idealize.ShloMosaic.TcCoe
open Cert.Reference7Ideal Cert.Reference7Ideal.Gen Cert.Reference7Ideal.Value

abbrev Val := Valuation τ sig (Elt Ideal)

/-- What a reference holds when the line has run. -/
abbrev R (V : Val) (r : Ref sig .tc) : r.ty.Contents (Elt Ideal) := after (ops (F := Ideal)) V (Proc.devRef .tc r)

/-- The references the line writes, in order. -/
def W : List (Ref sig .tc) := [main_v0, main_v1, main_v2, main_v3, main_v4, main_v5, main_cst, main_v6, main_v7, main_cst_0, main_v8, main_v9, main_cst_1, main_v10, main_v11, main_v12, main_v13, main_cst_2, main_v14, main_v15, main_v16, main_v17, main_v18, main_v19, main_cst_3, main_v20, main_v21, main_v22, main_v23, main_v24, main_v25, main_v26, main_v27, main_v28, main_call0_v0, main_call0_v1, main_call0_cst, main_call0_v2, main_call0_v3, main_call0_cst_0, main_call0_v4, main_v29_2, main_call0_cst_1, main_call0_v6, main_call0_v7, main_v29_1, main_v29_0, main_v30, main_v31, main_v32, main_v33, main_v34, main_v35, main_v36, main_v37, main_v38, main_v39, main_cst_4, main_v40, main_v41, main_v42, main_v43, main_v44, main_call1_v0, main_call1_v1, main_call1_v2, main_v45, main_v46, main_v47, main_cst_5, main_v48, main_v49, main_v50, main_cst_6, main_v51, main_v52, main_v53, main_v54, main_v55, main_cst_7, main_v56, main_v57, main_v58, main_v59, main_v60, main_cst_8, main_v61, main_v62, main_v63, main_v64, main_v65, main_cst_9, main_v66, main_v67, main_cst_10, main_v68, main_v69, main_v70, main_v71, main_v72, main_v73, main_v74, main_v75, main_v76, main_v77, main_cst_11, main_v78, main_v79, main_v80, main_v81, main_v82, main_v83, main_v84, main_cst_12, main_v85, main_v86, main_cst_13, main_v87, main_v88, main_cst_14, main_v89, main_v90, main_v91, main_v92, main_call2_v0, main_call2_v1, main_call2_cst, main_call2_v2, main_call2_v3, main_call2_cst_0, main_call2_v4, main_call2_v5, main_v93, main_v94, main_v95, main_v96, main_v97, main_v98, main_cst_15, main_v99, main_v100, main_cst_16, main_v101, main_v102, main_cst_17, main_v103, main_v104, main_v105, main_v106, main_v107, main_v108, main_v109, main_cst_18, main_v110, main_v111, main_v112, main_v113, main_v114, main_v115, main_v116, main_v117, main_v118, main_v119, main_v120]

theorem W_eq : (ops (F := Ideal)).map HloOp.writes = W.map fun w => {Proc.devRef (τ := τ) .tc w} := rfl

def r_arg1 (V : Val) : FVec Ideal S16384x512 .bf16 := R V main_arg1
def r_arg2 (V : Val) : FVec Ideal S512x1024 .f32 := R V main_arg2
def r_arg4 (V : Val) : FVec Ideal S1x1024 .f32 := R V main_arg4
def r_arg3 (V : Val) : FVec Ideal S16384x1024 .f32 := R V main_arg3
def r_arg5 (V : Val) : FVec Ideal S1x1024 .f32 := R V main_arg5
def r_arg6 (V : Val) : FVec Ideal S1x1024 .f32 := R V main_arg6
def r_arg7 (V : Val) : FVec Ideal S1x1024 .f32 := R V main_arg7
def r_arg8 (V : Val) : FVec Ideal S1024x5632 .f32 := R V main_arg8
def r_arg9 (V : Val) : FVec Ideal S2816x1024 .f32 := R V main_arg9
def r_arg10 (V : Val) : FVec Ideal S1x1024 .f32 := R V main_arg10
def r_arg0 (V : Val) : FVec Ideal S16384x1024 .f32 := R V main_arg0
def r_v0 (V : Val) : FVec Ideal S16384x512 .f32 := R V main_v0
def r_v1 (V : Val) : FVec Ideal S16384x1024 .f32 := R V main_v1
def r_v2 (V : Val) : FVec Ideal S16384x1024 .f32 := R V main_v2
def r_v3 (V : Val) : FVec Ideal S16384x1024 .f32 := R V main_v3
def r_v4 (V : Val) : FVec Ideal S16384x1024 .f32 := R V main_v4
def r_v5 (V : Val) : FVec Ideal S16384x1024 .f32 := R V main_v5
def r_cst (V : Val) : FVec Ideal S_ .f32 := R V main_cst
def r_v6 (V : Val) : FVec Ideal S16384 .f32 := R V main_v6
def r_v7 (V : Val) : FVec Ideal S16384x1 .f32 := R V main_v7
def r_cst_0 (V : Val) : FVec Ideal S_ .f32 := R V main_cst_0
def r_v8 (V : Val) : FVec Ideal S16384x1 .f32 := R V main_v8
def r_v9 (V : Val) : FVec Ideal S16384x1 .f32 := R V main_v9
def r_cst_1 (V : Val) : FVec Ideal S_ .f32 := R V main_cst_1
def r_v10 (V : Val) : FVec Ideal S16384x1 .f32 := R V main_v10
def r_v11 (V : Val) : FVec Ideal S16384x1 .f32 := R V main_v11
def r_v12 (V : Val) : FVec Ideal S16384x1 .f32 := R V main_v12
def r_v13 (V : Val) : FVec Ideal S16384x1 .f32 := R V main_v13
def r_cst_2 (V : Val) : FVec Ideal S_ .f32 := R V main_cst_2
def r_v14 (V : Val) : FVec Ideal S16384x1 .f32 := R V main_v14
def r_v15 (V : Val) : FVec Ideal S16384x1 .f32 := R V main_v15
def r_v16 (V : Val) : FVec Ideal S16384x1024 .f32 := R V main_v16
def r_v17 (V : Val) : FVec Ideal S16384x1024 .f32 := R V main_v17
def r_v18 (V : Val) : FVec Ideal S16384x1024 .f32 := R V main_v18
def r_v19 (V : Val) : FVec Ideal S16384x1024 .f32 := R V main_v19
def r_cst_3 (V : Val) : FVec Ideal S_ .f32 := R V main_cst_3
def r_v20 (V : Val) : FVec Ideal S1x1024 .f32 := R V main_v20
def r_v21 (V : Val) : FVec Ideal S1x1024 .f32 := R V main_v21
def r_v22 (V : Val) : FVec Ideal S16384x1024 .f32 := R V main_v22
def r_v23 (V : Val) : FVec Ideal S16384x1024 .f32 := R V main_v23
def r_v24 (V : Val) : FVec Ideal S16384x1024 .f32 := R V main_v24
def r_v25 (V : Val) : FVec Ideal S16384x1024 .f32 := R V main_v25
def r_v26 (V : Val) : FVec Ideal S16384x5632 .f32 := R V main_v26
def r_v27 (V : Val) : FVec Ideal S16384x2816 .f32 := R V main_v27
def r_v28 (V : Val) : FVec Ideal S16384x2816 .f32 := R V main_v28
def r_call0_v0 (V : Val) : FVec Ideal S16384x2816 .f32 := R V main_call0_v0
def r_call0_v1 (V : Val) : FVec Ideal S16384x2816 .f32 := R V main_call0_v1
def r_call0_cst (V : Val) : FVec Ideal S_ .f32 := R V main_call0_cst
def r_call0_v2 (V : Val) : FVec Ideal S16384x2816 .f32 := R V main_call0_v2
def r_call0_v3 (V : Val) : FVec Ideal S16384x2816 .f32 := R V main_call0_v3
def r_call0_cst_0 (V : Val) : FVec Ideal S_ .f32 := R V main_call0_cst_0
def r_call0_v4 (V : Val) : FVec Ideal S16384x2816 .f32 := R V main_call0_v4
def r_v29_2 (V : Val) : FVec Ideal S16384x2816 .f32 := R V main_v29_2
def r_call0_cst_1 (V : Val) : FVec Ideal S_ .f32 := R V main_call0_cst_1
def r_call0_v6 (V : Val) : FVec Ideal S16384x2816 .f32 := R V main_call0_v6
def r_call0_v7 (V : Val) : FVec Ideal S16384x2816 .f32 := R V main_call0_v7
def r_v29_1 (V : Val) : FVec Ideal S16384x2816 .f32 := R V main_v29_1
def r_v29_0 (V : Val) : FVec Ideal S16384x2816 .f32 := R V main_v29_0
def r_v30 (V : Val) : FVec Ideal S16384x2816 .f32 := R V main_v30
def r_v31 (V : Val) : FVec Ideal S16384x1024 .f32 := R V main_v31
def r_v32 (V : Val) : FVec Ideal S16384x1024 .f32 := R V main_v32
def r_v33 (V : Val) : FVec Ideal S16384x1024 .f32 := R V main_v33
def r_v34 (V : Val) : FVec Ideal S16384x1024 .f32 := R V main_v34
def r_v35 (V : Val) : FVec Ideal S16384x1024 .f32 := R V main_v35
def r_v36 (V : Val) : FVec Ideal S16384x1024 .f32 := R V main_v36
def r_v37 (V : Val) : FVec Ideal S16384x1024 .f32 := R V main_v37
def r_v38 (V : Val) : FVec Ideal S16384x1024 .f32 := R V main_v38
def r_v39 (V : Val) : FVec Ideal S16384x1024 .f32 := R V main_v39
def r_cst_4 (V : Val) : FVec Ideal S_ .f32 := R V main_cst_4
def r_v40 (V : Val) : FVec Ideal S1024 .f32 := R V main_v40
def r_v41 (V : Val) : FVec Ideal S1x1024 .f32 := R V main_v41
def r_v42 (V : Val) : FVec Ideal S16384x2816 .f32 := R V main_v42
def r_v43 (V : Val) : FVec Ideal S16384x2816 .f32 := R V main_v43
def r_v44 (V : Val) : FVec Ideal S16384x2816 .f32 := R V main_v44
def r_call1_v0 (V : Val) : FVec Ideal S16384x2816 .f32 := R V main_call1_v0
def r_call1_v1 (V : Val) : FVec Ideal S16384x2816 .f32 := R V main_call1_v1
def r_call1_v2 (V : Val) : FVec Ideal S16384x2816 .f32 := R V main_call1_v2
def r_v45 (V : Val) : FVec Ideal S16384x2816 .f32 := R V main_v45
def r_v46 (V : Val) : FVec Ideal S16384x5632 .f32 := R V main_v46
def r_v47 (V : Val) : FVec Ideal S16384x1024 .f32 := R V main_v47
def r_cst_5 (V : Val) : FVec Ideal S_ .f32 := R V main_cst_5
def r_v48 (V : Val) : FVec Ideal S1024 .f32 := R V main_v48
def r_v49 (V : Val) : FVec Ideal S1x1024 .f32 := R V main_v49
def r_v50 (V : Val) : FVec Ideal S16384x1024 .f32 := R V main_v50
def r_cst_6 (V : Val) : FVec Ideal S_ .f32 := R V main_cst_6
def r_v51 (V : Val) : FVec Ideal S1024 .f32 := R V main_v51
def r_v52 (V : Val) : FVec Ideal S1x1024 .f32 := R V main_v52
def r_v53 (V : Val) : FVec Ideal S16384x1024 .f32 := R V main_v53
def r_v54 (V : Val) : FVec Ideal S16384x1024 .f32 := R V main_v54
def r_v55 (V : Val) : FVec Ideal S16384x1024 .f32 := R V main_v55
def r_cst_7 (V : Val) : FVec Ideal S_ .f32 := R V main_cst_7
def r_v56 (V : Val) : FVec Ideal S1024 .f32 := R V main_v56
def r_v57 (V : Val) : FVec Ideal S1x1024 .f32 := R V main_v57
def r_v58 (V : Val) : FVec Ideal S16384x1024 .f32 := R V main_v58
def r_v59 (V : Val) : FVec Ideal S16384x1024 .f32 := R V main_v59
def r_v60 (V : Val) : FVec Ideal S16384x1024 .f32 := R V main_v60
def r_cst_8 (V : Val) : FVec Ideal S_ .f32 := R V main_cst_8
def r_v61 (V : Val) : FVec Ideal S16384 .f32 := R V main_v61
def r_v62 (V : Val) : FVec Ideal S16384x1 .f32 := R V main_v62
def r_v63 (V : Val) : FVec Ideal S16384x1024 .f32 := R V main_v63
def r_v64 (V : Val) : FVec Ideal S16384x1024 .f32 := R V main_v64
def r_v65 (V : Val) : FVec Ideal S16384x1 .f32 := R V main_v65
def r_cst_9 (V : Val) : FVec Ideal S_ .f32 := R V main_cst_9
def r_v66 (V : Val) : FVec Ideal S16384x1 .f32 := R V main_v66
def r_v67 (V : Val) : FVec Ideal S16384x1 .f32 := R V main_v67
def r_cst_10 (V : Val) : FVec Ideal S_ .f32 := R V main_cst_10
def r_v68 (V : Val) : FVec Ideal S16384 .f32 := R V main_v68
def r_v69 (V : Val) : FVec Ideal S16384x1024 .f32 := R V main_v69
def r_v70 (V : Val) : FVec Ideal S16384x1024 .f32 := R V main_v70
def r_v71 (V : Val) : FVec Ideal S16384x1024 .f32 := R V main_v71
def r_v72 (V : Val) : FVec Ideal S16384x1024 .f32 := R V main_v72
def r_v73 (V : Val) : FVec Ideal S16384x1024 .f32 := R V main_v73
def r_v74 (V : Val) : FVec Ideal S16384x1024 .f32 := R V main_v74
def r_v75 (V : Val) : FVec Ideal S16384x1024 .f32 := R V main_v75
def r_v76 (V : Val) : FVec Ideal S16384x1024 .f32 := R V main_v76
def r_v77 (V : Val) : FVec Ideal S16384x1024 .f32 := R V main_v77
def r_cst_11 (V : Val) : FVec Ideal S_ .f32 := R V main_cst_11
def r_v78 (V : Val) : FVec Ideal S1024 .f32 := R V main_v78
def r_v79 (V : Val) : FVec Ideal S1x1024 .f32 := R V main_v79
def r_v80 (V : Val) : FVec Ideal S16384x512 .f32 := R V main_v80
def r_v81 (V : Val) : FVec Ideal S16384x5632 .bf16 := R V main_v81
def r_v82 (V : Val) : FVec Ideal S16384x1024 .bf16 := R V main_v82
def r_v83 (V : Val) : FVec Ideal S16384x512 .bf16 := R V main_v83
def r_v84 (V : Val) : FVec Ideal S16384x1024 .bf16 := R V main_v84
def r_cst_12 (V : Val) : FVec Ideal S_ .f32 := R V main_cst_12
def r_v85 (V : Val) : FVec Ideal S7x1024 .f32 := R V main_v85
def r_cst_13 (V : Val) : FVec Ideal S_ .f32 := R V main_cst_13
def r_v87 (V : Val) : FVec Ideal S5x1024 .f32 := R V main_v87
def r_cst_14 (V : Val) : FVec Ideal S_ .f32 := R V main_cst_14
def r_v89 (V : Val) : FVec Ideal S7x1024 .f32 := R V main_v89
def r_v86 (V : Val) : FVec Ideal S8x1024 .f32 := R V main_v86
def r_v88 (V : Val) : FVec Ideal S8x1024 .f32 := R V main_v88
def r_v90 (V : Val) : FVec Ideal S8x1024 .f32 := R V main_v90
def r_arg11 (V : Val) : FVec Ideal S1x1024 .f32 := R V main_arg11
def r_arg12 (V : Val) : FVec Ideal S1x1024 .f32 := R V main_arg12
def r_arg13 (V : Val) : FVec Ideal S1x1024 .f32 := R V main_arg13
def r_arg14 (V : Val) : FVec Ideal S1024x1536 .f32 := R V main_arg14
def r_v91 (V : Val) : FVec Ideal S16384x2816 .f32 := R V main_v91
def r_v92 (V : Val) : FVec Ideal S16384x2816 .f32 := R V main_v92
def r_call2_v0 (V : Val) : FVec Ideal S16384x2816 .f32 := R V main_call2_v0
def r_call2_v1 (V : Val) : FVec Ideal S16384x2816 .f32 := R V main_call2_v1
def r_call2_cst (V : Val) : FVec Ideal S_ .f32 := R V main_call2_cst
def r_call2_v2 (V : Val) : FVec Ideal S16384x2816 .f32 := R V main_call2_v2
def r_call2_v3 (V : Val) : FVec Ideal S16384x2816 .f32 := R V main_call2_v3
def r_call2_cst_0 (V : Val) : FVec Ideal S_ .f32 := R V main_call2_cst_0
def r_call2_v4 (V : Val) : FVec Ideal S16384x2816 .f32 := R V main_call2_v4
def r_call2_v5 (V : Val) : FVec Ideal S16384x2816 .f32 := R V main_call2_v5
def r_v93 (V : Val) : FVec Ideal S16384x2816 .f32 := R V main_v93
def r_v94 (V : Val) : FVec Ideal S16384x2816 .f32 := R V main_v94
def r_v95 (V : Val) : FVec Ideal S16384x1024 .f32 := R V main_v95
def r_v96 (V : Val) : FVec Ideal S16384x1024 .f32 := R V main_v96
def r_v97 (V : Val) : FVec Ideal S16384x1024 .f32 := R V main_v97
def r_v98 (V : Val) : FVec Ideal S16384x1024 .f32 := R V main_v98
def r_cst_15 (V : Val) : FVec Ideal S_ .f32 := R V main_cst_15
def r_v99 (V : Val) : FVec Ideal S16384 .f32 := R V main_v99
def r_v100 (V : Val) : FVec Ideal S16384x1 .f32 := R V main_v100
def r_cst_16 (V : Val) : FVec Ideal S_ .f32 := R V main_cst_16
def r_v101 (V : Val) : FVec Ideal S16384x1 .f32 := R V main_v101
def r_v102 (V : Val) : FVec Ideal S16384x1 .f32 := R V main_v102
def r_cst_17 (V : Val) : FVec Ideal S_ .f32 := R V main_cst_17
def r_v103 (V : Val) : FVec Ideal S16384x1 .f32 := R V main_v103
def r_v104 (V : Val) : FVec Ideal S16384x1 .f32 := R V main_v104
def r_v105 (V : Val) : FVec Ideal S16384x1 .f32 := R V main_v105
def r_v106 (V : Val) : FVec Ideal S16384x1024 .f32 := R V main_v106
def r_v107 (V : Val) : FVec Ideal S16384x1024 .f32 := R V main_v107
def r_v108 (V : Val) : FVec Ideal S16384x1024 .f32 := R V main_v108
def r_v109 (V : Val) : FVec Ideal S16384x1024 .f32 := R V main_v109
def r_cst_18 (V : Val) : FVec Ideal S_ .f32 := R V main_cst_18
def r_v110 (V : Val) : FVec Ideal S1x1024 .f32 := R V main_v110
def r_v111 (V : Val) : FVec Ideal S1x1024 .f32 := R V main_v111
def r_v112 (V : Val) : FVec Ideal S16384x1024 .f32 := R V main_v112
def r_v113 (V : Val) : FVec Ideal S16384x1024 .f32 := R V main_v113
def r_v114 (V : Val) : FVec Ideal S16384x1024 .f32 := R V main_v114
def r_v115 (V : Val) : FVec Ideal S16384x1024 .f32 := R V main_v115
def r_v116 (V : Val) : FVec Ideal S16384x1536 .f32 := R V main_v116
def r_v117 (V : Val) : FVec Ideal S16384x1024 .bf16 := R V main_v117
def r_v118 (V : Val) : FVec Ideal S16384x2816 .bf16 := R V main_v118
def r_v119 (V : Val) : FVec Ideal S16384x1024 .bf16 := R V main_v119
def r_v120 (V : Val) : FVec Ideal S16384x1536 .bf16 := R V main_v120

theorem v0 (V : Val) : r_v0 V = extf .f32 (r_arg1 V) bitsLt_bf16_f32 :=
  Eq.trans (unary_at W_eq (i := 0) (x := main_arg1) (y := main_v0) rfl (by decide) (by decide) V) rfl
theorem v1 (V : Val) : r_v1 V = Host.dotGeneral dot_S16384x512_S512x1024_S16384x1024_1_0_0_1_n_n none (r_v0 V) (r_arg2 V) :=
  Eq.trans (binary_at W_eq (i := 1) (a := main_v0) (b := main_arg2) (y := main_v1) rfl (by decide) (by decide) (by decide) V) rfl
theorem v2 (V : Val) : r_v2 V = broadcastInDim S16384x1024 ![0, 1] bcast_S1x1024_S16384x1024_0_1 (r_arg4 V) :=
  Eq.trans (unary_at W_eq (i := 2) (x := main_arg4) (y := main_v2) rfl (by decide) (by decide) V) rfl
theorem v3 (V : Val) : r_v3 V = mulf (r_v2 V) (r_v1 V) :=
  Eq.trans (binary_at W_eq (i := 3) (a := main_v2) (b := main_v1) (y := main_v3) rfl (by decide) (by decide) (by decide) V) rfl
theorem v4 (V : Val) : r_v4 V = addf (r_arg3 V) (r_v3 V) :=
  Eq.trans (binary_at W_eq (i := 4) (a := main_arg3) (b := main_v3) (y := main_v4) rfl (by decide) (by decide) (by decide) V) rfl
theorem v5 (V : Val) : r_v5 V = mulf (r_v4 V) (r_v4 V) :=
  Eq.trans (binary_at W_eq (i := 5) (a := main_v4) (b := main_v4) (y := main_v5) rfl (by decide) (by decide) (by decide) V) rfl
theorem cst (V : Val) : r_cst V = (constant S_ .f32 0x00000000#32) :=
  Eq.trans (nullary_at W_eq (i := 6) (y := main_cst) rfl (by decide) V) rfl
theorem v6 (V : Val) : r_v6 V = Host.reduceAdd (r_v5 V) (r_cst V) reducesTo_S16384x1024_S16384_d1 h_S_ :=
  Eq.trans (binary_at W_eq (i := 7) (a := main_v5) (b := main_cst) (y := main_v6) rfl (by decide) (by decide) (by decide) V) rfl
theorem v7 (V : Val) : r_v7 V = broadcastInDim S16384x1 ![0] bcast_S16384_S16384x1_0 (r_v6 V) :=
  Eq.trans (unary_at W_eq (i := 8) (x := main_v6) (y := main_v7) rfl (by decide) (by decide) V) rfl
theorem cst_0 (V : Val) : r_cst_0 V = (constant S_ .f32 0x44800000#32) :=
  Eq.trans (nullary_at W_eq (i := 9) (y := main_cst_0) rfl (by decide) V) rfl
theorem v8 (V : Val) : r_v8 V = broadcastInDim S16384x1 ![] bcast_S_S16384x1 (r_cst_0 V) :=
  Eq.trans (unary_at W_eq (i := 10) (x := main_cst_0) (y := main_v8) rfl (by decide) (by decide) V) rfl
theorem v9 (V : Val) : r_v9 V = Host.divf (r_v7 V) (r_v8 V) :=
  Eq.trans (binary_at W_eq (i := 11) (a := main_v7) (b := main_v8) (y := main_v9) rfl (by decide) (by decide) (by decide) V) rfl
theorem cst_1 (V : Val) : r_cst_1 V = (constant S_ .f32 0x358637BD#32) :=
  Eq.trans (nullary_at W_eq (i := 12) (y := main_cst_1) rfl (by decide) V) rfl
theorem v10 (V : Val) : r_v10 V = broadcastInDim S16384x1 ![] bcast_S_S16384x1 (r_cst_1 V) :=
  Eq.trans (unary_at W_eq (i := 13) (x := main_cst_1) (y := main_v10) rfl (by decide) (by decide) V) rfl
theorem v11 (V : Val) : r_v11 V = addf (r_v9 V) (r_v10 V) :=
  Eq.trans (binary_at W_eq (i := 14) (a := main_v9) (b := main_v10) (y := main_v11) rfl (by decide) (by decide) (by decide) V) rfl
theorem v12 (V : Val) : r_v12 V = Host.rsqrt (r_v11 V) :=
  Eq.trans (unary_at W_eq (i := 15) (x := main_v11) (y := main_v12) rfl (by decide) (by decide) V) rfl
theorem v13 (V : Val) : r_v13 V = Host.divf (r_v12 V) (r_v11 V) :=
  Eq.trans (binary_at W_eq (i := 16) (a := main_v12) (b := main_v11) (y := main_v13) rfl (by decide) (by decide) (by decide) V) rfl
theorem cst_2 (V : Val) : r_cst_2 V = (constant S_ .f32 0xBF000000#32) :=
  Eq.trans (nullary_at W_eq (i := 17) (y := main_cst_2) rfl (by decide) V) rfl
theorem v14 (V : Val) : r_v14 V = broadcastInDim S16384x1 ![] bcast_S_S16384x1 (r_cst_2 V) :=
  Eq.trans (unary_at W_eq (i := 18) (x := main_cst_2) (y := main_v14) rfl (by decide) (by decide) V) rfl
theorem v15 (V : Val) : r_v15 V = mulf (r_v14 V) (r_v13 V) :=
  Eq.trans (binary_at W_eq (i := 19) (a := main_v14) (b := main_v13) (y := main_v15) rfl (by decide) (by decide) (by decide) V) rfl
theorem v16 (V : Val) : r_v16 V = broadcastInDim S16384x1024 ![0, 1] bcast_S16384x1_S16384x1024_0_1 (r_v12 V) :=
  Eq.trans (unary_at W_eq (i := 20) (x := main_v12) (y := main_v16) rfl (by decide) (by decide) V) rfl
theorem v17 (V : Val) : r_v17 V = mulf (r_v4 V) (r_v16 V) :=
  Eq.trans (binary_at W_eq (i := 21) (a := main_v4) (b := main_v16) (y := main_v17) rfl (by decide) (by decide) (by decide) V) rfl
theorem v18 (V : Val) : r_v18 V = broadcastInDim S16384x1024 ![0, 1] bcast_S1x1024_S16384x1024_0_1 (r_arg5 V) :=
  Eq.trans (unary_at W_eq (i := 22) (x := main_arg5) (y := main_v18) rfl (by decide) (by decide) V) rfl
theorem v19 (V : Val) : r_v19 V = mulf (r_v17 V) (r_v18 V) :=
  Eq.trans (binary_at W_eq (i := 23) (a := main_v17) (b := main_v18) (y := main_v19) rfl (by decide) (by decide) (by decide) V) rfl
theorem cst_3 (V : Val) : r_cst_3 V = (constant S_ .f32 0x3F800000#32) :=
  Eq.trans (nullary_at W_eq (i := 24) (y := main_cst_3) rfl (by decide) V) rfl
theorem v20 (V : Val) : r_v20 V = broadcastInDim S1x1024 ![] bcast_S_S1x1024 (r_cst_3 V) :=
  Eq.trans (unary_at W_eq (i := 25) (x := main_cst_3) (y := main_v20) rfl (by decide) (by decide) V) rfl
theorem v21 (V : Val) : r_v21 V = addf (r_v20 V) (r_arg6 V) :=
  Eq.trans (binary_at W_eq (i := 26) (a := main_v20) (b := main_arg6) (y := main_v21) rfl (by decide) (by decide) (by decide) V) rfl
theorem v22 (V : Val) : r_v22 V = broadcastInDim S16384x1024 ![0, 1] bcast_S1x1024_S16384x1024_0_1 (r_v21 V) :=
  Eq.trans (unary_at W_eq (i := 27) (x := main_v21) (y := main_v22) rfl (by decide) (by decide) V) rfl
theorem v23 (V : Val) : r_v23 V = mulf (r_v19 V) (r_v22 V) :=
  Eq.trans (binary_at W_eq (i := 28) (a := main_v19) (b := main_v22) (y := main_v23) rfl (by decide) (by decide) (by decide) V) rfl
theorem v24 (V : Val) : r_v24 V = broadcastInDim S16384x1024 ![0, 1] bcast_S1x1024_S16384x1024_0_1 (r_arg7 V) :=
  Eq.trans (unary_at W_eq (i := 29) (x := main_arg7) (y := main_v24) rfl (by decide) (by decide) V) rfl
theorem v25 (V : Val) : r_v25 V = addf (r_v23 V) (r_v24 V) :=
  Eq.trans (binary_at W_eq (i := 30) (a := main_v23) (b := main_v24) (y := main_v25) rfl (by decide) (by decide) (by decide) V) rfl
theorem v26 (V : Val) : r_v26 V = Host.dotGeneral dot_S16384x1024_S1024x5632_S16384x5632_1_0_0_1_n_n none (r_v25 V) (r_arg8 V) :=
  Eq.trans (binary_at W_eq (i := 31) (a := main_v25) (b := main_arg8) (y := main_v26) rfl (by decide) (by decide) (by decide) V) rfl
theorem v27 (V : Val) : r_v27 V = extractStridedSlice S16384x2816 ![0, 0] (r_v26 V) slices_S16384x5632_S16384x2816_0_0 :=
  Eq.trans (unary_at W_eq (i := 32) (x := main_v26) (y := main_v27) rfl (by decide) (by decide) V) rfl
theorem v28 (V : Val) : r_v28 V = extractStridedSlice S16384x2816 ![0, 2816] (r_v26 V) slices_S16384x5632_S16384x2816_0_2816 :=
  Eq.trans (unary_at W_eq (i := 33) (x := main_v26) (y := main_v28) rfl (by decide) (by decide) V) rfl
theorem call0_v0 (V : Val) : r_call0_v0 V = Host.negf (r_v27 V) :=
  Eq.trans (unary_at W_eq (i := 34) (x := main_v27) (y := main_call0_v0) rfl (by decide) (by decide) V) rfl
theorem call0_v1 (V : Val) : r_call0_v1 V = Host.exp (r_call0_v0 V) :=
  Eq.trans (unary_at W_eq (i := 35) (x := main_call0_v0) (y := main_call0_v1) rfl (by decide) (by decide) V) rfl
theorem call0_cst (V : Val) : r_call0_cst V = (constant S_ .f32 0x3F800000#32) :=
  Eq.trans (nullary_at W_eq (i := 36) (y := main_call0_cst) rfl (by decide) V) rfl
theorem call0_v2 (V : Val) : r_call0_v2 V = (broadcastInDim S16384x2816 ![] bcast_S_S16384x2816) (r_call0_cst V) :=
  Eq.trans (unary_at W_eq (i := 37) (x := main_call0_cst) (y := main_call0_v2) rfl (by decide) (by decide) V) rfl
theorem call0_v3 (V : Val) : r_call0_v3 V = addf (r_call0_v2 V) (r_call0_v1 V) :=
  Eq.trans (binary_at W_eq (i := 38) (a := main_call0_v2) (b := main_call0_v1) (y := main_call0_v3) rfl (by decide) (by decide) (by decide) V) rfl
theorem call0_cst_0 (V : Val) : r_call0_cst_0 V = (constant S_ .f32 0x3F800000#32) :=
  Eq.trans (nullary_at W_eq (i := 39) (y := main_call0_cst_0) rfl (by decide) V) rfl
theorem call0_v4 (V : Val) : r_call0_v4 V = (broadcastInDim S16384x2816 ![] bcast_S_S16384x2816) (r_call0_cst_0 V) :=
  Eq.trans (unary_at W_eq (i := 40) (x := main_call0_cst_0) (y := main_call0_v4) rfl (by decide) (by decide) V) rfl
theorem v29_2 (V : Val) : r_v29_2 V = Host.divf (r_call0_v4 V) (r_call0_v3 V) :=
  Eq.trans (binary_at W_eq (i := 41) (a := main_call0_v4) (b := main_call0_v3) (y := main_v29_2) rfl (by decide) (by decide) (by decide) V) rfl
theorem call0_cst_1 (V : Val) : r_call0_cst_1 V = (constant S_ .f32 0x3F800000#32) :=
  Eq.trans (nullary_at W_eq (i := 42) (y := main_call0_cst_1) rfl (by decide) V) rfl
theorem call0_v6 (V : Val) : r_call0_v6 V = (broadcastInDim S16384x2816 ![] bcast_S_S16384x2816) (r_call0_cst_1 V) :=
  Eq.trans (unary_at W_eq (i := 43) (x := main_call0_cst_1) (y := main_call0_v6) rfl (by decide) (by decide) V) rfl
theorem call0_v7 (V : Val) : r_call0_v7 V = subf (r_call0_v6 V) (r_v29_2 V) :=
  Eq.trans (binary_at W_eq (i := 44) (a := main_call0_v6) (b := main_v29_2) (y := main_call0_v7) rfl (by decide) (by decide) (by decide) V) rfl
theorem v29_1 (V : Val) : r_v29_1 V = mulf (r_v29_2 V) (r_call0_v7 V) :=
  Eq.trans (binary_at W_eq (i := 45) (a := main_v29_2) (b := main_call0_v7) (y := main_v29_1) rfl (by decide) (by decide) (by decide) V) rfl
theorem v29_0 (V : Val) : r_v29_0 V = mulf (r_v27 V) (r_v29_2 V) :=
  Eq.trans (binary_at W_eq (i := 46) (a := main_v27) (b := main_v29_2) (y := main_v29_0) rfl (by decide) (by decide) (by decide) V) rfl
theorem v30 (V : Val) : r_v30 V = mulf (r_v29_0 V) (r_v28 V) :=
  Eq.trans (binary_at W_eq (i := 47) (a := main_v29_0) (b := main_v28) (y := main_v30) rfl (by decide) (by decide) (by decide) V) rfl
theorem v31 (V : Val) : r_v31 V = Host.dotGeneral dot_S16384x2816_S2816x1024_S16384x1024_1_0_0_1_n_n none (r_v30 V) (r_arg9 V) :=
  Eq.trans (binary_at W_eq (i := 48) (a := main_v30) (b := main_arg9) (y := main_v31) rfl (by decide) (by decide) (by decide) V) rfl
theorem v32 (V : Val) : r_v32 V = broadcastInDim S16384x1024 ![0, 1] bcast_S1x1024_S16384x1024_0_1 (r_arg10 V) :=
  Eq.trans (unary_at W_eq (i := 49) (x := main_arg10) (y := main_v32) rfl (by decide) (by decide) V) rfl
theorem v33 (V : Val) : r_v33 V = mulf (r_v32 V) (r_v31 V) :=
  Eq.trans (binary_at W_eq (i := 50) (a := main_v32) (b := main_v31) (y := main_v33) rfl (by decide) (by decide) (by decide) V) rfl
theorem v34 (V : Val) : r_v34 V = addf (r_v4 V) (r_v33 V) :=
  Eq.trans (binary_at W_eq (i := 51) (a := main_v4) (b := main_v33) (y := main_v34) rfl (by decide) (by decide) (by decide) V) rfl
theorem v35 (V : Val) : r_v35 V = shapeCast S16384x1024 (r_arg0 V) (by decide) :=
  Eq.trans (reshape_at W_eq (i := 52) (x := main_arg0) (y := main_v35) rfl (by decide) (by decide) V) rfl
theorem v36 (V : Val) : r_v36 V = shapeCast S16384x1024 (r_arg0 V) (by decide) :=
  Eq.trans (reshape_at W_eq (i := 53) (x := main_arg0) (y := main_v36) rfl (by decide) (by decide) V) rfl
theorem v37 (V : Val) : r_v37 V = broadcastInDim S16384x1024 ![0, 1] bcast_S1x1024_S16384x1024_0_1 (r_arg10 V) :=
  Eq.trans (unary_at W_eq (i := 54) (x := main_arg10) (y := main_v37) rfl (by decide) (by decide) V) rfl
theorem v38 (V : Val) : r_v38 V = mulf (r_v37 V) (r_v36 V) :=
  Eq.trans (binary_at W_eq (i := 55) (a := main_v37) (b := main_v36) (y := main_v38) rfl (by decide) (by decide) (by decide) V) rfl
theorem v39 (V : Val) : r_v39 V = mulf (r_v36 V) (r_v31 V) :=
  Eq.trans (binary_at W_eq (i := 56) (a := main_v36) (b := main_v31) (y := main_v39) rfl (by decide) (by decide) (by decide) V) rfl
theorem cst_4 (V : Val) : r_cst_4 V = (constant S_ .f32 0x00000000#32) :=
  Eq.trans (nullary_at W_eq (i := 57) (y := main_cst_4) rfl (by decide) V) rfl
theorem v40 (V : Val) : r_v40 V = Host.reduceAdd (r_v39 V) (r_cst_4 V) reducesTo_S16384x1024_S1024_d0 h_S_ :=
  Eq.trans (binary_at W_eq (i := 58) (a := main_v39) (b := main_cst_4) (y := main_v40) rfl (by decide) (by decide) (by decide) V) rfl
theorem v41 (V : Val) : r_v41 V = shapeCast S1x1024 (r_v40 V) (by decide) :=
  Eq.trans (reshape_at W_eq (i := 59) (x := main_v40) (y := main_v41) rfl (by decide) (by decide) V) rfl
theorem v42 (V : Val) : r_v42 V = Host.dotGeneral dot_S16384x1024_S2816x1024_S16384x2816_1_1_0_0_n_n none (r_v38 V) (r_arg9 V) :=
  Eq.trans (binary_at W_eq (i := 60) (a := main_v38) (b := main_arg9) (y := main_v42) rfl (by decide) (by decide) (by decide) V) rfl
theorem v43 (V : Val) : r_v43 V = mulf (r_v29_0 V) (r_v42 V) :=
  Eq.trans (binary_at W_eq (i := 61) (a := main_v29_0) (b := main_v42) (y := main_v43) rfl (by decide) (by decide) (by decide) V) rfl
theorem v44 (V : Val) : r_v44 V = mulf (r_v42 V) (r_v28 V) :=
  Eq.trans (binary_at W_eq (i := 62) (a := main_v42) (b := main_v28) (y := main_v44) rfl (by decide) (by decide) (by decide) V) rfl
theorem call1_v0 (V : Val) : r_call1_v0 V = mulf (r_v27 V) (r_v44 V) :=
  Eq.trans (binary_at W_eq (i := 63) (a := main_v27) (b := main_v44) (y := main_call1_v0) rfl (by decide) (by decide) (by decide) V) rfl
theorem call1_v1 (V : Val) : r_call1_v1 V = mulf (r_v44 V) (r_v29_2 V) :=
  Eq.trans (binary_at W_eq (i := 64) (a := main_v44) (b := main_v29_2) (y := main_call1_v1) rfl (by decide) (by decide) (by decide) V) rfl
theorem call1_v2 (V : Val) : r_call1_v2 V = mulf (r_call1_v0 V) (r_v29_1 V) :=
  Eq.trans (binary_at W_eq (i := 65) (a := main_call1_v0) (b := main_v29_1) (y := main_call1_v2) rfl (by decide) (by decide) (by decide) V) rfl
theorem v45 (V : Val) : r_v45 V = addf (r_call1_v1 V) (r_call1_v2 V) :=
  Eq.trans (binary_at W_eq (i := 66) (a := main_call1_v1) (b := main_call1_v2) (y := main_v45) rfl (by decide) (by decide) (by decide) V) rfl
theorem v46 (V : Val) : r_v46 V = (fn_main_v46 (F := Ideal)) (r_v45 V) (r_v43 V) :=
  Eq.trans (binary_at W_eq (i := 67) (a := main_v45) (b := main_v43) (y := main_v46) rfl (by decide) (by decide) (by decide) V) rfl
theorem v47 (V : Val) : r_v47 V = Host.dotGeneral dot_S16384x5632_S1024x5632_S16384x1024_1_1_0_0_n_n none (r_v46 V) (r_arg8 V) :=
  Eq.trans (binary_at W_eq (i := 68) (a := main_v46) (b := main_arg8) (y := main_v47) rfl (by decide) (by decide) (by decide) V) rfl
theorem cst_5 (V : Val) : r_cst_5 V = (constant S_ .f32 0x00000000#32) :=
  Eq.trans (nullary_at W_eq (i := 69) (y := main_cst_5) rfl (by decide) V) rfl
theorem v48 (V : Val) : r_v48 V = Host.reduceAdd (r_v47 V) (r_cst_5 V) reducesTo_S16384x1024_S1024_d0 h_S_ :=
  Eq.trans (binary_at W_eq (i := 70) (a := main_v47) (b := main_cst_5) (y := main_v48) rfl (by decide) (by decide) (by decide) V) rfl
theorem v49 (V : Val) : r_v49 V = shapeCast S1x1024 (r_v48 V) (by decide) :=
  Eq.trans (reshape_at W_eq (i := 71) (x := main_v48) (y := main_v49) rfl (by decide) (by decide) V) rfl
theorem v50 (V : Val) : r_v50 V = mulf (r_v19 V) (r_v47 V) :=
  Eq.trans (binary_at W_eq (i := 72) (a := main_v19) (b := main_v47) (y := main_v50) rfl (by decide) (by decide) (by decide) V) rfl
theorem cst_6 (V : Val) : r_cst_6 V = (constant S_ .f32 0x00000000#32) :=
  Eq.trans (nullary_at W_eq (i := 73) (y := main_cst_6) rfl (by decide) V) rfl
theorem v51 (V : Val) : r_v51 V = Host.reduceAdd (r_v50 V) (r_cst_6 V) reducesTo_S16384x1024_S1024_d0 h_S_ :=
  Eq.trans (binary_at W_eq (i := 74) (a := main_v50) (b := main_cst_6) (y := main_v51) rfl (by decide) (by decide) (by decide) V) rfl
theorem v52 (V : Val) : r_v52 V = shapeCast S1x1024 (r_v51 V) (by decide) :=
  Eq.trans (reshape_at W_eq (i := 75) (x := main_v51) (y := main_v52) rfl (by decide) (by decide) V) rfl
theorem v53 (V : Val) : r_v53 V = broadcastInDim S16384x1024 ![0, 1] bcast_S1x1024_S16384x1024_0_1 (r_v21 V) :=
  Eq.trans (unary_at W_eq (i := 76) (x := main_v21) (y := main_v53) rfl (by decide) (by decide) V) rfl
theorem v54 (V : Val) : r_v54 V = mulf (r_v47 V) (r_v53 V) :=
  Eq.trans (binary_at W_eq (i := 77) (a := main_v47) (b := main_v53) (y := main_v54) rfl (by decide) (by decide) (by decide) V) rfl
theorem v55 (V : Val) : r_v55 V = mulf (r_v17 V) (r_v54 V) :=
  Eq.trans (binary_at W_eq (i := 78) (a := main_v17) (b := main_v54) (y := main_v55) rfl (by decide) (by decide) (by decide) V) rfl
theorem cst_7 (V : Val) : r_cst_7 V = (constant S_ .f32 0x00000000#32) :=
  Eq.trans (nullary_at W_eq (i := 79) (y := main_cst_7) rfl (by decide) V) rfl
theorem v56 (V : Val) : r_v56 V = Host.reduceAdd (r_v55 V) (r_cst_7 V) reducesTo_S16384x1024_S1024_d0 h_S_ :=
  Eq.trans (binary_at W_eq (i := 80) (a := main_v55) (b := main_cst_7) (y := main_v56) rfl (by decide) (by decide) (by decide) V) rfl
theorem v57 (V : Val) : r_v57 V = shapeCast S1x1024 (r_v56 V) (by decide) :=
  Eq.trans (reshape_at W_eq (i := 81) (x := main_v56) (y := main_v57) rfl (by decide) (by decide) V) rfl
theorem v58 (V : Val) : r_v58 V = broadcastInDim S16384x1024 ![0, 1] bcast_S1x1024_S16384x1024_0_1 (r_arg5 V) :=
  Eq.trans (unary_at W_eq (i := 82) (x := main_arg5) (y := main_v58) rfl (by decide) (by decide) V) rfl
theorem v59 (V : Val) : r_v59 V = mulf (r_v54 V) (r_v58 V) :=
  Eq.trans (binary_at W_eq (i := 83) (a := main_v54) (b := main_v58) (y := main_v59) rfl (by decide) (by decide) (by decide) V) rfl
theorem v60 (V : Val) : r_v60 V = mulf (r_v4 V) (r_v59 V) :=
  Eq.trans (binary_at W_eq (i := 84) (a := main_v4) (b := main_v59) (y := main_v60) rfl (by decide) (by decide) (by decide) V) rfl
theorem cst_8 (V : Val) : r_cst_8 V = (constant S_ .f32 0x00000000#32) :=
  Eq.trans (nullary_at W_eq (i := 85) (y := main_cst_8) rfl (by decide) V) rfl
theorem v61 (V : Val) : r_v61 V = Host.reduceAdd (r_v60 V) (r_cst_8 V) reducesTo_S16384x1024_S16384_d1 h_S_ :=
  Eq.trans (binary_at W_eq (i := 86) (a := main_v60) (b := main_cst_8) (y := main_v61) rfl (by decide) (by decide) (by decide) V) rfl
theorem v62 (V : Val) : r_v62 V = shapeCast S16384x1 (r_v61 V) (by decide) :=
  Eq.trans (reshape_at W_eq (i := 87) (x := main_v61) (y := main_v62) rfl (by decide) (by decide) V) rfl
theorem v63 (V : Val) : r_v63 V = broadcastInDim S16384x1024 ![0, 1] bcast_S16384x1_S16384x1024_0_1 (r_v12 V) :=
  Eq.trans (unary_at W_eq (i := 88) (x := main_v12) (y := main_v63) rfl (by decide) (by decide) V) rfl
theorem v64 (V : Val) : r_v64 V = mulf (r_v59 V) (r_v63 V) :=
  Eq.trans (binary_at W_eq (i := 89) (a := main_v59) (b := main_v63) (y := main_v64) rfl (by decide) (by decide) (by decide) V) rfl
theorem v65 (V : Val) : r_v65 V = mulf (r_v62 V) (r_v15 V) :=
  Eq.trans (binary_at W_eq (i := 90) (a := main_v62) (b := main_v15) (y := main_v65) rfl (by decide) (by decide) (by decide) V) rfl
theorem cst_9 (V : Val) : r_cst_9 V = (constant S_ .f32 0x44800000#32) :=
  Eq.trans (nullary_at W_eq (i := 91) (y := main_cst_9) rfl (by decide) V) rfl
theorem v66 (V : Val) : r_v66 V = broadcastInDim S16384x1 ![] bcast_S_S16384x1 (r_cst_9 V) :=
  Eq.trans (unary_at W_eq (i := 92) (x := main_cst_9) (y := main_v66) rfl (by decide) (by decide) V) rfl
theorem v67 (V : Val) : r_v67 V = Host.divf (r_v65 V) (r_v66 V) :=
  Eq.trans (binary_at W_eq (i := 93) (a := main_v65) (b := main_v66) (y := main_v67) rfl (by decide) (by decide) (by decide) V) rfl
theorem cst_10 (V : Val) : r_cst_10 V = (constant S_ .f32 0x00000000#32) :=
  Eq.trans (nullary_at W_eq (i := 94) (y := main_cst_10) rfl (by decide) V) rfl
theorem v68 (V : Val) : r_v68 V = Host.reduceAdd (r_v67 V) (r_cst_10 V) reducesTo_S16384x1_S16384_d1 h_S_ :=
  Eq.trans (binary_at W_eq (i := 95) (a := main_v67) (b := main_cst_10) (y := main_v68) rfl (by decide) (by decide) (by decide) V) rfl
theorem v69 (V : Val) : r_v69 V = broadcastInDim S16384x1024 ![0] bcast_S16384_S16384x1024_0 (r_v68 V) :=
  Eq.trans (unary_at W_eq (i := 96) (x := main_v68) (y := main_v69) rfl (by decide) (by decide) V) rfl
theorem v70 (V : Val) : r_v70 V = mulf (r_v4 V) (r_v69 V) :=
  Eq.trans (binary_at W_eq (i := 97) (a := main_v4) (b := main_v69) (y := main_v70) rfl (by decide) (by decide) (by decide) V) rfl
theorem v71 (V : Val) : r_v71 V = addf (r_v64 V) (r_v70 V) :=
  Eq.trans (binary_at W_eq (i := 98) (a := main_v64) (b := main_v70) (y := main_v71) rfl (by decide) (by decide) (by decide) V) rfl
theorem v72 (V : Val) : r_v72 V = mulf (r_v69 V) (r_v4 V) :=
  Eq.trans (binary_at W_eq (i := 99) (a := main_v69) (b := main_v4) (y := main_v72) rfl (by decide) (by decide) (by decide) V) rfl
theorem v73 (V : Val) : r_v73 V = addf (r_v71 V) (r_v72 V) :=
  Eq.trans (binary_at W_eq (i := 100) (a := main_v71) (b := main_v72) (y := main_v73) rfl (by decide) (by decide) (by decide) V) rfl
theorem v74 (V : Val) : r_v74 V = addf (r_v35 V) (r_v73 V) :=
  Eq.trans (binary_at W_eq (i := 101) (a := main_v35) (b := main_v73) (y := main_v74) rfl (by decide) (by decide) (by decide) V) rfl
theorem v75 (V : Val) : r_v75 V = broadcastInDim S16384x1024 ![0, 1] bcast_S1x1024_S16384x1024_0_1 (r_arg4 V) :=
  Eq.trans (unary_at W_eq (i := 102) (x := main_arg4) (y := main_v75) rfl (by decide) (by decide) V) rfl
theorem v76 (V : Val) : r_v76 V = mulf (r_v75 V) (r_v74 V) :=
  Eq.trans (binary_at W_eq (i := 103) (a := main_v75) (b := main_v74) (y := main_v76) rfl (by decide) (by decide) (by decide) V) rfl
theorem v77 (V : Val) : r_v77 V = mulf (r_v74 V) (r_v1 V) :=
  Eq.trans (binary_at W_eq (i := 104) (a := main_v74) (b := main_v1) (y := main_v77) rfl (by decide) (by decide) (by decide) V) rfl
theorem cst_11 (V : Val) : r_cst_11 V = (constant S_ .f32 0x00000000#32) :=
  Eq.trans (nullary_at W_eq (i := 105) (y := main_cst_11) rfl (by decide) V) rfl
theorem v78 (V : Val) : r_v78 V = Host.reduceAdd (r_v77 V) (r_cst_11 V) reducesTo_S16384x1024_S1024_d0 h_S_ :=
  Eq.trans (binary_at W_eq (i := 106) (a := main_v77) (b := main_cst_11) (y := main_v78) rfl (by decide) (by decide) (by decide) V) rfl
theorem v79 (V : Val) : r_v79 V = shapeCast S1x1024 (r_v78 V) (by decide) :=
  Eq.trans (reshape_at W_eq (i := 107) (x := main_v78) (y := main_v79) rfl (by decide) (by decide) V) rfl
theorem v80 (V : Val) : r_v80 V = Host.dotGeneral dot_S16384x1024_S512x1024_S16384x512_1_1_0_0_n_n none (r_v76 V) (r_arg2 V) :=
  Eq.trans (binary_at W_eq (i := 108) (a := main_v76) (b := main_arg2) (y := main_v80) rfl (by decide) (by decide) (by decide) V) rfl
theorem v81 (V : Val) : r_v81 V = truncf .bf16 (r_v46 V) bitsLt_bf16_f32 :=
  Eq.trans (unary_at W_eq (i := 109) (x := main_v46) (y := main_v81) rfl (by decide) (by decide) V) rfl
theorem v82 (V : Val) : r_v82 V = truncf .bf16 (r_v38 V) bitsLt_bf16_f32 :=
  Eq.trans (unary_at W_eq (i := 110) (x := main_v38) (y := main_v82) rfl (by decide) (by decide) V) rfl
theorem v83 (V : Val) : r_v83 V = truncf .bf16 (r_v80 V) bitsLt_bf16_f32 :=
  Eq.trans (unary_at W_eq (i := 111) (x := main_v80) (y := main_v83) rfl (by decide) (by decide) V) rfl
theorem v84 (V : Val) : r_v84 V = truncf .bf16 (r_v76 V) bitsLt_bf16_f32 :=
  Eq.trans (unary_at W_eq (i := 112) (x := main_v76) (y := main_v84) rfl (by decide) (by decide) V) rfl
theorem cst_12 (V : Val) : r_cst_12 V = (constant S_ .f32 0x00000000#32) :=
  Eq.trans (nullary_at W_eq (i := 113) (y := main_cst_12) rfl (by decide) V) rfl
theorem v85 (V : Val) : r_v85 V = broadcastInDim S7x1024 ![] bcast_S_S7x1024 (r_cst_12 V) :=
  Eq.trans (unary_at W_eq (i := 114) (x := main_cst_12) (y := main_v85) rfl (by decide) (by decide) V) rfl
theorem v86 (V : Val) : r_v86 V = (fn_main_v86 (F := Ideal)) (r_v41 V) (r_v85 V) :=
  Eq.trans (binary_at W_eq (i := 115) (a := main_v41) (b := main_v85) (y := main_v86) rfl (by decide) (by decide) (by decide) V) rfl
theorem cst_13 (V : Val) : r_cst_13 V = (constant S_ .f32 0x00000000#32) :=
  Eq.trans (nullary_at W_eq (i := 116) (y := main_cst_13) rfl (by decide) V) rfl
theorem v87 (V : Val) : r_v87 V = broadcastInDim S5x1024 ![] bcast_S_S5x1024 (r_cst_13 V) :=
  Eq.trans (unary_at W_eq (i := 117) (x := main_cst_13) (y := main_v87) rfl (by decide) (by decide) V) rfl
theorem v88 (V : Val) : r_v88 V = fn_main_v88 (F := Ideal) (r_v49 V) (r_v52 V) (r_v57 V) (r_v87 V) :=
  Eq.trans (nary_at W_eq (i := 118) (xs := ![main_v49, main_v52, main_v57, main_v87]) (y := main_v88) rfl (by decide) (by decide) V) rfl
theorem cst_14 (V : Val) : r_cst_14 V = (constant S_ .f32 0x00000000#32) :=
  Eq.trans (nullary_at W_eq (i := 119) (y := main_cst_14) rfl (by decide) V) rfl
theorem v89 (V : Val) : r_v89 V = broadcastInDim S7x1024 ![] bcast_S_S7x1024 (r_cst_14 V) :=
  Eq.trans (unary_at W_eq (i := 120) (x := main_cst_14) (y := main_v89) rfl (by decide) (by decide) V) rfl
theorem v90 (V : Val) : r_v90 V = (fn_main_v90 (F := Ideal)) (r_v79 V) (r_v89 V) :=
  Eq.trans (binary_at W_eq (i := 121) (a := main_v79) (b := main_v89) (y := main_v90) rfl (by decide) (by decide) (by decide) V) rfl
theorem v91 (V : Val) : r_v91 V = extractStridedSlice S16384x2816 ![0, 0] (r_v26 V) slices_S16384x5632_S16384x2816_0_0 :=
  Eq.trans (unary_at W_eq (i := 122) (x := main_v26) (y := main_v91) rfl (by decide) (by decide) V) rfl
theorem v92 (V : Val) : r_v92 V = extractStridedSlice S16384x2816 ![0, 2816] (r_v26 V) slices_S16384x5632_S16384x2816_0_2816 :=
  Eq.trans (unary_at W_eq (i := 123) (x := main_v26) (y := main_v92) rfl (by decide) (by decide) V) rfl
theorem call2_v0 (V : Val) : r_call2_v0 V = Host.negf (r_v91 V) :=
  Eq.trans (unary_at W_eq (i := 124) (x := main_v91) (y := main_call2_v0) rfl (by decide) (by decide) V) rfl
theorem call2_v1 (V : Val) : r_call2_v1 V = Host.exp (r_call2_v0 V) :=
  Eq.trans (unary_at W_eq (i := 125) (x := main_call2_v0) (y := main_call2_v1) rfl (by decide) (by decide) V) rfl
theorem call2_cst (V : Val) : r_call2_cst V = (constant S_ .f32 0x3F800000#32) :=
  Eq.trans (nullary_at W_eq (i := 126) (y := main_call2_cst) rfl (by decide) V) rfl
theorem call2_v2 (V : Val) : r_call2_v2 V = (broadcastInDim S16384x2816 ![] bcast_S_S16384x2816) (r_call2_cst V) :=
  Eq.trans (unary_at W_eq (i := 127) (x := main_call2_cst) (y := main_call2_v2) rfl (by decide) (by decide) V) rfl
theorem call2_v3 (V : Val) : r_call2_v3 V = addf (r_call2_v2 V) (r_call2_v1 V) :=
  Eq.trans (binary_at W_eq (i := 128) (a := main_call2_v2) (b := main_call2_v1) (y := main_call2_v3) rfl (by decide) (by decide) (by decide) V) rfl
theorem call2_cst_0 (V : Val) : r_call2_cst_0 V = (constant S_ .f32 0x3F800000#32) :=
  Eq.trans (nullary_at W_eq (i := 129) (y := main_call2_cst_0) rfl (by decide) V) rfl
theorem call2_v4 (V : Val) : r_call2_v4 V = (broadcastInDim S16384x2816 ![] bcast_S_S16384x2816) (r_call2_cst_0 V) :=
  Eq.trans (unary_at W_eq (i := 130) (x := main_call2_cst_0) (y := main_call2_v4) rfl (by decide) (by decide) V) rfl
theorem call2_v5 (V : Val) : r_call2_v5 V = Host.divf (r_call2_v4 V) (r_call2_v3 V) :=
  Eq.trans (binary_at W_eq (i := 131) (a := main_call2_v4) (b := main_call2_v3) (y := main_call2_v5) rfl (by decide) (by decide) (by decide) V) rfl
theorem v93 (V : Val) : r_v93 V = mulf (r_v91 V) (r_call2_v5 V) :=
  Eq.trans (binary_at W_eq (i := 132) (a := main_v91) (b := main_call2_v5) (y := main_v93) rfl (by decide) (by decide) (by decide) V) rfl
theorem v94 (V : Val) : r_v94 V = mulf (r_v93 V) (r_v92 V) :=
  Eq.trans (binary_at W_eq (i := 133) (a := main_v93) (b := main_v92) (y := main_v94) rfl (by decide) (by decide) (by decide) V) rfl
theorem v95 (V : Val) : r_v95 V = broadcastInDim S16384x1024 ![0, 1] bcast_S1x1024_S16384x1024_0_1 (r_arg10 V) :=
  Eq.trans (unary_at W_eq (i := 134) (x := main_arg10) (y := main_v95) rfl (by decide) (by decide) V) rfl
theorem v96 (V : Val) : r_v96 V = mulf (r_v95 V) (r_v31 V) :=
  Eq.trans (binary_at W_eq (i := 135) (a := main_v95) (b := main_v31) (y := main_v96) rfl (by decide) (by decide) (by decide) V) rfl
theorem v97 (V : Val) : r_v97 V = addf (r_v4 V) (r_v96 V) :=
  Eq.trans (binary_at W_eq (i := 136) (a := main_v4) (b := main_v96) (y := main_v97) rfl (by decide) (by decide) (by decide) V) rfl
theorem v98 (V : Val) : r_v98 V = mulf (r_v97 V) (r_v97 V) :=
  Eq.trans (binary_at W_eq (i := 137) (a := main_v97) (b := main_v97) (y := main_v98) rfl (by decide) (by decide) (by decide) V) rfl
theorem cst_15 (V : Val) : r_cst_15 V = (constant S_ .f32 0x00000000#32) :=
  Eq.trans (nullary_at W_eq (i := 138) (y := main_cst_15) rfl (by decide) V) rfl
theorem v99 (V : Val) : r_v99 V = Host.reduceAdd (r_v98 V) (r_cst_15 V) reducesTo_S16384x1024_S16384_d1 h_S_ :=
  Eq.trans (binary_at W_eq (i := 139) (a := main_v98) (b := main_cst_15) (y := main_v99) rfl (by decide) (by decide) (by decide) V) rfl
theorem v100 (V : Val) : r_v100 V = broadcastInDim S16384x1 ![0] bcast_S16384_S16384x1_0 (r_v99 V) :=
  Eq.trans (unary_at W_eq (i := 140) (x := main_v99) (y := main_v100) rfl (by decide) (by decide) V) rfl
theorem cst_16 (V : Val) : r_cst_16 V = (constant S_ .f32 0x44800000#32) :=
  Eq.trans (nullary_at W_eq (i := 141) (y := main_cst_16) rfl (by decide) V) rfl
theorem v101 (V : Val) : r_v101 V = broadcastInDim S16384x1 ![] bcast_S_S16384x1 (r_cst_16 V) :=
  Eq.trans (unary_at W_eq (i := 142) (x := main_cst_16) (y := main_v101) rfl (by decide) (by decide) V) rfl
theorem v102 (V : Val) : r_v102 V = Host.divf (r_v100 V) (r_v101 V) :=
  Eq.trans (binary_at W_eq (i := 143) (a := main_v100) (b := main_v101) (y := main_v102) rfl (by decide) (by decide) (by decide) V) rfl
theorem cst_17 (V : Val) : r_cst_17 V = (constant S_ .f32 0x358637BD#32) :=
  Eq.trans (nullary_at W_eq (i := 144) (y := main_cst_17) rfl (by decide) V) rfl
theorem v103 (V : Val) : r_v103 V = broadcastInDim S16384x1 ![] bcast_S_S16384x1 (r_cst_17 V) :=
  Eq.trans (unary_at W_eq (i := 145) (x := main_cst_17) (y := main_v103) rfl (by decide) (by decide) V) rfl
theorem v104 (V : Val) : r_v104 V = addf (r_v102 V) (r_v103 V) :=
  Eq.trans (binary_at W_eq (i := 146) (a := main_v102) (b := main_v103) (y := main_v104) rfl (by decide) (by decide) (by decide) V) rfl
theorem v105 (V : Val) : r_v105 V = Host.rsqrt (r_v104 V) :=
  Eq.trans (unary_at W_eq (i := 147) (x := main_v104) (y := main_v105) rfl (by decide) (by decide) V) rfl
theorem v106 (V : Val) : r_v106 V = broadcastInDim S16384x1024 ![0, 1] bcast_S16384x1_S16384x1024_0_1 (r_v105 V) :=
  Eq.trans (unary_at W_eq (i := 148) (x := main_v105) (y := main_v106) rfl (by decide) (by decide) V) rfl
theorem v107 (V : Val) : r_v107 V = mulf (r_v97 V) (r_v106 V) :=
  Eq.trans (binary_at W_eq (i := 149) (a := main_v97) (b := main_v106) (y := main_v107) rfl (by decide) (by decide) (by decide) V) rfl
theorem v108 (V : Val) : r_v108 V = broadcastInDim S16384x1024 ![0, 1] bcast_S1x1024_S16384x1024_0_1 (r_arg11 V) :=
  Eq.trans (unary_at W_eq (i := 150) (x := main_arg11) (y := main_v108) rfl (by decide) (by decide) V) rfl
theorem v109 (V : Val) : r_v109 V = mulf (r_v107 V) (r_v108 V) :=
  Eq.trans (binary_at W_eq (i := 151) (a := main_v107) (b := main_v108) (y := main_v109) rfl (by decide) (by decide) (by decide) V) rfl
theorem cst_18 (V : Val) : r_cst_18 V = (constant S_ .f32 0x3F800000#32) :=
  Eq.trans (nullary_at W_eq (i := 152) (y := main_cst_18) rfl (by decide) V) rfl
theorem v110 (V : Val) : r_v110 V = broadcastInDim S1x1024 ![] bcast_S_S1x1024 (r_cst_18 V) :=
  Eq.trans (unary_at W_eq (i := 153) (x := main_cst_18) (y := main_v110) rfl (by decide) (by decide) V) rfl
theorem v111 (V : Val) : r_v111 V = addf (r_v110 V) (r_arg12 V) :=
  Eq.trans (binary_at W_eq (i := 154) (a := main_v110) (b := main_arg12) (y := main_v111) rfl (by decide) (by decide) (by decide) V) rfl
theorem v112 (V : Val) : r_v112 V = broadcastInDim S16384x1024 ![0, 1] bcast_S1x1024_S16384x1024_0_1 (r_v111 V) :=
  Eq.trans (unary_at W_eq (i := 155) (x := main_v111) (y := main_v112) rfl (by decide) (by decide) V) rfl
theorem v113 (V : Val) : r_v113 V = mulf (r_v109 V) (r_v112 V) :=
  Eq.trans (binary_at W_eq (i := 156) (a := main_v109) (b := main_v112) (y := main_v113) rfl (by decide) (by decide) (by decide) V) rfl
theorem v114 (V : Val) : r_v114 V = broadcastInDim S16384x1024 ![0, 1] bcast_S1x1024_S16384x1024_0_1 (r_arg13 V) :=
  Eq.trans (unary_at W_eq (i := 157) (x := main_arg13) (y := main_v114) rfl (by decide) (by decide) V) rfl
theorem v115 (V : Val) : r_v115 V = addf (r_v113 V) (r_v114 V) :=
  Eq.trans (binary_at W_eq (i := 158) (a := main_v113) (b := main_v114) (y := main_v115) rfl (by decide) (by decide) (by decide) V) rfl
theorem v116 (V : Val) : r_v116 V = Host.dotGeneral dot_S16384x1024_S1024x1536_S16384x1536_1_0_0_1_n_n none (r_v115 V) (r_arg14 V) :=
  Eq.trans (binary_at W_eq (i := 159) (a := main_v115) (b := main_arg14) (y := main_v116) rfl (by decide) (by decide) (by decide) V) rfl
theorem v117 (V : Val) : r_v117 V = truncf .bf16 (r_v25 V) bitsLt_bf16_f32 :=
  Eq.trans (unary_at W_eq (i := 160) (x := main_v25) (y := main_v117) rfl (by decide) (by decide) V) rfl
theorem v118 (V : Val) : r_v118 V = truncf .bf16 (r_v94 V) bitsLt_bf16_f32 :=
  Eq.trans (unary_at W_eq (i := 161) (x := main_v94) (y := main_v118) rfl (by decide) (by decide) V) rfl
theorem v119 (V : Val) : r_v119 V = truncf .bf16 (r_v115 V) bitsLt_bf16_f32 :=
  Eq.trans (unary_at W_eq (i := 162) (x := main_v115) (y := main_v119) rfl (by decide) (by decide) V) rfl
theorem v120 (V : Val) : r_v120 V = truncf .bf16 (r_v116 V) bitsLt_bf16_f32 :=
  Eq.trans (unary_at W_eq (i := 163) (x := main_v116) (y := main_v120) rfl (by decide) (by decide) V) rfl

end Cert.Ffb.Ref

end
-- ==== Proof.Ffb.RefFwd.lean ====
/- The reference's forward values, as real numbers. -/
module

public import proofs.«01_k».proof.Proof.Ffb.RefEqs

@[expose] public section

set_option maxRecDepth 16384

noncomputable section

namespace Cert.Ffb.Ref

open Cert.Ffn
open Idealize.ShloMosaic Idealize.ShloMosaic.StableHlo Idealize.ShloMosaic.TcCoe Idealize.ShloMosaic.Pointwise
open Cert.Reference7Ideal Cert.Reference7Ideal.Gen Cert.Reference7Ideal.Value

/-- What the reference is given, as real numbers. -/
structure Args (V : Val) (D : Data 16384 512) : Prop where
  dx : Holds (r_arg0 V) D.dx
  o : Holds (r_arg1 V) D.o
  wm : Holds (r_arg2 V) D.wm
  x : Holds (r_arg3 V) D.x
  g1 : Holds (r_arg4 V) fun _ => D.g1
  nf : Holds (r_arg5 V) fun _ => D.nf
  sc : Holds (r_arg6 V) fun _ => D.sc
  sh : Holds (r_arg7 V) fun _ => D.sh
  wi : Holds (r_arg8 V) D.wi
  wo : Holds (r_arg9 V) D.wo
  g2 : Holds (r_arg10 V) fun _ => D.g2

variable {V : Val} {D : Data 16384 512}

theorem h_v1 (A : Args V D) : Holds (r_v1 V) D.y1 := by
  intro i j
  rw [v1, v0]
  pointwise []
  simp only [A.o _ _, A.wm _ _, ← EReal.coe_mul, coe_sum]
  rfl

theorem h_v4 (A : Args V D) : Holds (r_v4 V) D.x1 := by
  intro i j
  rw [v4, v3, v2]
  pointwise []
  simp only [A.x _ _, A.g1 _ _, h_v1 A _ _, ← EReal.coe_mul, ← EReal.coe_add]
  rfl

theorem h_v11 (A : Args V D) : Holds (r_v11 V) fun i _ => D.den i := by
  intro i j
  rw [v11, v9, v10, v7, v8, v6, v5, cst, cst_0, cst_1]
  pointwise []
  simp only [h_v4 A _ _, ← EReal.coe_mul, ← EReal.coe_add, coe_sum, zero_add, ofBits_1024, ofBits_eps.1, div_1024]
  rfl

theorem h_v12 (A : Args V D) : Holds (r_v12 V) fun i _ => D.rs i := by
  intro i j
  rw [v12]
  pointwise []
  simp only [h_v11 A _ _]
  exact rsqrt_pos (D.den_pos i)

theorem h_v17 (A : Args V D) : Holds (r_v17 V) D.xh := by
  intro i j
  rw [v17, v16]
  pointwise []
  simp only [h_v4 A _ _, h_v12 A _ _, ← EReal.coe_mul]
  rfl

theorem h_v19 (A : Args V D) : Holds (r_v19 V) fun i j => D.xh i j * D.nf j := by
  intro i j
  rw [v19, v18]
  pointwise []
  simp only [h_v17 A _ _, A.nf _ _, ← EReal.coe_mul]

theorem h_v21 (A : Args V D) : Holds (r_v21 V) fun _ j => 1 + D.sc j := by
  intro i j
  rw [v21, v20, cst_3]
  pointwise []
  simp only [A.sc _ _, one_add_real]

theorem h_v25 (A : Args V D) : Holds (r_v25 V) D.h := by
  intro i j
  rw [v25, v23, v22, v24]
  pointwise []
  simp only [h_v19 A _ _, h_v21 A _ _, A.sh _ _, ← EReal.coe_mul, ← EReal.coe_add]
  rfl

theorem h_v27 (A : Args V D) : Holds (r_v27 V) D.gate := by
  intro i k
  rw [v27, v26]
  pointwise []
  simp only [h_v25 A _ _, A.wi _ _, ← EReal.coe_mul, coe_sum]
  rfl

theorem h_v28 (A : Args V D) : Holds (r_v28 V) D.up := by
  intro i k
  rw [v28, v26]
  pointwise []
  simp only [h_v25 A _ _, A.wi _ _, ← EReal.coe_mul, coe_sum]
  rfl

theorem h_sg (A : Args V D) : Holds (r_v29_2 V) D.sg := by
  intro i k
  rw [v29_2, call0_v4, call0_v3, call0_v2, call0_v1, call0_v0, call0_cst, call0_cst_0]
  pointwise []
  simp only [h_v27 A _ _]
  exact D.logistic_gate i k

theorem h_v29_1 (A : Args V D) : Holds (r_v29_1 V) fun i k => D.sg i k * (1 - D.sg i k) := by
  intro i k
  rw [v29_1, call0_v7, call0_v6, call0_cst_1]
  pointwise []
  simp only [h_sg A _ _, one_sub_real, ← EReal.coe_mul]

theorem h_v29_0 (A : Args V D) : Holds (r_v29_0 V) D.silu := by
  intro i k
  rw [v29_0]
  pointwise []
  simp only [h_sg A _ _, h_v27 A _ _, ← EReal.coe_mul]
  rfl

theorem h_v31 (A : Args V D) : Holds (r_v31 V) D.y2 := by
  intro i j
  rw [v31, v30]
  pointwise []
  simp only [h_v29_0 A _ _, h_v28 A _ _, A.wo _ _, ← EReal.coe_mul, coe_sum]
  rfl

end Cert.Ffb.Ref

end
-- ==== Proof.Ffb.RefBwd.lean ====
/- The reference's gradients, as real numbers. -/
module

public import proofs.«01_k».proof.Proof.Ffb.RefFwd

@[expose] public section

set_option maxRecDepth 16384

noncomputable section

namespace Cert.Ffb

namespace Ref

open Cert.Ffn
open Idealize.ShloMosaic Idealize.ShloMosaic.StableHlo Idealize.ShloMosaic.TcCoe Idealize.ShloMosaic.Pointwise
open Cert.Reference7Ideal Cert.Reference7Ideal.Gen Cert.Reference7Ideal.Value

variable {V : Val} {D : Data 16384 512}

theorem h_v35 (A : Args V D) : Holds (r_v35 V) D.dx := by
  intro i j
  rw [v35]
  pointwise []
  exact A.dx i j

theorem h_v36 (A : Args V D) : Holds (r_v36 V) D.dx := by
  intro i j
  rw [v36]
  pointwise []
  exact A.dx i j

theorem h_v38 (A : Args V D) : Holds (r_v38 V) D.dy2 := by
  intro i j
  rw [v38, v37]
  pointwise []
  simp only [h_v36 A _ _, A.g2 _ _, ← EReal.coe_mul]
  exact congrArg Real.toEReal (mul_comm _ _)

theorem h_v41 (A : Args V D) : Holds (r_v41 V) fun _ => D.dg2 := by
  intro i j
  rw [v41, v40, v39, cst_4]
  pointwise []
  simp only [h_v36 A _ _, h_v31 A _ _, ← EReal.coe_mul, coe_sum, zero_add]
  rfl

theorem h_v42 (A : Args V D) : Holds (r_v42 V) D.da := by
  intro i k
  rw [v42]
  pointwise []
  simp only [h_v38 A _ _, A.wo _ _, ← EReal.coe_mul, coe_sum]
  rfl

theorem h_v43 (A : Args V D) : Holds (r_v43 V) D.dup := by
  intro i k
  rw [v43]
  pointwise []
  simp only [h_v42 A _ _, h_v29_0 A _ _, ← EReal.coe_mul]
  exact congrArg Real.toEReal (mul_comm _ _)

theorem h_v44 (A : Args V D) : Holds (r_v44 V) fun i k => D.da i k * D.up i k := by
  intro i k
  rw [v44]
  pointwise []
  simp only [h_v42 A _ _, h_v28 A _ _, ← EReal.coe_mul]

theorem h_v45 (A : Args V D) : Holds (r_v45 V) D.dga := by
  intro i k
  rw [v45, call1_v1, call1_v2, call1_v0]
  pointwise []
  simp only [h_v44 A _ _, h_v27 A _ _, h_sg A _ _, h_v29_1 A _ _, ← EReal.coe_mul, ← EReal.coe_add]
  exact congrArg Real.toEReal (D.dga_eq i k)

theorem h_v46 (A : Args V D) : Holds (r_v46 V) D.dgu := by
  intro i k
  rw [v46]
  pointwise [fn_main_v46]
  unfold Data.dgu
  split
  · exact h_v45 A _ _
  · exact h_v43 A _ _

theorem h_v47 (A : Args V D) : Holds (r_v47 V) D.dh := by
  intro i j
  rw [v47]
  pointwise []
  simp only [h_v46 A _ _, A.wi _ _, ← EReal.coe_mul, coe_sum]
  exact congrArg Real.toEReal (D.dh_eq i j)

theorem h_v49 (A : Args V D) : Holds (r_v49 V) fun _ => D.dsh := by
  intro i j
  rw [v49, v48, cst_5]
  pointwise []
  simp only [h_v47 A _ _, coe_sum, zero_add]
  rfl

theorem h_v52 (A : Args V D) : Holds (r_v52 V) fun _ => D.dsc := by
  intro i j
  rw [v52, v51, v50, cst_6]
  pointwise []
  simp only [h_v47 A _ _, h_v19 A _ _, ← EReal.coe_mul, coe_sum, zero_add]
  exact congrArg Real.toEReal (Finset.sum_congr rfl fun i _ => by ring)

theorem h_v54 (A : Args V D) : Holds (r_v54 V) fun i j => D.dh i j * (1 + D.sc j) := by
  intro i j
  rw [v54, v53]
  pointwise []
  simp only [h_v47 A _ _, h_v21 A _ _, ← EReal.coe_mul]

theorem h_v57 (A : Args V D) : Holds (r_v57 V) fun _ => D.dnf := by
  intro i j
  rw [v57, v56, v55, cst_7]
  pointwise []
  simp only [h_v17 A _ _, h_v54 A _ _, ← EReal.coe_mul, coe_sum, zero_add]
  exact congrArg Real.toEReal (Finset.sum_congr rfl fun i _ => by ring)

theorem h_v59 (A : Args V D) : Holds (r_v59 V) D.dxh := by
  intro i j
  rw [v59, v58]
  pointwise []
  simp only [h_v54 A _ _, A.nf _ _, ← EReal.coe_mul]
  exact congrArg Real.toEReal (by unfold Data.dxh; ring)

theorem h_v15 (A : Args V D) : Holds (r_v15 V) fun i _ => -(1 / 2) * (D.rs i * (1 / D.den i)) := by
  intro i j
  rw [v15, v14, v13, cst_2]
  pointwise []
  simp only [h_v11 A _ _, h_v12 A _ _, ofBits_neg_half, Ideal.div_coe (D.den_pos i).ne', ← EReal.coe_mul]

theorem h_v69 (A : Args V D) : Holds (r_v69 V) fun i _ => (∑ j, D.x1 i j * D.dxh i j) * (-(1 / 2) * (D.rs i * (1 / D.den i))) * (1 / 1024) := by
  intro i j
  rw [v69, v68, v67, v66, v65, v62, v61, v60, cst_8, cst_9, cst_10]
  pointwise []
  simp only [h_v4 A _ _, h_v59 A _ _, h_v15 A _ _, ← EReal.coe_mul, coe_sum, zero_add, ofBits_1024, div_1024]
  exact congrArg Real.toEReal (Fin.sum_univ_one _)

theorem h_v74 (A : Args V D) : Holds (r_v74 V) D.dx1 := by
  intro i j
  rw [v74, v73, v72, v71, v70, v64, v63]
  pointwise []
  simp only [h_v35 A _ _, h_v4 A _ _, h_v59 A _ _, h_v12 A _ _, h_v69 A _ _, ← EReal.coe_mul, ← EReal.coe_add]
  exact congrArg Real.toEReal (D.dx1_eq i j _ rfl)

theorem h_v76 (A : Args V D) : Holds (r_v76 V) D.dy1 := by
  intro i j
  rw [v76, v75]
  pointwise []
  simp only [h_v74 A _ _, A.g1 _ _, ← EReal.coe_mul]
  exact congrArg Real.toEReal (mul_comm _ _)

theorem h_v79 (A : Args V D) : Holds (r_v79 V) fun _ => D.dg1 := by
  intro i j
  rw [v79, v78, v77, cst_11]
  pointwise []
  simp only [h_v74 A _ _, h_v1 A _ _, ← EReal.coe_mul, coe_sum, zero_add]
  rfl

theorem h_v81 (A : Args V D) : Holds (r_v81 V) D.dgu := by
  intro i j
  rw [v81]
  pointwise []
  exact h_v46 A i j

theorem h_v82 (A : Args V D) : Holds (r_v82 V) D.dy2 := by
  intro i j
  rw [v82]
  pointwise []
  exact h_v38 A i j

theorem h_v83 (A : Args V D) : Holds (r_v83 V) D.dO := by
  intro i j
  rw [v83, v80]
  pointwise []
  simp only [h_v76 A _ _, A.wm _ _, ← EReal.coe_mul, coe_sum]
  rfl

theorem h_v84 (A : Args V D) : Holds (r_v84 V) D.dy1 := by
  intro i j
  rw [v84]
  pointwise []
  exact h_v76 A i j

theorem h_v86 (A : Args V D) : Holds (r_v86 V) fun i j => if i.val = 0 then D.dg2 j else 0 := by
  intro i j
  rw [v86, v85, cst_12]
  pointwise [fn_main_v86]
  by_cases h : i.val = 0
  · rw [dif_pos (by omega), if_pos h]
    exact h_v41 A _ _
  · rw [dif_neg (by omega), if_neg h]
    rfl

theorem h_v88 (A : Args V D) : Holds (r_v88 V) (fun i j => if i.val = 2 then D.dnf j else if i.val = 1 then D.dsc j else if i.val = 0 then D.dsh j else 0) := by
  intro i j
  rw [v88, v87, cst_13]
  pointwise [fn_main_v88]
  by_cases h0 : i.val = 0
  · have h1 : ¬ i.val = 1 := by omega
    have h2 : ¬ i.val = 2 := by omega
    rw [dif_pos (by omega)]
    exact (h_v49 A _ _).trans (congrArg Real.toEReal ((if_neg h2).trans ((if_neg h1).trans (if_pos h0))).symm)
  by_cases h1 : i.val = 1
  · have h2 : ¬ i.val = 2 := by omega
    rw [dif_neg (by omega), dif_pos (by omega)]
    exact (h_v52 A _ _).trans (congrArg Real.toEReal ((if_neg h2).trans (if_pos h1)).symm)
  by_cases h2 : i.val = 2
  · rw [dif_neg (by omega), dif_neg (by omega), dif_pos (by omega)]
    exact (h_v57 A _ _).trans (congrArg Real.toEReal (if_pos h2).symm)
  · rw [dif_neg (by omega), dif_neg (by omega), dif_neg (by omega)]
    exact EReal.coe_zero.symm.trans (congrArg Real.toEReal ((if_neg h2).trans ((if_neg h1).trans (if_neg h0))).symm)

theorem h_v90 (A : Args V D) : Holds (r_v90 V) fun i j => if i.val = 0 then D.dg1 j else 0 := by
  intro i j
  rw [v90, v89, cst_14]
  pointwise [fn_main_v90]
  by_cases h : i.val = 0
  · rw [dif_pos (by omega), if_pos h]
    exact h_v79 A _ _
  · rw [dif_neg (by omega), if_neg h]
    rfl

end Ref

end Cert.Ffb

end
-- ==== Proof.Ffb.RefNext.lean ====
/- The reference's values after the layer's output, and the forward results, as real numbers. -/
module

public import proofs.«01_k».proof.Proof.Ffn.Next
public import proofs.«01_k».proof.Proof.Ffb.RefFwd

@[expose] public section

set_option maxRecDepth 16384

noncomputable section

namespace Cert.Ffb.Ref

open Cert.Ffn
open Idealize.ShloMosaic Idealize.ShloMosaic.StableHlo Idealize.ShloMosaic.TcCoe Idealize.ShloMosaic.Pointwise
open Cert.Reference7Ideal Cert.Reference7Ideal.Gen Cert.Reference7Ideal.Value

/-- What the reference is given of the next layer, as real numbers. -/
structure NextArgs (V : Val) (T : Next 1536) : Prop where
  nm : Holds (r_arg11 V) fun _ => T.nm
  s1 : Holds (r_arg12 V) fun _ => T.s1
  b1 : Holds (r_arg13 V) fun _ => T.b1
  wn : Holds (r_arg14 V) T.wn

variable {V : Val} {D : Data 16384 512} {T : Next 1536}

theorem h_v91 (A : Args V D) : Holds (r_v91 V) D.gate := by
  intro i j
  rw [v91, v26]
  pointwise []
  simp only [h_v25 A _ _, A.wi _ _, ← EReal.coe_mul, coe_sum]
  rfl

theorem h_v92 (A : Args V D) : Holds (r_v92 V) D.up := by
  intro i j
  rw [v92, v26]
  pointwise []
  simp only [h_v25 A _ _, A.wi _ _, ← EReal.coe_mul, coe_sum]
  rfl

theorem h_sg2 (A : Args V D) : Holds (r_call2_v5 V) D.sg := by
  intro i j
  rw [call2_v5, call2_v4, call2_v3, call2_v2, call2_v1, call2_v0, call2_cst, call2_cst_0]
  pointwise []
  simp only [h_v91 A _ _]
  exact D.logistic_gate i j

theorem h_v93 (A : Args V D) : Holds (r_v93 V) D.silu := by
  intro i j
  rw [v93]
  pointwise []
  simp only [h_v91 A _ _, h_sg2 A _ _, ← EReal.coe_mul]
  rfl

theorem h_v94 (A : Args V D) : Holds (r_v94 V) D.act := by
  intro i j
  rw [v94]
  pointwise []
  simp only [h_v93 A _ _, h_v92 A _ _, ← EReal.coe_mul]
  rfl

theorem h_v97 (A : Args V D) : Holds (r_v97 V) D.x2 := by
  intro i j
  rw [v97, v96, v95]
  pointwise []
  simp only [h_v4 A _ _, A.g2 _ _, h_v31 A _ _, ← EReal.coe_mul, ← EReal.coe_add]
  rfl

theorem h_v104 (A : Args V D) : Holds (r_v104 V) fun i _ => D.den2 i := by
  intro i j
  rw [v104, v102, v103, v100, v101, v99, v98, cst_15, cst_16, cst_17]
  pointwise []
  simp only [h_v97 A _ _, ← EReal.coe_mul, ← EReal.coe_add, coe_sum, zero_add, ofBits_1024, ofBits_eps.1, div_1024]
  rfl

theorem h_v105 (A : Args V D) : Holds (r_v105 V) fun i _ => D.rs2 i := by
  intro i j
  rw [v105]
  pointwise []
  simp only [h_v104 A _ _]
  exact rsqrt_pos (D.den2_pos i)

theorem h_v107 (A : Args V D) : Holds (r_v107 V) D.xh2 := by
  intro i j
  rw [v107, v106]
  pointwise []
  simp only [h_v97 A _ _, h_v105 A _ _, ← EReal.coe_mul]
  rfl

theorem h_v109 (A : Args V D) (L : NextArgs V T) : Holds (r_v109 V) fun i j => D.xh2 i j * T.nm j := by
  intro i j
  rw [v109, v108]
  pointwise []
  simp only [h_v107 A _ _, L.nm _ _, ← EReal.coe_mul]

theorem h_v111 (L : NextArgs V T) : Holds (r_v111 V) fun _ j => 1 + T.s1 j := by
  intro i j
  rw [v111, v110, cst_18]
  pointwise []
  simp only [L.s1 _ _, one_add_real]

theorem h_v115 (A : Args V D) (L : NextArgs V T) : Holds (r_v115 V) (D.h1 T) := by
  intro i j
  rw [v115, v113, v112, v114]
  pointwise []
  simp only [h_v109 A L _ _, h_v111 L _ _, L.b1 _ _, ← EReal.coe_mul, ← EReal.coe_add]
  rfl

theorem h_v116 (A : Args V D) (L : NextArgs V T) : Holds (r_v116 V) (D.qkv T) := by
  intro i j
  rw [v116]
  pointwise []
  simp only [h_v115 A L _ _, L.wn _ _, ← EReal.coe_mul, coe_sum]
  rfl

theorem h_v117 (A : Args V D) : Holds (r_v117 V) D.h := by
  intro i j
  rw [v117]
  pointwise []
  exact h_v25 A i j

theorem h_v118 (A : Args V D) : Holds (r_v118 V) D.act := by
  intro i j
  rw [v118]
  pointwise []
  exact h_v94 A i j

theorem h_v119 (A : Args V D) (L : NextArgs V T) : Holds (r_v119 V) (D.h1 T) := by
  intro i j
  rw [v119]
  pointwise []
  exact h_v115 A L i j

theorem h_v120 (A : Args V D) (L : NextArgs V T) : Holds (r_v120 V) (D.qkv T) := by
  intro i j
  rw [v120]
  pointwise []
  exact h_v116 A L i j

end Cert.Ffb.Ref

end
-- ==== Proof.Ffb.Finite.lean ====
/- What the precondition says: every entry of every argument is a real number. -/
module

public import proofs.«01_k».proof.Pre_finite7
public import proofs.«01_k».proof.Proof.Ffn.Real
public import Idealize.ShloMosaic.Lib.ReduceAll

@[expose] public section

set_option maxRecDepth 16384

noncomputable section

namespace Cert.Pre_finite7

open Idealize.ShloMosaic Idealize.ShloMosaic.Pointwise

/-- The shape relations the precondition's operations take. -/
theorem facts : Facts where
  bitsLt_bf16_f32 := by decide
  bcast_S_S16384x512 := by decide
  reducesTo_S16384x512_S_d0_1 := by decide
  h_S_ := by decide
  bcast_S_S16384x1024 := by decide
  reducesTo_S16384x1024_S_d0_1 := by decide
  bcast_S_S512x1024 := by decide
  reducesTo_S512x1024_S_d0_1 := by decide
  bcast_S_S1x1024 := by decide
  reducesTo_S1x1024_S_d0_1 := by decide
  bcast_S_S1024x5632 := by decide
  reducesTo_S1024x5632_S_d0_1 := by decide
  bcast_S_S2816x1024 := by decide
  reducesTo_S2816x1024_S_d0_1 := by decide
  bcast_S_S1024x1536 := by decide
  reducesTo_S1024x1536_S_d0_1 := by decide

theorem ofBits_inf : (Ideal.ofBits .f32 0x7F800000#32 : EReal) = ⊤ := by
  simp [Ideal.ofBits, Ideal.ieee]

/-- An extended real whose absolute value is below infinity is a real number. -/
theorem real_of_abs_lt {a : EReal} (h : max a (-a) < ⊤) : a = ((a.toReal : ℝ) : EReal) := by
  refine (EReal.coe_toReal ?_ ?_).symm
  · rintro rfl
    simp at h
  · rintro rfl
    simp at h

/-- The test of one array. -/
theorem all_real {n d : ℕ} (A : FVec Ideal ⟨2, ![n, d]⟩ .f32) (hb : S_.BroadcastsInDim ⟨2, ![n, d]⟩ ![])
    (hr : (⟨2, ![n, d]⟩ : Shape).ReducesTo [0, 1] S_) (h0 : 0 < S_.numel) (j : S_.Idx)
    (h : Host.reduce IntOp.andi (cmpf .olt (Host.absf A) (broadcastInDim ⟨2, ![n, d]⟩ ![] hb (constant S_ .f32 0x7F800000#32)))
      (constantI S_ 1 1#1) hr h0 j = 1#1) (i : (⟨2, ![n, d]⟩ : Shape).Idx) : A i = (((A i).toReal : ℝ) : EReal) := by
  haveI : Subsingleton S_.Idx := ⟨fun a b => funext fun k => k.elim0⟩
  have e := Host.reduce_andi_all _ _ hr h0 j h i
  refine real_of_abs_lt ?_
  have e' : BitVec.ofBool (decide (max (A i) (-(A i)) < (Ideal.ofBits .f32 0x7F800000#32 : EReal))) = 1#1 := e
  rw [ofBits_inf] at e'
  by_contra hn
  rw [decide_eq_false hn] at e'
  exact absurd e' (by decide)

variable [Facts]
open Facts

theorem split {x y : IVec S_ 1} {j : S_.Idx} (h : andi x y j = 1#1) : x j = 1#1 ∧ y j = 1#1 := IntOp.andi_eq_one.1 h

/-- Every entry is real. -/
abbrev AllReal {s : Shape} {φ : FTy} (A : FVec Ideal s φ) : Prop := ∀ i : s.Idx, A i = ((EReal.toReal (A i) : ℝ) : EReal)

theorem reals {a0 : FVec Ideal S16384x1024 .f32} {a1 : FVec Ideal S16384x512 .bf16} {a2 : FVec Ideal S512x1024 .f32}
    {a3 : FVec Ideal S16384x1024 .f32} {a4 a5 a6 a7 : FVec Ideal S1x1024 .f32} {a8 : FVec Ideal S1024x5632 .f32}
    {a9 : FVec Ideal S2816x1024 .f32} {a10 a11 a12 a13 : FVec Ideal S1x1024 .f32}
    {a14 : FVec Ideal S1024x1536 .f32} {j : S_.Idx}
    (h : fn (F := Ideal) a0 a1 a2 a3 a4 a5 a6 a7 a8 a9 a10 a11 a12 a13 a14 j = 1#1) :
    AllReal a0 ∧ AllReal a1 ∧ AllReal a2 ∧ AllReal a3 ∧ AllReal a4 ∧ AllReal a5 ∧ AllReal a6 ∧ AllReal a7 ∧ AllReal a8
      ∧ AllReal a9 ∧ AllReal a10 ∧ AllReal a11 ∧ AllReal a12 ∧ AllReal a13 ∧ AllReal a14 := by
  exact ⟨all_real a0 _ _ _ j (split (split (split (split (split (split (split (split (split (split (split (split (split (split h).1).1).1).1).1).1).1).1).1).1).1).1).1).2,
    all_real (extf .f32 a1 bitsLt_bf16_f32) _ _ _ j (split (split (split (split (split (split (split (split (split (split (split (split (split (split h).1).1).1).1).1).1).1).1).1).1).1).1).1).1,
    all_real a2 _ _ _ j (split (split (split (split (split (split (split (split (split (split (split (split (split h).1).1).1).1).1).1).1).1).1).1).1).1).2,
    all_real a3 _ _ _ j (split (split (split (split (split (split (split (split (split (split (split (split h).1).1).1).1).1).1).1).1).1).1).1).2,
    all_real a4 _ _ _ j (split (split (split (split (split (split (split (split (split (split (split h).1).1).1).1).1).1).1).1).1).1).2,
    all_real a5 _ _ _ j (split (split (split (split (split (split (split (split (split (split h).1).1).1).1).1).1).1).1).1).2,
    all_real a6 _ _ _ j (split (split (split (split (split (split (split (split (split h).1).1).1).1).1).1).1).1).2,
    all_real a7 _ _ _ j (split (split (split (split (split (split (split (split h).1).1).1).1).1).1).1).2,
    all_real a8 _ _ _ j (split (split (split (split (split (split (split h).1).1).1).1).1).1).2,
    all_real a9 _ _ _ j (split (split (split (split (split (split h).1).1).1).1).1).2,
    all_real a10 _ _ _ j (split (split (split (split (split h).1).1).1).1).2,
    all_real a11 _ _ _ j (split (split (split (split h).1).1).1).2,
    all_real a12 _ _ _ j (split (split (split h).1).1).2,
    all_real a13 _ _ _ j (split (split h).1).2,
    all_real a14 _ _ _ j (split h).2⟩

end Cert.Pre_finite7

end
-- ==== Proof.Ffb.Equal.lean ====
/- The three calls and the reference end with equal results. -/
module

public import proofs.«01_k».proof.Defs
public import proofs.«01_k».proof.Proof.Ffb.Run2
public import proofs.«01_k».proof.Proof.Ffb.RefBwd
public import proofs.«01_k».proof.Proof.Ffb.RefNext
public import proofs.«01_k».proof.Proof.Ffb.Finite

@[expose] public section

set_option maxRecDepth 16384

noncomputable section

namespace Cert.Ffb

open Cert.Ffn
open Idealize.ShloMosaic Idealize.ShloMosaic.TcCoe Idealize.ShloMosaic.Pointwise Idealize.ShloMosaic.StableHlo
open Idealize.SL.Sem

section given

variable (m : (ℓ : Loc Cert.Kernel7Ideal.nD Cert.Kernel7Ideal.τ Cert.Kernel7Ideal.sig) → Buf (Elt Ideal) ℓ) (c : Dev Cert.Kernel7Ideal.nD)

open Cert.Kernel7Ideal in
/-- The real numbers the calls are given. -/
def given : Data 16384 512 where
  dx := re 16384 1024 (m ((c : Thread nD τ).loc main_arg0))
  o := re 16384 512 (m ((c : Thread nD τ).loc main_arg1))
  wm := re 512 1024 (m ((c : Thread nD τ).loc main_arg2))
  x := re 16384 1024 (m ((c : Thread nD τ).loc main_arg3))
  g1 := re 1 1024 (m ((c : Thread nD τ).loc main_arg4)) 0
  nf := re 1 1024 (m ((c : Thread nD τ).loc main_arg5)) 0
  sc := re 1 1024 (m ((c : Thread nD τ).loc main_arg6)) 0
  sh := re 1 1024 (m ((c : Thread nD τ).loc main_arg7)) 0
  wi := re 1024 5632 (m ((c : Thread nD τ).loc main_arg8))
  wo := re 2816 1024 (m ((c : Thread nD τ).loc main_arg9))
  g2 := re 1 1024 (m ((c : Thread nD τ).loc main_arg10)) 0

open Cert.Kernel7Ideal in
/-- Those of the next layer. -/
def givenNext : Next 1536 where
  nm := re 1 1024 (m ((c : Thread nD τ).loc main_arg11)) 0
  s1 := re 1 1024 (m ((c : Thread nD τ).loc main_arg12)) 0
  b1 := re 1 1024 (m ((c : Thread nD τ).loc main_arg13)) 0
  wn := re 1024 1536 (m ((c : Thread nD τ).loc main_arg14))

variable [Cert.Pre_finite7.Facts]

theorem given_holds (h : Cert.Pre_Kernel7Ideal_finite7 m) : Given m c (given m c) := by
  obtain ⟨h0, h1, h2, h3, h4, h5, h6, h7, h8, h9, h10, -, -, -, -⟩ := Cert.Pre_finite7.reals (congrFun (h c) (fun k => k.elim0))
  exact {
    dx := fun i j => h0 _
    o := fun i j => h1 _
    wm := fun i j => h2 _
    x := fun i j => h3 _
    g1 := row_real h4
    nf := row_real h5
    sc := row_real h6
    sh := row_real h7
    wi := fun i j => h8 _
    wo := fun i j => h9 _
    g2 := row_real h10 }

theorem givenNext_holds (h : Cert.Pre_Kernel7Ideal_finite7 m) : GivenNext m c (givenNext m c) := by
  obtain ⟨-, -, -, -, -, -, -, -, -, -, -, h11, h12, h13, h14⟩ := Cert.Pre_finite7.reals (congrFun (h c) (fun k => k.elim0))
  exact {
    nm := row_real h11
    s1 := row_real h12
    b1 := row_real h13
    wn := fun i j => h14 _ }

end given

section reference

open Cert.Reference7Ideal Cert.Reference7Ideal.Gen Cert.Reference7Ideal.Value

/-- The reference's line of operations writes none of its arguments. -/
theorem arg_kept (V : Ref.Val) {r : Ref sig .tc} (h : r ∉ Ref.W) : after (ops (F := Ideal)) V (Proc.devRef .tc r) = V (Proc.devRef .tc r) :=
  after_unwritten Ref.W Ref.W_eq h V

theorem g2_eq {m : (ℓ : Loc Cert.Kernel7Ideal.nD Cert.Kernel7Ideal.τ Cert.Kernel7Ideal.sig) → Buf (Elt Ideal) ℓ} {g : Dev Cert.Kernel7Ideal.nD → PrngReg}
    {c : Dev Cert.Kernel7Ideal.nD} {D : Data 16384 512} {V : Ref.Val} (G : Given m c D) (A : Ref.Args V D) :
    (Ref.R V main_v86 : (⟨2, ![8, 1024]⟩ : Shape).Idx → EReal) = Cert.Kernel7Ideal.Gen.W4 m g c (Proc.devRef .tc Cert.Kernel7Ideal.main_v9_5) := by
  funext k
  rw [eq_ix2 k]
  have e1 := Ref.h_v86 A (k 0) (k 1)
  have e2 := out_g2 (ρ := g) G (k 0) (k 1)
  exact e1.trans e2.symm

theorem f_eq {m : (ℓ : Loc Cert.Kernel7Ideal.nD Cert.Kernel7Ideal.τ Cert.Kernel7Ideal.sig) → Buf (Elt Ideal) ℓ} {g : Dev Cert.Kernel7Ideal.nD → PrngReg}
    {c : Dev Cert.Kernel7Ideal.nD} {D : Data 16384 512} {V : Ref.Val} (G : Given m c D) (A : Ref.Args V D) :
    (Ref.R V main_v88 : (⟨2, ![8, 1024]⟩ : Shape).Idx → EReal) = Cert.Kernel7Ideal.Gen.W4 m g c (Proc.devRef .tc Cert.Kernel7Ideal.main_v9_6) := by
  funext k
  rw [eq_ix2 k]
  have e1 := Ref.h_v88 A (k 0) (k 1)
  have e2 := out_f (ρ := g) G (k 0) (k 1)
  exact e1.trans e2.symm

theorem g1_eq {m : (ℓ : Loc Cert.Kernel7Ideal.nD Cert.Kernel7Ideal.τ Cert.Kernel7Ideal.sig) → Buf (Elt Ideal) ℓ} {g : Dev Cert.Kernel7Ideal.nD → PrngReg}
    {c : Dev Cert.Kernel7Ideal.nD} {D : Data 16384 512} {V : Ref.Val} (G : Given m c D) (A : Ref.Args V D) :
    (Ref.R V main_v90 : (⟨2, ![8, 1024]⟩ : Shape).Idx → EReal) = Cert.Kernel7Ideal.Gen.W4 m g c (Proc.devRef .tc Cert.Kernel7Ideal.main_v9_7) := by
  funext k
  rw [eq_ix2 k]
  have e1 := Ref.h_v90 A (k 0) (k 1)
  have e2 := out_g1 (ρ := g) G (k 0) (k 1)
  exact e1.trans e2.symm

variable [Cert.Pre_finite7.Facts]

set_option maxHeartbeats 4000000 in
theorem algebraic : Cert.algebraic_Kernel7Ideal_Reference7Ideal_pre_finite7 := by
  intro m g m' g' hp agree
  have G := fun c => given_holds m c hp
  have N := fun c => givenNext_holds m c hp
  have A : ∀ c : Dev nD, Ref.Args (launchContents m' c) (given m c) := fun c => {
    dx := fun i j => (congrFun ((arg_kept _ (r := main_arg0) (by decide)).trans (agree c).1) _).trans ((G c).dx i j)
    o := fun i j => (congrFun ((arg_kept _ (r := main_arg1) (by decide)).trans (agree c).2.1) _).trans ((G c).o i j)
    wm := fun i j => (congrFun ((arg_kept _ (r := main_arg2) (by decide)).trans (agree c).2.2.1) _).trans ((G c).wm i j)
    x := fun i j => (congrFun ((arg_kept _ (r := main_arg3) (by decide)).trans (agree c).2.2.2.1) _).trans ((G c).x i j)
    g1 := fun i j => (congrFun ((arg_kept _ (r := main_arg4) (by decide)).trans (agree c).2.2.2.2.1) _).trans ((G c).g1 i j)
    nf := fun i j => (congrFun ((arg_kept _ (r := main_arg5) (by decide)).trans (agree c).2.2.2.2.2.1) _).trans ((G c).nf i j)
    sc := fun i j => (congrFun ((arg_kept _ (r := main_arg6) (by decide)).trans (agree c).2.2.2.2.2.2.1) _).trans ((G c).sc i j)
    sh := fun i j => (congrFun ((arg_kept _ (r := main_arg7) (by decide)).trans (agree c).2.2.2.2.2.2.2.1) _).trans ((G c).sh i j)
    wi := fun i j => (congrFun ((arg_kept _ (r := main_arg8) (by decide)).trans (agree c).2.2.2.2.2.2.2.2.1) _).trans ((G c).wi i j)
    wo := fun i j => (congrFun ((arg_kept _ (r := main_arg9) (by decide)).trans (agree c).2.2.2.2.2.2.2.2.2.1) _).trans ((G c).wo i j)
    g2 := fun i j => (congrFun ((arg_kept _ (r := main_arg10) (by decide)).trans (agree c).2.2.2.2.2.2.2.2.2.2.1) _).trans ((G c).g2 i j) }
  have B : ∀ c : Dev nD, Ref.NextArgs (launchContents m' c) (givenNext m c) := fun c => {
    nm := fun i j => (congrFun ((arg_kept _ (r := main_arg11) (by decide)).trans (agree c).2.2.2.2.2.2.2.2.2.2.2.1) _).trans ((N c).nm i j)
    s1 := fun i j => (congrFun ((arg_kept _ (r := main_arg12) (by decide)).trans (agree c).2.2.2.2.2.2.2.2.2.2.2.2.1) _).trans ((N c).s1 i j)
    b1 := fun i j => (congrFun ((arg_kept _ (r := main_arg13) (by decide)).trans (agree c).2.2.2.2.2.2.2.2.2.2.2.2.2.1) _).trans ((N c).b1 i j)
    wn := fun i j => (congrFun ((arg_kept _ (r := main_arg14) (by decide)).trans (agree c).2.2.2.2.2.2.2.2.2.2.2.2.2.2) _).trans ((N c).wn i j) }
  refine ⟨fun c => Cert.Kernel7Ideal.Gen.W4 m g c (Proc.devRef .tc Cert.Kernel7Ideal.main_v9_0),
    fun c => Cert.Kernel7Ideal.Gen.W4 m g c (Proc.devRef .tc Cert.Kernel7Ideal.main_v9_1),
    fun c => Cert.Kernel7Ideal.Gen.W4 m g c (Proc.devRef .tc Cert.Kernel7Ideal.main_v9_2),
    fun c => Cert.Kernel7Ideal.Gen.W4 m g c (Proc.devRef .tc Cert.Kernel7Ideal.main_v9_3),
    fun c => Cert.Kernel7Ideal.Gen.W4 m g c (Proc.devRef .tc Cert.Kernel7Ideal.main_v9_4),
    fun c => Cert.Kernel7Ideal.Gen.W4 m g c (Proc.devRef .tc Cert.Kernel7Ideal.main_v9_5),
    fun c => Cert.Kernel7Ideal.Gen.W4 m g c (Proc.devRef .tc Cert.Kernel7Ideal.main_v9_6),
    fun c => Cert.Kernel7Ideal.Gen.W4 m g c (Proc.devRef .tc Cert.Kernel7Ideal.main_v9_7),
    fun c => Cert.Kernel7Ideal.Gen.W4 m g c (Proc.devRef .tc Cert.Kernel7Ideal.main_v7_2),
    fun c => Cert.Kernel7Ideal.Gen.W4 m g c (Proc.devRef .tc Cert.Kernel7Ideal.main_v7_4),
    fun c => Cert.Kernel7Ideal.Gen.W4 m g c (Proc.devRef .tc Cert.Kernel7Ideal.main_v8_0),
    fun c => Cert.Kernel7Ideal.Gen.W4 m g c (Proc.devRef .tc Cert.Kernel7Ideal.main_v8_2),
    fun c => Cert.Kernel7Ideal.Gen.W4 m g c (Proc.devRef .tc Cert.Kernel7Ideal.main_v8_3), ?_, ?_⟩
  · refine (θ_run Cert.Kernel7Ideal.defs _ _).mono (fun r h c => ?_) (run_fold m g)
    exact ⟨h c _ (Cert.Kernel7Ideal.Gen.mem_uc Cert.Kernel7Ideal.main_v9_0 (by decide)),
      h c _ (Cert.Kernel7Ideal.Gen.mem_uc Cert.Kernel7Ideal.main_v9_1 (by decide)),
      h c _ (Cert.Kernel7Ideal.Gen.mem_uc Cert.Kernel7Ideal.main_v9_2 (by decide)),
      h c _ (Cert.Kernel7Ideal.Gen.mem_uc Cert.Kernel7Ideal.main_v9_3 (by decide)),
      h c _ (Cert.Kernel7Ideal.Gen.mem_uc Cert.Kernel7Ideal.main_v9_4 (by decide)),
      h c _ (Cert.Kernel7Ideal.Gen.mem_uc Cert.Kernel7Ideal.main_v9_5 (by decide)),
      h c _ (Cert.Kernel7Ideal.Gen.mem_uc Cert.Kernel7Ideal.main_v9_6 (by decide)),
      h c _ (Cert.Kernel7Ideal.Gen.mem_uc Cert.Kernel7Ideal.main_v9_7 (by decide)),
      h c _ (Cert.Kernel7Ideal.Gen.mem_uc Cert.Kernel7Ideal.main_v7_2 (by decide)),
      h c _ (Cert.Kernel7Ideal.Gen.mem_uc Cert.Kernel7Ideal.main_v7_4 (by decide)),
      h c _ (Cert.Kernel7Ideal.Gen.mem_uc Cert.Kernel7Ideal.main_v8_0 (by decide)),
      h c _ (Cert.Kernel7Ideal.Gen.mem_uc Cert.Kernel7Ideal.main_v8_2 (by decide)),
      h c _ (Cert.Kernel7Ideal.Gen.mem_uc Cert.Kernel7Ideal.main_v8_3 (by decide)),
      (h c _ (Cert.Kernel7Ideal.Gen.mem_uc Cert.Kernel7Ideal.main_arg0 (by decide))).trans (Cert.Kernel7Ideal.Gen.W4_main_arg0 m g c),
      (h c _ (Cert.Kernel7Ideal.Gen.mem_uc Cert.Kernel7Ideal.main_arg1 (by decide))).trans (Cert.Kernel7Ideal.Gen.W4_main_arg1 m g c),
      (h c _ (Cert.Kernel7Ideal.Gen.mem_uc Cert.Kernel7Ideal.main_arg2 (by decide))).trans (Cert.Kernel7Ideal.Gen.W4_main_arg2 m g c),
      (h c _ (Cert.Kernel7Ideal.Gen.mem_uc Cert.Kernel7Ideal.main_arg3 (by decide))).trans (Cert.Kernel7Ideal.Gen.W4_main_arg3 m g c),
      (h c _ (Cert.Kernel7Ideal.Gen.mem_uc Cert.Kernel7Ideal.main_arg4 (by decide))).trans (Cert.Kernel7Ideal.Gen.W4_main_arg4 m g c),
      (h c _ (Cert.Kernel7Ideal.Gen.mem_uc Cert.Kernel7Ideal.main_arg5 (by decide))).trans (Cert.Kernel7Ideal.Gen.W4_main_arg5 m g c),
      (h c _ (Cert.Kernel7Ideal.Gen.mem_uc Cert.Kernel7Ideal.main_arg6 (by decide))).trans (Cert.Kernel7Ideal.Gen.W4_main_arg6 m g c),
      (h c _ (Cert.Kernel7Ideal.Gen.mem_uc Cert.Kernel7Ideal.main_arg7 (by decide))).trans (Cert.Kernel7Ideal.Gen.W4_main_arg7 m g c),
      (h c _ (Cert.Kernel7Ideal.Gen.mem_uc Cert.Kernel7Ideal.main_arg8 (by decide))).trans (Cert.Kernel7Ideal.Gen.W4_main_arg8 m g c),
      (h c _ (Cert.Kernel7Ideal.Gen.mem_uc Cert.Kernel7Ideal.main_arg9 (by decide))).trans (Cert.Kernel7Ideal.Gen.W4_main_arg9 m g c),
      (h c _ (Cert.Kernel7Ideal.Gen.mem_uc Cert.Kernel7Ideal.main_arg10 (by decide))).trans (Cert.Kernel7Ideal.Gen.W4_main_arg10 m g c),
      (h c _ (Cert.Kernel7Ideal.Gen.mem_uc Cert.Kernel7Ideal.main_arg11 (by decide))).trans (Cert.Kernel7Ideal.Gen.W4_main_arg11 m g c),
      (h c _ (Cert.Kernel7Ideal.Gen.mem_uc Cert.Kernel7Ideal.main_arg12 (by decide))).trans (Cert.Kernel7Ideal.Gen.W4_main_arg12 m g c),
      (h c _ (Cert.Kernel7Ideal.Gen.mem_uc Cert.Kernel7Ideal.main_arg13 (by decide))).trans (Cert.Kernel7Ideal.Gen.W4_main_arg13 m g c),
      (h c _ (Cert.Kernel7Ideal.Gen.mem_uc Cert.Kernel7Ideal.main_arg14 (by decide))).trans (Cert.Kernel7Ideal.Gen.W4_main_arg14 m g c)⟩
  · refine (θ_run defs _ _).mono (fun r h c => ?_)
      (run_seq scopedRefs_eq scopedSems_eq defs main (fun _ => ops) main_eq (fun _ => ops_sub) m' g')
    exact ⟨(h c main_v81).trans ((out_dgu (G c)).eq (Ref.h_v81 (A c))),
      (h c main_v82).trans ((out_dy2 (G c)).eq (Ref.h_v82 (A c))),
      (h c main_v74).trans ((out_dx1 (G c)).eq (Ref.h_v74 (A c))),
      (h c main_v83).trans ((out_dO (G c)).eq (Ref.h_v83 (A c))),
      (h c main_v84).trans ((out_dy1 (G c)).eq (Ref.h_v84 (A c))),
      (h c main_v86).trans (g2_eq (V := launchContents m' c) (G c) (A c)),
      (h c main_v88).trans (f_eq (V := launchContents m' c) (G c) (A c)),
      (h c main_v90).trans (g1_eq (V := launchContents m' c) (G c) (A c)),
      (h c main_v117).trans ((out_h (G c)).eq (Ref.h_v117 (A c))),
      (h c main_v118).trans ((out_act (G c)).eq (Ref.h_v118 (A c))),
      (h c main_v97).trans ((out_x2 (G c)).eq (Ref.h_v97 (A c))),
      (h c main_v119).trans ((out_h1 (G c) (N c)).eq (Ref.h_v119 (A c) (B c))),
      (h c main_v120).trans ((out_qkv (G c) (N c)).eq (Ref.h_v120 (A c) (B c))),
      (h c main_arg0).trans (arg_kept (launchContents m' c) (r := main_arg0) (by decide)),
      (h c main_arg1).trans (arg_kept (launchContents m' c) (r := main_arg1) (by decide)),
      (h c main_arg2).trans (arg_kept (launchContents m' c) (r := main_arg2) (by decide)),
      (h c main_arg3).trans (arg_kept (launchContents m' c) (r := main_arg3) (by decide)),
      (h c main_arg4).trans (arg_kept (launchContents m' c) (r := main_arg4) (by decide)),
      (h c main_arg5).trans (arg_kept (launchContents m' c) (r := main_arg5) (by decide)),
      (h c main_arg6).trans (arg_kept (launchContents m' c) (r := main_arg6) (by decide)),
      (h c main_arg7).trans (arg_kept (launchContents m' c) (r := main_arg7) (by decide)),
      (h c main_arg8).trans (arg_kept (launchContents m' c) (r := main_arg8) (by decide)),
      (h c main_arg9).trans (arg_kept (launchContents m' c) (r := main_arg9) (by decide)),
      (h c main_arg10).trans (arg_kept (launchContents m' c) (r := main_arg10) (by decide)),
      (h c main_arg11).trans (arg_kept (launchContents m' c) (r := main_arg11) (by decide)),
      (h c main_arg12).trans (arg_kept (launchContents m' c) (r := main_arg12) (by decide)),
      (h c main_arg13).trans (arg_kept (launchContents m' c) (r := main_arg13) (by decide)),
      (h c main_arg14).trans (arg_kept (launchContents m' c) (r := main_arg14) (by decide))⟩

end reference

end Cert.Ffb

end
-- ==== Proof.Wgt.Rows.lean ====
/- Sums over the rows of a matrix, taken block of rows by block of rows. -/
module

public import Idealize.ShloMosaic.Lib.Pointwise
public import Idealize.ShloMosaic.Lib.IdealHost
public import Idealize.ShloMosaic.Lib.Pipeline.ValueKit

@[expose] public section

noncomputable section

namespace Cert.Wgt

open Idealize.ShloMosaic Idealize.ShloMosaic.Pointwise

/-- An index of a matrix is a pair. -/
theorem pair {n d : ℕ} (y : (⟨2, ![n, d]⟩ : Shape).Idx) : ∃ i j, y = ix2 i j :=
  ⟨y 0, y 1, by funext a; fin_cases a <;> rfl⟩

/-- Thirty-two blocks of 512 rows are the 16384 rows. -/
theorem sum_rows (g : Fin 16384 → EReal) :
    ∑ s : Fin 32, ∑ k : Fin 512, g ⟨s.val * 512 + k.val, by omega⟩ = ∑ r, g r :=
  Fin.sum_mul_add_fin 32 512 g

end Cert.Wgt

end
-- ==== Proof.Wgt.MixB.lean ====
/- The weight gradient of the dilated attention's output product (kept transposed): the sums the kernel builds block of rows by block of rows are
   the reference's sum over all the rows. -/
module

public import proofs.«01_k».proof.Proof.Gen.Kernel6Ideal.Value
public import proofs.«01_k».proof.Proof.Gen.Reference6Ideal.Run
public import proofs.«01_k».proof.Proof.Wgt.Rows
public import proofs.«01_k».proof.Defs
public import Idealize.ShloMosaic.Lib.Pipeline.ReadBack

@[expose] public section

set_option maxRecDepth 16384

noncomputable section

namespace Cert.Wgt.MixB

open Idealize.ShloMosaic Idealize.ShloMosaic.TcCoe Idealize.ShloMosaic.Pointwise Cert.Kernel6Ideal Cert.Kernel6Ideal.Gen
open Idealize.SL.Sem

variable (m : (ℓ : Loc nD τ sig) → Buf (Elt Ideal) ℓ) (c : Dev nD)

/-- The gradient of the product's result, as launched. -/
abbrev X : FVec Ideal S16384x1024 .bf16 := m ((c : Thread nD τ).loc main_arg0)

/-- The product's left operand, as launched. -/
abbrev Y : FVec Ideal S16384x512 .bf16 := m ((c : Thread nD τ).loc main_arg1)

theorem zeros (i : Fin 1024) (j : Fin 512) : k0_pay1 (F := Ideal) (ix2 i j) = 0 := by
  pointwise [k0_pay1]

theorem step (a : Vec Ideal S1024x512 .f32) (x : Vec Ideal S512x1024 .bf16) (y : Vec Ideal S512x512 .bf16)
    (i : Fin 1024) (j : Fin 512) :
    k0_pay2 a x y (ix2 i j) = a (ix2 i j) + ∑ k : Fin 512, x (ix2 k i) * y (ix2 k j) := by
  pointwise [k0_pay2]

theorem cast (a : Vec Ideal S1024x512 .f32) (i : Fin 1024) (j : Fin 512) : k0_pay3 a (ix2 i j) = a (ix2 i j) := by
  pointwise [k0_pay3]

theorem idx : ∀ t : Fin cfg0.N, win0_0.index t = ![t.val % 32, 0] ∧ win0_1.index t = ![t.val % 32, t.val / 32] := by
  decide +kernel

/-- The rows of a grid point. -/
def row (t : Fin cfg0.N) (k : Fin 512) : Fin 16384 := ⟨t.val % 32 * 512 + k.val, by omega⟩

/-- The columns of a grid point. -/
def col (t : Fin cfg0.N) (j : Fin 512) : Fin 512 :=
  ⟨t.val / 32 * 512 + j.val, by have := t.isLt; have : cfg0.N = 32 := rfl; omega⟩

theorem blk_x (t : Fin cfg0.N) (k : Fin 512) (i : Fin 1024) :
    (iblk m c 0 t : Vec Ideal S512x1024 .bf16) (ix2 k i) = X m c (ix2 (row t k) i) := by
  blk_ext [iblk, V, row, idx t]

theorem blk_y (t : Fin cfg0.N) (k : Fin 512) (j : Fin 512) :
    (iblk m c 1 t : Vec Ideal S512x512 .bf16) (ix2 k j) = Y m c (ix2 (row t k) (col t j)) := by
  blk_ext [iblk, V, row, col, idx t]

/-- What a grid point adds to the running sum. -/
def part (t : Fin cfg0.N) (y : S1024x512.Idx) : EReal :=
  ∑ k : Fin 512, X m c (ix2 (row t k) (y 0)) * Y m c (ix2 (row t k) (col t (y 1)))

theorem step_blk (a : Vec Ideal S1024x512 .f32) (t : Fin cfg0.N) (i : Fin 1024) (j : Fin 512) :
    k0_pay2 a (iblk m c 0 t) (iblk m c 1 t) (ix2 i j) = a (ix2 i j) + part m c t (ix2 i j) := by
  rw [step]
  refine congrArg (a (ix2 i j) + ·) (Finset.sum_congr rfl fun k _ => ?_)
  rw [blk_x, blk_y]
  rfl

theorem first (t : Fin cfg0.N) (h : t.val % 32 = 0) (y : S1024x512.Idx) :
    (outsAt0 m c t.val t.isLt).2 y = 0 + part m c t y := by
  obtain ⟨i, j, rfl⟩ := pair (n := 1024) (d := 512) y
  rw [outsAt0_A m c t h (by omega)]
  frame_out
  rw [step_blk, zeros]

theorem later (t : Fin cfg0.N) (h : ¬t.val % 32 = 0) (y : S1024x512.Idx) :
    (outsAt0 m c t.val t.isLt).2 y = (outsAt0 m c (t.val - 1) (Nat.lt_of_le_of_lt (Nat.sub_le _ _) t.isLt)).2 y + part m c t y := by
  obtain ⟨i, j, rfl⟩ := pair (n := 1024) (d := 512) y
  by_cases h1 : t.val % 32 = 31
  · rw [outsAt0_C m c t h h1]
    frame_out
    rw [step_blk]
    exact congrArg (· + _) (congrFun ((Memref.isWhole_whole _).read_unread _) _)
  · rw [outsAt0_B m c t h h1]
    frame_out
    rw [step_blk]
    exact congrArg (· + _) (congrFun ((Memref.isWhole_whole _).read_unread _) _)

theorem last (t : Fin cfg0.N) (h : t.val % 32 = 31) (i : Fin 1024) (j : Fin 512) :
    (outsAt0 m c t.val t.isLt).1 (ix2 i j) = (outsAt0 m c t.val t.isLt).2 (ix2 i j) := by
  rw [outsAt0_C m c t (by omega) h]
  frame_out
  rw [cast]

/-- The running sum after a column block's last point: the sum over all the rows. -/
theorem whole (t : Fin cfg0.N) (h : t.val % 32 = 31) (i : Fin 1024) (j : Fin 512) :
    (outsAt0 m c t.val t.isLt).2 (ix2 i j) = ∑ r : Fin 16384, X m c (ix2 r i) * Y m c (ix2 r (col t j)) := by
  rw [Pipeline.eq_sum_fin_of_reset_step_apply_of_flush (fun n h => (outsAt0 m c n h).2) 32 (fun _ => 0) (part m c)
    (first m c) (later m c) t h (ix2 i j), zero_add,
    ← sum_rows fun r => X m c (ix2 r i) * Y m c (ix2 r (col t j))]
  refine Finset.sum_congr rfl fun s _ => ?_
  unfold part
  refine Finset.sum_congr rfl fun k _ => ?_
  have hr : row ⟨32 * (t.val / 32) + s.val, Pipeline.run_point_lt_of_flush t h s⟩ k = ⟨s.val * 512 + k.val, by omega⟩ := by
    apply Fin.ext
    show (32 * (t.val / 32) + s.val) % 32 * 512 + k.val = s.val * 512 + k.val
    omega
  have hc : col ⟨32 * (t.val / 32) + s.val, Pipeline.run_point_lt_of_flush t h s⟩ j = col t j := by
    apply Fin.ext
    show (32 * (t.val / 32) + s.val) / 32 * 512 + j.val = t.val / 32 * 512 + j.val
    omega
  show X m c (ix2 (row _ k) i) * Y m c (ix2 (row _ k) (col _ j)) = _
  rw [hr, hc]

/-- The array the kernel leaves. -/
theorem result (i : Fin 1024) (n : Fin 512) :
    Value.G2 m c (ix2 i n) = ∑ r : Fin 16384, X m c (ix2 r i) * Y m c (ix2 r n) := by
  have hp : Value.pt2Of (ix2 i n) < cfg0.N := by
    have : cfg0.N = 32 := rfl
    show 32 * (1 * (i.val / 1024 - 0) + 1 * (n.val / 512 - 0)) + 31 < cfg0.N
    omega
  have hl : Value.loc2Of (ix2 i n) = ix2 i (⟨n.val % 512, by omega⟩ : Fin 512) := by
    funext a
    apply Fin.ext
    fin_cases a
    · show i.val % 1024 = i.val
      omega
    · rfl
  unfold Value.G2
  rw [dif_pos hp, ← Value.outsAt0_sweep m c _ hp, hl]
  have h31 : (⟨Value.pt2Of (ix2 i n), hp⟩ : Fin cfg0.N).val % 32 = 31 := by
    show (32 * (1 * (i.val / 1024 - 0) + 1 * (n.val / 512 - 0)) + 31) % 32 = 31
    omega
  rw [last m c ⟨Value.pt2Of (ix2 i n), hp⟩ h31, whole m c ⟨Value.pt2Of (ix2 i n), hp⟩ h31]
  have hc : col ⟨Value.pt2Of (ix2 i n), hp⟩ ⟨n.val % 512, by omega⟩ = n := by
    apply Fin.ext
    show (32 * (1 * (i.val / 1024 - 0) + 1 * (n.val / 512 - 0)) + 31) / 32 * 512 + n.val % 512 = n.val
    omega
  rw [hc]

/-- The reference's array. -/
theorem wanted (x : FVec Ideal S16384x1024 .bf16) (y : FVec Ideal S16384x512 .bf16) (i : Fin 1024) (n : Fin 512) :
    (truncf .bf16 (transpose S1024x512 [1, 0] (transpose S512x1024 [1, 0]
      (Host.dotGeneral (F := Ideal) Cert.Reference6Ideal.dot_S16384x1024_S16384x512_S1024x512_0_0_1_1_n_n none (extf .f32 x Cert.Reference6Ideal.Facts₀.bitsLt_bf16_f32)
        (extf .f32 y Cert.Reference6Ideal.Facts₀.bitsLt_bf16_f32))
      Cert.Reference6Ideal.Facts₀.transposes_S1024x512_S512x1024_1_0) Cert.Reference6Ideal.Facts₀.transposes_S512x1024_S1024x512_1_0)
      Cert.Reference6Ideal.Facts₀.bitsLt_bf16_f32 : FVec Ideal S1024x512 .bf16) (ix2 i n) = ∑ r : Fin 16384, x (ix2 r i) * y (ix2 r n) := by
  pointwise []

theorem algebraic : Cert.algebraic_Kernel6Ideal_Reference6Ideal := by
  intro m g m' g' _ agree
  refine ⟨fun c => Value.G2 m c, Value.run m g, ?_⟩
  refine (θ_run Cert.Reference6Ideal.defs _ _).mono (fun r h c => ⟨(h c).1.trans ?_, (h c).2⟩) (Cert.Reference6Ideal.Value.run (F := Ideal) m' g')
  rw [(agree c).1, (agree c).2]
  funext y
  obtain ⟨i, n, rfl⟩ := pair (n := 1024) (d := 512) y
  exact (wanted (X m c) (Y m c) i n).trans (result m c i n).symm

end Cert.Wgt.MixB

end
-- ==== Proof.Wgt.MixA.lean ====
/- The weight gradient of the windowed attention's output product: the sums the kernel builds block of rows by block of rows are
   the reference's sum over all the rows. -/
module

public import proofs.«01_k».proof.Proof.Gen.Kernel5Ideal.Value
public import proofs.«01_k».proof.Proof.Gen.Reference5Ideal.Run
public import proofs.«01_k».proof.Proof.Wgt.Rows
public import proofs.«01_k».proof.Defs
public import Idealize.ShloMosaic.Lib.Pipeline.ReadBack

@[expose] public section

set_option maxRecDepth 16384

noncomputable section

namespace Cert.Wgt.MixA

open Idealize.ShloMosaic Idealize.ShloMosaic.TcCoe Idealize.ShloMosaic.Pointwise Cert.Kernel5Ideal Cert.Kernel5Ideal.Gen
open Idealize.SL.Sem

variable (m : (ℓ : Loc nD τ sig) → Buf (Elt Ideal) ℓ) (c : Dev nD)

/-- The gradient of the product's result, as launched. -/
abbrev X : FVec Ideal S16384x1024 .bf16 := m ((c : Thread nD τ).loc main_arg0)

/-- The product's left operand, as launched. -/
abbrev Y : FVec Ideal S16384x1024 .bf16 := m ((c : Thread nD τ).loc main_arg1)

theorem zeros (i : Fin 1024) (j : Fin 1024) : k0_pay1 (F := Ideal) (ix2 i j) = 0 := by
  pointwise [k0_pay1]

theorem step (a : Vec Ideal S1024x1024 .f32) (x : Vec Ideal S512x1024 .bf16) (y : Vec Ideal S512x1024 .bf16)
    (i : Fin 1024) (j : Fin 1024) :
    k0_pay2 a x y (ix2 i j) = a (ix2 i j) + ∑ k : Fin 512, x (ix2 k i) * y (ix2 k j) := by
  pointwise [k0_pay2]

theorem turned (a : Vec Ideal S1024x1024 .f32) (j : Fin 1024) (i : Fin 1024) : k0_pay3 a (ix2 j i) = a (ix2 i j) := by
  pointwise [k0_pay3]

theorem idx : ∀ t : Fin cfg0.N, win0_0.index t = ![t.val % 32, 0] ∧ win0_1.index t = ![t.val % 32, t.val / 32] := by
  decide +kernel

/-- The rows of a grid point. -/
def row (t : Fin cfg0.N) (k : Fin 512) : Fin 16384 := ⟨t.val % 32 * 512 + k.val, by omega⟩

/-- The columns of a grid point. -/
def col (t : Fin cfg0.N) (j : Fin 1024) : Fin 1024 :=
  ⟨t.val / 32 * 1024 + j.val, by have := t.isLt; have : cfg0.N = 32 := rfl; omega⟩

theorem blk_x (t : Fin cfg0.N) (k : Fin 512) (i : Fin 1024) :
    (iblk m c 0 t : Vec Ideal S512x1024 .bf16) (ix2 k i) = X m c (ix2 (row t k) i) := by
  blk_ext [iblk, V, row, idx t]

theorem blk_y (t : Fin cfg0.N) (k : Fin 512) (j : Fin 1024) :
    (iblk m c 1 t : Vec Ideal S512x1024 .bf16) (ix2 k j) = Y m c (ix2 (row t k) (col t j)) := by
  blk_ext [iblk, V, row, col, idx t]

/-- What a grid point adds to the running sum. -/
def part (t : Fin cfg0.N) (y : S1024x1024.Idx) : EReal :=
  ∑ k : Fin 512, X m c (ix2 (row t k) (y 0)) * Y m c (ix2 (row t k) (col t (y 1)))

theorem step_blk (a : Vec Ideal S1024x1024 .f32) (t : Fin cfg0.N) (i : Fin 1024) (j : Fin 1024) :
    k0_pay2 a (iblk m c 0 t) (iblk m c 1 t) (ix2 i j) = a (ix2 i j) + part m c t (ix2 i j) := by
  rw [step]
  refine congrArg (a (ix2 i j) + ·) (Finset.sum_congr rfl fun k _ => ?_)
  rw [blk_x, blk_y]
  rfl

theorem first (t : Fin cfg0.N) (h : t.val % 32 = 0) (y : S1024x1024.Idx) :
    (outsAt0 m c t.val t.isLt).2 y = 0 + part m c t y := by
  obtain ⟨i, j, rfl⟩ := pair (n := 1024) (d := 1024) y
  rw [outsAt0_A m c t h (by omega)]
  frame_out
  rw [step_blk, zeros]

theorem later (t : Fin cfg0.N) (h : ¬t.val % 32 = 0) (y : S1024x1024.Idx) :
    (outsAt0 m c t.val t.isLt).2 y = (outsAt0 m c (t.val - 1) (Nat.lt_of_le_of_lt (Nat.sub_le _ _) t.isLt)).2 y + part m c t y := by
  obtain ⟨i, j, rfl⟩ := pair (n := 1024) (d := 1024) y
  by_cases h1 : t.val % 32 = 31
  · rw [outsAt0_C m c t h h1]
    frame_out
    rw [step_blk]
    exact congrArg (· + _) (congrFun ((Memref.isWhole_whole _).read_unread _) _)
  · rw [outsAt0_B m c t h h1]
    frame_out
    rw [step_blk]
    exact congrArg (· + _) (congrFun ((Memref.isWhole_whole _).read_unread _) _)

theorem last (t : Fin cfg0.N) (h : t.val % 32 = 31) (j : Fin 1024) (i : Fin 1024) :
    (outsAt0 m c t.val t.isLt).1 (ix2 j i) = (outsAt0 m c t.val t.isLt).2 (ix2 i j) := by
  rw [outsAt0_C m c t (by omega) h]
  frame_out
  rw [turned]

/-- The running sum after a column block's last point: the sum over all the rows. -/
theorem whole (t : Fin cfg0.N) (h : t.val % 32 = 31) (i : Fin 1024) (j : Fin 1024) :
    (outsAt0 m c t.val t.isLt).2 (ix2 i j) = ∑ r : Fin 16384, X m c (ix2 r i) * Y m c (ix2 r (col t j)) := by
  rw [Pipeline.eq_sum_fin_of_reset_step_apply_of_flush (fun n h => (outsAt0 m c n h).2) 32 (fun _ => 0) (part m c)
    (first m c) (later m c) t h (ix2 i j), zero_add,
    ← sum_rows fun r => X m c (ix2 r i) * Y m c (ix2 r (col t j))]
  refine Finset.sum_congr rfl fun s _ => ?_
  unfold part
  refine Finset.sum_congr rfl fun k _ => ?_
  have hr : row ⟨32 * (t.val / 32) + s.val, Pipeline.run_point_lt_of_flush t h s⟩ k = ⟨s.val * 512 + k.val, by omega⟩ := by
    apply Fin.ext
    show (32 * (t.val / 32) + s.val) % 32 * 512 + k.val = s.val * 512 + k.val
    omega
  have hc : col ⟨32 * (t.val / 32) + s.val, Pipeline.run_point_lt_of_flush t h s⟩ j = col t j := by
    apply Fin.ext
    show (32 * (t.val / 32) + s.val) / 32 * 1024 + j.val = t.val / 32 * 1024 + j.val
    omega
  show X m c (ix2 (row _ k) i) * Y m c (ix2 (row _ k) (col _ j)) = _
  rw [hr, hc]

/-- The array the kernel leaves. -/
theorem result (n : Fin 1024) (i : Fin 1024) :
    Value.G2 m c (ix2 n i) = ∑ r : Fin 16384, X m c (ix2 r i) * Y m c (ix2 r n) := by
  have hp : Value.pt2Of (ix2 n i) < cfg0.N := by
    have : cfg0.N = 32 := rfl
    show 32 * (1 * (n.val / 1024 - 0) + 1 * (i.val / 1024 - 0)) + 31 < cfg0.N
    omega
  have hl : Value.loc2Of (ix2 n i) = ix2 (⟨n.val % 1024, by omega⟩ : Fin 1024) i := by
    funext a
    apply Fin.ext
    fin_cases a
    · rfl
    · show i.val % 1024 = i.val
      omega
  unfold Value.G2
  rw [dif_pos hp, ← Value.outsAt0_sweep m c _ hp, hl]
  have h31 : (⟨Value.pt2Of (ix2 n i), hp⟩ : Fin cfg0.N).val % 32 = 31 := by
    show (32 * (1 * (n.val / 1024 - 0) + 1 * (i.val / 1024 - 0)) + 31) % 32 = 31
    omega
  rw [last m c ⟨Value.pt2Of (ix2 n i), hp⟩ h31, whole m c ⟨Value.pt2Of (ix2 n i), hp⟩ h31]
  have hc : col ⟨Value.pt2Of (ix2 n i), hp⟩ ⟨n.val % 1024, by omega⟩ = n := by
    apply Fin.ext
    show (32 * (1 * (n.val / 1024 - 0) + 1 * (i.val / 1024 - 0)) + 31) / 32 * 1024 + n.val % 1024 = n.val
    omega
  rw [hc]

/-- The reference's array. -/
theorem wanted (x : FVec Ideal S16384x1024 .bf16) (y : FVec Ideal S16384x1024 .bf16) (n : Fin 1024) (i : Fin 1024) :
    (truncf .bf16 (transpose S1024x1024 [1, 0]
      (Host.dotGeneral (F := Ideal) Cert.Reference5Ideal.dot_S16384x1024_S16384x1024_S1024x1024_0_0_1_1_n_n none (extf .f32 x Cert.Reference5Ideal.Facts₀.bitsLt_bf16_f32)
        (extf .f32 y Cert.Reference5Ideal.Facts₀.bitsLt_bf16_f32))
      Cert.Reference5Ideal.Facts₀.transposes_S1024x1024_S1024x1024_1_0)
      Cert.Reference5Ideal.Facts₀.bitsLt_bf16_f32 : FVec Ideal S1024x1024 .bf16) (ix2 n i) = ∑ r : Fin 16384, x (ix2 r i) * y (ix2 r n) := by
  pointwise []

theorem algebraic : Cert.algebraic_Kernel5Ideal_Reference5Ideal := by
  intro m g m' g' _ agree
  refine ⟨fun c => Value.G2 m c, Value.run m g, ?_⟩
  refine (θ_run Cert.Reference5Ideal.defs _ _).mono (fun r h c => ⟨(h c).1.trans ?_, (h c).2⟩) (Cert.Reference5Ideal.Value.run (F := Ideal) m' g')
  rw [(agree c).1, (agree c).2]
  funext y
  obtain ⟨n, i, rfl⟩ := pair (n := 1024) (d := 1024) y
  exact (wanted (X m c) (Y m c) n i).trans (result m c n i).symm

end Cert.Wgt.MixA

end
-- ==== Proof.Wgt.Out.lean ====
/- The weight gradient of the FFN's second product: the sums the kernel builds block of rows by block of rows are
   the reference's sum over all the rows. -/
module

public import proofs.«01_k».proof.Proof.Gen.Kernel4Ideal.Value
public import proofs.«01_k».proof.Proof.Gen.Reference4Ideal.Run
public import proofs.«01_k».proof.Proof.Wgt.Rows
public import proofs.«01_k».proof.Defs
public import Idealize.ShloMosaic.Lib.Pipeline.ReadBack

@[expose] public section

set_option maxRecDepth 16384

noncomputable section

namespace Cert.Wgt.Out

open Idealize.ShloMosaic Idealize.ShloMosaic.TcCoe Idealize.ShloMosaic.Pointwise Cert.Kernel4Ideal Cert.Kernel4Ideal.Gen
open Idealize.SL.Sem

variable (m : (ℓ : Loc nD τ sig) → Buf (Elt Ideal) ℓ) (c : Dev nD)

/-- The gradient of the product's result, as launched. -/
abbrev X : FVec Ideal S16384x1024 .bf16 := m ((c : Thread nD τ).loc main_arg0)

/-- The product's left operand, as launched. -/
abbrev Y : FVec Ideal S16384x2816 .bf16 := m ((c : Thread nD τ).loc main_arg1)

theorem zeros (i : Fin 1024) (j : Fin 2816) : k0_pay1 (F := Ideal) (ix2 i j) = 0 := by
  pointwise [k0_pay1]

theorem step (a : Vec Ideal S1024x2816 .f32) (x : Vec Ideal S512x1024 .bf16) (y : Vec Ideal S512x2816 .bf16)
    (i : Fin 1024) (j : Fin 2816) :
    k0_pay2 a x y (ix2 i j) = a (ix2 i j) + ∑ k : Fin 512, x (ix2 k i) * y (ix2 k j) := by
  pointwise [k0_pay2]

theorem turned (a : Vec Ideal S1024x2816 .f32) (j : Fin 2816) (i : Fin 1024) : k0_pay3 a (ix2 j i) = a (ix2 i j) := by
  pointwise [k0_pay3]

theorem idx : ∀ t : Fin cfg0.N, win0_0.index t = ![t.val % 32, 0] ∧ win0_1.index t = ![t.val % 32, t.val / 32] := by
  decide +kernel

/-- The rows of a grid point. -/
def row (t : Fin cfg0.N) (k : Fin 512) : Fin 16384 := ⟨t.val % 32 * 512 + k.val, by omega⟩

/-- The columns of a grid point. -/
def col (t : Fin cfg0.N) (j : Fin 2816) : Fin 2816 :=
  ⟨t.val / 32 * 2816 + j.val, by have := t.isLt; have : cfg0.N = 32 := rfl; omega⟩

theorem blk_x (t : Fin cfg0.N) (k : Fin 512) (i : Fin 1024) :
    (iblk m c 0 t : Vec Ideal S512x1024 .bf16) (ix2 k i) = X m c (ix2 (row t k) i) := by
  blk_ext [iblk, V, row, idx t]

theorem blk_y (t : Fin cfg0.N) (k : Fin 512) (j : Fin 2816) :
    (iblk m c 1 t : Vec Ideal S512x2816 .bf16) (ix2 k j) = Y m c (ix2 (row t k) (col t j)) := by
  blk_ext [iblk, V, row, col, idx t]

/-- What a grid point adds to the running sum. -/
def part (t : Fin cfg0.N) (y : S1024x2816.Idx) : EReal :=
  ∑ k : Fin 512, X m c (ix2 (row t k) (y 0)) * Y m c (ix2 (row t k) (col t (y 1)))

theorem step_blk (a : Vec Ideal S1024x2816 .f32) (t : Fin cfg0.N) (i : Fin 1024) (j : Fin 2816) :
    k0_pay2 a (iblk m c 0 t) (iblk m c 1 t) (ix2 i j) = a (ix2 i j) + part m c t (ix2 i j) := by
  rw [step]
  refine congrArg (a (ix2 i j) + ·) (Finset.sum_congr rfl fun k _ => ?_)
  rw [blk_x, blk_y]
  rfl

theorem first (t : Fin cfg0.N) (h : t.val % 32 = 0) (y : S1024x2816.Idx) :
    (outsAt0 m c t.val t.isLt).2 y = 0 + part m c t y := by
  obtain ⟨i, j, rfl⟩ := pair (n := 1024) (d := 2816) y
  rw [outsAt0_A m c t h (by omega)]
  frame_out
  rw [step_blk, zeros]

theorem later (t : Fin cfg0.N) (h : ¬t.val % 32 = 0) (y : S1024x2816.Idx) :
    (outsAt0 m c t.val t.isLt).2 y = (outsAt0 m c (t.val - 1) (Nat.lt_of_le_of_lt (Nat.sub_le _ _) t.isLt)).2 y + part m c t y := by
  obtain ⟨i, j, rfl⟩ := pair (n := 1024) (d := 2816) y
  by_cases h1 : t.val % 32 = 31
  · rw [outsAt0_C m c t h h1]
    frame_out
    rw [step_blk]
    exact congrArg (· + _) (congrFun ((Memref.isWhole_whole _).read_unread _) _)
  · rw [outsAt0_B m c t h h1]
    frame_out
    rw [step_blk]
    exact congrArg (· + _) (congrFun ((Memref.isWhole_whole _).read_unread _) _)

theorem last (t : Fin cfg0.N) (h : t.val % 32 = 31) (j : Fin 2816) (i : Fin 1024) :
    (outsAt0 m c t.val t.isLt).1 (ix2 j i) = (outsAt0 m c t.val t.isLt).2 (ix2 i j) := by
  rw [outsAt0_C m c t (by omega) h]
  frame_out
  rw [turned]

/-- The running sum after a column block's last point: the sum over all the rows. -/
theorem whole (t : Fin cfg0.N) (h : t.val % 32 = 31) (i : Fin 1024) (j : Fin 2816) :
    (outsAt0 m c t.val t.isLt).2 (ix2 i j) = ∑ r : Fin 16384, X m c (ix2 r i) * Y m c (ix2 r (col t j)) := by
  rw [Pipeline.eq_sum_fin_of_reset_step_apply_of_flush (fun n h => (outsAt0 m c n h).2) 32 (fun _ => 0) (part m c)
    (first m c) (later m c) t h (ix2 i j), zero_add,
    ← sum_rows fun r => X m c (ix2 r i) * Y m c (ix2 r (col t j))]
  refine Finset.sum_congr rfl fun s _ => ?_
  unfold part
  refine Finset.sum_congr rfl fun k _ => ?_
  have hr : row ⟨32 * (t.val / 32) + s.val, Pipeline.run_point_lt_of_flush t h s⟩ k = ⟨s.val * 512 + k.val, by omega⟩ := by
    apply Fin.ext
    show (32 * (t.val / 32) + s.val) % 32 * 512 + k.val = s.val * 512 + k.val
    omega
  have hc : col ⟨32 * (t.val / 32) + s.val, Pipeline.run_point_lt_of_flush t h s⟩ j = col t j := by
    apply Fin.ext
    show (32 * (t.val / 32) + s.val) / 32 * 2816 + j.val = t.val / 32 * 2816 + j.val
    omega
  show X m c (ix2 (row _ k) i) * Y m c (ix2 (row _ k) (col _ j)) = _
  rw [hr, hc]

/-- The array the kernel leaves. -/
theorem result (n : Fin 2816) (i : Fin 1024) :
    Value.G2 m c (ix2 n i) = ∑ r : Fin 16384, X m c (ix2 r i) * Y m c (ix2 r n) := by
  have hp : Value.pt2Of (ix2 n i) < cfg0.N := by
    have : cfg0.N = 32 := rfl
    show 32 * (1 * (n.val / 2816 - 0) + 1 * (i.val / 1024 - 0)) + 31 < cfg0.N
    omega
  have hl : Value.loc2Of (ix2 n i) = ix2 (⟨n.val % 2816, by omega⟩ : Fin 2816) i := by
    funext a
    apply Fin.ext
    fin_cases a
    · rfl
    · show i.val % 1024 = i.val
      omega
  unfold Value.G2
  rw [dif_pos hp, ← Value.outsAt0_sweep m c _ hp, hl]
  have h31 : (⟨Value.pt2Of (ix2 n i), hp⟩ : Fin cfg0.N).val % 32 = 31 := by
    show (32 * (1 * (n.val / 2816 - 0) + 1 * (i.val / 1024 - 0)) + 31) % 32 = 31
    omega
  rw [last m c ⟨Value.pt2Of (ix2 n i), hp⟩ h31, whole m c ⟨Value.pt2Of (ix2 n i), hp⟩ h31]
  have hc : col ⟨Value.pt2Of (ix2 n i), hp⟩ ⟨n.val % 2816, by omega⟩ = n := by
    apply Fin.ext
    show (32 * (1 * (n.val / 2816 - 0) + 1 * (i.val / 1024 - 0)) + 31) / 32 * 2816 + n.val % 2816 = n.val
    omega
  rw [hc]

/-- The reference's array. -/
theorem wanted (x : FVec Ideal S16384x1024 .bf16) (y : FVec Ideal S16384x2816 .bf16) (n : Fin 2816) (i : Fin 1024) :
    (truncf .bf16 (transpose S2816x1024 [1, 0]
      (Host.dotGeneral (F := Ideal) Cert.Reference4Ideal.dot_S16384x1024_S16384x2816_S1024x2816_0_0_1_1_n_n none (extf .f32 x Cert.Reference4Ideal.Facts₀.bitsLt_bf16_f32)
        (extf .f32 y Cert.Reference4Ideal.Facts₀.bitsLt_bf16_f32))
      Cert.Reference4Ideal.Facts₀.transposes_S1024x2816_S2816x1024_1_0)
      Cert.Reference4Ideal.Facts₀.bitsLt_bf16_f32 : FVec Ideal S2816x1024 .bf16) (ix2 n i) = ∑ r : Fin 16384, x (ix2 r i) * y (ix2 r n) := by
  pointwise []

theorem algebraic : Cert.algebraic_Kernel4Ideal_Reference4Ideal := by
  intro m g m' g' _ agree
  refine ⟨fun c => Value.G2 m c, Value.run m g, ?_⟩
  refine (θ_run Cert.Reference4Ideal.defs _ _).mono (fun r h c => ⟨(h c).1.trans ?_, (h c).2⟩) (Cert.Reference4Ideal.Value.run (F := Ideal) m' g')
  rw [(agree c).1, (agree c).2]
  funext y
  obtain ⟨n, i, rfl⟩ := pair (n := 2816) (d := 1024) y
  exact (wanted (X m c) (Y m c) n i).trans (result m c n i).symm

end Cert.Wgt.Out

end
-- ==== Proof.Wgt.In.lean ====
/- The weight gradient of the FFN's first product: the sums the kernel builds block of rows by block of rows are
   the reference's sum over all the rows. -/
module

public import proofs.«01_k».proof.Proof.Gen.Kernel3Ideal.Value
public import proofs.«01_k».proof.Proof.Gen.Reference3Ideal.Run
public import proofs.«01_k».proof.Proof.Wgt.Rows
public import proofs.«01_k».proof.Defs
public import Idealize.ShloMosaic.Lib.Pipeline.ReadBack

@[expose] public section

set_option maxRecDepth 16384

noncomputable section

namespace Cert.Wgt.In

open Idealize.ShloMosaic Idealize.ShloMosaic.TcCoe Idealize.ShloMosaic.Pointwise Cert.Kernel3Ideal Cert.Kernel3Ideal.Gen
open Idealize.SL.Sem

variable (m : (ℓ : Loc nD τ sig) → Buf (Elt Ideal) ℓ) (c : Dev nD)

/-- The layer's input, as launched. -/
abbrev X : FVec Ideal S16384x1024 .bf16 := m ((c : Thread nD τ).loc main_arg0)

/-- The gradient of the product's result, as launched. -/
abbrev Y : FVec Ideal S16384x5632 .bf16 := m ((c : Thread nD τ).loc main_arg1)

theorem zeros (i : Fin 1024) (j : Fin 2816) : k0_pay1 (F := Ideal) (ix2 i j) = 0 := by
  pointwise [k0_pay1]

theorem step (a : Vec Ideal S1024x2816 .f32) (x : Vec Ideal S512x1024 .bf16) (y : Vec Ideal S512x2816 .bf16)
    (i : Fin 1024) (j : Fin 2816) :
    k0_pay2 a x y (ix2 i j) = a (ix2 i j) + ∑ k : Fin 512, x (ix2 k i) * y (ix2 k j) := by
  pointwise [k0_pay2]

theorem turned (a : Vec Ideal S1024x2816 .f32) (j : Fin 2816) (i : Fin 1024) : k0_pay3 a (ix2 j i) = a (ix2 i j) := by
  pointwise [k0_pay3]

theorem idx : ∀ t : Fin cfg0.N, win0_0.index t = ![t.val % 32, 0] ∧ win0_1.index t = ![t.val % 32, t.val / 32] := by
  decide +kernel

/-- The rows of a grid point. -/
def row (t : Fin cfg0.N) (k : Fin 512) : Fin 16384 := ⟨t.val % 32 * 512 + k.val, by omega⟩

/-- The columns of a grid point. -/
def col (t : Fin cfg0.N) (j : Fin 2816) : Fin 5632 :=
  ⟨t.val / 32 * 2816 + j.val, by have := t.isLt; have : cfg0.N = 64 := rfl; omega⟩

theorem blk_x (t : Fin cfg0.N) (k : Fin 512) (i : Fin 1024) :
    (iblk m c 0 t : Vec Ideal S512x1024 .bf16) (ix2 k i) = X m c (ix2 (row t k) i) := by
  blk_ext [iblk, V, row, idx t]

theorem blk_y (t : Fin cfg0.N) (k : Fin 512) (j : Fin 2816) :
    (iblk m c 1 t : Vec Ideal S512x2816 .bf16) (ix2 k j) = Y m c (ix2 (row t k) (col t j)) := by
  blk_ext [iblk, V, row, col, idx t]

/-- What a grid point adds to the running sum. -/
def part (t : Fin cfg0.N) (y : S1024x2816.Idx) : EReal :=
  ∑ k : Fin 512, X m c (ix2 (row t k) (y 0)) * Y m c (ix2 (row t k) (col t (y 1)))

theorem step_blk (a : Vec Ideal S1024x2816 .f32) (t : Fin cfg0.N) (i : Fin 1024) (j : Fin 2816) :
    k0_pay2 a (iblk m c 0 t) (iblk m c 1 t) (ix2 i j) = a (ix2 i j) + part m c t (ix2 i j) := by
  rw [step]
  refine congrArg (a (ix2 i j) + ·) (Finset.sum_congr rfl fun k _ => ?_)
  rw [blk_x, blk_y]
  rfl

theorem first (t : Fin cfg0.N) (h : t.val % 32 = 0) (y : S1024x2816.Idx) :
    (outsAt0 m c t.val t.isLt).2 y = 0 + part m c t y := by
  obtain ⟨i, j, rfl⟩ := pair (n := 1024) (d := 2816) y
  rw [outsAt0_A m c t h (by omega)]
  frame_out
  rw [step_blk, zeros]

theorem later (t : Fin cfg0.N) (h : ¬t.val % 32 = 0) (y : S1024x2816.Idx) :
    (outsAt0 m c t.val t.isLt).2 y = (outsAt0 m c (t.val - 1) (Nat.lt_of_le_of_lt (Nat.sub_le _ _) t.isLt)).2 y + part m c t y := by
  obtain ⟨i, j, rfl⟩ := pair (n := 1024) (d := 2816) y
  by_cases h1 : t.val % 32 = 31
  · rw [outsAt0_C m c t h h1]
    frame_out
    rw [step_blk]
    exact congrArg (· + _) (congrFun ((Memref.isWhole_whole _).read_unread _) _)
  · rw [outsAt0_B m c t h h1]
    frame_out
    rw [step_blk]
    exact congrArg (· + _) (congrFun ((Memref.isWhole_whole _).read_unread _) _)

theorem last (t : Fin cfg0.N) (h : t.val % 32 = 31) (j : Fin 2816) (i : Fin 1024) :
    (outsAt0 m c t.val t.isLt).1 (ix2 j i) = (outsAt0 m c t.val t.isLt).2 (ix2 i j) := by
  rw [outsAt0_C m c t (by omega) h]
  frame_out
  rw [turned]

/-- The running sum after a column block's last point: the sum over all the rows. -/
theorem whole (t : Fin cfg0.N) (h : t.val % 32 = 31) (i : Fin 1024) (j : Fin 2816) :
    (outsAt0 m c t.val t.isLt).2 (ix2 i j) = ∑ r : Fin 16384, X m c (ix2 r i) * Y m c (ix2 r (col t j)) := by
  rw [Pipeline.eq_sum_fin_of_reset_step_apply_of_flush (fun n h => (outsAt0 m c n h).2) 32 (fun _ => 0) (part m c)
    (first m c) (later m c) t h (ix2 i j), zero_add,
    ← sum_rows fun r => X m c (ix2 r i) * Y m c (ix2 r (col t j))]
  refine Finset.sum_congr rfl fun s _ => ?_
  unfold part
  refine Finset.sum_congr rfl fun k _ => ?_
  have hr : row ⟨32 * (t.val / 32) + s.val, Pipeline.run_point_lt_of_flush t h s⟩ k = ⟨s.val * 512 + k.val, by omega⟩ := by
    apply Fin.ext
    show (32 * (t.val / 32) + s.val) % 32 * 512 + k.val = s.val * 512 + k.val
    omega
  have hc : col ⟨32 * (t.val / 32) + s.val, Pipeline.run_point_lt_of_flush t h s⟩ j = col t j := by
    apply Fin.ext
    show (32 * (t.val / 32) + s.val) / 32 * 2816 + j.val = t.val / 32 * 2816 + j.val
    omega
  show X m c (ix2 (row _ k) i) * Y m c (ix2 (row _ k) (col _ j)) = _
  rw [hr, hc]

/-- The array the kernel leaves. -/
theorem result (n : Fin 5632) (i : Fin 1024) :
    Value.G2 m c (ix2 n i) = ∑ r : Fin 16384, X m c (ix2 r i) * Y m c (ix2 r n) := by
  have hp : Value.pt2Of (ix2 n i) < cfg0.N := by
    have : cfg0.N = 64 := rfl
    show 32 * (1 * (n.val / 2816 - 0) + 1 * (i.val / 1024 - 0)) + 31 < cfg0.N
    omega
  have hl : Value.loc2Of (ix2 n i) = ix2 (⟨n.val % 2816, by omega⟩ : Fin 2816) i := by
    funext a
    apply Fin.ext
    fin_cases a
    · rfl
    · show i.val % 1024 = i.val
      omega
  unfold Value.G2
  rw [dif_pos hp, ← Value.outsAt0_sweep m c _ hp, hl]
  have h31 : (⟨Value.pt2Of (ix2 n i), hp⟩ : Fin cfg0.N).val % 32 = 31 := by
    show (32 * (1 * (n.val / 2816 - 0) + 1 * (i.val / 1024 - 0)) + 31) % 32 = 31
    omega
  rw [last m c ⟨Value.pt2Of (ix2 n i), hp⟩ h31, whole m c ⟨Value.pt2Of (ix2 n i), hp⟩ h31]
  have hc : col ⟨Value.pt2Of (ix2 n i), hp⟩ ⟨n.val % 2816, by omega⟩ = n := by
    apply Fin.ext
    show (32 * (1 * (n.val / 2816 - 0) + 1 * (i.val / 1024 - 0)) + 31) / 32 * 2816 + n.val % 2816 = n.val
    omega
  rw [hc]

/-- The reference's array. -/
theorem wanted (x : FVec Ideal S16384x1024 .bf16) (y : FVec Ideal S16384x5632 .bf16) (n : Fin 5632) (i : Fin 1024) :
    (truncf .bf16 (transpose S5632x1024 [1, 0] (transpose Cert.Reference3Ideal.S1024x5632 [1, 0]
      (Host.dotGeneral (F := Ideal) Cert.Reference3Ideal.dot_S16384x5632_S16384x1024_S5632x1024_0_0_1_1_n_n none (extf .f32 y Cert.Reference3Ideal.Facts₀.bitsLt_bf16_f32)
        (extf .f32 x Cert.Reference3Ideal.Facts₀.bitsLt_bf16_f32))
      Cert.Reference3Ideal.Facts₀.transposes_S5632x1024_S1024x5632_1_0) Cert.Reference3Ideal.Facts₀.transposes_S1024x5632_S5632x1024_1_0)
      Cert.Reference3Ideal.Facts₀.bitsLt_bf16_f32 : FVec Ideal S5632x1024 .bf16) (ix2 n i) = ∑ r : Fin 16384, y (ix2 r n) * x (ix2 r i) := by
  pointwise []

theorem algebraic : Cert.algebraic_Kernel3Ideal_Reference3Ideal := by
  intro m g m' g' _ agree
  refine ⟨fun c => Value.G2 m c, Value.run m g, ?_⟩
  refine (θ_run Cert.Reference3Ideal.defs _ _).mono (fun r h c => ⟨(h c).1.trans ?_, (h c).2⟩) (Cert.Reference3Ideal.Value.run (F := Ideal) m' g')
  rw [(agree c).1, (agree c).2]
  funext y
  obtain ⟨n, i, rfl⟩ := pair (n := 5632) (d := 1024) y
  refine (wanted (X m c) (Y m c) n i).trans (Eq.trans ?_ (result m c n i).symm)
  exact Finset.sum_congr rfl fun r _ => mul_comm _ _

end Cert.Wgt.In

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Frames
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal.Run
public import proofs.«01_k».proof.Proof.Ffn.Equal
public import proofs.«01_k».proof.Proof.Ffb.Equal
public import proofs.«01_k».proof.Proof.Wgt.MixB
public import proofs.«01_k».proof.Proof.Wgt.MixA
public import proofs.«01_k».proof.Proof.Wgt.Out
public import proofs.«01_k».proof.Proof.Wgt.In
public import Idealize.ShloMosaic.Adequacy
public import Idealize.ShloMosaic.Init

@[expose] public section

noncomputable section

namespace Cert.Proof

open Idealize.ShloMosaic Idealize.SL.Sem Cert.Kernel

/-- The reference is a line of host operations: it ends with its arguments as they were and no semaphore to leave raised. -/
theorem frame_reference2 : Cert.quiescent_Reference2Ideal := fun m ρ _ =>
  (θ_run Cert.Reference2Ideal.defs _ _).mono (fun r h => ⟨fun c => (h c).2.2.2.2.2.2.2.2.2.2.2.2.2, sem_eq_zero_of_no_sems (by decide) r.2⟩)
    (Cert.Reference2Ideal.Value.run (F := Ideal) m ρ)

theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem frame_reference7 : Cert.quiescent_Reference7Ideal := fun m ρ _ =>
  (θ_run Cert.Reference7Ideal.defs _ _).mono (fun r h => ⟨fun c => (h c).2.2.2.2.2.2.2.2.2.2.2.2.2, sem_eq_zero_of_no_sems (by decide) r.2⟩)
    (Cert.Reference7Ideal.Value.run (F := Ideal) m ρ)

theorem claim : Cert.Claim :=
  ⟨Cert.Kernel.Gen.facts,
    Cert.KernelIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Pre_finite2.facts,
    Cert.Pre_finite7.facts,
    frame_kernel,
    frame_ideal,
    fun m ρ _ => Cert.Kernel2.Gen.frame m ρ,
    fun m ρ _ => Cert.Kernel2Ideal.Gen.frame m ρ,
    fun m ρ _ => Cert.Kernel2Ideal.Gen.frame m ρ,
    frame_reference2,
    fun m ρ _ => frame_reference2 m ρ trivial,
    fun m ρ _ => Cert.Kernel3.Gen.frame m ρ,
    fun m ρ _ => Cert.Kernel3Ideal.Gen.frame m ρ,
    frame_reference3,
    fun m ρ _ => Cert.Kernel4.Gen.frame m ρ,
    fun m ρ _ => Cert.Kernel4Ideal.Gen.frame m ρ,
    frame_reference4,
    fun m ρ _ => Cert.Kernel5.Gen.frame m ρ,
    fun m ρ _ => Cert.Kernel5Ideal.Gen.frame m ρ,
    frame_reference5,
    fun m ρ _ => Cert.Kernel6.Gen.frame m ρ,
    fun m ρ _ => Cert.Kernel6Ideal.Gen.frame m ρ,
    frame_reference6,
    fun m ρ _ => Cert.Kernel7.Gen.frame m ρ,
    fun m ρ _ => Cert.Kernel7Ideal.Gen.frame m ρ,
    fun m ρ _ => Cert.Kernel7Ideal.Gen.frame m ρ,
    frame_reference7,
    fun m ρ _ => frame_reference7 m ρ trivial,
    trivial,
    trivial,
    haveI := Cert.Pre_finite2.facts; Cert.Ffn.algebraic,
    trivial,
    Cert.Wgt.In.algebraic,
    trivial,
    Cert.Wgt.Out.algebraic,
    trivial,
    Cert.Wgt.MixA.algebraic,
    trivial,
    Cert.Wgt.MixB.algebraic,
    trivial,
    haveI := Cert.Pre_finite7.facts; Cert.Ffb.algebraic⟩

end Cert.Proof

end
